-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "gelu_cubic" .f32 0x3D122279#32 ((80338380498831 / 2251799813685248 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)) (v4 : (c : Dev Cert.Kernel3Ideal.nD) → Buf (Elt Ideal) ((c.tc : Thread Cert.Kernel3Ideal.nD Cert.Kernel3Ideal.τ).loc Cert.Kernel3Ideal.main_v22_4)) (v5 : (c : Dev Cert.Kernel3Ideal.nD) → Buf (Elt Ideal) ((c.tc : Thread Cert.Kernel3Ideal.nD Cert.Kernel3Ideal.τ).loc Cert.Kernel3Ideal.main_v22_5)) (v6 : (c : Dev Cert.Kernel3Ideal.nD) → Buf (Elt Ideal) ((c.tc : Thread Cert.Kernel3Ideal.nD Cert.Kernel3Ideal.τ).loc Cert.Kernel3Ideal.main_v22_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_v22_4) = v4 c
          ∧ r.2.mem ((c.tc : Thread Cert.Kernel3Ideal.nD Cert.Kernel3Ideal.τ).loc Cert.Kernel3Ideal.main_v22_5) = v5 c
          ∧ r.2.mem ((c.tc : Thread Cert.Kernel3Ideal.nD Cert.Kernel3Ideal.τ).loc Cert.Kernel3Ideal.main_v22_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v69) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_v78) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_v95) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "quarter_turn" .f32 0xBFC90FDB#32 (((-1 / 2) * Real.pi : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v135_0)) (v1 : (c : Dev Cert.Kernel4Ideal.nD) → Buf (Elt Ideal) ((c.tc : Thread Cert.Kernel4Ideal.nD Cert.Kernel4Ideal.τ).loc Cert.Kernel4Ideal.main_v135_1)) (v2 : (c : Dev Cert.Kernel4Ideal.nD) → Buf (Elt Ideal) ((c.tc : Thread Cert.Kernel4Ideal.nD Cert.Kernel4Ideal.τ).loc Cert.Kernel4Ideal.main_v135_2)) (v3 : (c : Dev Cert.Kernel4Ideal.nD) → Buf (Elt Ideal) ((c.tc : Thread Cert.Kernel4Ideal.nD Cert.Kernel4Ideal.τ).loc Cert.Kernel4Ideal.main_v135_3)) (v4 : (c : Dev Cert.Kernel4Ideal.nD) → Buf (Elt Ideal) ((c.tc : Thread Cert.Kernel4Ideal.nD Cert.Kernel4Ideal.τ).loc Cert.Kernel4Ideal.main_v135_4)) (v5 : (c : Dev Cert.Kernel4Ideal.nD) → Buf (Elt Ideal) ((c.tc : Thread Cert.Kernel4Ideal.nD Cert.Kernel4Ideal.τ).loc Cert.Kernel4Ideal.main_v135_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v135_0) = v0 c
          ∧ r.2.mem ((c.tc : Thread Cert.Kernel4Ideal.nD Cert.Kernel4Ideal.τ).loc Cert.Kernel4Ideal.main_v135_1) = v1 c
          ∧ r.2.mem ((c.tc : Thread Cert.Kernel4Ideal.nD Cert.Kernel4Ideal.τ).loc Cert.Kernel4Ideal.main_v135_2) = v2 c
          ∧ r.2.mem ((c.tc : Thread Cert.Kernel4Ideal.nD Cert.Kernel4Ideal.τ).loc Cert.Kernel4Ideal.main_v135_3) = v3 c
          ∧ r.2.mem ((c.tc : Thread Cert.Kernel4Ideal.nD Cert.Kernel4Ideal.τ).loc Cert.Kernel4Ideal.main_v135_4) = v4 c
          ∧ r.2.mem ((c.tc : Thread Cert.Kernel4Ideal.nD Cert.Kernel4Ideal.τ).loc Cert.Kernel4Ideal.main_v135_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v264) = v0 c
          ∧ r.2.mem ((c.tc : Thread Cert.Reference4Ideal.nD Cert.Reference4Ideal.τ).loc Cert.Reference4Ideal.main_v266) = v1 c
          ∧ r.2.mem ((c.tc : Thread Cert.Reference4Ideal.nD Cert.Reference4Ideal.τ).loc Cert.Reference4Ideal.main_v268) = v2 c
          ∧ r.2.mem ((c.tc : Thread Cert.Reference4Ideal.nD Cert.Reference4Ideal.τ).loc Cert.Reference4Ideal.main_v270) = v3 c
          ∧ r.2.mem ((c.tc : Thread Cert.Reference4Ideal.nD Cert.Reference4Ideal.τ).loc Cert.Reference4Ideal.main_v272) = v4 c
          ∧ r.2.mem ((c.tc : Thread Cert.Reference4Ideal.nD Cert.Reference4Ideal.τ).loc Cert.Reference4Ideal.main_v274) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S33792x1024 : Shape := ⟨2, ![33792, 1024]⟩
abbrev S33792x512 : Shape := ⟨2, ![33792, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32768x1024 : Shape := ⟨2, ![32768, 1024]⟩
abbrev S512x512 : Shape := ⟨2, ![512, 512]⟩
abbrev S4 : Shape := ⟨1, ![4]⟩
abbrev S1 : Shape := ⟨1, ![1]⟩
abbrev S_ : Shape := ⟨0, ![]⟩
abbrev S512 : Shape := ⟨1, ![512]⟩
abbrev S512x1 : Shape := ⟨2, ![512, 1]⟩
abbrev S512x4096 : Shape := ⟨2, ![512, 4096]⟩

abbrev nBuf : Space → Nat
  | .hbm => 21
  | .vmem => 13
  | .smem => 0
  | _ => 0

abbrev bufTy : (tb : Table) → Fin (tcTables nBuf tb) → BufTy
  | .hbm, ⟨0, _⟩ => ⟨S33792x1024, .f32⟩
  | .hbm, ⟨1, _⟩ => ⟨S33792x512, .bf16⟩
  | .hbm, ⟨2, _⟩ => ⟨S33792x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x4096, .f32⟩
  | .hbm, ⟨15, _⟩ => ⟨S1024x4096, .f32⟩
  | .hbm, ⟨16, _⟩ => ⟨S1024x4096, .bf16⟩
  | .hbm, ⟨17, _⟩ => ⟨S1x4096x1024, .f32⟩
  | .hbm, ⟨18, _⟩ => ⟨S4096x1024, .f32⟩
  | .hbm, ⟨19, _⟩ => ⟨S4096x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x4096, .bf16⟩
  | .local _ .vmem, ⟨12, _⟩ => ⟨S4096x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult2 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult3 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S33792x1024 : Shape := ⟨2, ![33792, 1024]⟩
abbrev S33792x512 : Shape := ⟨2, ![33792, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x4224x1024 : Shape := ⟨3, ![8, 4224, 1024]⟩
abbrev S8x4112x1024 : Shape := ⟨3, ![8, 4112, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S8x4112x4096 : Shape := ⟨3, ![8, 4112, 4096]⟩
abbrev S8x4096x1024 : Shape := ⟨3, ![8, 4096, 1024]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x512, .bf16⟩
  | .hbm, ⟨2, _⟩ => ⟨S33792x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S8x4224x1024, .f32⟩
  | .hbm, ⟨8, _⟩ => ⟨S8x4112x1024, .f32⟩
  | .hbm, ⟨9, _⟩ => ⟨S33792x512, .f32⟩
  | .hbm, ⟨10, _⟩ => ⟨S33792x512, .f32⟩
  | .hbm, ⟨11, _⟩ => ⟨S33792x1024, .f32⟩
  | .hbm, ⟨12, _⟩ => ⟨S8x4224x1024, .f32⟩
  | .hbm, ⟨13, _⟩ => ⟨S8x4112x1024, .f32⟩
  | .hbm, ⟨14, _⟩ => ⟨S1024x1024, .f32⟩
  | .hbm, ⟨15, _⟩ => ⟨S8x4112x1024, .f32⟩
  | .hbm, ⟨16, _⟩ => ⟨S8x4112x1024, .f32⟩
  | .hbm, ⟨17, _⟩ => ⟨S1x1024, .f32⟩
  | .hbm, ⟨18, _⟩ => ⟨S1024, .f32⟩
  | .hbm, ⟨19, _⟩ => ⟨S1x1024x4096, .f32⟩
  | .hbm, ⟨20, _⟩ => ⟨S1024x4096, .f32⟩
  | .hbm, ⟨21, _⟩ => ⟨S1x4096x1024, .f32⟩
  | .hbm, ⟨22, _⟩ => ⟨S4096x1024, .f32⟩
  | .hbm, ⟨23, _⟩ => ⟨S8x4112x1024, .f32⟩
  | .hbm, ⟨24, _⟩ => ⟨S_, .f32⟩
  | .hbm, ⟨25, _⟩ => ⟨S8x4112, .f32⟩
  | .hbm, ⟨26, _⟩ => ⟨S8x4112x1, .f32⟩
  | .hbm, ⟨27, _⟩ => ⟨S_, .f32⟩
  | .hbm, ⟨28, _⟩ => ⟨S8x4112x1, .f32⟩
  | .hbm, ⟨29, _⟩ => ⟨S8x4112x1, .f32⟩
  | .hbm, ⟨30, _⟩ => ⟨S_, .f32⟩
  | .hbm, ⟨31, _⟩ => ⟨S8x4112x1, .f32⟩
  | .hbm, ⟨32, _⟩ => ⟨S8x4112x1, .f32⟩
  | .hbm, ⟨33, _⟩ => ⟨S8x4112x1, .f32⟩
  | .hbm, ⟨34, _⟩ => ⟨S8x4112x1024, .f32⟩
  | .hbm, ⟨35, _⟩ => ⟨S8x4112x1024, .f32⟩
  | .hbm, ⟨36, _⟩ => ⟨S1x1x1024, .f32⟩
  | .hbm, ⟨37, _⟩ => ⟨S8x4112x1024, .f32⟩
  | .hbm, ⟨38, _⟩ => ⟨S8x4112x1024, .f32⟩
  | .hbm, ⟨39, _⟩ => ⟨S8x4112x4096, .f32⟩
  | .hbm, ⟨40, _⟩ => ⟨S_, .f32⟩
  | .hbm, ⟨41, _⟩ => ⟨S8x4112x4096, .f32⟩
  | .hbm, ⟨42, _⟩ => ⟨S8x4112x4096, .f32⟩
  | .hbm, ⟨43, _⟩ => ⟨S8x4112x4096, .f32⟩
  | .hbm, ⟨44, _⟩ => ⟨S8x4112x1024, .f32⟩
  | .hbm, ⟨45, _⟩ => ⟨S8x4112x1024, .f32⟩
  | .hbm, ⟨46, _⟩ => ⟨S8x4096x1024, .f32⟩
  | .hbm, ⟨47, _⟩ => ⟨S32768x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x1024 : Shape := ⟨2, ![16, 1024]⟩
abbrev S33792x1024 : Shape := ⟨2, ![33792, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S32768x1024 : Shape := ⟨2, ![32768, 1024]⟩
abbrev S_ : Shape := ⟨0, ![]⟩
abbrev S112x1024 : Shape := ⟨2, ![112, 1024]⟩
abbrev S128x1024 : Shape := ⟨2, ![128, 1024]⟩
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S384x1024 : Shape := ⟨2, ![384, 1024]⟩
abbrev S4 : Shape := ⟨1, ![4]⟩
abbrev S1 : Shape := ⟨1, ![1]⟩
abbrev S256x1024 : Shape := ⟨2, ![256, 1024]⟩
abbrev S384 : Shape := ⟨1, ![384]⟩
abbrev S384x1 : Shape := ⟨2, ![384, 1]⟩
abbrev S384x4096 : Shape := ⟨2, ![384, 4096]⟩

abbrev nBuf : Space → Nat
  | .hbm => 26
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S33792x1024, .bf16⟩
  | .hbm, ⟨3, _⟩ => ⟨S33792x1024, .bf16⟩
  | .hbm, ⟨4, _⟩ => ⟨S1x2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S32768x1024, .f32⟩
  | .hbm, ⟨9, _⟩ => ⟨S_, .f32⟩
  | .hbm, ⟨10, _⟩ => ⟨S112x1024, .f32⟩
  | .hbm, ⟨11, _⟩ => ⟨S128x1024, .f32⟩
  | .hbm, ⟨12, _⟩ => ⟨S2048x1024, .f32⟩
  | .hbm, ⟨13, _⟩ => ⟨S2048x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x4096, .f32⟩
  | .hbm, ⟨20, _⟩ => ⟨S1024x4096, .f32⟩
  | .hbm, ⟨21, _⟩ => ⟨S1024x4096, .bf16⟩
  | .hbm, ⟨22, _⟩ => ⟨S1x4096x1024, .f32⟩
  | .hbm, ⟨23, _⟩ => ⟨S4096x1024, .f32⟩
  | .hbm, ⟨24, _⟩ => ⟨S4096x1024, .bf16⟩
  | .hbm, ⟨25, _⟩ => ⟨S33792x1024, .f32⟩
  | .local _ .vmem, ⟨0, _⟩ => ⟨S384x1024, .f32⟩
  | .local _ .vmem, ⟨1, _⟩ => ⟨S384x1024, .f32⟩
  | .local _ .vmem, ⟨2, _⟩ => ⟨S128x1024, .f32⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x4096, .bf16⟩
  | .local _ .vmem, ⟨13, _⟩ => ⟨S4096x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg0 : BitVec 32 := BitVec.ofNat 32 (i 0).val
  let c4096_i32 : BitVec 32 := 4096#32
  let v0 : BitVec 32 := Scalar.muli arg0 c4096_i32
  let arg1 : BitVec 32 := BitVec.ofNat 32 (i 1).val
  let c384_i32 : BitVec 32 := 384#32
  let v1 : BitVec 32 := Scalar.muli arg1 c384_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  v4
def cc0_transform_0 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c384_i32 : BitVec 32 := 384#32
  let v1 : BitVec 32 := Scalar.muli arg1 c384_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S16x1024 : Shape := ⟨2, ![16, 1024]⟩
abbrev S33792x1024 : Shape := ⟨2, ![33792, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S8x16x1024 : Shape := ⟨3, ![8, 16, 1024]⟩
abbrev S8x4112x1024 : Shape := ⟨3, ![8, 4112, 1024]⟩
abbrev S_ : Shape := ⟨0, ![]⟩
abbrev S8x4224x1024 : Shape := ⟨3, ![8, 4224, 1024]⟩
abbrev S33792x2048 : Shape := ⟨2, ![33792, 2048]⟩
abbrev S8x4224x2048 : Shape := ⟨3, ![8, 4224, 2048]⟩
abbrev S2048x1024 : Shape := ⟨2, ![2048, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4224 : Shape := ⟨2, ![8, 4224]⟩
abbrev S8x4224x1 : Shape := ⟨3, ![8, 4224, 1]⟩
abbrev S1x1x1024 : Shape := ⟨3, ![1, 1, 1024]⟩
abbrev S8x4224x4096 : Shape := ⟨3, ![8, 4224, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S33792x1024, .bf16⟩
  | .hbm, ⟨3, _⟩ => ⟨S33792x1024, .bf16⟩
  | .hbm, ⟨4, _⟩ => ⟨S1x2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S8x16x1024, .f32⟩
  | .hbm, ⟨9, _⟩ => ⟨S8x4112x1024, .f32⟩
  | .hbm, ⟨10, _⟩ => ⟨S_, .i32⟩
  | .hbm, ⟨11, _⟩ => ⟨S_, .f32⟩
  | .hbm, ⟨12, _⟩ => ⟨S8x4224x1024, .f32⟩
  | .hbm, ⟨13, _⟩ => ⟨S33792x1024, .f32⟩
  | .hbm, ⟨14, _⟩ => ⟨S33792x1024, .f32⟩
  | .hbm, ⟨15, _⟩ => ⟨S33792x2048, .f32⟩
  | .hbm, ⟨16, _⟩ => ⟨S8x4224x2048, .f32⟩
  | .hbm, ⟨17, _⟩ => ⟨S2048x1024, .f32⟩
  | .hbm, ⟨18, _⟩ => ⟨S8x4224x1024, .f32⟩
  | .hbm, ⟨19, _⟩ => ⟨S8x4224x1024, .f32⟩
  | .hbm, ⟨20, _⟩ => ⟨S1x1024, .f32⟩
  | .hbm, ⟨21, _⟩ => ⟨S1024, .f32⟩
  | .hbm, ⟨22, _⟩ => ⟨S1x1024x4096, .f32⟩
  | .hbm, ⟨23, _⟩ => ⟨S1024x4096, .f32⟩
  | .hbm, ⟨24, _⟩ => ⟨S1x4096x1024, .f32⟩
  | .hbm, ⟨25, _⟩ => ⟨S4096x1024, .f32⟩
  | .hbm, ⟨26, _⟩ => ⟨S8x4224x1024, .f32⟩
  | .hbm, ⟨27, _⟩ => ⟨S_, .f32⟩
  | .hbm, ⟨28, _⟩ => ⟨S8x4224, .f32⟩
  | .hbm, ⟨29, _⟩ => ⟨S8x4224x1, .f32⟩
  | .hbm, ⟨30, _⟩ => ⟨S_, .f32⟩
  | .hbm, ⟨31, _⟩ => ⟨S8x4224x1, .f32⟩
  | .hbm, ⟨32, _⟩ => ⟨S8x4224x1, .f32⟩
  | .hbm, ⟨33, _⟩ => ⟨S_, .f32⟩
  | .hbm, ⟨34, _⟩ => ⟨S8x4224x1, .f32⟩
  | .hbm, ⟨35, _⟩ => ⟨S8x4224x1, .f32⟩
  | .hbm, ⟨36, _⟩ => ⟨S8x4224x1, .f32⟩
  | .hbm, ⟨37, _⟩ => ⟨S8x4224x1024, .f32⟩
  | .hbm, ⟨38, _⟩ => ⟨S8x4224x1024, .f32⟩
  | .hbm, ⟨39, _⟩ => ⟨S1x1x1024, .f32⟩
  | .hbm, ⟨40, _⟩ => ⟨S8x4224x1024, .f32⟩
  | .hbm, ⟨41, _⟩ => ⟨S8x4224x1024, .f32⟩
  | .hbm, ⟨42, _⟩ => ⟨S8x4224x4096, .f32⟩
  | .hbm, ⟨43, _⟩ => ⟨S_, .f32⟩
  | .hbm, ⟨44, _⟩ => ⟨S8x4224x4096, .f32⟩
  | .hbm, ⟨45, _⟩ => ⟨S8x4224x4096, .f32⟩
  | .hbm, ⟨46, _⟩ => ⟨S8x4224x4096, .f32⟩
  | .hbm, ⟨47, _⟩ => ⟨S8x4224x1024, .f32⟩
  | .hbm, ⟨48, _⟩ => ⟨S8x4224x1024, .f32⟩
  | .hbm, ⟨49, _⟩ => ⟨S33792x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x1024 : Shape := ⟨2, ![16, 1024]⟩
abbrev S1x1024 : Shape := ⟨2, ![1, 1024]⟩
abbrev S1x1024x5128 : Shape := ⟨3, ![1, 1024, 5128]⟩
abbrev S1x8 : Shape := ⟨2, ![1, 8]⟩
abbrev S1x4x1024 : Shape := ⟨3, ![1, 4, 1024]⟩
abbrev S32768x1024 : Shape := ⟨2, ![32768, 1024]⟩
abbrev S_ : Shape := ⟨0, ![]⟩
abbrev S112x1024 : Shape := ⟨2, ![112, 1024]⟩
abbrev S128x1024 : Shape := ⟨2, ![128, 1024]⟩
abbrev S1024x5128 : Shape := ⟨2, ![1024, 5128]⟩
abbrev S8 : Shape := ⟨1, ![8]⟩
abbrev S1024x512 : Shape := ⟨2, ![1024, 512]⟩
abbrev S1024x1024 : Shape := ⟨2, ![1024, 1024]⟩
abbrev S1024x8 : Shape := ⟨2, ![1024, 8]⟩
abbrev S1024x128 : Shape := ⟨2, ![1024, 128]⟩
abbrev S1024x5248 : Shape := ⟨2, ![1024, 5248]⟩
abbrev S1x128 : Shape := ⟨2, ![1, 128]⟩
abbrev S1024 : Shape := ⟨1, ![1024]⟩
abbrev S4x1024 : Shape := ⟨2, ![4, 1024]⟩
abbrev S33792x512 : Shape := ⟨2, ![33792, 512]⟩
abbrev S33792x1024 : Shape := ⟨2, ![33792, 1024]⟩
abbrev S33792x128 : Shape := ⟨2, ![33792, 128]⟩
abbrev S384x1024 : Shape := ⟨2, ![384, 1024]⟩
abbrev S384x512 : Shape := ⟨2, ![384, 512]⟩
abbrev S384x128 : Shape := ⟨2, ![384, 128]⟩
abbrev S8x1024 : Shape := ⟨2, ![8, 1024]⟩
abbrev S256x1024 : Shape := ⟨2, ![256, 1024]⟩
abbrev S384 : Shape := ⟨1, ![384]⟩
abbrev S384x1 : Shape := ⟨2, ![384, 1]⟩
abbrev S392x1024 : Shape := ⟨2, ![392, 1024]⟩

abbrev nBuf : Space → Nat
  | .hbm => 41
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1x1024, .f32⟩
  | .hbm, ⟨3, _⟩ => ⟨S1x1024x5128, .f32⟩
  | .hbm, ⟨4, _⟩ => ⟨S1x8, .f32⟩
  | .hbm, ⟨5, _⟩ => ⟨S1x4x1024, .f32⟩
  | .hbm, ⟨6, _⟩ => ⟨S1x1024, .f32⟩
  | .hbm, ⟨7, _⟩ => ⟨S32768x1024, .f32⟩
  | .hbm, ⟨8, _⟩ => ⟨S_, .f32⟩
  | .hbm, ⟨9, _⟩ => ⟨S112x1024, .f32⟩
  | .hbm, ⟨10, _⟩ => ⟨S128x1024, .f32⟩
  | .hbm, ⟨11, _⟩ => ⟨S1024x5128, .f32⟩
  | .hbm, ⟨12, _⟩ => ⟨S8, .f32⟩
  | .hbm, ⟨13, _⟩ => ⟨S1024x512, .f32⟩
  | .hbm, ⟨14, _⟩ => ⟨S1024x512, .f32⟩
  | .hbm, ⟨15, _⟩ => ⟨S1024x1024, .f32⟩
  | .hbm, ⟨16, _⟩ => ⟨S1024x1024, .f32⟩
  | .hbm, ⟨17, _⟩ => ⟨S1024x8, .f32⟩
  | .hbm, ⟨18, _⟩ => ⟨S1024x1024, .f32⟩
  | .hbm, ⟨19, _⟩ => ⟨S1024x1024, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x5248, .f32⟩
  | .hbm, ⟨24, _⟩ => ⟨S1024x5248, .bf16⟩
  | .hbm, ⟨25, _⟩ => ⟨S1x8, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S1024, .f32⟩
  | .hbm, ⟨30, _⟩ => ⟨S1x1024, .f32⟩
  | .hbm, ⟨31, _⟩ => ⟨S4x1024, .f32⟩
  | .hbm, ⟨32, _⟩ => ⟨S1024, .f32⟩
  | .hbm, ⟨33, _⟩ => ⟨S1x1024, .f32⟩
  | .hbm, ⟨34, _⟩ => ⟨S33792x512, .bf16⟩
  | .hbm, ⟨35, _⟩ => ⟨S33792x512, .bf16⟩
  | .hbm, ⟨36, _⟩ => ⟨S33792x1024, .bf16⟩
  | .hbm, ⟨37, _⟩ => ⟨S33792x1024, .bf16⟩
  | .hbm, ⟨38, _⟩ => ⟨S33792x128, .f32⟩
  | .hbm, ⟨39, _⟩ => ⟨S33792x1024, .bf16⟩
  | .hbm, ⟨40, _⟩ => ⟨S33792x1024, .bf16⟩
  | .local _ .vmem, ⟨0, _⟩ => ⟨S384x1024, .f32⟩
  | .local _ .vmem, ⟨1, _⟩ => ⟨S384x1024, .f32⟩
  | .local _ .vmem, ⟨2, _⟩ => ⟨S128x1024, .f32⟩
  | .local _ .vmem, ⟨3, _⟩ => ⟨S1x1024, .f32⟩
  | .local _ .vmem, ⟨4, _⟩ => ⟨S1024x5248, .bf16⟩
  | .local _ .vmem, ⟨5, _⟩ => ⟨S4x1024, .f32⟩
  | .local _ .vmem, ⟨6, _⟩ => ⟨S1x1024, .f32⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | .local _ .vmem, ⟨10, _⟩ => ⟨S384x512, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S384x1024, .bf16⟩
  | .local _ .vmem, ⟨15, _⟩ => ⟨S384x128, .f32⟩
  | .local _ .vmem, ⟨16, _⟩ => ⟨S384x128, .f32⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev main_v22_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg0 : BitVec 32 := BitVec.ofNat 32 (i 0).val
  let c4096_i32 : BitVec 32 := 4096#32
  let v0 : BitVec 32 := Scalar.muli arg0 c4096_i32
  let arg1 : BitVec 32 := BitVec.ofNat 32 (i 1).val
  let c384_i32 : BitVec 32 := 384#32
  let v1 : BitVec 32 := Scalar.muli arg1 c384_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  v4
def cc0_transform_0 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c384_i32 : BitVec 32 := 384#32
  let v1 : BitVec 32 := Scalar.muli arg1 c384_i32
  let c128_i32 : BitVec 32 := 128#32
  let v2 : BitVec 32 := Scalar.subi v1 c128_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel3Ideal.lean ====
variable {F : FTy → Type} [FloatOps F] [Named F]
def κ : String → Option EReal := fun
  | "gelu_cubic" => some ((80338380498831 / 2251799813685248 : ℝ) : EReal)
  | _ => none
-- ==== Reference3Ideal.lean ====
abbrev S8x4096x1024 : Shape := ⟨3, ![8, 4096, 1024]⟩
abbrev S16x1024 : Shape := ⟨2, ![16, 1024]⟩
abbrev S1x1024 : Shape := ⟨2, ![1, 1024]⟩
abbrev S1x1024x5128 : Shape := ⟨3, ![1, 1024, 5128]⟩
abbrev S1x8 : Shape := ⟨2, ![1, 8]⟩
abbrev S1x4x1024 : Shape := ⟨3, ![1, 4, 1024]⟩
abbrev S8x16x1024 : Shape := ⟨3, ![8, 16, 1024]⟩
abbrev S8x4112x1024 : Shape := ⟨3, ![8, 4112, 1024]⟩
abbrev S_ : Shape := ⟨0, ![]⟩
abbrev S8x4224x1024 : Shape := ⟨3, ![8, 4224, 1024]⟩
abbrev S1024 : Shape := ⟨1, ![1024]⟩
abbrev S8x4224 : Shape := ⟨2, ![8, 4224]⟩
abbrev S8x4224x1 : Shape := ⟨3, ![8, 4224, 1]⟩
abbrev S1x1x1024 : Shape := ⟨3, ![1, 1, 1024]⟩
abbrev S1024x5128 : Shape := ⟨2, ![1024, 5128]⟩
abbrev S8x4224x5128 : Shape := ⟨3, ![8, 4224, 5128]⟩
abbrev S8x4224x512 : Shape := ⟨3, ![8, 4224, 512]⟩
abbrev S8x4224x4 : Shape := ⟨3, ![8, 4224, 4]⟩
abbrev S8x4224x8 : Shape := ⟨3, ![8, 4224, 8]⟩
abbrev S8x4224x128 : Shape := ⟨3, ![8, 4224, 128]⟩
abbrev S4x1024 : Shape := ⟨2, ![4, 1024]⟩
abbrev S8x4227x1024 : Shape := ⟨3, ![8, 4227, 1024]⟩
abbrev S33792x512 : Shape := ⟨2, ![33792, 512]⟩
abbrev S33792x1024 : Shape := ⟨2, ![33792, 1024]⟩
abbrev S33792x128 : Shape := ⟨2, ![33792, 128]⟩

abbrev nBuf : Space → Nat
  | .hbm => 119
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1x1024, .f32⟩
  | .hbm, ⟨3, _⟩ => ⟨S1x1024x5128, .f32⟩
  | .hbm, ⟨4, _⟩ => ⟨S1x8, .f32⟩
  | .hbm, ⟨5, _⟩ => ⟨S1x4x1024, .f32⟩
  | .hbm, ⟨6, _⟩ => ⟨S1x1024, .f32⟩
  | .hbm, ⟨7, _⟩ => ⟨S8x16x1024, .f32⟩
  | .hbm, ⟨8, _⟩ => ⟨S8x4112x1024, .f32⟩
  | .hbm, ⟨9, _⟩ => ⟨S_, .i32⟩
  | .hbm, ⟨10, _⟩ => ⟨S_, .f32⟩
  | .hbm, ⟨11, _⟩ => ⟨S8x4224x1024, .f32⟩
  | .hbm, ⟨12, _⟩ => ⟨S1024, .f32⟩
  | .hbm, ⟨13, _⟩ => ⟨S8x4224x1024, .f32⟩
  | .hbm, ⟨14, _⟩ => ⟨S_, .f32⟩
  | .hbm, ⟨15, _⟩ => ⟨S8x4224, .f32⟩
  | .hbm, ⟨16, _⟩ => ⟨S8x4224x1, .f32⟩
  | .hbm, ⟨17, _⟩ => ⟨S_, .f32⟩
  | .hbm, ⟨18, _⟩ => ⟨S8x4224x1, .f32⟩
  | .hbm, ⟨19, _⟩ => ⟨S8x4224x1, .f32⟩
  | .hbm, ⟨20, _⟩ => ⟨S_, .f32⟩
  | .hbm, ⟨21, _⟩ => ⟨S8x4224x1, .f32⟩
  | .hbm, ⟨22, _⟩ => ⟨S8x4224x1, .f32⟩
  | .hbm, ⟨23, _⟩ => ⟨S8x4224x1, .f32⟩
  | .hbm, ⟨24, _⟩ => ⟨S8x4224x1024, .f32⟩
  | .hbm, ⟨25, _⟩ => ⟨S8x4224x1024, .f32⟩
  | .hbm, ⟨26, _⟩ => ⟨S1x1x1024, .f32⟩
  | .hbm, ⟨27, _⟩ => ⟨S8x4224x1024, .f32⟩
  | .hbm, ⟨28, _⟩ => ⟨S8x4224x1024, .f32⟩
  | .hbm, ⟨29, _⟩ => ⟨S1024x5128, .f32⟩
  | .hbm, ⟨30, _⟩ => ⟨S8x4224x5128, .f32⟩
  | .hbm, ⟨31, _⟩ => ⟨S8x4224x512, .f32⟩
  | .hbm, ⟨32, _⟩ => ⟨S8x4224x512, .f32⟩
  | .hbm, ⟨33, _⟩ => ⟨S8x4224x1024, .f32⟩
  | .hbm, ⟨34, _⟩ => ⟨S8x4224x1024, .f32⟩
  | .hbm, ⟨35, _⟩ => ⟨S8x4224x4, .f32⟩
  | .hbm, ⟨36, _⟩ => ⟨S8x4224x4, .f32⟩
  | .hbm, ⟨37, _⟩ => ⟨S8x4224x1024, .f32⟩
  | .hbm, ⟨38, _⟩ => ⟨S8x4224x1024, .f32⟩
  | .hbm, ⟨39, _⟩ => ⟨S_, .f32⟩
  | .hbm, ⟨40, _⟩ => ⟨S8x4224x512, .f32⟩
  | .hbm, ⟨41, _⟩ => ⟨S8x4224x512, .f32⟩
  | .hbm, ⟨42, _⟩ => ⟨S8x4224x8, .f32⟩
  | .hbm, ⟨43, _⟩ => ⟨S_, .i32⟩
  | .hbm, ⟨44, _⟩ => ⟨S_, .f32⟩
  | .hbm, ⟨45, _⟩ => ⟨S8x4224x128, .f32⟩
  | .hbm, ⟨46, _⟩ => ⟨S4x1024, .f32⟩
  | .hbm, ⟨47, _⟩ => ⟨S1024, .f32⟩
  | .hbm, ⟨48, _⟩ => ⟨S_, .i32⟩
  | .hbm, ⟨49, _⟩ => ⟨S_, .f32⟩
  | .hbm, ⟨50, _⟩ => ⟨S8x4227x1024, .f32⟩
  | .hbm, ⟨51, _⟩ => ⟨S1x1024, .f32⟩
  | .hbm, ⟨52, _⟩ => ⟨S1024, .f32⟩
  | .hbm, ⟨53, _⟩ => ⟨S8x4224x1024, .f32⟩
  | .hbm, ⟨54, _⟩ => ⟨S1x1x1024, .f32⟩
  | .hbm, ⟨55, _⟩ => ⟨S8x4224x1024, .f32⟩
  | .hbm, ⟨56, _⟩ => ⟨S8x4224x1024, .f32⟩
  | .hbm, ⟨57, _⟩ => ⟨S1x1024, .f32⟩
  | .hbm, ⟨58, _⟩ => ⟨S1024, .f32⟩
  | .hbm, ⟨59, _⟩ => ⟨S8x4224x1024, .f32⟩
  | .hbm, ⟨60, _⟩ => ⟨S1x1x1024, .f32⟩
  | .hbm, ⟨61, _⟩ => ⟨S8x4224x1024, .f32⟩
  | .hbm, ⟨62, _⟩ => ⟨S8x4224x1024, .f32⟩
  | .hbm, ⟨63, _⟩ => ⟨S8x4224x1024, .f32⟩
  | .hbm, ⟨64, _⟩ => ⟨S1x1024, .f32⟩
  | .hbm, ⟨65, _⟩ => ⟨S1024, .f32⟩
  | .hbm, ⟨66, _⟩ => ⟨S8x4224x1024, .f32⟩
  | .hbm, ⟨67, _⟩ => ⟨S1x1x1024, .f32⟩
  | .hbm, ⟨68, _⟩ => ⟨S8x4224x1024, .f32⟩
  | .hbm, ⟨69, _⟩ => ⟨S8x4224x1024, .f32⟩
  | .hbm, ⟨70, _⟩ => ⟨S8x4224x1024, .f32⟩
  | .hbm, ⟨71, _⟩ => ⟨S1x1024, .f32⟩
  | .hbm, ⟨72, _⟩ => ⟨S1024, .f32⟩
  | .hbm, ⟨73, _⟩ => ⟨S8x4224x1024, .f32⟩
  | .hbm, ⟨74, _⟩ => ⟨S1x1x1024, .f32⟩
  | .hbm, ⟨75, _⟩ => ⟨S8x4224x1024, .f32⟩
  | .hbm, ⟨76, _⟩ => ⟨S8x4224x1024, .f32⟩
  | .hbm, ⟨77, _⟩ => ⟨S8x4224x1024, .f32⟩
  | .hbm, ⟨78, _⟩ => ⟨S1x1x1024, .f32⟩
  | .hbm, ⟨79, _⟩ => ⟨S8x4224x1024, .f32⟩
  | .hbm, ⟨80, _⟩ => ⟨S8x4224x1024, .f32⟩
  | .hbm, ⟨81, _⟩ => ⟨S33792x512, .f32⟩
  | .hbm, ⟨82, _⟩ => ⟨S33792x512, .bf16⟩
  | .hbm, ⟨83, _⟩ => ⟨S33792x512, .f32⟩
  | .hbm, ⟨84, _⟩ => ⟨S33792x512, .bf16⟩
  | .hbm, ⟨85, _⟩ => ⟨S33792x1024, .f32⟩
  | .hbm, ⟨86, _⟩ => ⟨S33792x1024, .bf16⟩
  | .hbm, ⟨87, _⟩ => ⟨S8x4224x1024, .f32⟩
  | .hbm, ⟨88, _⟩ => ⟨S8x4224x1024, .f32⟩
  | .hbm, ⟨89, _⟩ => ⟨S_, .f32⟩
  | .hbm, ⟨90, _⟩ => ⟨S8x4224x1024, .f32⟩
  | .hbm, ⟨91, _⟩ => ⟨S8x4224x1024, .f32⟩
  | .hbm, ⟨92, _⟩ => ⟨S_, .f32⟩
  | .hbm, ⟨93, _⟩ => ⟨S8x4224x1024, .f32⟩
  | .hbm, ⟨94, _⟩ => ⟨S8x4224x1024, .f32⟩
  | .hbm, ⟨95, _⟩ => ⟨S33792x1024, .f32⟩
  | .hbm, ⟨96, _⟩ => ⟨S33792x1024, .bf16⟩
  | .hbm, ⟨97, _⟩ => ⟨S33792x128, .f32⟩
  | .hbm, ⟨98, _⟩ => ⟨S33792x1024, .f32⟩
  | .hbm, ⟨99, _⟩ => ⟨S33792x1024, .bf16⟩
  | .hbm, ⟨100, _⟩ => ⟨S8x4224x1024, .f32⟩
  | .hbm, ⟨101, _⟩ => ⟨S8x4224x1024, .f32⟩
  | .hbm, ⟨102, _⟩ => ⟨S_, .f32⟩
  | .hbm, ⟨103, _⟩ => ⟨S8x4224x1024, .f32⟩
  | .hbm, ⟨104, _⟩ => ⟨S8x4224x1024, .f32⟩
  | .hbm, ⟨105, _⟩ => ⟨S8x4224x1024, .f32⟩
  | .hbm, ⟨106, _⟩ => ⟨S_, .f32⟩
  | .hbm, ⟨107, _⟩ => ⟨S8x4224x1024, .f32⟩
  | .hbm, ⟨108, _⟩ => ⟨S8x4224x1024, .f32⟩
  | .hbm, ⟨109, _⟩ => ⟨S8x4224x1024, .f32⟩
  | .hbm, ⟨110, _⟩ => ⟨S_, .f32⟩
  | .hbm, ⟨111, _⟩ => ⟨S8x4224x1024, .f32⟩
  | .hbm, ⟨112, _⟩ => ⟨S8x4224x1024, .f32⟩
  | .hbm, ⟨113, _⟩ => ⟨S_, .f32⟩
  | .hbm, ⟨114, _⟩ => ⟨S8x4224x1024, .f32⟩
  | .hbm, ⟨115, _⟩ => ⟨S8x4224x1024, .f32⟩
  | .hbm, ⟨116, _⟩ => ⟨S8x4224x1024, .f32⟩
  | .hbm, ⟨117, _⟩ => ⟨S33792x1024, .f32⟩
  | .hbm, ⟨118, _⟩ => ⟨S33792x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_5 : Ref sig .tc := ⟨.hbm, 89, rfl⟩
abbrev main_v72 : Ref sig .tc := ⟨.hbm, 90, rfl⟩
abbrev main_v73 : Ref sig .tc := ⟨.hbm, 91, rfl⟩
abbrev main_cst_6 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_7 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_8 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_9 : Ref sig .tc := ⟨.hbm, 110, rfl⟩
abbrev main_v89 : Ref sig .tc := ⟨.hbm, 111, rfl⟩
abbrev main_v90 : Ref sig .tc := ⟨.hbm, 112, rfl⟩
abbrev main_cst_10 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩

abbrev nD : Nat := 1
abbrev τ : Topo := Topo.v7x

variable {F : FTy → Type} [FloatOps F]
-- ==== Kernel4.lean ====
abbrev S33792x1024 : Shape := ⟨2, ![33792, 1024]⟩
abbrev S8x4096 : Shape := ⟨2, ![8, 4096]⟩
abbrev S1x1024 : Shape := ⟨2, ![1, 1024]⟩
abbrev S1x1024x2216 : Shape := ⟨3, ![1, 1024, 2216]⟩
abbrev S1x8 : Shape := ⟨2, ![1, 8]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1x64 : Shape := ⟨2, ![1, 64]⟩
abbrev S1x32 : Shape := ⟨2, ![1, 32]⟩
abbrev S_ : Shape := ⟨0, ![]⟩
abbrev S8x112 : Shape := ⟨2, ![8, 112]⟩
abbrev S16 : Shape := ⟨1, ![16]⟩
abbrev S1x16 : Shape := ⟨2, ![1, 16]⟩
abbrev S8x16 : Shape := ⟨2, ![8, 16]⟩
abbrev S8x4224 : Shape := ⟨2, ![8, 4224]⟩
abbrev S8x4224x1 : Shape := ⟨3, ![8, 4224, 1]⟩
abbrev S1024 : Shape := ⟨1, ![1024]⟩
abbrev S1024x2216 : Shape := ⟨2, ![1024, 2216]⟩
abbrev S8 : Shape := ⟨1, ![8]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x8 : Shape := ⟨2, ![1024, 8]⟩
abbrev S1024x128 : Shape := ⟨2, ![1024, 128]⟩
abbrev S1024x2432 : Shape := ⟨2, ![1024, 2432]⟩
abbrev S1x128 : Shape := ⟨2, ![1, 128]⟩
abbrev S4x128 : Shape := ⟨2, ![4, 128]⟩
abbrev S128 : Shape := ⟨1, ![128]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S96 : Shape := ⟨1, ![96]⟩
abbrev S64x64 : Shape := ⟨2, ![64, 64]⟩
abbrev S64x256 : Shape := ⟨2, ![64, 256]⟩
abbrev S32x32 : Shape := ⟨2, ![32, 32]⟩
abbrev S32x256 : Shape := ⟨2, ![32, 256]⟩
abbrev S256x256 : Shape := ⟨2, ![256, 256]⟩
abbrev S8x8 : Shape := ⟨2, ![8, 8]⟩
abbrev S8x8x1 : Shape := ⟨3, ![8, 8, 1]⟩
abbrev S8x8x128 : Shape := ⟨3, ![8, 8, 128]⟩
abbrev S8x1024 : Shape := ⟨2, ![8, 1024]⟩
abbrev S128x1024 : Shape := ⟨2, ![128, 1024]⟩
abbrev S8x4224x1024 : Shape := ⟨3, ![8, 4224, 1024]⟩
abbrev S8x512x4224 : Shape := ⟨3, ![8, 512, 4224]⟩
abbrev S1x384x1024 : Shape := ⟨3, ![1, 384, 1024]⟩
abbrev S1x384x1 : Shape := ⟨3, ![1, 384, 1]⟩
abbrev S1x512x384 : Shape := ⟨3, ![1, 512, 384]⟩
abbrev S384x1 : Shape := ⟨2, ![384, 1]⟩
abbrev S384x384 : Shape := ⟨2, ![384, 384]⟩
abbrev S384x256 : Shape := ⟨2, ![384, 256]⟩
abbrev S384x128 : Shape := ⟨2, ![384, 128]⟩
abbrev S96x1 : Shape := ⟨2, ![96, 1]⟩
abbrev S96x128 : Shape := ⟨2, ![96, 128]⟩
abbrev S1x384x256 : Shape := ⟨3, ![1, 384, 256]⟩
abbrev S384x512 : Shape := ⟨2, ![384, 512]⟩
abbrev S1x384x128 : Shape := ⟨3, ![1, 384, 128]⟩
abbrev S512x384 : Shape := ⟨2, ![512, 384]⟩

abbrev nBuf : Space → Nat
  | .hbm => 233
  | .vmem => 35
  | .smem => 0
  | _ => 0

abbrev hbmTy0_0 (i : Nat) : BufTy := match i % 128 with
  | 0 => ⟨S33792x1024, .f32⟩
  | 1 => ⟨S8x4096, .i32⟩
  | 2 => ⟨S1x1024, .f32⟩
  | 3 => ⟨S1x1024x2216, .f32⟩
  | 4 => ⟨S1x8, .f32⟩
  | 5 => ⟨S1x384, .f32⟩
  | 6 => ⟨S1x256, .f32⟩
  | 7 => ⟨S1x384x768, .f32⟩
  | 8 => ⟨S1x256x1024, .f32⟩
  | 9 => ⟨S1x64, .f32⟩
  | 10 => ⟨S1x32, .f32⟩
  | 11 => ⟨S1x64, .f32⟩
  | 12 => ⟨S1x32, .f32⟩
  | 13 => ⟨S1x64, .f32⟩
  | 14 => ⟨S1x64, .f32⟩
  | 15 => ⟨S_, .i32⟩
  | 16 => ⟨S8x112, .i32⟩
  | 17 => ⟨S16, .i32⟩
  | 18 => ⟨S1x16, .i32⟩
  | 19 => ⟨S8x16, .i32⟩
  | 20 => ⟨S_, .i32⟩
  | 21 => ⟨S8x4096, .i32⟩
  | 22 => ⟨S8x4096, .i32⟩
  | 23 => ⟨S8x4224, .i32⟩
  | 24 => ⟨S8x4224, .f32⟩
  | 25 => ⟨S8x4224x1, .f32⟩
  | 26 => ⟨S1024, .f32⟩
  | 27 => ⟨S1024x2216, .f32⟩
  | 28 => ⟨S8, .f32⟩
  | 29 => ⟨S384, .f32⟩
  | 30 => ⟨S256, .f32⟩
  | 31 => ⟨S384x768, .f32⟩
  | 32 => ⟨S256x1024, .f32⟩
  | 33 => ⟨S64, .f32⟩
  | 34 => ⟨S32, .f32⟩
  | 35 => ⟨S64, .f32⟩
  | 36 => ⟨S32, .f32⟩
  | 37 => ⟨S64, .f32⟩
  | 38 => ⟨S64, .f32⟩
  | 39 => ⟨S1024x384, .f32⟩
  | 40 => ⟨S1024x256, .f32⟩
  | 41 => ⟨S1024x32, .f32⟩
  | 42 => ⟨S1024x512, .f32⟩
  | 43 => ⟨S1024x512, .f32⟩
  | 44 => ⟨S1024x512, .f32⟩
  | 45 => ⟨S1024x8, .f32⟩
  | 46 => ⟨S_, .i32⟩
  | 47 => ⟨S_, .f32⟩
  | 48 => ⟨S1024x128, .f32⟩
  | 49 => ⟨S_, .i32⟩
  | 50 => ⟨S_, .f32⟩
  | 51 => ⟨S1024x128, .f32⟩
  | 52 => ⟨S1024x2432, .f32⟩
  | 53 => ⟨S1024x2432, .bf16⟩
  | 54 => ⟨S1x1024, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S32, .f32⟩
  | 64 => ⟨S1x32, .f32⟩
  | 65 => ⟨S_, .i32⟩
  | 66 => ⟨S_, .f32⟩
  | 67 => ⟨S1x128, .f32⟩
  | 68 => ⟨S32, .f32⟩
  | 69 => ⟨S1x32, .f32⟩
  | 70 => ⟨S_, .i32⟩
  | 71 => ⟨S_, .f32⟩
  | 72 => ⟨S1x128, .f32⟩
  | 73 => ⟨S32, .f32⟩
  | 74 => ⟨S1x32, .f32⟩
  | 75 => ⟨S_, .i32⟩
  | 76 => ⟨S_, .f32⟩
  | 77 => ⟨S1x128, .f32⟩
  | 78 => ⟨S32, .f32⟩
  | 79 => ⟨S1x32, .f32⟩
  | 80 => ⟨S_, .i32⟩
  | 81 => ⟨S_, .f32⟩
  | 82 => ⟨S1x128, .f32⟩
  | 83 => ⟨S4x128, .f32⟩
  | 84 => ⟨S_, .f32⟩
  | 85 => ⟨S16, .f32⟩
  | 86 => ⟨S_, .f32⟩
  | 87 => ⟨S16, .f32⟩
  | 88 => ⟨S128, .f32⟩
  | 89 => ⟨S1x128, .f32⟩
  | 90 => ⟨S1x384, .f32⟩
  | 91 => ⟨S1x256, .f32⟩
  | 92 => ⟨S384x8x96, .f32⟩
  | 93 => ⟨S_, .i32⟩
  | 94 => ⟨S_, .f32⟩
  | 95 => ⟨S384x8x128, .f32⟩
  | 96 => ⟨S384x1024, .f32⟩
  | 97 => ⟨S384x1024, .bf16⟩
  | 98 => ⟨S256x8x128, .f32⟩
  | 99 => ⟨S256x8x64, .f32⟩
  | 100 => ⟨S_, .i32⟩
  | 101 => ⟨S_, .f32⟩
  | 102 => ⟨S256x8x128, .f32⟩
  | 103 => ⟨S256x1024, .f32⟩
  | 104 => ⟨S256x1024, .bf16⟩
  | 105 => ⟨S256x8x128, .f32⟩
  | 106 => ⟨S256x8x64, .f32⟩
  | 107 => ⟨S256x512, .f32⟩
  | 108 => ⟨S256x512, .bf16⟩
  | 109 => ⟨S96, .f32⟩
  | 110 => ⟨S_, .i32⟩
  | 111 => ⟨S_, .f32⟩
  | 112 => ⟨S128, .f32⟩
  | 113 => ⟨S256, .f32⟩
  | 114 => ⟨S1x256, .f32⟩
  | 115 => ⟨S_, .i32⟩
  | 116 => ⟨S_, .f32⟩
  | 117 => ⟨S128, .f32⟩
  | 118 => ⟨S256, .f32⟩
  | 119 => ⟨S1x256, .f32⟩
  | 120 => ⟨S_, .i32⟩
  | 121 => ⟨S_, .f32⟩
  | 122 => ⟨S128, .f32⟩
  | 123 => ⟨S256, .f32⟩
  | 124 => ⟨S1x256, .f32⟩
  | 125 => ⟨S128, .f32⟩
  | 126 => ⟨S_, .i32⟩
  | 127 => ⟨S_, .f32⟩
  | _ => ⟨S33792x1024, .f32⟩

abbrev hbmTy0_1 (i : Nat) : BufTy := match i % 128 with
  | 0 => ⟨S128, .f32⟩
  | 1 => ⟨S256, .f32⟩
  | 2 => ⟨S1x256, .f32⟩
  | 3 => ⟨S128, .f32⟩
  | 4 => ⟨S_, .i32⟩
  | 5 => ⟨S_, .f32⟩
  | 6 => ⟨S128, .f32⟩
  | 7 => ⟨S256, .f32⟩
  | 8 => ⟨S1x256, .f32⟩
  | 9 => ⟨S_, .i32⟩
  | 10 => ⟨S_, .f32⟩
  | 11 => ⟨S128, .f32⟩
  | 12 => ⟨S1x128, .f32⟩
  | 13 => ⟨S_, .f32⟩
  | 14 => ⟨S64x64, .f32⟩
  | 15 => ⟨S_, .i32⟩
  | 16 => ⟨S_, .f32⟩
  | 17 => ⟨S64x256, .f32⟩
  | 18 => ⟨S_, .f32⟩
  | 19 => ⟨S32x32, .f32⟩
  | 20 => ⟨S_, .i32⟩
  | 21 => ⟨S_, .f32⟩
  | 22 => ⟨S32x256, .f32⟩
  | 23 => ⟨S_, .f32⟩
  | 24 => ⟨S32x32, .f32⟩
  | 25 => ⟨S_, .i32⟩
  | 26 => ⟨S_, .f32⟩
  | 27 => ⟨S32x256, .f32⟩
  | 28 => ⟨S_, .f32⟩
  | 29 => ⟨S64x64, .f32⟩
  | 30 => ⟨S_, .i32⟩
  | 31 => ⟨S_, .f32⟩
  | 32 => ⟨S64x256, .f32⟩
  | 33 => ⟨S_, .f32⟩
  | 34 => ⟨S32x32, .f32⟩
  | 35 => ⟨S_, .i32⟩
  | 36 => ⟨S_, .f32⟩
  | 37 => ⟨S32x256, .f32⟩
  | 38 => ⟨S_, .f32⟩
  | 39 => ⟨S32x32, .f32⟩
  | 40 => ⟨S_, .i32⟩
  | 41 => ⟨S_, .f32⟩
  | 42 => ⟨S32x256, .f32⟩
  | 43 => ⟨S256x256, .f32⟩
  | 44 => ⟨S256x256, .bf16⟩
  | 45 => ⟨S_, .f32⟩
  | 46 => ⟨S64x64, .f32⟩
  | 47 => ⟨S_, .i32⟩
  | 48 => ⟨S_, .f32⟩
  | 49 => ⟨S64x256, .f32⟩
  | 50 => ⟨S_, .f32⟩
  | 51 => ⟨S64x64, .f32⟩
  | 52 => ⟨S_, .i32⟩
  | 53 => ⟨S_, .f32⟩
  | 54 => ⟨S64x256, .f32⟩
  | 55 => ⟨S_, .f32⟩
  | 56 => ⟨S64x64, .f32⟩
  | 57 => ⟨S_, .i32⟩
  | 58 => ⟨S_, .f32⟩
  | 59 => ⟨S64x256, .f32⟩
  | 60 => ⟨S_, .f32⟩
  | 61 => ⟨S64x64, .f32⟩
  | 62 => ⟨S_, .i32⟩
  | 63 => ⟨S_, .f32⟩
  | 64 => ⟨S64x256, .f32⟩
  | 65 => ⟨S256x256, .f32⟩
  | 66 => ⟨S256x256, .bf16⟩
  | 67 => ⟨S8x8, .i32⟩
  | 68 => ⟨S8x8, .i32⟩
  | 69 => ⟨S_, .i32⟩
  | 70 => ⟨S8x8, .i32⟩
  | 71 => ⟨S8x8, .i32⟩
  | 72 => ⟨S8x8, .i1⟩
  | 73 => ⟨S8x8, .f32⟩
  | 74 => ⟨S8x8x1, .f32⟩
  | 75 => ⟨S_, .i32⟩
  | 76 => ⟨S_, .f32⟩
  | 77 => ⟨S8x8x128, .f32⟩
  | 78 => ⟨S8x1024, .f32⟩
  | 79 => ⟨S_, .i32⟩
  | 80 => ⟨S_, .f32⟩
  | 81 => ⟨S128x1024, .f32⟩
  | 82 => ⟨S_, .i32⟩
  | 83 => ⟨S_, .f32⟩
  | 84 => ⟨S8x8x128, .f32⟩
  | 85 => ⟨S8x1024, .f32⟩
  | 86 => ⟨S_, .i32⟩
  | 87 => ⟨S_, .f32⟩
  | 88 => ⟨S128x1024, .f32⟩
  | 89 => ⟨S_, .i32⟩
  | 90 => ⟨S_, .f32⟩
  | 91 => ⟨S8x8x128, .f32⟩
  | 92 => ⟨S8x1024, .f32⟩
  | 93 => ⟨S_, .i32⟩
  | 94 => ⟨S_, .f32⟩
  | 95 => ⟨S128x1024, .f32⟩
  | 96 => ⟨S384x1024, .f32⟩
  | 97 => ⟨S384x1024, .bf16⟩
  | 98 => ⟨S8x4224x1024, .f32⟩
  | 99 => ⟨S8x4224x1024, .bf16⟩
  | 100 => ⟨S8x4224x1024, .bf16⟩
  | 101 => ⟨S8x512x4224, .bf16⟩
  | 102 => ⟨S8x4224x1024, .bf16⟩
  | 103 => ⟨S8x4224x1024, .bf16⟩
  | 104 => ⟨S8x512x4224, .bf16⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | .local _ .vmem, ⟨0, _⟩ => ⟨S1x384x1024, .f32⟩
  | .local _ .vmem, ⟨1, _⟩ => ⟨S1x384x1024, .f32⟩
  | .local _ .vmem, ⟨2, _⟩ => ⟨S1x1024, .f32⟩
  | .local _ .vmem, ⟨3, _⟩ => ⟨S1024x2432, .bf16⟩
  | .local _ .vmem, ⟨4, _⟩ => ⟨S1x384x1, .f32⟩
  | .local _ .vmem, ⟨5, _⟩ => ⟨S1x384x1, .f32⟩
  | .local _ .vmem, ⟨6, _⟩ => ⟨S4x128, .f32⟩
  | .local _ .vmem, ⟨7, _⟩ => ⟨S1x128, .f32⟩
  | .local _ .vmem, ⟨8, _⟩ => ⟨S1x384, .f32⟩
  | .local _ .vmem, ⟨9, _⟩ => ⟨S1x256, .f32⟩
  | .local _ .vmem, ⟨10, _⟩ => ⟨S384x1024, .bf16⟩
  | .local _ .vmem, ⟨11, _⟩ => ⟨S256x1024, .bf16⟩
  | .local _ .vmem, ⟨12, _⟩ => ⟨S256x512, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x128, .f32⟩
  | .local _ .vmem, ⟨19, _⟩ => ⟨S256x256, .bf16⟩
  | .local _ .vmem, ⟨20, _⟩ => ⟨S256x256, .bf16⟩
  | .local _ .vmem, ⟨21, _⟩ => ⟨S384x1024, .bf16⟩
  | .local _ .vmem, ⟨22, _⟩ => ⟨S1x384x1024, .bf16⟩
  | .local _ .vmem, ⟨23, _⟩ => ⟨S1x384x1024, .bf16⟩
  | .local _ .vmem, ⟨24, _⟩ => ⟨S1x384x1024, .bf16⟩
  | .local _ .vmem, ⟨25, _⟩ => ⟨S1x384x1024, .bf16⟩
  | .local _ .vmem, ⟨26, _⟩ => ⟨S1x512x384, .bf16⟩
  | .local _ .vmem, ⟨27, _⟩ => ⟨S1x512x384, .bf16⟩
  | .local _ .vmem, ⟨28, _⟩ => ⟨S1x384x1024, .bf16⟩
  | .local _ .vmem, ⟨29, _⟩ => ⟨S1x384x1024, .bf16⟩
  | .local _ .vmem, ⟨30, _⟩ => ⟨S1x384x1024, .bf16⟩
  | .local _ .vmem, ⟨31, _⟩ => ⟨S1x384x1024, .bf16⟩
  | .local _ .vmem, ⟨32, _⟩ => ⟨S1x512x384, .bf16⟩
  | .local _ .vmem, ⟨33, _⟩ => ⟨S1x512x384, .bf16⟩
  | .local _ .vmem, ⟨34, _⟩ => ⟨S1x128, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_call0_v0 : Ref sig .tc := ⟨.hbm, 47, rfl⟩
abbrev main_v29 : Ref sig .tc := ⟨.hbm, 48, rfl⟩
abbrev main_c_2 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_4 : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_call3_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_6 : Ref sig .tc := ⟨.hbm, 75, rfl⟩
abbrev main_call4_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_7 : Ref sig .tc := ⟨.hbm, 80, rfl⟩
abbrev main_call5_v0 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_10 : Ref sig .tc := ⟨.hbm, 93, rfl⟩
abbrev main_call6_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_11 : Ref sig .tc := ⟨.hbm, 100, rfl⟩
abbrev main_call7_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_call8_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_13 : Ref sig .tc := ⟨.hbm, 115, rfl⟩
abbrev main_call9_v0 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_14 : Ref sig .tc := ⟨.hbm, 120, rfl⟩
abbrev main_call10_v0 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_15 : Ref sig .tc := ⟨.hbm, 126, rfl⟩
abbrev main_call11_v0 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_16 : Ref sig .tc := ⟨.hbm, 132, rfl⟩
abbrev main_call12_v0 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_17 : Ref sig .tc := ⟨.hbm, 137, rfl⟩
abbrev main_call13_v0 : Ref sig .tc := ⟨.hbm, 138, rfl⟩
abbrev main_v90 : Ref sig .tc := ⟨.hbm, 139, rfl⟩
abbrev main_v91 : Ref sig .tc := ⟨.hbm, 140, rfl⟩
abbrev main_cst_18 : Ref sig .tc := ⟨.hbm, 141, rfl⟩
abbrev main_v92 : Ref sig .tc := ⟨.hbm, 142, rfl⟩
abbrev main_c_19 : Ref sig .tc := ⟨.hbm, 143, rfl⟩
abbrev main_call14_v0 : Ref sig .tc := ⟨.hbm, 144, rfl⟩
abbrev main_v93 : Ref sig .tc := ⟨.hbm, 145, rfl⟩
abbrev main_cst_20 : Ref sig .tc := ⟨.hbm, 146, rfl⟩
abbrev main_v94 : Ref sig .tc := ⟨.hbm, 147, rfl⟩
abbrev main_c_21 : Ref sig .tc := ⟨.hbm, 148, rfl⟩
abbrev main_call15_v0 : Ref sig .tc := ⟨.hbm, 149, rfl⟩
abbrev main_v95 : Ref sig .tc := ⟨.hbm, 150, rfl⟩
abbrev main_cst_22 : Ref sig .tc := ⟨.hbm, 151, rfl⟩
abbrev main_v96 : Ref sig .tc := ⟨.hbm, 152, rfl⟩
abbrev main_c_23 : Ref sig .tc := ⟨.hbm, 153, rfl⟩
abbrev main_call16_v0 : Ref sig .tc := ⟨.hbm, 154, rfl⟩
abbrev main_v97 : Ref sig .tc := ⟨.hbm, 155, rfl⟩
abbrev main_cst_24 : Ref sig .tc := ⟨.hbm, 156, rfl⟩
abbrev main_v98 : Ref sig .tc := ⟨.hbm, 157, rfl⟩
abbrev main_c_25 : Ref sig .tc := ⟨.hbm, 158, rfl⟩
abbrev main_call17_v0 : Ref sig .tc := ⟨.hbm, 159, rfl⟩
abbrev main_v99 : Ref sig .tc := ⟨.hbm, 160, rfl⟩
abbrev main_cst_26 : Ref sig .tc := ⟨.hbm, 161, rfl⟩
abbrev main_v100 : Ref sig .tc := ⟨.hbm, 162, rfl⟩
abbrev main_c_27 : Ref sig .tc := ⟨.hbm, 163, rfl⟩
abbrev main_call18_v0 : Ref sig .tc := ⟨.hbm, 164, rfl⟩
abbrev main_v101 : Ref sig .tc := ⟨.hbm, 165, rfl⟩
abbrev main_cst_28 : Ref sig .tc := ⟨.hbm, 166, rfl⟩
abbrev main_v102 : Ref sig .tc := ⟨.hbm, 167, rfl⟩
abbrev main_c_29 : Ref sig .tc := ⟨.hbm, 168, rfl⟩
abbrev main_call19_v0 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_30 : Ref sig .tc := ⟨.hbm, 173, rfl⟩
abbrev main_v106 : Ref sig .tc := ⟨.hbm, 174, rfl⟩
abbrev main_c_31 : Ref sig .tc := ⟨.hbm, 175, rfl⟩
abbrev main_call20_v0 : Ref sig .tc := ⟨.hbm, 176, rfl⟩
abbrev main_v107 : Ref sig .tc := ⟨.hbm, 177, rfl⟩
abbrev main_cst_32 : Ref sig .tc := ⟨.hbm, 178, rfl⟩
abbrev main_v108 : Ref sig .tc := ⟨.hbm, 179, rfl⟩
abbrev main_c_33 : Ref sig .tc := ⟨.hbm, 180, rfl⟩
abbrev main_call21_v0 : Ref sig .tc := ⟨.hbm, 181, rfl⟩
abbrev main_v109 : Ref sig .tc := ⟨.hbm, 182, rfl⟩
abbrev main_cst_34 : Ref sig .tc := ⟨.hbm, 183, rfl⟩
abbrev main_v110 : Ref sig .tc := ⟨.hbm, 184, rfl⟩
abbrev main_c_35 : Ref sig .tc := ⟨.hbm, 185, rfl⟩
abbrev main_call22_v0 : Ref sig .tc := ⟨.hbm, 186, rfl⟩
abbrev main_v111 : Ref sig .tc := ⟨.hbm, 187, rfl⟩
abbrev main_cst_36 : Ref sig .tc := ⟨.hbm, 188, rfl⟩
abbrev main_v112 : Ref sig .tc := ⟨.hbm, 189, rfl⟩
abbrev main_c_37 : Ref sig .tc := ⟨.hbm, 190, rfl⟩
abbrev main_call23_v0 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_c_38 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_c_39 : Ref sig .tc := ⟨.hbm, 203, rfl⟩
abbrev main_call24_v0 : Ref sig .tc := ⟨.hbm, 204, rfl⟩
abbrev main_v123 : Ref sig .tc := ⟨.hbm, 205, rfl⟩
abbrev main_v124 : Ref sig .tc := ⟨.hbm, 206, rfl⟩
abbrev main_c_40 : Ref sig .tc := ⟨.hbm, 207, rfl⟩
abbrev main_call25_v0 : Ref sig .tc := ⟨.hbm, 208, rfl⟩
abbrev main_v125 : Ref sig .tc := ⟨.hbm, 209, rfl⟩
abbrev main_c_41 : Ref sig .tc := ⟨.hbm, 210, rfl⟩
abbrev main_call26_v0 : Ref sig .tc := ⟨.hbm, 211, rfl⟩
abbrev main_v126 : Ref sig .tc := ⟨.hbm, 212, rfl⟩
abbrev main_v127 : Ref sig .tc := ⟨.hbm, 213, rfl⟩
abbrev main_c_42 : Ref sig .tc := ⟨.hbm, 214, rfl⟩
abbrev main_call27_v0 : Ref sig .tc := ⟨.hbm, 215, rfl⟩
abbrev main_v128 : Ref sig .tc := ⟨.hbm, 216, rfl⟩
abbrev main_c_43 : Ref sig .tc := ⟨.hbm, 217, rfl⟩
abbrev main_call28_v0 : Ref sig .tc := ⟨.hbm, 218, rfl⟩
abbrev main_v129 : Ref sig .tc := ⟨.hbm, 219, rfl⟩
abbrev main_v130 : Ref sig .tc := ⟨.hbm, 220, rfl⟩
abbrev main_c_44 : Ref sig .tc := ⟨.hbm, 221, rfl⟩
abbrev main_call29_v0 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135_0 : Ref sig .tc := ⟨.hbm, 227, rfl⟩
abbrev main_v135_1 : Ref sig .tc := ⟨.hbm, 228, rfl⟩
abbrev main_v135_2 : Ref sig .tc := ⟨.hbm, 229, rfl⟩
abbrev main_v135_3 : Ref sig .tc := ⟨.hbm, 230, rfl⟩
abbrev main_v135_4 : Ref sig .tc := ⟨.hbm, 231, rfl⟩
abbrev main_v135_5 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x384x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S384x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x384x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x384x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x384 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x384x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x384x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x384 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Kernel4Ideal.lean ====
variable {F : FTy → Type} [FloatOps F] [Named F]
def κ : String → Option EReal := fun
  | "quarter_turn" => some (((-1 / 2) * Real.pi : ℝ) : EReal)
  | _ => none
-- ==== Reference4Ideal.lean ====
abbrev S33792x1024 : Shape := ⟨2, ![33792, 1024]⟩
abbrev S8x4096 : Shape := ⟨2, ![8, 4096]⟩
abbrev S1x1024 : Shape := ⟨2, ![1, 1024]⟩
abbrev S1x1024x2216 : Shape := ⟨3, ![1, 1024, 2216]⟩
abbrev S1x8 : Shape := ⟨2, ![1, 8]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1x64 : Shape := ⟨2, ![1, 64]⟩
abbrev S1x32 : Shape := ⟨2, ![1, 32]⟩
abbrev S8x4224x1024 : Shape := ⟨3, ![8, 4224, 1024]⟩
abbrev S16 : Shape := ⟨1, ![16]⟩
abbrev S1x16 : Shape := ⟨2, ![1, 16]⟩
abbrev S8x16 : Shape := ⟨2, ![8, 16]⟩
abbrev S_ : Shape := ⟨0, ![]⟩
abbrev S8x112 : Shape := ⟨2, ![8, 112]⟩
abbrev S8x4224 : Shape := ⟨2, ![8, 4224]⟩
abbrev S4224 : Shape := ⟨1, ![4224]⟩
abbrev S1x4224x1x1 : Shape := ⟨4, ![1, 4224, 1, 1]⟩
abbrev S1024 : Shape := ⟨1, ![1024]⟩
abbrev S8x4224x1 : Shape := ⟨3, ![8, 4224, 1]⟩
abbrev S1x1x1024 : Shape := ⟨3, ![1, 1, 1024]⟩
abbrev S1024x2216 : Shape := ⟨2, ![1024, 2216]⟩
abbrev S8x4224x2216 : Shape := ⟨3, ![8, 4224, 2216]⟩
abbrev S8x4224x384 : Shape := ⟨3, ![8, 4224, 384]⟩
abbrev S8x4224x256 : Shape := ⟨3, ![8, 4224, 256]⟩
abbrev S8x4224x32 : Shape := ⟨3, ![8, 4224, 32]⟩
abbrev S8x4224x512 : Shape := ⟨3, ![8, 4224, 512]⟩
abbrev S8x4224x8 : Shape := ⟨3, ![8, 4224, 8]⟩
abbrev S384 : Shape := ⟨1, ![384]⟩
abbrev S1x1x384 : Shape := ⟨3, ![1, 1, 384]⟩
abbrev S384x768 : Shape := ⟨2, ![384, 768]⟩
abbrev S8x4224x768 : Shape := ⟨3, ![8, 4224, 768]⟩
abbrev S8x4224x8x96 : Shape := ⟨4, ![8, 4224, 8, 96]⟩
abbrev S256 : Shape := ⟨1, ![256]⟩
abbrev S1x1x256 : Shape := ⟨3, ![1, 1, 256]⟩
abbrev S256x1024 : Shape := ⟨2, ![256, 1024]⟩
abbrev S8x4224x8x128 : Shape := ⟨4, ![8, 4224, 8, 128]⟩
abbrev S8x4224x8x32 : Shape := ⟨4, ![8, 4224, 8, 32]⟩
abbrev S32 : Shape := ⟨1, ![32]⟩
abbrev S8x4224x8x1 : Shape := ⟨4, ![8, 4224, 8, 1]⟩
abbrev S1x1x1x32 : Shape := ⟨4, ![1, 1, 1, 32]⟩
abbrev S8x4224x1x1 : Shape := ⟨4, ![8, 4224, 1, 1]⟩
abbrev S1x1x1x16 : Shape := ⟨4, ![1, 1, 1, 16]⟩
abbrev S8x4224x1x16 : Shape := ⟨4, ![8, 4224, 1, 16]⟩
abbrev S8x4224x8x16 : Shape := ⟨4, ![8, 4224, 8, 16]⟩
abbrev S1x1x32 : Shape := ⟨3, ![1, 1, 32]⟩
abbrev S8x4224x1x32 : Shape := ⟨4, ![8, 4224, 1, 32]⟩
abbrev S8x4224x8x64 : Shape := ⟨4, ![8, 4224, 8, 64]⟩
abbrev S64 : Shape := ⟨1, ![64]⟩
abbrev S1x1x1x64 : Shape := ⟨4, ![1, 1, 1, 64]⟩
abbrev S8x4224x8x31 : Shape := ⟨4, ![8, 4224, 8, 31]⟩
abbrev S1x4224x1 : Shape := ⟨3, ![1, 4224, 1]⟩
abbrev S8 : Shape := ⟨1, ![8]⟩
abbrev S1x1x8 : Shape := ⟨3, ![1, 1, 8]⟩
abbrev S4224x4224 : Shape := ⟨2, ![4224, 4224]⟩
abbrev S8x8x4224 : Shape := ⟨3, ![8, 8, 4224]⟩
abbrev S8x4224x8x3 : Shape := ⟨4, ![8, 4224, 8, 3]⟩
abbrev S8x4224x8x61 : Shape := ⟨4, ![8, 4224, 8, 61]⟩
abbrev S8x512x4224 : Shape := ⟨3, ![8, 512, 4224]⟩

abbrev nBuf : Space → Nat
  | .hbm => 355
  | .vmem => 0
  | .smem => 0
  | _ => 0

abbrev hbmTy0_0 (i : Nat) : BufTy := match i % 128 with
  | 0 => ⟨S33792x1024, .f32⟩
  | 1 => ⟨S8x4096, .i32⟩
  | 2 => ⟨S1x1024, .f32⟩
  | 3 => ⟨S1x1024x2216, .f32⟩
  | 4 => ⟨S1x8, .f32⟩
  | 5 => ⟨S1x384, .f32⟩
  | 6 => ⟨S1x256, .f32⟩
  | 7 => ⟨S1x384x768, .f32⟩
  | 8 => ⟨S1x256x1024, .f32⟩
  | 9 => ⟨S1x64, .f32⟩
  | 10 => ⟨S1x32, .f32⟩
  | 11 => ⟨S1x64, .f32⟩
  | 12 => ⟨S1x32, .f32⟩
  | 13 => ⟨S1x64, .f32⟩
  | 14 => ⟨S1x64, .f32⟩
  | 15 => ⟨S8x4224x1024, .f32⟩
  | 16 => ⟨S16, .i32⟩
  | 17 => ⟨S1x16, .i32⟩
  | 18 => ⟨S8x16, .i32⟩
  | 19 => ⟨S_, .i32⟩
  | 20 => ⟨S8x112, .i32⟩
  | 21 => ⟨S_, .i32⟩
  | 22 => ⟨S8x4096, .i32⟩
  | 23 => ⟨S8x4096, .i32⟩
  | 24 => ⟨S8x4224, .i32⟩
  | 25 => ⟨S4224, .i32⟩
  | 26 => ⟨S_, .i32⟩
  | 27 => ⟨S4224, .i32⟩
  | 28 => ⟨S4224, .i1⟩
  | 29 => ⟨S1x4224x1x1, .i1⟩
  | 30 => ⟨S1024, .f32⟩
  | 31 => ⟨S8x4224x1024, .f32⟩
  | 32 => ⟨S_, .f32⟩
  | 33 => ⟨S8x4224, .f32⟩
  | 34 => ⟨S8x4224x1, .f32⟩
  | 35 => ⟨S_, .f32⟩
  | 36 => ⟨S8x4224x1, .f32⟩
  | 37 => ⟨S8x4224x1, .f32⟩
  | 38 => ⟨S_, .f32⟩
  | 39 => ⟨S8x4224x1, .f32⟩
  | 40 => ⟨S8x4224x1, .f32⟩
  | 41 => ⟨S8x4224x1, .f32⟩
  | 42 => ⟨S8x4224x1024, .f32⟩
  | 43 => ⟨S8x4224x1024, .f32⟩
  | 44 => ⟨S1x1x1024, .f32⟩
  | 45 => ⟨S8x4224x1024, .f32⟩
  | 46 => ⟨S8x4224x1024, .f32⟩
  | 47 => ⟨S1024x2216, .f32⟩
  | 48 => ⟨S8x4224x2216, .f32⟩
  | 49 => ⟨S8x4224x384, .f32⟩
  | 50 => ⟨S8x4224x256, .f32⟩
  | 51 => ⟨S8x4224x32, .f32⟩
  | 52 => ⟨S8x4224x512, .f32⟩
  | 53 => ⟨S8x4224x512, .f32⟩
  | 54 => ⟨S8x4224x512, .f32⟩
  | 55 => ⟨S8x4224x8, .f32⟩
  | 56 => ⟨S384, .f32⟩
  | 57 => ⟨S8x4224x384, .f32⟩
  | 58 => ⟨S_, .f32⟩
  | 59 => ⟨S8x4224, .f32⟩
  | 60 => ⟨S8x4224x1, .f32⟩
  | 61 => ⟨S_, .f32⟩
  | 62 => ⟨S8x4224x1, .f32⟩
  | 63 => ⟨S8x4224x1, .f32⟩
  | 64 => ⟨S_, .f32⟩
  | 65 => ⟨S8x4224x1, .f32⟩
  | 66 => ⟨S8x4224x1, .f32⟩
  | 67 => ⟨S8x4224x1, .f32⟩
  | 68 => ⟨S8x4224x384, .f32⟩
  | 69 => ⟨S8x4224x384, .f32⟩
  | 70 => ⟨S1x1x384, .f32⟩
  | 71 => ⟨S8x4224x384, .f32⟩
  | 72 => ⟨S8x4224x384, .f32⟩
  | 73 => ⟨S384x768, .f32⟩
  | 74 => ⟨S8x4224x768, .f32⟩
  | 75 => ⟨S8x4224x8x96, .f32⟩
  | 76 => ⟨S256, .f32⟩
  | 77 => ⟨S8x4224x256, .f32⟩
  | 78 => ⟨S_, .f32⟩
  | 79 => ⟨S8x4224, .f32⟩
  | 80 => ⟨S8x4224x1, .f32⟩
  | 81 => ⟨S_, .f32⟩
  | 82 => ⟨S8x4224x1, .f32⟩
  | 83 => ⟨S8x4224x1, .f32⟩
  | 84 => ⟨S_, .f32⟩
  | 85 => ⟨S8x4224x1, .f32⟩
  | 86 => ⟨S8x4224x1, .f32⟩
  | 87 => ⟨S8x4224x1, .f32⟩
  | 88 => ⟨S8x4224x256, .f32⟩
  | 89 => ⟨S8x4224x256, .f32⟩
  | 90 => ⟨S1x1x256, .f32⟩
  | 91 => ⟨S8x4224x256, .f32⟩
  | 92 => ⟨S8x4224x256, .f32⟩
  | 93 => ⟨S256x1024, .f32⟩
  | 94 => ⟨S8x4224x1024, .f32⟩
  | 95 => ⟨S8x4224x8x128, .f32⟩
  | 96 => ⟨S8x4224x8x32, .f32⟩
  | 97 => ⟨S32, .f32⟩
  | 98 => ⟨S8x4224x8x32, .f32⟩
  | 99 => ⟨S_, .f32⟩
  | 100 => ⟨S8x4224x8, .f32⟩
  | 101 => ⟨S8x4224x8x1, .f32⟩
  | 102 => ⟨S_, .f32⟩
  | 103 => ⟨S8x4224x8x1, .f32⟩
  | 104 => ⟨S8x4224x8x1, .f32⟩
  | 105 => ⟨S_, .f32⟩
  | 106 => ⟨S8x4224x8x1, .f32⟩
  | 107 => ⟨S8x4224x8x1, .f32⟩
  | 108 => ⟨S8x4224x8x1, .f32⟩
  | 109 => ⟨S8x4224x8x32, .f32⟩
  | 110 => ⟨S8x4224x8x32, .f32⟩
  | 111 => ⟨S1x1x1x32, .f32⟩
  | 112 => ⟨S8x4224x8x32, .f32⟩
  | 113 => ⟨S8x4224x8x32, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S8x4224x1x1, .i32⟩
  | 123 => ⟨S8x4224x1x1, .f32⟩
  | 124 => ⟨S1x1x1x16, .f32⟩
  | 125 => ⟨S8x4224x1x16, .f32⟩
  | 126 => ⟨S8x4224x1x16, .f32⟩
  | 127 => ⟨S8x4224x1x16, .f32⟩
  | _ => ⟨S33792x1024, .f32⟩

abbrev hbmTy0_1 (i : Nat) : BufTy := match i % 128 with
  | 0 => ⟨S8x4224x1x16, .f32⟩
  | 1 => ⟨S8x4224x1x16, .f32⟩
  | 2 => ⟨S8x4224x8x16, .f32⟩
  | 3 => ⟨S8x4224x8x16, .f32⟩
  | 4 => ⟨S8x4224x8x16, .f32⟩
  | 5 => ⟨S8x4224x8x16, .f32⟩
  | 6 => ⟨S8x4224x8x16, .f32⟩
  | 7 => ⟨S8x4224x8x16, .f32⟩
  | 8 => ⟨S8x4224x8x16, .f32⟩
  | 9 => ⟨S8x4224x8x16, .f32⟩
  | 10 => ⟨S8x4224x8x16, .f32⟩
  | 11 => ⟨S8x4224x8x16, .f32⟩
  | 12 => ⟨S8x4224x8x16, .f32⟩
  | 13 => ⟨S8x4224x8x16, .f32⟩
  | 14 => ⟨S8x4224x8x32, .f32⟩
  | 15 => ⟨S32, .f32⟩
  | 16 => ⟨S8x4224x32, .f32⟩
  | 17 => ⟨S_, .f32⟩
  | 18 => ⟨S8x4224, .f32⟩
  | 19 => ⟨S8x4224x1, .f32⟩
  | 20 => ⟨S_, .f32⟩
  | 21 => ⟨S8x4224x1, .f32⟩
  | 22 => ⟨S8x4224x1, .f32⟩
  | 23 => ⟨S_, .f32⟩
  | 24 => ⟨S8x4224x1, .f32⟩
  | 25 => ⟨S8x4224x1, .f32⟩
  | 26 => ⟨S8x4224x1, .f32⟩
  | 27 => ⟨S8x4224x32, .f32⟩
  | 28 => ⟨S8x4224x32, .f32⟩
  | 29 => ⟨S1x1x32, .f32⟩
  | 30 => ⟨S8x4224x32, .f32⟩
  | 31 => ⟨S8x4224x32, .f32⟩
  | 32 => ⟨S8x4224x1x32, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S8x4224x1x1, .i32⟩
  | 42 => ⟨S8x4224x1x1, .f32⟩
  | 43 => ⟨S1x1x1x16, .f32⟩
  | 44 => ⟨S8x4224x1x16, .f32⟩
  | 45 => ⟨S8x4224x1x16, .f32⟩
  | 46 => ⟨S8x4224x1x16, .f32⟩
  | 47 => ⟨S8x4224x1x16, .f32⟩
  | 48 => ⟨S8x4224x1x16, .f32⟩
  | 49 => ⟨S8x4224x1x16, .f32⟩
  | 50 => ⟨S8x4224x1x16, .f32⟩
  | 51 => ⟨S8x4224x1x16, .f32⟩
  | 52 => ⟨S8x4224x1x16, .f32⟩
  | 53 => ⟨S8x4224x1x16, .f32⟩
  | 54 => ⟨S8x4224x1x16, .f32⟩
  | 55 => ⟨S8x4224x1x16, .f32⟩
  | 56 => ⟨S8x4224x1x16, .f32⟩
  | 57 => ⟨S8x4224x1x32, .f32⟩
  | 58 => ⟨S8x4224x8x64, .f32⟩
  | 59 => ⟨S64, .f32⟩
  | 60 => ⟨S8x4224x8x64, .f32⟩
  | 61 => ⟨S_, .f32⟩
  | 62 => ⟨S8x4224x8, .f32⟩
  | 63 => ⟨S8x4224x8x1, .f32⟩
  | 64 => ⟨S_, .f32⟩
  | 65 => ⟨S8x4224x8x1, .f32⟩
  | 66 => ⟨S8x4224x8x1, .f32⟩
  | 67 => ⟨S_, .f32⟩
  | 68 => ⟨S8x4224x8x1, .f32⟩
  | 69 => ⟨S8x4224x8x1, .f32⟩
  | 70 => ⟨S8x4224x8x1, .f32⟩
  | 71 => ⟨S8x4224x8x64, .f32⟩
  | 72 => ⟨S8x4224x8x64, .f32⟩
  | 73 => ⟨S1x1x1x64, .f32⟩
  | 74 => ⟨S8x4224x8x64, .f32⟩
  | 75 => ⟨S8x4224x8x64, .f32⟩
  | 76 => ⟨S8x4224x8x96, .f32⟩
  | 77 => ⟨S_, .f32⟩
  | 78 => ⟨S8x4224x8x96, .f32⟩
  | 79 => ⟨S8x4224x8x96, .f32⟩
  | 80 => ⟨S8x4224x8x64, .f32⟩
  | 81 => ⟨S64, .f32⟩
  | 82 => ⟨S8x4224x8x64, .f32⟩
  | 83 => ⟨S_, .f32⟩
  | 84 => ⟨S8x4224x8, .f32⟩
  | 85 => ⟨S8x4224x8x1, .f32⟩
  | 86 => ⟨S_, .f32⟩
  | 87 => ⟨S8x4224x8x1, .f32⟩
  | 88 => ⟨S8x4224x8x1, .f32⟩
  | 89 => ⟨S_, .f32⟩
  | 90 => ⟨S8x4224x8x1, .f32⟩
  | 91 => ⟨S8x4224x8x1, .f32⟩
  | 92 => ⟨S8x4224x8x1, .f32⟩
  | 93 => ⟨S8x4224x8x64, .f32⟩
  | 94 => ⟨S8x4224x8x64, .f32⟩
  | 95 => ⟨S1x1x1x64, .f32⟩
  | 96 => ⟨S8x4224x8x64, .f32⟩
  | 97 => ⟨S8x4224x8x64, .f32⟩
  | 98 => ⟨S8x4224x8x32, .f32⟩
  | 99 => ⟨S8x4224x8x96, .f32⟩
  | 100 => ⟨S_, .f32⟩
  | 101 => ⟨S_, .f32⟩
  | 102 => ⟨S1x4224x1x1, .f32⟩
  | 103 => ⟨S1x4224x1x1, .f32⟩
  | 104 => ⟨S1x4224x1x1, .f32⟩
  | 105 => ⟨S8x4224x8x1, .f32⟩
  | 106 => ⟨S_, .f32⟩
  | 107 => ⟨S8x4224x8x1, .f32⟩
  | 108 => ⟨S_, .f32⟩
  | 109 => ⟨S8x4224x8x31, .f32⟩
  | 110 => ⟨S8x4224x8x128, .f32⟩
  | 111 => ⟨S_, .f32⟩
  | 112 => ⟨S8x4224x8x31, .f32⟩
  | 113 => ⟨S8x4224x8x1, .f32⟩
  | 114 => ⟨S8x4224x8x128, .f32⟩
  | 115 => ⟨S8x4224x8x64, .f32⟩
  | 116 => ⟨S64, .f32⟩
  | 117 => ⟨S8x4224x8x64, .f32⟩
  | 118 => ⟨S_, .f32⟩
  | 119 => ⟨S8x4224x8, .f32⟩
  | 120 => ⟨S8x4224x8x1, .f32⟩
  | 121 => ⟨S_, .f32⟩
  | 122 => ⟨S8x4224x8x1, .f32⟩
  | 123 => ⟨S8x4224x8x1, .f32⟩
  | 124 => ⟨S_, .f32⟩
  | 125 => ⟨S8x4224x8x1, .f32⟩
  | 126 => ⟨S8x4224x8x1, .f32⟩
  | 127 => ⟨S8x4224x8x1, .f32⟩
  | _ => ⟨S33792x1024, .f32⟩

abbrev hbmTy0_2 (i : Nat) : BufTy := match i % 128 with
  | 0 => ⟨S8x4224x8x64, .f32⟩
  | 1 => ⟨S8x4224x8x64, .f32⟩
  | 2 => ⟨S1x1x1x64, .f32⟩
  | 3 => ⟨S8x4224x8x64, .f32⟩
  | 4 => ⟨S8x4224x8x64, .f32⟩
  | 5 => ⟨S_, .f32⟩
  | 6 => ⟨S8x4224x8x64, .f32⟩
  | 7 => ⟨S8x4224x8x64, .f32⟩
  | 8 => ⟨S8x4224x8x64, .f32⟩
  | 9 => ⟨S64, .f32⟩
  | 10 => ⟨S8x4224x8x64, .f32⟩
  | 11 => ⟨S_, .f32⟩
  | 12 => ⟨S8x4224x8, .f32⟩
  | 13 => ⟨S8x4224x8x1, .f32⟩
  | 14 => ⟨S_, .f32⟩
  | 15 => ⟨S8x4224x8x1, .f32⟩
  | 16 => ⟨S8x4224x8x1, .f32⟩
  | 17 => ⟨S_, .f32⟩
  | 18 => ⟨S8x4224x8x1, .f32⟩
  | 19 => ⟨S8x4224x8x1, .f32⟩
  | 20 => ⟨S8x4224x8x1, .f32⟩
  | 21 => ⟨S8x4224x8x64, .f32⟩
  | 22 => ⟨S8x4224x8x64, .f32⟩
  | 23 => ⟨S1x1x1x64, .f32⟩
  | 24 => ⟨S8x4224x8x64, .f32⟩
  | 25 => ⟨S8x4224x8x64, .f32⟩
  | 26 => ⟨S1x4224x1, .i1⟩
  | 27 => ⟨S8, .f32⟩
  | 28 => ⟨S1x1x8, .f32⟩
  | 29 => ⟨S8x4224x8, .f32⟩
  | 30 => ⟨S8x4224x8, .f32⟩
  | 31 => ⟨S8x4224x8, .f32⟩
  | 32 => ⟨S_, .f32⟩
  | 33 => ⟨S8x4224x8, .f32⟩
  | 34 => ⟨S8x4224x8, .f32⟩
  | 35 => ⟨S8x4224x8, .f32⟩
  | 36 => ⟨S8x4224x8, .f32⟩
  | 37 => ⟨S8x4224x8, .f32⟩
  | 38 => ⟨S8x4224x8, .f32⟩
  | 39 => ⟨S8x4224x8, .f32⟩
  | 40 => ⟨S8x4224x8, .f32⟩
  | 41 => ⟨S_, .f32⟩
  | 42 => ⟨S_, .f32⟩
  | 43 => ⟨S8x4224x8, .i1⟩
  | 44 => ⟨S8x4224x8, .f32⟩
  | 45 => ⟨S8x4224x8, .f32⟩
  | 46 => ⟨S_, .f32⟩
  | 47 => ⟨S4224x4224, .f32⟩
  | 48 => ⟨S4224x4224, .i32⟩
  | 49 => ⟨S_, .i32⟩
  | 50 => ⟨S4224x4224, .i32⟩
  | 51 => ⟨S4224x4224, .i32⟩
  | 52 => ⟨S4224x4224, .i32⟩
  | 53 => ⟨S4224x4224, .i1⟩
  | 54 => ⟨S_, .f32⟩
  | 55 => ⟨S4224x4224, .f32⟩
  | 56 => ⟨S4224x4224, .f32⟩
  | 57 => ⟨S8x8x4224, .f32⟩
  | 58 => ⟨S8x4224x8, .f32⟩
  | 59 => ⟨S8x4224x8x1, .f32⟩
  | 60 => ⟨S_, .f32⟩
  | 61 => ⟨S8x4224x8x1, .f32⟩
  | 62 => ⟨S8x4224x8x1, .f32⟩
  | 63 => ⟨S_, .f32⟩
  | 64 => ⟨S_, .f32⟩
  | 65 => ⟨S8x4224x8x1, .i1⟩
  | 66 => ⟨S8x4224x8x1, .f32⟩
  | 67 => ⟨S8x4224x8x1, .f32⟩
  | 68 => ⟨S8x4224x8x1, .bf16⟩
  | 69 => ⟨S8x4224x8x1, .f32⟩
  | 70 => ⟨S8x4224x8x1, .f32⟩
  | 71 => ⟨S8x4224x8x1, .bf16⟩
  | 72 => ⟨S8x4224x8x1, .f32⟩
  | 73 => ⟨S8x4224x8x1, .f32⟩
  | 74 => ⟨S8x4224x8x1, .f32⟩
  | 75 => ⟨S8x4224x8x1, .bf16⟩
  | 76 => ⟨S8x4224x8x1, .f32⟩
  | 77 => ⟨S_, .f32⟩
  | 78 => ⟨S8x4224x8x3, .f32⟩
  | 79 => ⟨S_, .f32⟩
  | 80 => ⟨S8x4224x8x61, .f32⟩
  | 81 => ⟨S8x4224x8x128, .f32⟩
  | 82 => ⟨S_, .f32⟩
  | 83 => ⟨S8x4224x8x61, .f32⟩
  | 84 => ⟨S8x4224x8x128, .f32⟩
  | 85 => ⟨S8x4224x8x64, .f32⟩
  | 86 => ⟨S8x4224x512, .f32⟩
  | 87 => ⟨S8x4224x1024, .f32⟩
  | 88 => ⟨S8x4224x1024, .bf16⟩
  | 89 => ⟨S8x4224x1024, .f32⟩
  | 90 => ⟨S8x4224x1024, .bf16⟩
  | 91 => ⟨S8x512x4224, .f32⟩
  | 92 => ⟨S8x512x4224, .bf16⟩
  | 93 => ⟨S8x4224x1024, .f32⟩
  | 94 => ⟨S8x4224x1024, .bf16⟩
  | 95 => ⟨S8x4224x1024, .f32⟩
  | 96 => ⟨S8x4224x1024, .bf16⟩
  | 97 => ⟨S8x512x4224, .f32⟩
  | 98 => ⟨S8x512x4224, .bf16⟩
  | _ => ⟨S33792x1024, .f32⟩

abbrev hbmTy (i : Nat) : BufTy := match i / 128 with
  | 0 => hbmTy0_0 i
  | 1 => hbmTy0_1 i
  | 2 => hbmTy0_2 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_15 : Ref sig .tc := ⟨.hbm, 145, rfl⟩
abbrev main_v113 : Ref sig .tc := ⟨.hbm, 146, rfl⟩
abbrev main_v114 : Ref sig .tc := ⟨.hbm, 147, rfl⟩
abbrev main_cst_16 : Ref sig .tc := ⟨.hbm, 148, rfl⟩
abbrev main_v115 : Ref sig .tc := ⟨.hbm, 149, rfl⟩
abbrev main_v116 : Ref sig .tc := ⟨.hbm, 150, rfl⟩
abbrev main_cst_17 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_18 : Ref sig .tc := ⟨.hbm, 163, rfl⟩
abbrev main_v128 : Ref sig .tc := ⟨.hbm, 164, rfl⟩
abbrev main_v129 : Ref sig .tc := ⟨.hbm, 165, rfl⟩
abbrev main_cst_19 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_20 : Ref sig .tc := ⟨.hbm, 189, rfl⟩
abbrev main_v152 : Ref sig .tc := ⟨.hbm, 190, rfl⟩
abbrev main_v153 : Ref sig .tc := ⟨.hbm, 191, rfl⟩
abbrev main_cst_21 : Ref sig .tc := ⟨.hbm, 192, rfl⟩
abbrev main_v154 : Ref sig .tc := ⟨.hbm, 193, rfl⟩
abbrev main_v155 : Ref sig .tc := ⟨.hbm, 194, rfl⟩
abbrev main_cst_22 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_23 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_24 : Ref sig .tc := ⟨.hbm, 211, rfl⟩
abbrev main_v170 : Ref sig .tc := ⟨.hbm, 212, rfl⟩
abbrev main_v171 : Ref sig .tc := ⟨.hbm, 213, rfl⟩
abbrev main_cst_25 : Ref sig .tc := ⟨.hbm, 214, rfl⟩
abbrev main_v172 : Ref sig .tc := ⟨.hbm, 215, rfl⟩
abbrev main_v173 : Ref sig .tc := ⟨.hbm, 216, rfl⟩
abbrev main_cst_26 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_27 : Ref sig .tc := ⟨.hbm, 228, rfl⟩
abbrev main_cst_28 : Ref sig .tc := ⟨.hbm, 229, rfl⟩
abbrev main_call0_v0 : Ref sig .tc := ⟨.hbm, 230, rfl⟩
abbrev main_call0_v1 : Ref sig .tc := ⟨.hbm, 231, rfl⟩
abbrev main_v184 : Ref sig .tc := ⟨.hbm, 232, rfl⟩
abbrev main_v185 : Ref sig .tc := ⟨.hbm, 233, rfl⟩
abbrev main_cst_29 : Ref sig .tc := ⟨.hbm, 234, rfl⟩
abbrev main_v186 : Ref sig .tc := ⟨.hbm, 235, rfl⟩
abbrev main_cst_30 : Ref sig .tc := ⟨.hbm, 236, rfl⟩
abbrev main_v187 : Ref sig .tc := ⟨.hbm, 237, rfl⟩
abbrev main_v188 : Ref sig .tc := ⟨.hbm, 238, rfl⟩
abbrev main_cst_31 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_cst_32 : Ref sig .tc := ⟨.hbm, 246, rfl⟩
abbrev main_v195 : Ref sig .tc := ⟨.hbm, 247, rfl⟩
abbrev main_v196 : Ref sig .tc := ⟨.hbm, 248, rfl⟩
abbrev main_cst_33 : Ref sig .tc := ⟨.hbm, 249, rfl⟩
abbrev main_v197 : Ref sig .tc := ⟨.hbm, 250, rfl⟩
abbrev main_v198 : Ref sig .tc := ⟨.hbm, 251, rfl⟩
abbrev main_cst_34 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_35 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_36 : Ref sig .tc := ⟨.hbm, 267, rfl⟩
abbrev main_v212 : Ref sig .tc := ⟨.hbm, 268, rfl⟩
abbrev main_v213 : Ref sig .tc := ⟨.hbm, 269, rfl⟩
abbrev main_cst_37 : Ref sig .tc := ⟨.hbm, 270, rfl⟩
abbrev main_v214 : Ref sig .tc := ⟨.hbm, 271, rfl⟩
abbrev main_v215 : Ref sig .tc := ⟨.hbm, 272, rfl⟩
abbrev main_cst_38 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_cst_39 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_cst_40 : Ref sig .tc := ⟨.hbm, 297, rfl⟩
abbrev main_call1_v0 : Ref sig .tc := ⟨.hbm, 298, rfl⟩
abbrev main_call1_v1 : Ref sig .tc := ⟨.hbm, 299, rfl⟩
abbrev main_call1_v2 : Ref sig .tc := ⟨.hbm, 300, rfl⟩
abbrev main_v238 : Ref sig .tc := ⟨.hbm, 301, rfl⟩
abbrev main_cst_41 : Ref sig .tc := ⟨.hbm, 302, rfl⟩
abbrev main_v239 : Ref sig .tc := ⟨.hbm, 303, rfl⟩
abbrev main_call2_v0 : Ref sig .tc := ⟨.hbm, 304, rfl⟩
abbrev main_call2_c : Ref sig .tc := ⟨.hbm, 305, rfl⟩
abbrev main_call2_v1 : Ref sig .tc := ⟨.hbm, 306, rfl⟩
abbrev main_call2_v2 : Ref sig .tc := ⟨.hbm, 307, rfl⟩
abbrev main_call2_v3 : Ref sig .tc := ⟨.hbm, 308, rfl⟩
abbrev main_call2_v4 : Ref sig .tc := ⟨.hbm, 309, rfl⟩
abbrev main_call2_cst : Ref sig .tc := ⟨.hbm, 310, rfl⟩
abbrev main_call2_v5 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_cst_42 : Ref sig .tc := ⟨.hbm, 316, rfl⟩
abbrev main_v244 : Ref sig .tc := ⟨.hbm, 317, rfl⟩
abbrev main_v245 : Ref sig .tc := ⟨.hbm, 318, rfl⟩
abbrev main_cst_43 : Ref sig .tc := ⟨.hbm, 319, rfl⟩
abbrev main_call3_v0 : Ref sig .tc := ⟨.hbm, 320, rfl⟩
abbrev main_call3_v1 : Ref sig .tc := ⟨.hbm, 321, rfl⟩
abbrev main_call3_v2 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_cst_44 : Ref sig .tc := ⟨.hbm, 333, rfl⟩
abbrev main_v256 : Ref sig .tc := ⟨.hbm, 334, rfl⟩
abbrev main_cst_45 : Ref sig .tc := ⟨.hbm, 335, rfl⟩
abbrev main_v257 : Ref sig .tc := ⟨.hbm, 336, rfl⟩
abbrev main_v258 : Ref sig .tc := ⟨.hbm, 337, rfl⟩
abbrev main_cst_46 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩

abbrev nD : Nat := 1
abbrev τ : Topo := Topo.v7x

variable {F : FTy → Type} [FloatOps F]
-- ==== Proof.Mlp.Rows.lean ====
module

public import Idealize.ShloMosaic.Lib.Pointwise
public import Idealize.ShloMosaic.Lib.Pipeline.ValueKit
public import Idealize.ShloMosaic.Lib.Pipeline.ReadBack

@[expose] public section

noncomputable section

open Idealize.ShloMosaic

/-! # One token's row through the output projection's tail

What both programs compute of one token, over the extended reals and with no array in sight: a residual row plus the
mixers' two projected rows, and that row plus its squared-ReLU feed-forward network. And two facts on a buffer that one
transfer fills whole: what it holds, and what a load of all of it reads. -/

namespace Cert.Mlp

/-- A residual row plus two mixer rows, each through its own part of the output projection. -/
def mixRow {p q : ℕ} (x : Fin 1024 → EReal) (a : Fin p → EReal) (b : Fin q → EReal) (wa : Fin p → Fin 1024 → EReal)
    (wb : Fin q → Fin 1024 → EReal) (j : Fin 1024) : EReal :=
  x j + ∑ k, a k * wa k j + ∑ k, b k * wb k j

/-- A row normalised by its root mean square and scaled by `g` (the row's length and the small constant under the root
    are the words both programs write). -/
def normRow (x g : Fin 1024 → EReal) (i : Fin 1024) : EReal :=
  x i * Ideal.rsqrt (Ideal.div (∑ l, x l * x l) (Ideal.ofBits FTy.f32 1149239296#32) + Ideal.ofBits FTy.f32 897988541#32) *
    g i

/-- Hidden unit `k` of the feed-forward network on a row: the normalised row through column `k`, cut at zero. -/
def hiddenRow (x g : Fin 1024 → EReal) (w1 : Fin 1024 → Fin 4096 → EReal) (k : Fin 4096) : EReal :=
  max (∑ i, normRow x g i * w1 i k) 0

/-- A row plus its feed-forward network: the hidden units squared, through the second matrix. -/
def mlpRow (x g : Fin 1024 → EReal) (w1 : Fin 1024 → Fin 4096 → EReal) (w2 : Fin 4096 → Fin 1024 → EReal)
    (j : Fin 1024) : EReal :=
  x j + ∑ k, hiddenRow x g w1 k * hiddenRow x g w1 k * w2 k j

/-- Row `s` of a padded input sequence: 112 rows of zeros, the 16 leading rows, and the sequence's own 4096 rows. -/
def padInput (lead : Fin 16 → Fin 1024 → EReal) (x : Fin 4096 → Fin 1024 → EReal) (s : ℕ) (hs : s < 4224) (j : Fin 1024) :
    EReal :=
  if h : s < 112 then 0 else if h' : s < 128 then lead ⟨s - 112, by omega⟩ j else x ⟨s - 128, by omega⟩ j

/-- A sum over `p + q` places is the sum over the first `p` plus that over the last `q`. -/
theorem sum_parts {p q n : ℕ} (h : n = p + q) (f : Fin n → EReal) :
    ∑ k, f k = ∑ k : Fin p, f ⟨k.val, by omega⟩ + ∑ k : Fin q, f ⟨p + k.val, by omega⟩ := by
  subst h
  exact Fin.sum_univ_add f

section Whole

variable {Val : EltTy → Type} [∀ e, Nonempty (Val e)] {S : Shape} {e : EltTy}

/-- A buffer written whole holds what was written. -/
theorem canon_all (w : S.Idx → Val e) : View.canon [⟨Rect.whole S, w⟩] = w := by
  funext y
  have h := View.canon_cons_emb (Rect.whole S) w [] y
  rwa [Rect.emb_whole_apply] at h

/-- A load of all of a buffer written whole reads what was written. -/
theorem readCov_all {sig : RefSig} {κ : Kind} {sp : Space} (v : View sig κ sp S e) (w : S.Idx → Val e)
    {off : Fin S.rank → ℕ} (inb : ∀ a, off a + S.size a ≤ S.size a) :
    v.readCov [⟨Rect.whole S, w⟩] (Rect.unit off S.size inb).toLoadRect = w := by
  have hz : off = fun _ => 0 := funext fun a => by have := inb a; omega
  rw [View.readCov_eq_canon_ld _ _ _ fun y => ⟨_, List.mem_singleton.mpr rfl, by rw [Rect.set_whole]; exact Finset.mem_univ _⟩,
    canon_all, View.ld_unit_zero hz]

end Whole

end Cert.Mlp
-- ==== Proof.Mlp.Tokens.lean ====
module

public import proofs.«01_k».proof.Proof.Gen.KernelIdeal.Value
public import proofs.«01_k».proof.Proof.Mlp.Rows
public import Idealize.ShloMosaic.Lib.Tactic.CleanTypes

@[expose] public section

set_option maxRecDepth 16384

noncomputable section

/-! # What the last call leaves in its result array

The call runs over 8 sequences of 8 tiles of 512 tokens. Its first grid point copies the four weight matrices into
scratch, where they stay; every point then stores one block. The windows on the hidden state and on the two mixer
outputs start at element offsets: tile `i` of sequence `b` starts at row `4224 b + 128 + 512 i`, past the sequence's 128
leading rows. -/

namespace Cert.KernelIdeal.Mlp

open Cert.KernelIdeal Cert.KernelIdeal.Gen Cert.KernelIdeal.Value Cert.Mlp
open Idealize.ShloMosaic Idealize.ShloMosaic.TcCoe

variable (m : (ℓ : Loc nD τ sig) → Buf (Elt Ideal) ℓ)

/-! ## The block a point stores -/

/-- The block a point stores, of its four input blocks and the four weight matrices. -/
def blockOut (h : Vec Ideal S512x1024 .f32) (a b : Vec Ideal S512x512 .bf16) (g : Vec Ideal S1x1024 .f32)
    (wa wb : Vec Ideal S512x1024 .bf16) (w1 : Vec Ideal S1024x4096 .bf16) (w2 : Vec Ideal S4096x1024 .bf16) :
    Vec Ideal S512x1024 .f32 :=
  k0_pay1 (k0_pay2 h a wa b wb) (k0_pay3 h a wa b wb g w1) w2

/-- The residual part of the block, row by row. -/
theorem resid_apply (h : Vec Ideal S512x1024 .f32) (a b : Vec Ideal S512x512 .bf16)
    (wa wb : Vec Ideal S512x1024 .bf16) (r : Fin 512) (l : Fin 1024) :
    k0_pay2 h a wa b wb (ix2 r l) =
      mixRow (fun j => h (ix2 r j)) (fun k => a (ix2 r k)) (fun k => b (ix2 r k)) (fun k j => wa (ix2 k j))
        (fun k j => wb (ix2 k j)) l := by
  pointwise [k0_pay2]
  rfl

/-- The hidden units of the block, row by row. -/
theorem hidden_apply (h : Vec Ideal S512x1024 .f32) (a b : Vec Ideal S512x512 .bf16) (g : Vec Ideal S1x1024 .f32)
    (wa wb : Vec Ideal S512x1024 .bf16) (w1 : Vec Ideal S1024x4096 .bf16) (r : Fin 512) (k : Fin 4096) :
    k0_pay3 h a wa b wb g w1 (ix2 r k) =
      hiddenRow (fun j => k0_pay2 h a wa b wb (ix2 r j)) (fun j => g (ix2 0 j)) (fun i k => w1 (ix2 i k)) k := by
  generalize hx : k0_pay2 h a wa b wb = x
  pointwise [k0_pay3, hx]
  rfl

/-- The stored block is the feed-forward row of the residual row. -/
theorem blockOut_apply (h : Vec Ideal S512x1024 .f32) (a b : Vec Ideal S512x512 .bf16) (g : Vec Ideal S1x1024 .f32)
    (wa wb : Vec Ideal S512x1024 .bf16) (w1 : Vec Ideal S1024x4096 .bf16) (w2 : Vec Ideal S4096x1024 .bf16)
    (r : Fin 512) (l : Fin 1024) :
    blockOut h a b g wa wb w1 w2 (ix2 r l) =
      mlpRow (mixRow (fun j => h (ix2 r j)) (fun k => a (ix2 r k)) (fun k => b (ix2 r k)) (fun k j => wa (ix2 k j))
        (fun k j => wb (ix2 k j))) (fun j => g (ix2 0 j)) (fun i k => w1 (ix2 i k)) (fun k j => w2 (ix2 k j)) l := by
  unfold blockOut
  have hx : (fun j => k0_pay2 h a wa b wb (ix2 r j)) =
      mixRow (fun j => h (ix2 r j)) (fun k => a (ix2 r k)) (fun k => b (ix2 r k)) (fun k j => wa (ix2 k j))
        (fun k j => wb (ix2 k j)) := funext fun j => resid_apply h a b wa wb r j
  rw [← hx]
  generalize hy : k0_pay3 h a wa b wb g w1 = y
  have hy' : ∀ k, y (ix2 r k) = _ := fun k => hy ▸ hidden_apply h a b g wa wb w1 r k
  generalize k0_pay2 h a wa b wb = x at hy'
  pointwise [k0_pay1]
  simp only [hy']
  rfl

/-! ## The block and the scratch after each point -/

/-- After the first point: its block, and the four weight matrices in scratch. -/
theorem outs_first (c : Dev nD) (t : Fin cfg0.N) (h0 : t.val % 64 = 0) :
    outsAt0 m c t.val t.isLt =
      (blockOut (iblk m c 0 t) (iblk m c 1 t) (iblk m c 2 t) (iblk m c 3 t) (V m c main_v2) (V m c main_v3)
        (V m c main_v9) (V m c main_v12), V m c main_v2, V m c main_v3, V m c main_v9, V m c main_v12) := by
  rw [outsAt0_A m c t h0]
  refine Prod.ext ?_ (Prod.ext ?_ (Prod.ext ?_ (Prod.ext ?_ ?_))) <;> dsimp only
  · frame_out
    rw [readCov_all, readCov_all, readCov_all, readCov_all]
    rfl
  all_goals
    frame_out
    rw [canon_all]
    rfl

/-- After a later point that found the weight matrices in scratch: its block, and the matrices still there. -/
theorem outs_later (c : Dev nD) (t : Fin cfg0.N) (h0 : ¬t.val % 64 = 0)
    (ih : (outsAt0 m c (t.val - 1) (Nat.lt_of_le_of_lt (Nat.sub_le _ _) t.isLt)).2 =
      (V m c main_v2, V m c main_v3, V m c main_v9, V m c main_v12)) :
    outsAt0 m c t.val t.isLt =
      (blockOut (iblk m c 0 t) (iblk m c 1 t) (iblk m c 2 t) (iblk m c 3 t) (V m c main_v2) (V m c main_v3)
        (V m c main_v9) (V m c main_v12), V m c main_v2, V m c main_v3, V m c main_v9, V m c main_v12) := by
  rw [outsAt0_B m c t h0, ih]
  refine Prod.ext ?_ (Prod.ext rfl (Prod.ext rfl (Prod.ext rfl rfl)))
  dsimp only
  frame_out
  simp only [read_unread_whole]
  rfl

/-- After every point, by induction: its block, and the weight matrices in scratch. -/
theorem outs_eq (c : Dev nD) : ∀ (n : ℕ) (hn : n < cfg0.N), outsAt0 m c n hn =
      (blockOut (iblk m c 0 ⟨n, hn⟩) (iblk m c 1 ⟨n, hn⟩) (iblk m c 2 ⟨n, hn⟩) (iblk m c 3 ⟨n, hn⟩) (V m c main_v2)
        (V m c main_v3) (V m c main_v9) (V m c main_v12), V m c main_v2, V m c main_v3, V m c main_v9, V m c main_v12)
  | 0, hn => outs_first m c ⟨0, hn⟩ rfl
  | n + 1, hn => by
    have hN : n + 1 < 64 := hn
    refine outs_later m c ⟨n + 1, hn⟩ (by dsimp only; omega) ?_
    exact congrArg Prod.snd (outs_eq c n (Nat.lt_of_succ_lt hn))

/-! ## The buffers the host prepared, and the blocks -/

theorem mixA_apply (c : Dev nD) (k : Fin 512) (l : Fin 1024) :
    V m c main_v2 (ix2 k l) = m (c.tc.loc main_arg3) (ix3 0 ⟨k.val, by omega⟩ l) := by
  entry_read
  pointwise

theorem mixB_apply (c : Dev nD) (k : Fin 512) (l : Fin 1024) :
    V m c main_v3 (ix2 k l) = m (c.tc.loc main_arg3) (ix3 0 ⟨512 + k.val, by omega⟩ l) := by
  entry_read
  pointwise

theorem scale_apply (c : Dev nD) (l : Fin 1024) : V m c main_v6 (ix2 0 l) = m (c.tc.loc main_arg4) (ix2 1 l) := by
  entry_read
  pointwise

theorem up_apply (c : Dev nD) (k : Fin 1024) (l : Fin 4096) :
    V m c main_v9 (ix2 k l) = m (c.tc.loc main_arg5) (ix3 1 k l) := by
  entry_read
  pointwise

theorem down_apply (c : Dev nD) (k : Fin 4096) (l : Fin 1024) :
    V m c main_v12 (ix2 k l) = m (c.tc.loc main_arg6) (ix3 1 k l) := by
  entry_read
  pointwise

/-- The row of the padded arrays at which point `t`'s blocks start. -/
abbrev start (t : Fin cfg0.N) : ℕ := t.val / 8 * 4224 + 128 + t.val % 8 * 512

theorem start_lt (t : Fin cfg0.N) (r : Fin 512) : start t + r.val < 33792 := by
  have : t.val < 64 := t.isLt
  have := r.isLt
  unfold start
  omega

theorem index0 : ∀ t : Fin cfg0.N, win0_0.index t = ![start t, 0] :=
  (by decide +kernel : ∀ t : Fin grid0.N, win0_0.index t = ![t.val / 8 * 4224 + 128 + t.val % 8 * 512, 0])

theorem index1 : ∀ t : Fin cfg0.N, win0_1.index t = ![start t, 0] :=
  (by decide +kernel : ∀ t : Fin grid0.N, win0_1.index t = ![t.val / 8 * 4224 + 128 + t.val % 8 * 512, 0])

theorem index2 : ∀ t : Fin cfg0.N, win0_2.index t = ![start t, 0] :=
  (by decide +kernel : ∀ t : Fin grid0.N, win0_2.index t = ![t.val / 8 * 4224 + 128 + t.val % 8 * 512, 0])

theorem index3 : ∀ t : Fin cfg0.N, win0_3.index t = ![0, 0] :=
  (by decide +kernel : ∀ t : Fin grid0.N, win0_3.index t = ![0, 0])

theorem index4 : ∀ t : Fin cfg0.N, win0_4.index t = ![t.val, 0] :=
  (by decide +kernel : ∀ t : Fin grid0.N, win0_4.index t = ![t.val, 0])

/-- The hidden state's block: 512 rows of the padded array from `start t` on. -/
theorem blk0_apply (c : Dev nD) (t : Fin cfg0.N) (r : Fin 512) (l : Fin 1024) :
    iblk m c 0 t (ix2 r l) = m (c.tc.loc main_arg0) (ix2 ⟨start t + r.val, start_lt t r⟩ l) := by
  unfold iblk
  rw [View.read_apply]
  show V m c main_arg0 _ = _
  rw [V_main_arg0]
  refine congrArg _ (funext fun a => Fin.ext ?_)
  show ((win0_0.rect t).emb (ix2 r l) a : ℕ) = _
  rw [win0_0.rect_emb_val_off, index0]
  fin_cases a <;> simp [Pipeline.WinKind.off]

/-- The first mixer output's block. -/
theorem blk1_apply (c : Dev nD) (t : Fin cfg0.N) (r : Fin 512) (l : Fin 512) :
    iblk m c 1 t (ix2 r l) = m (c.tc.loc main_arg1) (ix2 ⟨start t + r.val, start_lt t r⟩ l) := by
  unfold iblk
  rw [View.read_apply]
  show V m c main_arg1 _ = _
  rw [V_main_arg1]
  refine congrArg _ (funext fun a => Fin.ext ?_)
  show ((win0_1.rect t).emb (ix2 r l) a : ℕ) = _
  rw [win0_1.rect_emb_val_off, index1]
  fin_cases a <;> simp [Pipeline.WinKind.off]

/-- The second mixer output's block. -/
theorem blk2_apply (c : Dev nD) (t : Fin cfg0.N) (r : Fin 512) (l : Fin 512) :
    iblk m c 2 t (ix2 r l) = m (c.tc.loc main_arg2) (ix2 ⟨start t + r.val, start_lt t r⟩ l) := by
  unfold iblk
  rw [View.read_apply]
  show V m c main_arg2 _ = _
  rw [V_main_arg2]
  refine congrArg _ (funext fun a => Fin.ext ?_)
  show ((win0_2.rect t).emb (ix2 r l) a : ℕ) = _
  rw [win0_2.rect_emb_val_off, index2]
  fin_cases a <;> simp [Pipeline.WinKind.off]

/-- The scale's block: the whole row. -/
theorem blk3_apply (c : Dev nD) (t : Fin cfg0.N) (l : Fin 1024) :
    iblk m c 3 t (ix2 0 l) = m (c.tc.loc main_arg4) (ix2 1 l) := by
  refine Eq.trans ?_ (scale_apply m c l)
  unfold iblk
  rw [View.read_apply]
  show V m c main_v6 _ = _
  refine congrArg _ (funext fun a => Fin.ext ?_)
  show ((win0_3.rect t).emb (ix2 0 l) a : ℕ) = _
  rw [win0_3.rect_emb_val_off, index3]
  fin_cases a <;> simp [Pipeline.WinKind.off]

/-! ## The result array -/

/-- Row `r` of the result reads this row of the padded arrays. -/
def srcRow (r : Fin 32768) : Fin 33792 := ⟨r.val / 4096 * 4224 + (112 + (16 + r.val % 4096)), by omega⟩

/-- The result array: each row's residual, its two mixer rows projected, and the feed-forward network of that row. -/
def resultArr (c : Dev nD) : Buf (Elt Ideal) ((c : Thread nD τ).loc main_v13) := fun x : S32768x1024.Idx =>
  mlpRow (mixRow (fun j => m (c.tc.loc main_arg0) (ix2 (srcRow (x 0)) j))
      (fun k => m (c.tc.loc main_arg1) (ix2 (srcRow (x 0)) k)) (fun k => m (c.tc.loc main_arg2) (ix2 (srcRow (x 0)) k))
      (fun k j => m (c.tc.loc main_arg3) (ix3 0 (⟨k.val, by omega⟩ : Fin 1024) j))
      (fun k j => m (c.tc.loc main_arg3) (ix3 0 (⟨512 + k.val, by omega⟩ : Fin 1024) j)))
    (fun j => m (c.tc.loc main_arg4) (ix2 1 j)) (fun i k => m (c.tc.loc main_arg5) (ix3 1 i k))
    (fun k j => m (c.tc.loc main_arg6) (ix3 1 k j)) (x 1)

/-- The call's result array is that array: every point writes its block back, and the blocks tile the array. -/
theorem result_eq (c : Dev nD) : (dats m 0 c).arrAt 4 cfg0.N = resultArr m c := by
  refine (dats m 0 c).arrAt_eq_of_covers 4 _ (by decide +kernel) fun t hf y => ?_
  blk_simp
  rw [after0_4, outs_eq m c]
  dsimp only
  have e0 : ((win0_4.rect t).emb y 0 : ℕ) = t.val * 512 + (y 0).val := by
    rw [win0_4.rect_emb_val_off, index4]; simp [Pipeline.WinKind.off]
  have e1 : ((win0_4.rect t).emb y 1 : ℕ) = (y 1).val := by
    rw [win0_4.rect_emb_val_off, index4]; simp [Pipeline.WinKind.off]
  obtain ⟨r, l, rfl⟩ : ∃ (r : Fin 512) (l : Fin 1024), y = ix2 r l := ⟨y 0, y 1, by funext a; fin_cases a <;> rfl⟩
  have hr : srcRow ((win0_4.blk t).view.emb (ix2 r l) 0) = ⟨start t + r.val, start_lt t r⟩ := by
    refine Fin.ext ?_
    have : t.val < 64 := t.isLt
    have hrl := r.isLt
    have e0' : ((win0_4.blk t).view.emb (ix2 r l) 0 : ℕ) = t.val * 512 + r.val := e0
    show _ / 4096 * 4224 + (112 + (16 + _ % 4096)) = t.val / 8 * 4224 + 128 + t.val % 8 * 512 + r.val
    rw [e0']
    omega
  have hl : (win0_4.blk t).view.emb (ix2 r l) 1 = l := Fin.ext e1
  show blockOut _ _ _ _ _ _ _ _ (ix2 r l) = resultArr m c _
  rw [blockOut_apply]
  unfold resultArr
  simp only [hr, hl, blk0_apply, blk1_apply, blk2_apply, blk3_apply]
  rw [(funext fun k => funext (mixA_apply m c k) : (fun (k : Fin 512) (j : Fin 1024) => V m c main_v2 (ix2 k j)) = _),
    (funext fun k => funext (mixB_apply m c k) : (fun (k : Fin 512) (j : Fin 1024) => V m c main_v3 (ix2 k j)) = _),
    (funext fun k => funext (up_apply m c k) : (fun (k : Fin 1024) (j : Fin 4096) => V m c main_v9 (ix2 k j)) = _),
    (funext fun k => funext (down_apply m c k) : (fun (k : Fin 4096) (j : Fin 1024) => V m c main_v12 (ix2 k j)) = _)]

end Cert.KernelIdeal.Mlp
-- ==== Proof.Mlp.TokensRef.lean ====
module

public import proofs.«01_k».proof.Proof.Gen.ReferenceIdeal.Run
public import proofs.«01_k».proof.Proof.Mlp.Rows
public import Idealize.ShloMosaic.Lib.Tactic.CleanTypes

@[expose] public section

set_option maxRecDepth 16384

noncomputable section

/-! # What the last call's reference computes, row by row -/

namespace Cert.ReferenceIdeal.Mlp

open Cert.ReferenceIdeal Cert.ReferenceIdeal.Gen Cert.ReferenceIdeal.Value Cert.Mlp Idealize.ShloMosaic

variable (m : (ℓ : Loc nD τ sig) → Buf (Elt Ideal) ℓ)

/-- Row `r` of the result reads this row of the padded arrays. -/
def srcRow (r : Fin 32768) : Fin 33792 := ⟨r.val / 4096 * 4224 + (112 + (16 + r.val % 4096)), by omega⟩

/-- The mixers' two outputs side by side, widened. -/
def cat (a b : FVec Ideal S33792x512 .bf16) : FVec Ideal S33792x1024 .f32 :=
  concatenate S33792x1024 1 [⟨S33792x512, (extf .f32 a bitsLt_bf16_f32)⟩, ⟨S33792x512, (extf .f32 b bitsLt_bf16_f32)⟩] concatenates_S33792x512_S33792x512_S33792x1024_d1

/-- A padded array cut into sequences, each without its leading pad. -/
def unpad (x : FVec Ideal S33792x1024 .f32) : FVec Ideal S8x4112x1024 .f32 :=
  extractStridedSlice S8x4112x1024 ![0, 112, 0] (shapeCast _ x shapeCasts_S33792x1024_S8x4224x1024) slices_S8x4224x1024_S8x4112x1024_0_112_0

/-- A sequence stream plus a mixer stream through the projection. -/
def project (h x : FVec Ideal S8x4112x1024 .f32) (w : FVec Ideal S1x1024x1024 .f32) : FVec Ideal S8x4112x1024 .f32 :=
  addf h (Host.dotGeneral dot_S8x4112x1024_S1024x1024_S8x4112x1024_2_0_01_1_n_n none x (shapeCast _ w shapeCasts_S1x1024x1024_S1024x1024))

/-- The reference's first sum: the residual stream plus the mixers' concatenated rows through the projection. -/
def resid (h : FVec Ideal S33792x1024 .f32) (a b : FVec Ideal S33792x512 .bf16) (w : FVec Ideal S1x1024x1024 .f32) : FVec Ideal S8x4112x1024 .f32 :=
  project (unpad h) (unpad (cat a b)) w

/-- The reference's hidden units, of any residual stream. -/
def hidden (X : FVec Ideal S8x4112x1024 .f32) (g : FVec Ideal S2x1024 .f32) (w1 : FVec Ideal S2x1024x4096 .f32) : FVec Ideal S8x4112x4096 .f32 :=
  maximumf (Host.dotGeneral dot_S8x4112x1024_S1024x4096_S8x4112x4096_2_0_01_1_n_n none
      (mulf (mulf X (broadcastInDim S8x4112x1024 ![0, 1, 2] bcast_S8x4112x1_S8x4112x1024_0_1_2 (Host.rsqrt (addf (Host.divf (broadcastInDim S8x4112x1 ![0, 1] bcast_S8x4112_S8x4112x1_0_1 (Host.reduceAdd (mulf X X) (constant S_ .f32 0x00000000#32) reducesTo_S8x4112x1024_S8x4112_d2 h_S_)) (broadcastInDim S8x4112x1 ![] bcast_S_S8x4112x1 (constant S_ .f32 0x44800000#32))) (broadcastInDim S8x4112x1 ![] bcast_S_S8x4112x1 (constant S_ .f32 0x358637BD#32))))))
        (broadcastInDim S8x4112x1024 ![0, 1, 2] bcast_S1x1x1024_S8x4112x1024_0_1_2 (broadcastInDim S1x1x1024 ![2] bcast_S1024_S1x1x1024_2 (shapeCast _ (extractStridedSlice S1x1024 ![1, 0] g slices_S2x1024_S1x1024_1_0) shapeCasts_S1x1024_S1024))))
      (shapeCast _ (extractStridedSlice S1x1024x4096 ![1, 0, 0] w1 slices_S2x1024x4096_S1x1024x4096_1_0_0) shapeCasts_S1x1024x4096_S1024x4096))
    (broadcastInDim S8x4112x4096 ![] bcast_S_S8x4112x4096 (constant S_ .f32 0x00000000#32))

/-- The reference's last lines, of any residual stream and hidden units: the second matrix, the sum, and the tokens'
    rows. -/
def last (X : FVec Ideal S8x4112x1024 .f32) (H : FVec Ideal S8x4112x4096 .f32) (w2 : FVec Ideal S2x4096x1024 .f32) : FVec Ideal S32768x1024 .f32 :=
  shapeCast _ (extractStridedSlice S8x4096x1024 ![0, 16, 0] (addf X (Host.dotGeneral dot_S8x4112x4096_S4096x1024_S8x4112x1024_2_0_01_1_n_n none (mulf H H)
    (shapeCast _ (extractStridedSlice S1x4096x1024 ![1, 0, 0] w2 slices_S2x4096x1024_S1x4096x1024_1_0_0) shapeCasts_S1x4096x1024_S4096x1024))) slices_S8x4112x1024_S8x4096x1024_0_16_0) shapeCasts_S8x4096x1024_S32768x1024

/-- The generated result is these three stages of the arguments. -/
theorem result_stages (c : Dev nD) :
    res_main_v35 (F := Ideal) m c =
      last (resid (m (c.tc.loc main_arg0)) (m (c.tc.loc main_arg1)) (m (c.tc.loc main_arg2)) (m (c.tc.loc main_arg3)))
        (hidden (resid (m (c.tc.loc main_arg0)) (m (c.tc.loc main_arg1)) (m (c.tc.loc main_arg2)) (m (c.tc.loc main_arg3)))
          (m (c.tc.loc main_arg4)) (m (c.tc.loc main_arg5)))
        (m (c.tc.loc main_arg6)) := rfl

/-- The row of the padded arrays that row `s` of sequence `b`, leading pad dropped, reads. -/
def padRow (b : Fin 8) (s : Fin 4112) : Fin 33792 := ⟨b.val * 4224 + (112 + s.val), by omega⟩

theorem unpad_apply (x : FVec Ideal S33792x1024 .f32) (q : Fin 8) (s : Fin 4112) (j : Fin 1024) :
    unpad x (ix3 q s j) = x (ix2 (padRow q s) j) := by
  pointwise [unpad]
  rfl

theorem cat_left (a b : FVec Ideal S33792x512 .bf16) (r : Fin 33792) (k : Fin 512) :
    cat a b (ix2 r ⟨k.val, by omega⟩) = a (ix2 r k) := by
  pointwise [cat]

theorem cat_right (a b : FVec Ideal S33792x512 .bf16) (r : Fin 33792) (k : Fin 512) :
    cat a b (ix2 r ⟨512 + k.val, by omega⟩) = b (ix2 r k) := by
  pointwise [cat]

theorem project_apply (h x : FVec Ideal S8x4112x1024 .f32) (w : FVec Ideal S1x1024x1024 .f32) (q : Fin 8) (s : Fin 4112)
    (j : Fin 1024) :
    project h x w (ix3 q s j) = h (ix3 q s j) + ∑ k : Fin 1024, x (ix3 q s k) * w (ix3 0 k j) := by
  pointwise [project]

/-- The first sum, row by row: the concatenated row's contraction is that of its two halves. -/
theorem resid_apply (h : FVec Ideal S33792x1024 .f32) (a b : FVec Ideal S33792x512 .bf16)
    (w : FVec Ideal S1x1024x1024 .f32) (q : Fin 8) (s : Fin 4112) (j : Fin 1024) :
    resid h a b w (ix3 q s j) =
      mixRow (fun j => h (ix2 (padRow q s) j)) (fun k => a (ix2 (padRow q s) k)) (fun k => b (ix2 (padRow q s) k))
        (fun (k : Fin 512) j => w (ix3 0 (⟨k.val, by omega⟩ : Fin 1024) j))
        (fun (k : Fin 512) j => w (ix3 0 (⟨512 + k.val, by omega⟩ : Fin 1024) j)) j := by
  unfold resid mixRow
  rw [project_apply, unpad_apply, sum_parts (p := 512) (q := 512) rfl, add_assoc]
  simp only [unpad_apply, cat_left, cat_right]

/-- The hidden units, row by row. -/
theorem hidden_apply (X : FVec Ideal S8x4112x1024 .f32) (g : FVec Ideal S2x1024 .f32) (w1 : FVec Ideal S2x1024x4096 .f32)
    (q : Fin 8) (s : Fin 4112) (k : Fin 4096) :
    hidden X g w1 (ix3 q s k) =
      hiddenRow (fun j => X (ix3 q s j)) (fun j => g (ix2 1 j)) (fun i k => w1 (ix3 1 i k)) k := by
  pointwise [hidden]
  rfl

/-- The last lines, row by row. -/
theorem last_apply (X : FVec Ideal S8x4112x1024 .f32) (H : FVec Ideal S8x4112x4096 .f32) (w2 : FVec Ideal S2x4096x1024 .f32)
    (r : Fin 32768) (l : Fin 1024) :
    last X H w2 (ix2 r l) =
      X (ix3 (⟨r.val / 4096, by omega⟩ : Fin 8) (⟨16 + r.val % 4096, by omega⟩ : Fin 4112) l) +
        ∑ k, H (ix3 (⟨r.val / 4096, by omega⟩ : Fin 8) (⟨16 + r.val % 4096, by omega⟩ : Fin 4112) k) *
          H (ix3 (⟨r.val / 4096, by omega⟩ : Fin 8) (⟨16 + r.val % 4096, by omega⟩ : Fin 4112) k) *
          w2 (ix3 1 k l) := by
  pointwise [last]

/-- The reference's result at row `r`: the feed-forward row of the residual plus the mixers' projection. -/
theorem result_apply (c : Dev nD) (r : Fin 32768) (l : Fin 1024) :
    (res_main_v35 (F := Ideal) m c : S32768x1024.Idx → EReal) (ix2 r l) =
      mlpRow (mixRow (fun j => m (c.tc.loc main_arg0) (ix2 (srcRow r) j))
          (fun k => m (c.tc.loc main_arg1) (ix2 (srcRow r) k)) (fun k => m (c.tc.loc main_arg2) (ix2 (srcRow r) k))
          (fun (k : Fin 512) j => m (c.tc.loc main_arg3) (ix3 0 (⟨k.val, by omega⟩ : Fin 1024) j))
          (fun (k : Fin 512) j => m (c.tc.loc main_arg3) (ix3 0 (⟨512 + k.val, by omega⟩ : Fin 1024) j)))
        (fun j => m (c.tc.loc main_arg4) (ix2 1 j)) (fun i k => m (c.tc.loc main_arg5) (ix3 1 i k))
        (fun k j => m (c.tc.loc main_arg6) (ix3 1 k j)) l := by
  rw [result_stages, last_apply]
  simp only [hidden_apply, resid_apply]
  rfl

end Cert.ReferenceIdeal.Mlp
-- ==== Proof.Mlp.Input.lean ====
module

public import proofs.«01_k».proof.Proof.Gen.Kernel2Ideal.Value
public import proofs.«01_k».proof.Proof.Mlp.Rows
public import Idealize.ShloMosaic.Lib.Tactic.CleanTypes

@[expose] public section

set_option maxRecDepth 16384

noncomputable section

/-! # What the even layer's output call leaves in its result array

The call runs over 8 sequences of 11 tiles of 384 rows. Its first grid point copies the four weight matrices into
scratch, where they stay; every point then stores one block. The window on the input starts at an element offset: tile
`i` of sequence `b` reads the input from row `4096 b + 384 i - 128` on, and the first tile, which has no 128 rows before
it, puts the padded leading rows there. -/

namespace Cert.Kernel2Ideal.Mlp

open Cert.Kernel2Ideal Cert.Kernel2Ideal.Gen Cert.Kernel2Ideal.Value Cert.Mlp
open Idealize.ShloMosaic Idealize.ShloMosaic.TcCoe

variable (m : (ℓ : Loc nD τ sig) → Buf (Elt Ideal) ℓ)

/-! ## The block a point stores -/

/-- The rows a point adds its results to: the input's block, or on a sequence's first tile the leading rows and then the
    block's first 256 rows. -/
def tile (i : grid0.Coords) (x : Vec Ideal S384x1024 .f32) (mb : Vec Ideal S128x1024 .f32) : FVec Ideal S384x1024 .f32 :=
  Scalar.select (Scalar.cmpi .eq (BitVec.ofNat 32 (i 1).val) 0#32)
    (concatenate S384x1024 0 [⟨S128x1024, shapeCast S128x1024 mb shapeCasts_S128x1024_S128x1024⟩,
      ⟨S256x1024, extractStridedSlice S256x1024 ![0, 0] (shapeCast S384x1024 x shapeCasts_S384x1024_S384x1024)
        slices_S384x1024_o0_0_S256x1024⟩] concatenates_S128x1024_S256x1024_S384x1024_d0)
    (shapeCast S384x1024 x shapeCasts_S384x1024_S384x1024)

/-- Those rows plus the two mixers' rows, each through its half of the projection. -/
def project (y : FVec Ideal S384x1024 .f32) (a b : Vec Ideal S384x1024 .bf16) (wa wb : Vec Ideal S1024x1024 .bf16) :
    FVec Ideal S384x1024 .f32 :=
  addf (addf y (matmul (φ₁ := .bf16) (φ₂ := .bf16) dot_S384x1024_S1024x1024_S384x1024_1_0_0_1_n_n none a wa (constant S384x1024 .f32 0x00000000#32)))
    (matmul (φ₁ := .bf16) (φ₂ := .bf16) dot_S384x1024_S1024x1024_S384x1024_1_0_0_1_n_n none b wb (constant S384x1024 .f32 0x00000000#32))

theorem resid_stages (i : grid0.Coords) (x : Vec Ideal S384x1024 .f32) (mb : Vec Ideal S128x1024 .f32)
    (a b : Vec Ideal S384x1024 .bf16) (wa wb : Vec Ideal S1024x1024 .bf16) :
    k0_pay2 i x mb a wa b wb = project (tile i x mb) a b wa wb := rfl

theorem tile_later (i : grid0.Coords) (hi : (i 1).val ≠ 0) (x : Vec Ideal S384x1024 .f32) (mb : Vec Ideal S128x1024 .f32)
    (r : Fin 384) (l : Fin 1024) : tile i x mb (ix2 r l) = x (ix2 r l) := by
  have hc : Scalar.cmpi .eq (BitVec.ofNat 32 (i 1).val) 0#32 = 0#1 :=
    (by decide : ∀ n : Fin 11, n.val ≠ 0 → Scalar.cmpi .eq (BitVec.ofNat 32 n.val) 0#32 = 0#1) (i 1) hi
  unfold tile
  rw [hc]
  pointwise

theorem tile_lead (i : grid0.Coords) (hi : (i 1).val = 0) (x : Vec Ideal S384x1024 .f32) (mb : Vec Ideal S128x1024 .f32)
    (r : Fin 128) (l : Fin 1024) : tile i x mb (ix2 ⟨r.val, by omega⟩ l) = mb (ix2 r l) := by
  unfold tile
  rw [hi]
  pointwise

theorem tile_rest (i : grid0.Coords) (hi : (i 1).val = 0) (x : Vec Ideal S384x1024 .f32) (mb : Vec Ideal S128x1024 .f32)
    (r : Fin 256) (l : Fin 1024) : tile i x mb (ix2 ⟨128 + r.val, by omega⟩ l) = x (ix2 ⟨r.val, by omega⟩ l) := by
  unfold tile
  rw [hi]
  pointwise

theorem project_apply (y : FVec Ideal S384x1024 .f32) (a b : Vec Ideal S384x1024 .bf16) (wa wb : Vec Ideal S1024x1024 .bf16)
    (r : Fin 384) (l : Fin 1024) :
    project y a b wa wb (ix2 r l) =
      mixRow (fun j => y (ix2 r j)) (fun k => a (ix2 r k)) (fun k => b (ix2 r k)) (fun k j => wa (ix2 k j))
        (fun k j => wb (ix2 k j)) l := by
  pointwise [project]
  rfl

/-- The block a point stores, of its five input blocks and the four weight matrices. -/
def blockOut (i : grid0.Coords) (x : Vec Ideal S384x1024 .f32) (mb : Vec Ideal S128x1024 .f32) (a b : Vec Ideal S384x1024 .bf16)
    (g : Vec Ideal S1x1024 .f32) (wa wb : Vec Ideal S1024x1024 .bf16) (w1 : Vec Ideal S1024x4096 .bf16)
    (w2 : Vec Ideal S4096x1024 .bf16) : Vec Ideal S384x1024 .f32 :=
  k0_pay1 (k0_pay2 i x mb a wa b wb) (k0_pay3 i x mb a wa b wb) (k0_pay4 g) w1 w2

theorem normed_apply (i : grid0.Coords) (x : Vec Ideal S384x1024 .f32) (mb : Vec Ideal S128x1024 .f32)
    (a b : Vec Ideal S384x1024 .bf16) (wa wb : Vec Ideal S1024x1024 .bf16) (g : Vec Ideal S1x1024 .f32)
    (r : Fin 384) (l : Fin 1024) :
    (k0_pay3 i x mb a wa b wb (ix2 r l) : EReal) * k0_pay4 g (ix2 r l) =
      normRow (fun j => k0_pay2 i x mb a wa b wb (ix2 r j)) (fun j => g (ix2 0 j)) l := by
  generalize hx : k0_pay2 i x mb a wa b wb = y
  pointwise [k0_pay3, k0_pay4, hx]
  rfl

/-- The stored block is the feed-forward row of the residual row. -/
theorem blockOut_apply (i : grid0.Coords) (x : Vec Ideal S384x1024 .f32) (mb : Vec Ideal S128x1024 .f32)
    (a b : Vec Ideal S384x1024 .bf16) (g : Vec Ideal S1x1024 .f32) (wa wb : Vec Ideal S1024x1024 .bf16)
    (w1 : Vec Ideal S1024x4096 .bf16) (w2 : Vec Ideal S4096x1024 .bf16) (r : Fin 384) (l : Fin 1024) :
    blockOut i x mb a b g wa wb w1 w2 (ix2 r l) =
      mlpRow (mixRow (fun j => tile i x mb (ix2 r j)) (fun k => a (ix2 r k)) (fun k => b (ix2 r k))
        (fun k j => wa (ix2 k j)) (fun k j => wb (ix2 k j))) (fun j => g (ix2 0 j)) (fun i k => w1 (ix2 i k))
        (fun k j => w2 (ix2 k j)) l := by
  unfold blockOut
  have hx : (fun j => k0_pay2 i x mb a wa b wb (ix2 r j)) = mixRow (fun j => tile i x mb (ix2 r j)) (fun k => a (ix2 r k))
      (fun k => b (ix2 r k)) (fun k j => wa (ix2 k j)) (fun k j => wb (ix2 k j)) := by
    funext j
    rw [resid_stages, project_apply]
  rw [← hx]
  have hn := normed_apply i x mb a b wa wb g r
  generalize k0_pay3 i x mb a wa b wb = n at hn
  generalize k0_pay4 g = s at hn
  generalize k0_pay2 i x mb a wa b wb = y at hn
  pointwise [k0_pay1]
  simp only [hn]
  rfl

/-! ## The block and the scratch after each point -/

/-- After the first point: its block, and the four weight matrices in scratch. -/
theorem outs_first (c : Dev nD) (t : Fin cfg0.N) (h0 : t.val % 88 = 0) :
    outsAt0 m c t.val t.isLt =
      (blockOut (grid0.coords t) (iblk m c 0 t) (iblk m c 1 t) (iblk m c 2 t) (iblk m c 3 t) (iblk m c 4 t) (V m c main_v5) (V m c main_v6)
        (V m c main_v12) (V m c main_v15), V m c main_v5, V m c main_v6, V m c main_v12, V m c main_v15) := by
  rw [outsAt0_A m c t h0]
  refine Prod.ext ?_ (Prod.ext ?_ (Prod.ext ?_ (Prod.ext ?_ ?_))) <;> dsimp only
  · frame_out
    rw [readCov_all, readCov_all, readCov_all, readCov_all]
    rfl
  all_goals
    frame_out
    rw [canon_all]
    rfl

/-- After a later point that found the weight matrices in scratch: its block, and the matrices still there. -/
theorem outs_later (c : Dev nD) (t : Fin cfg0.N) (h0 : ¬t.val % 88 = 0)
    (ih : (outsAt0 m c (t.val - 1) (Nat.lt_of_le_of_lt (Nat.sub_le _ _) t.isLt)).2 =
      (V m c main_v5, V m c main_v6, V m c main_v12, V m c main_v15)) :
    outsAt0 m c t.val t.isLt =
      (blockOut (grid0.coords t) (iblk m c 0 t) (iblk m c 1 t) (iblk m c 2 t) (iblk m c 3 t) (iblk m c 4 t) (V m c main_v5) (V m c main_v6)
        (V m c main_v12) (V m c main_v15), V m c main_v5, V m c main_v6, V m c main_v12, V m c main_v15) := by
  rw [outsAt0_B m c t h0, ih]
  refine Prod.ext ?_ (Prod.ext rfl (Prod.ext rfl (Prod.ext rfl rfl)))
  dsimp only
  frame_out
  simp only [read_unread_whole]
  rfl

/-- After every point, by induction: its block, and the weight matrices in scratch. -/
theorem outs_eq (c : Dev nD) : ∀ (n : ℕ) (hn : n < cfg0.N), outsAt0 m c n hn =
      (blockOut (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (V m c main_v5)
        (V m c main_v6) (V m c main_v12) (V m c main_v15), V m c main_v5, V m c main_v6, V m c main_v12, V m c main_v15)
  | 0, hn => outs_first m c ⟨0, hn⟩ rfl
  | n + 1, hn => by
    have hN : n + 1 < 88 := hn
    refine outs_later m c ⟨n + 1, hn⟩ (by dsimp only; omega) ?_
    exact congrArg Prod.snd (outs_eq c n (Nat.lt_of_succ_lt hn))

/-! ## The buffers the host prepared, and the blocks -/

theorem rows_apply (c : Dev nD) (r : Fin 32768) (l : Fin 1024) :
    V m c main_v0 (ix2 r l) =
      m (c.tc.loc main_arg0) (ix3 (⟨r.val / 4096, by omega⟩ : Fin 8) (⟨r.val % 4096, by omega⟩ : Fin 4096) l) := by
  entry_read
  pointwise

theorem pad_apply (c : Dev nD) (r : Fin 112) (l : Fin 1024) :
    V m c main_v2 (ix2 ⟨r.val, by omega⟩ l) = (0 : EReal) := by
  entry_read
  pointwise

theorem lead_apply (c : Dev nD) (r : Fin 16) (l : Fin 1024) :
    V m c main_v2 (ix2 ⟨112 + r.val, by omega⟩ l) = m (c.tc.loc main_arg1) (ix2 r l) := by
  entry_read
  pointwise

theorem mixA_apply (c : Dev nD) (k : Fin 1024) (l : Fin 1024) :
    V m c main_v5 (ix2 k l) = m (c.tc.loc main_arg4) (ix3 0 ⟨k.val, by omega⟩ l) := by
  entry_read
  pointwise

theorem mixB_apply (c : Dev nD) (k : Fin 1024) (l : Fin 1024) :
    V m c main_v6 (ix2 k l) = m (c.tc.loc main_arg4) (ix3 0 ⟨1024 + k.val, by omega⟩ l) := by
  entry_read
  pointwise

theorem scale_apply (c : Dev nD) (l : Fin 1024) : V m c main_v9 (ix2 0 l) = m (c.tc.loc main_arg5) (ix2 0 l) := by
  entry_read
  pointwise

theorem up_apply (c : Dev nD) (k : Fin 1024) (l : Fin 4096) :
    V m c main_v12 (ix2 k l) = m (c.tc.loc main_arg6) (ix3 0 k l) := by
  entry_read
  pointwise

theorem down_apply (c : Dev nD) (k : Fin 4096) (l : Fin 1024) :
    V m c main_v15 (ix2 k l) = m (c.tc.loc main_arg7) (ix3 0 k l) := by
  entry_read
  pointwise

/-- The row of the input at which point `t`'s block starts. -/
abbrev start (t : Fin cfg0.N) : ℕ := t.val / 11 * 4096 + (t.val % 11 * 384 - 128)

theorem start_lt (t : Fin cfg0.N) (r : Fin 384) : start t + r.val < 32768 := by
  have : t.val < 88 := t.isLt
  have := r.isLt
  unfold start
  omega

theorem row_lt (t : Fin cfg0.N) (r : Fin 384) : t.val * 384 + r.val < 33792 := by
  have : t.val < 88 := t.isLt
  have := r.isLt
  omega

theorem coord1 : ∀ t : Fin cfg0.N, (grid0.coords t 1).val = t.val % 11 :=
  (by decide +kernel : ∀ t : Fin grid0.N, (grid0.coords t 1).val = t.val % 11)

theorem index0 : ∀ t : Fin cfg0.N, win0_0.index t = ![start t, 0] :=
  (by decide +kernel : ∀ t : Fin grid0.N, win0_0.index t = ![t.val / 11 * 4096 + (t.val % 11 * 384 - 128), 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 0] :=
  (by decide +kernel : ∀ t : Fin grid0.N, win0_3.index t = ![t.val, 0])

theorem index4 : ∀ t : Fin cfg0.N, win0_4.index t = ![0, 0] :=
  (by decide +kernel : ∀ t : Fin grid0.N, win0_4.index t = ![0, 0])

theorem index5 : ∀ t : Fin cfg0.N, win0_5.index t = ![t.val, 0] :=
  (by decide +kernel : ∀ t : Fin grid0.N, win0_5.index t = ![t.val, 0])

/-- The input's block: 384 rows from `start t` on. -/
theorem blk0_apply (c : Dev nD) (t : Fin cfg0.N) (r : Fin 384) (l : Fin 1024) :
    iblk m c 0 t (ix2 r l) = V m c main_v0 (ix2 ⟨start t + r.val, start_lt t r⟩ l) := by
  unfold iblk
  rw [View.read_apply]
  show V m c main_v0 _ = _
  refine congrArg _ (funext fun a => Fin.ext ?_)
  show ((win0_0.rect t).emb (ix2 r l) a : ℕ) = _
  rw [win0_0.rect_emb_val_off, index0]
  fin_cases a <;> simp [Pipeline.WinKind.off]

/-- The leading rows' block: all of them. -/
theorem blk1_apply (c : Dev nD) (t : Fin cfg0.N) (r : Fin 128) (l : Fin 1024) :
    iblk m c 1 t (ix2 r l) = V m c main_v2 (ix2 r l) := by
  unfold iblk
  rw [View.read_apply]
  show V m c main_v2 _ = _
  refine congrArg _ (funext fun a => Fin.ext ?_)
  show ((win0_1.rect t).emb (ix2 r l) a : ℕ) = _
  rw [win0_1.rect_emb_val_off, index1]
  fin_cases a <;> simp [Pipeline.WinKind.off]

/-- The first mixer output's block. -/
theorem blk2_apply (c : Dev nD) (t : Fin cfg0.N) (r : Fin 384) (l : Fin 1024) :
    iblk m c 2 t (ix2 r l) = m (c.tc.loc main_arg2) (ix2 ⟨t.val * 384 + r.val, row_lt t r⟩ l) := by
  unfold iblk
  rw [View.read_apply]
  show V m c main_arg2 _ = _
  rw [V_main_arg2]
  refine congrArg _ (funext fun a => Fin.ext ?_)
  show ((win0_2.rect t).emb (ix2 r l) a : ℕ) = _
  rw [win0_2.rect_emb_val_off, index2]
  fin_cases a <;> simp [Pipeline.WinKind.off]

/-- The second mixer output's block. -/
theorem blk3_apply (c : Dev nD) (t : Fin cfg0.N) (r : Fin 384) (l : Fin 1024) :
    iblk m c 3 t (ix2 r l) = m (c.tc.loc main_arg3) (ix2 ⟨t.val * 384 + r.val, row_lt t r⟩ l) := by
  unfold iblk
  rw [View.read_apply]
  show V m c main_arg3 _ = _
  rw [V_main_arg3]
  refine congrArg _ (funext fun a => Fin.ext ?_)
  show ((win0_3.rect t).emb (ix2 r l) a : ℕ) = _
  rw [win0_3.rect_emb_val_off, index3]
  fin_cases a <;> simp [Pipeline.WinKind.off]

/-- The scale's block: the whole row. -/
theorem blk4_apply (c : Dev nD) (t : Fin cfg0.N) (l : Fin 1024) :
    iblk m c 4 t (ix2 0 l) = m (c.tc.loc main_arg5) (ix2 0 l) := by
  refine Eq.trans ?_ (scale_apply m c l)
  unfold iblk
  rw [View.read_apply]
  show V m c main_v9 _ = _
  refine congrArg _ (funext fun a => Fin.ext ?_)
  show ((win0_4.rect t).emb (ix2 0 l) a : ℕ) = _
  rw [win0_4.rect_emb_val_off, index4]
  fin_cases a <;> simp [Pipeline.WinKind.off]

theorem ix3_congr {p q s : ℕ} {a a' : Fin p} {b b' : Fin q} {d d' : Fin s} (ha : a = a') (hb : b = b') (hd : d = d') :
    ix3 a b d = ix3 a' b' d' := by
  rw [ha, hb, hd]

/-- Row `r` of the padded input. -/
def inputRow (c : Dev nD) (r : Fin 33792) (j : Fin 1024) : EReal :=
  padInput (fun k j => m (c.tc.loc main_arg1) (ix2 k j))
    (fun k j => m (c.tc.loc main_arg0) (ix3 (⟨r.val / 4224, by omega⟩ : Fin 8) k j)) (r.val % 4224) (by omega) j

/-- A point's rows are rows of the padded input. -/
theorem tile_apply (c : Dev nD) (t : Fin cfg0.N) (r : Fin 384) (l : Fin 1024) :
    tile (grid0.coords t) (iblk m c 0 t) (iblk m c 1 t) (ix2 r l) =
      inputRow m c ⟨t.val * 384 + r.val, row_lt t r⟩ l := by
  have ht : t.val < 88 := t.isLt
  have hr := r.isLt
  unfold inputRow padInput
  by_cases h0 : t.val % 11 = 0
  · have hi : (grid0.coords t 1).val = 0 := (coord1 t).trans h0
    by_cases h1 : r.val < 112
    · rw [dif_pos (show (t.val * 384 + r.val) % 4224 < 112 by omega)]
      exact (tile_lead _ hi _ _ ⟨r.val, by omega⟩ l).trans ((blk1_apply m c t _ l).trans (pad_apply m c ⟨r.val, h1⟩ l))
    · by_cases h2 : r.val < 128
      · rw [dif_neg (show ¬(t.val * 384 + r.val) % 4224 < 112 by omega),
          dif_pos (show (t.val * 384 + r.val) % 4224 < 128 by omega)]
        refine (tile_lead _ hi _ _ ⟨r.val, h2⟩ l).trans ((blk1_apply m c t _ l).trans ?_)
        have := lead_apply m c ⟨r.val - 112, by omega⟩ l
        have e : (⟨112 + (r.val - 112), by omega⟩ : Fin 128) = ⟨r.val, h2⟩ := Fin.ext (by dsimp only; omega)
        rw [e] at this
        refine this.trans (congrArg (fun k => m (c.tc.loc main_arg1) (ix2 k l)) (Fin.ext ?_))
        dsimp only
        omega
      · rw [dif_neg (show ¬(t.val * 384 + r.val) % 4224 < 112 by omega),
          dif_neg (show ¬(t.val * 384 + r.val) % 4224 < 128 by omega)]
        have := tile_rest _ hi (iblk m c 0 t) (iblk m c 1 t) ⟨r.val - 128, by omega⟩ l
        have e : (⟨128 + (r.val - 128), by omega⟩ : Fin 384) = r := Fin.ext (by dsimp only; omega)
        rw [e] at this
        refine this.trans ((blk0_apply m c t _ l).trans ((rows_apply m c _ l).trans ?_))
        refine congrArg (m (c.tc.loc main_arg0)) (ix3_congr (Fin.ext ?_) (Fin.ext ?_) rfl) <;> dsimp only [start] <;> omega
  · have hi : (grid0.coords t 1).val ≠ 0 := fun h => h0 ((coord1 t).symm.trans h)
    rw [dif_neg (show ¬(t.val * 384 + r.val) % 4224 < 112 by omega),
      dif_neg (show ¬(t.val * 384 + r.val) % 4224 < 128 by omega)]
    have e1 : (t.val * 384 + r.val) / 4224 = t.val / 11 := by omega
    have e2 : (t.val * 384 + r.val) % 4224 = t.val % 11 * 384 + r.val := by omega
    refine (tile_later _ hi _ _ r l).trans ((blk0_apply m c t r l).trans ((rows_apply m c _ l).trans ?_))
    refine congrArg (m (c.tc.loc main_arg0)) (ix3_congr (Fin.ext ?_) (Fin.ext ?_) rfl) <;> dsimp only [start] <;> (first | rw [e1] | rw [e2]) <;> omega

/-! ## The result array -/

/-- The result array: each row's padded input, its two mixer rows projected, and the feed-forward network of that row. -/
def resultArr (c : Dev nD) : Buf (Elt Ideal) ((c : Thread nD τ).loc main_v16) := fun x : S33792x1024.Idx =>
  mlpRow (mixRow (inputRow m c (x 0))
      (fun k => m (c.tc.loc main_arg2) (ix2 (x 0) k)) (fun k => m (c.tc.loc main_arg3) (ix2 (x 0) k))
      (fun (k : Fin 1024) j => m (c.tc.loc main_arg4) (ix3 0 (⟨k.val, by omega⟩ : Fin 2048) j))
      (fun (k : Fin 1024) j => m (c.tc.loc main_arg4) (ix3 0 (⟨1024 + k.val, by omega⟩ : Fin 2048) j)))
    (fun j => m (c.tc.loc main_arg5) (ix2 0 j)) (fun i k => m (c.tc.loc main_arg6) (ix3 0 i k))
    (fun k j => m (c.tc.loc main_arg7) (ix3 0 k j)) (x 1)

/-- The call's result array is that array: every point writes its block back, and the blocks tile the array. -/
theorem result_eq (c : Dev nD) : (dats m 0 c).arrAt 5 cfg0.N = resultArr m c := by
  refine (dats m 0 c).arrAt_eq_of_covers 5 _ (by decide +kernel) fun t hf y => ?_
  blk_simp
  rw [after0_5, outs_eq m c]
  dsimp only
  have e0 : ((win0_5.rect t).emb y 0 : ℕ) = t.val * 384 + (y 0).val := by
    rw [win0_5.rect_emb_val_off, index5]; simp [Pipeline.WinKind.off]
  have e1 : ((win0_5.rect t).emb y 1 : ℕ) = (y 1).val := by
    rw [win0_5.rect_emb_val_off, index5]; simp [Pipeline.WinKind.off]
  obtain ⟨r, l, rfl⟩ : ∃ (r : Fin 384) (l : Fin 1024), y = ix2 r l := ⟨y 0, y 1, by funext a; fin_cases a <;> rfl⟩
  have hr : (win0_5.blk t).view.emb (ix2 r l) 0 = ⟨t.val * 384 + r.val, row_lt t r⟩ := Fin.ext e0
  have hl : (win0_5.blk t).view.emb (ix2 r l) 1 = l := Fin.ext e1
  show blockOut _ _ _ _ _ _ _ _ _ _ (ix2 r l) = resultArr m c _
  rw [blockOut_apply]
  unfold resultArr
  simp only [hr, hl, tile_apply, blk2_apply, blk3_apply, blk4_apply]
  rw [(funext fun k => funext (mixA_apply m c k) : (fun (k : Fin 1024) (j : Fin 1024) => V m c main_v5 (ix2 k j)) = _),
    (funext fun k => funext (mixB_apply m c k) : (fun (k : Fin 1024) (j : Fin 1024) => V m c main_v6 (ix2 k j)) = _),
    (funext fun k => funext (up_apply m c k) : (fun (k : Fin 1024) (j : Fin 4096) => V m c main_v12 (ix2 k j)) = _),
    (funext fun k => funext (down_apply m c k) : (fun (k : Fin 4096) (j : Fin 1024) => V m c main_v15 (ix2 k j)) = _)]
  rfl

end Cert.Kernel2Ideal.Mlp
-- ==== Proof.Mlp.InputRef.lean ====
module

public import proofs.«01_k».proof.Proof.Gen.Reference2Ideal.Run
public import proofs.«01_k».proof.Proof.Mlp.Rows
public import Idealize.ShloMosaic.Lib.Tactic.CleanTypes

@[expose] public section

set_option maxRecDepth 16384

noncomputable section

/-! # What the even layer's output reference computes, row by row -/

namespace Cert.Reference2Ideal.Mlp

open Cert.Reference2Ideal Cert.Reference2Ideal.Gen Cert.Reference2Ideal.Value Cert.Mlp Idealize.ShloMosaic

variable (m : (ℓ : Loc nD τ sig) → Buf (Elt Ideal) ℓ)

/-- The padded input: zeros, the leading rows, the sequence. -/
def input (x : FVec Ideal S8x4096x1024 .f32) (lead : FVec Ideal S16x1024 .f32) : FVec Ideal S8x4224x1024 .f32 :=
  pad S8x4224x1024 ![0, 112, 0] ![0, 0, 0] ![0, 0, 0] (concatenate S8x4112x1024 1 [⟨S8x16x1024, (broadcastInDim S8x16x1024 ![1, 2] bcast_S16x1024_S8x16x1024_1_2 lead)⟩, ⟨S8x4096x1024, x⟩] concatenates_S8x16x1024_S8x4096x1024_S8x4112x1024_d1) (sitofp .f32 (constantI S_ 32 0#32)) pads_S8x4112x1024_S8x4224x1024_000_11200_000 h_S_

/-- The mixers' two outputs side by side, widened. -/
def cat (a b : FVec Ideal S33792x1024 .bf16) : FVec Ideal S33792x2048 .f32 :=
  concatenate S33792x2048 1 [⟨S33792x1024, (extf .f32 a bitsLt_bf16_f32)⟩, ⟨S33792x1024, (extf .f32 b bitsLt_bf16_f32)⟩] concatenates_S33792x1024_S33792x1024_S33792x2048_d1

/-- A sequence stream plus a mixer stream through the projection. -/
def project (h : FVec Ideal S8x4224x1024 .f32) (x : FVec Ideal S33792x2048 .f32) (w : FVec Ideal S1x2048x1024 .f32) : FVec Ideal S8x4224x1024 .f32 :=
  addf h (Host.dotGeneral dot_S8x4224x2048_S2048x1024_S8x4224x1024_2_0_01_1_n_n none (shapeCast _ x shapeCasts_S33792x2048_S8x4224x2048) (shapeCast _ w shapeCasts_S1x2048x1024_S2048x1024))

/-- The reference's first sum: the padded input plus the mixers' concatenated rows through the projection. -/
def resid (x : FVec Ideal S8x4096x1024 .f32) (lead : FVec Ideal S16x1024 .f32) (a b : FVec Ideal S33792x1024 .bf16) (w : FVec Ideal S1x2048x1024 .f32) : FVec Ideal S8x4224x1024 .f32 :=
  project (input x lead) (cat a b) w

/-- The reference's hidden units, of any residual stream. -/
def hidden (X : FVec Ideal S8x4224x1024 .f32) (g : FVec Ideal S2x1024 .f32) (w1 : FVec Ideal S2x1024x4096 .f32) : FVec Ideal S8x4224x4096 .f32 :=
  maximumf (Host.dotGeneral dot_S8x4224x1024_S1024x4096_S8x4224x4096_2_0_01_1_n_n none
      (mulf (mulf X (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf X X) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32))))))
        (broadcastInDim S8x4224x1024 ![0, 1, 2] bcast_S1x1x1024_S8x4224x1024_0_1_2 (broadcastInDim S1x1x1024 ![2] bcast_S1024_S1x1x1024_2 (shapeCast _ (extractStridedSlice S1x1024 ![0, 0] g slices_S2x1024_S1x1024_0_0) shapeCasts_S1x1024_S1024))))
      (shapeCast _ (extractStridedSlice S1x1024x4096 ![0, 0, 0] w1 slices_S2x1024x4096_S1x1024x4096_0_0_0) shapeCasts_S1x1024x4096_S1024x4096))
    (broadcastInDim S8x4224x4096 ![] bcast_S_S8x4224x4096 (constant S_ .f32 0x00000000#32))

/-- The reference's last lines, of any residual stream and hidden units: the second matrix, the sum, and the rows. -/
def last (X : FVec Ideal S8x4224x1024 .f32) (H : FVec Ideal S8x4224x4096 .f32) (w2 : FVec Ideal S2x4096x1024 .f32) : FVec Ideal S33792x1024 .f32 :=
  shapeCast _ (addf X (Host.dotGeneral dot_S8x4224x4096_S4096x1024_S8x4224x1024_2_0_01_1_n_n none (mulf H H)
    (shapeCast _ (extractStridedSlice S1x4096x1024 ![0, 0, 0] w2 slices_S2x4096x1024_S1x4096x1024_0_0_0) shapeCasts_S1x4096x1024_S4096x1024))) shapeCasts_S8x4224x1024_S33792x1024

/-- The generated result is these stages of the arguments. -/
theorem result_stages (c : Dev nD) :
    res_main_v34 (F := Ideal) m c =
      last (resid (m (c.tc.loc main_arg0)) (m (c.tc.loc main_arg1)) (m (c.tc.loc main_arg2)) (m (c.tc.loc main_arg3)) (m (c.tc.loc main_arg4)))
        (hidden (resid (m (c.tc.loc main_arg0)) (m (c.tc.loc main_arg1)) (m (c.tc.loc main_arg2)) (m (c.tc.loc main_arg3)) (m (c.tc.loc main_arg4)))
          (m (c.tc.loc main_arg5)) (m (c.tc.loc main_arg6)))
        (m (c.tc.loc main_arg7)) := rfl

theorem input_pad (x : FVec Ideal S8x4096x1024 .f32) (lead : FVec Ideal S16x1024 .f32) (q : Fin 8) (s : Fin 112) (j : Fin 1024) :
    input x lead (ix3 q ⟨s.val, by omega⟩ j) = (0 : EReal) := by
  pointwise [input]
  rw [dif_neg (fun h => h.1)]
  show ((((0#32).toInt : ℝ)) : EReal) = 0
  simp

theorem input_lead (x : FVec Ideal S8x4096x1024 .f32) (lead : FVec Ideal S16x1024 .f32) (q : Fin 8) (s : Fin 16) (j : Fin 1024) :
    input x lead (ix3 q ⟨112 + s.val, by omega⟩ j) = lead (ix2 s j) := by
  pointwise [input]
  rw [dif_pos (by omega)]

theorem input_rest (x : FVec Ideal S8x4096x1024 .f32) (lead : FVec Ideal S16x1024 .f32) (q : Fin 8) (s : Fin 4096) (j : Fin 1024) :
    input x lead (ix3 q ⟨128 + s.val, by omega⟩ j) = x (ix3 q s j) := by
  pointwise [input]
  rw [dif_pos (by omega), dif_neg (by omega)]
  exact congrArg (fun s => x (ix3 q s j)) (Fin.ext (by dsimp only; omega))

theorem input_apply (x : FVec Ideal S8x4096x1024 .f32) (lead : FVec Ideal S16x1024 .f32) (q : Fin 8) (s : Fin 4224) (j : Fin 1024) :
    input x lead (ix3 q s j) = padInput (fun k j => lead (ix2 k j)) (fun k j => x (ix3 q k j)) s.val s.isLt j := by
  have hs := s.isLt
  unfold padInput
  by_cases h1 : s.val < 112
  · rw [dif_pos h1]
    exact input_pad x lead q ⟨s.val, h1⟩ j
  · rw [dif_neg h1]
    by_cases h2 : s.val < 128
    · rw [dif_pos h2]
      refine Eq.trans ?_ (input_lead x lead q ⟨s.val - 112, by omega⟩ j)
      exact congrArg (fun s => input x lead (ix3 q s j)) (Fin.ext (by dsimp only; omega))
    · rw [dif_neg h2]
      refine Eq.trans ?_ (input_rest x lead q ⟨s.val - 128, by omega⟩ j)
      exact congrArg (fun s => input x lead (ix3 q s j)) (Fin.ext (by dsimp only; omega))

theorem cat_left (a b : FVec Ideal S33792x1024 .bf16) (r : Fin 33792) (k : Fin 1024) :
    cat a b (ix2 r ⟨k.val, by omega⟩) = a (ix2 r k) := by
  pointwise [cat]

theorem cat_right (a b : FVec Ideal S33792x1024 .bf16) (r : Fin 33792) (k : Fin 1024) :
    cat a b (ix2 r ⟨1024 + k.val, by omega⟩) = b (ix2 r k) := by
  pointwise [cat]

/-- The row of the padded arrays that row `s` of sequence `q` is. -/
def padRow (q : Fin 8) (s : Fin 4224) : Fin 33792 := ⟨q.val * 4224 + s.val, by omega⟩

theorem project_apply (h : FVec Ideal S8x4224x1024 .f32) (x : FVec Ideal S33792x2048 .f32) (w : FVec Ideal S1x2048x1024 .f32)
    (q : Fin 8) (s : Fin 4224) (j : Fin 1024) :
    project h x w (ix3 q s j) = h (ix3 q s j) + ∑ k : Fin 2048, x (ix2 (padRow q s) k) * w (ix3 0 k j) := by
  pointwise [project]
  rfl

/-- The first sum, row by row: the concatenated row's contraction is that of its two halves. -/
theorem resid_apply (x : FVec Ideal S8x4096x1024 .f32) (lead : FVec Ideal S16x1024 .f32) (a b : FVec Ideal S33792x1024 .bf16)
    (w : FVec Ideal S1x2048x1024 .f32) (q : Fin 8) (s : Fin 4224) (j : Fin 1024) :
    resid x lead a b w (ix3 q s j) =
      mixRow (padInput (fun k j => lead (ix2 k j)) (fun k j => x (ix3 q k j)) s.val s.isLt)
        (fun k => a (ix2 (padRow q s) k)) (fun k => b (ix2 (padRow q s) k))
        (fun (k : Fin 1024) j => w (ix3 0 (⟨k.val, by omega⟩ : Fin 2048) j))
        (fun (k : Fin 1024) j => w (ix3 0 (⟨1024 + k.val, by omega⟩ : Fin 2048) j)) j := by
  unfold resid mixRow
  rw [project_apply, input_apply, sum_parts (p := 1024) (q := 1024) rfl, add_assoc]
  simp only [cat_left, cat_right]

/-- The hidden units, row by row. -/
theorem hidden_apply (X : FVec Ideal S8x4224x1024 .f32) (g : FVec Ideal S2x1024 .f32) (w1 : FVec Ideal S2x1024x4096 .f32)
    (q : Fin 8) (s : Fin 4224) (k : Fin 4096) :
    hidden X g w1 (ix3 q s k) =
      hiddenRow (fun j => X (ix3 q s j)) (fun j => g (ix2 0 j)) (fun i k => w1 (ix3 0 i k)) k := by
  pointwise [hidden]
  rfl

/-- The last lines, row by row. -/
theorem last_apply (X : FVec Ideal S8x4224x1024 .f32) (H : FVec Ideal S8x4224x4096 .f32) (w2 : FVec Ideal S2x4096x1024 .f32)
    (r : Fin 33792) (l : Fin 1024) :
    last X H w2 (ix2 r l) =
      X (ix3 (⟨r.val / 4224, by omega⟩ : Fin 8) (⟨r.val % 4224, by omega⟩ : Fin 4224) l) +
        ∑ k, H (ix3 (⟨r.val / 4224, by omega⟩ : Fin 8) (⟨r.val % 4224, by omega⟩ : Fin 4224) k) *
          H (ix3 (⟨r.val / 4224, by omega⟩ : Fin 8) (⟨r.val % 4224, by omega⟩ : Fin 4224) k) *
          w2 (ix3 0 k l) := by
  pointwise [last]

/-- The reference's result at row `r`: the feed-forward row of the padded input plus the mixers' projection. -/
theorem result_apply (c : Dev nD) (r : Fin 33792) (l : Fin 1024) :
    (res_main_v34 (F := Ideal) m c : S33792x1024.Idx → EReal) (ix2 r l) =
      mlpRow (mixRow (padInput (fun k j => m (c.tc.loc main_arg1) (ix2 k j))
            (fun k j => m (c.tc.loc main_arg0) (ix3 (⟨r.val / 4224, by omega⟩ : Fin 8) k j)) (r.val % 4224) (by omega))
          (fun k => m (c.tc.loc main_arg2) (ix2 r k)) (fun k => m (c.tc.loc main_arg3) (ix2 r k))
          (fun (k : Fin 1024) j => m (c.tc.loc main_arg4) (ix3 0 (⟨k.val, by omega⟩ : Fin 2048) j))
          (fun (k : Fin 1024) j => m (c.tc.loc main_arg4) (ix3 0 (⟨1024 + k.val, by omega⟩ : Fin 2048) j)))
        (fun j => m (c.tc.loc main_arg5) (ix2 0 j)) (fun i k => m (c.tc.loc main_arg6) (ix3 0 i k))
        (fun k j => m (c.tc.loc main_arg7) (ix3 0 k j)) l := by
  have hr : padRow (⟨r.val / 4224, by omega⟩ : Fin 8) (⟨r.val % 4224, by omega⟩ : Fin 4224) = r :=
    Fin.ext (by unfold padRow; dsimp only; omega)
  rw [result_stages, last_apply]
  simp only [hidden_apply, resid_apply, hr]
  rfl

end Cert.Reference2Ideal.Mlp
-- ==== Proof.Even.Rows.lean ====
module

public import proofs.«01_k».proof.Proof.Mlp.Rows
public import Idealize.ShloMosaic.Lib.IdealHost

@[expose] public section

noncomputable section

open Idealize.ShloMosaic

/-! # One token's row through the even layer's input call

What both programs compute of one token, over the extended reals: the normalised row against a column of the input
projection, the two gates a slab may be finished with, and the short causal convolution along a sequence. -/

namespace Cert.Even

open Cert.Mlp

/-- A row, normalised and scaled by `g`, against one column of the projection. -/
def projRow (x g col : Fin 1024 → EReal) : EReal := ∑ i, normRow x g i * col i

/-- The value `d` places before place `s` of a sequence, zero before its start. -/
def lag {n : ℕ} (f : Fin n → EReal) (s : Fin n) (d : ℕ) : EReal :=
  if h : d ≤ s.val then f ⟨s.val - d, by omega⟩ else 0

/-- Four taps over a place and the three before it, plus a bias. -/
def convRow {n : ℕ} (w : Fin 4 → EReal) (b : EReal) (f : Fin n → EReal) (s : Fin n) : EReal :=
  w 0 * lag f s 3 + w 1 * lag f s 2 + w 2 * lag f s 1 + w 3 * f s + b

/-- The logistic gate, as the quotient the reference writes. -/
def sigm (x : EReal) : EReal := Ideal.div 1 (1 + Ideal.exp (-x))

/-- The hyperbolic-tangent form of the Gaussian gate, as the reference writes it. -/
def gelu (x : EReal) : EReal :=
  x * (Ideal.ofBits FTy.f32 0x3F000000#32 * (1 + Ideal.tanh (Ideal.ofBits FTy.f32 0x3F4C422A#32 *
    (x + Ideal.ofBits FTy.f32 0x3D372713#32 * (x * x * x)))))

theorem half_eq : Ideal.ofBits FTy.f32 0x3F000000#32 = ((1 / 2 : ℝ) : EReal) := by
  simp [Ideal.ofBits, Ideal.ieee, -EReal.coe_mul]; norm_num

theorem outer_eq : Ideal.ofBits FTy.f32 0x3F4C422A#32 = ((6693141 / 8388608 : ℝ) : EReal) := by
  simp [Ideal.ofBits, Ideal.ieee, -EReal.coe_mul]; norm_num

theorem inner_eq : Ideal.ofBits FTy.f32 0x3D372713#32 = ((12003091 / 268435456 : ℝ) : EReal) := by
  simp [Ideal.ofBits, Ideal.ieee, -EReal.coe_mul]; norm_num

theorem real_sigm (r : ℝ) : 1 / 2 * Real.tanh (1 / 2 * r) + 1 / 2 = (1 + Real.exp (-r))⁻¹ := by
  have hp : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The gate the kernel computes by a hyperbolic tangent is the logistic one. -/
theorem sigm_tanh (x : EReal) :
    Ideal.ofBits FTy.f32 0x3F000000#32 * Ideal.tanh (Ideal.ofBits FTy.f32 0x3F000000#32 * x) +
      Ideal.ofBits FTy.f32 0x3F000000#32 = sigm x := by
  show _ = Ideal.logistic x
  rw [half_eq]
  have hh : (0 : ℝ) < 1 / 2 := by norm_num
  induction x with
  | bot =>
    rw [EReal.coe_mul_bot_of_pos hh, Ideal.tanh_bot, Ideal.logistic_bot]
    rw [show (-1 : EReal) = ((-1 : ℝ) : EReal) by simp, ← EReal.coe_mul, ← EReal.coe_add]
    norm_num
  | top =>
    rw [EReal.coe_mul_top_of_pos hh, Ideal.tanh_top, Ideal.logistic_top]
    rw [show (1 : EReal) = ((1 : ℝ) : EReal) by simp, ← EReal.coe_mul, ← EReal.coe_add]
    norm_num
  | coe r =>
    rw [← EReal.coe_mul, Ideal.tanh_coe, ← EReal.coe_mul, ← EReal.coe_add, Ideal.logistic_coe, real_sigm]

/-- The Gaussian gate with the cubic coefficient folded and the tangent's argument factored is the same gate. -/
theorem gelu_tanh (x : EReal) :
    x * (Ideal.ofBits FTy.f32 0x3F000000#32 * Ideal.tanh (x * (Ideal.ofBits FTy.f32 0x3F4C422A#32 +
      ((80338380498831 / 2251799813685248 : ℝ) : EReal) * (x * x))) + Ideal.ofBits FTy.f32 0x3F000000#32) = gelu x := by
  unfold gelu
  rw [half_eq, outer_eq, inner_eq]
  have hh : (0 : ℝ) < 1 / 2 := by norm_num
  have h0 : (0 : ℝ) < 6693141 / 8388608 := by norm_num
  have h1 : (0 : ℝ) < 12003091 / 268435456 := by norm_num
  have h2 : (0 : ℝ) < 80338380498831 / 2251799813685248 := by norm_num
  induction x with
  | bot =>
    rw [EReal.bot_mul_bot, EReal.coe_mul_top_of_pos h2, EReal.coe_add_top, EReal.bot_mul_top, EReal.top_mul_bot,
      EReal.coe_mul_bot_of_pos h1, EReal.bot_add, EReal.coe_mul_bot_of_pos h0, Ideal.tanh_bot]
    rw [show (1 + -1 : EReal) = ((0 : ℝ) : EReal) by
      rw [show (1 : EReal) = ((1 : ℝ) : EReal) by simp, ← EReal.coe_neg, ← EReal.coe_add]; norm_num]
    rw [show (-1 : EReal) = ((-1 : ℝ) : EReal) by simp, ← EReal.coe_mul, ← EReal.coe_add, ← EReal.coe_mul]
    norm_num
  | top =>
    rw [EReal.top_mul_top, EReal.coe_mul_top_of_pos h2, EReal.coe_add_top, EReal.top_mul_top,
      EReal.coe_mul_top_of_pos h1, EReal.top_add_top, EReal.coe_mul_top_of_pos h0, Ideal.tanh_top]
    rw [show (1 + 1 : EReal) = ((2 : ℝ) : EReal) by
      rw [show (1 : EReal) = ((1 : ℝ) : EReal) by simp, ← EReal.coe_add]; norm_num]
    rw [show (1 : EReal) = ((1 : ℝ) : EReal) by simp, ← EReal.coe_mul, ← EReal.coe_add, ← EReal.coe_mul]
    norm_num
  | coe r =>
    rw [show (1 : EReal) = ((1 : ℝ) : EReal) by simp]
    simp only [← EReal.coe_mul, ← EReal.coe_add, Ideal.tanh_coe]
    congr 1
    have e : r * (6693141 / 8388608 + 80338380498831 / 2251799813685248 * (r * r)) =
        6693141 / 8388608 * (r + 12003091 / 268435456 * (r * r * r)) := by ring
    rw [e]
    ring

/-- The convolution in the order the kernel adds its terms. -/
theorem convRow_comm {n : ℕ} (w : Fin 4 → EReal) (b : EReal) (f : Fin n → EReal) (s : Fin n) :
    b + w 3 * f s + w 2 * lag f s 1 + w 1 * lag f s 2 + w 0 * lag f s 3 = convRow w b f s := by
  unfold convRow
  ac_rfl

end Cert.Even
-- ==== Proof.Even.Blocks.lean ====
module

public import proofs.«01_k».proof.Proof.Gen.Kernel3Ideal.Frame
public import proofs.«01_k».proof.Proof.Even.Rows
public import Idealize.ShloMosaic.Lib.Tactic.CleanTypes

@[expose] public section

set_option maxRecDepth 16384

noncomputable section

/-! # What the even layer's input call computes at one grid point

The call runs over 8 sequences of 11 tiles of 384 rows. A point normalises its tile's rows and multiplies them by seven
groups of columns of the projection, each group finished in its own way. The sixth group's product is convolved along
the sequence; its last eight rows stay in scratch for the next tile. -/

namespace Cert.Kernel3Ideal.Even

open Cert.Kernel3Ideal Cert.Kernel3Ideal.Gen Cert.Mlp Cert.Even
open Idealize.ShloMosaic Idealize.ShloMosaic.TcCoe

/-! ## The rows of a point -/

/-- A point's rows: the input's block, or on a sequence's first tile the leading rows and then the block's first 256. -/
def rows (i : grid0.Coords) (x : Vec Ideal S384x1024 .f32) (mb : Vec Ideal S128x1024 .f32) : FVec Ideal S384x1024 .f32 :=
  Scalar.select (Scalar.cmpi .eq (BitVec.ofNat 32 (i 1).val) 0#32)
    (concatenate S384x1024 0 [⟨S128x1024, shapeCast S128x1024 mb shapeCasts_S128x1024_S128x1024⟩,
      ⟨S256x1024, extractStridedSlice S256x1024 ![0, 0] (shapeCast S384x1024 x shapeCasts_S384x1024_S384x1024)
        slices_S384x1024_o0_0_S256x1024⟩] concatenates_S128x1024_S256x1024_S384x1024_d0)
    (shapeCast S384x1024 x shapeCasts_S384x1024_S384x1024)

theorem rows_later (i : grid0.Coords) (hi : (i 1).val ≠ 0) (x : Vec Ideal S384x1024 .f32) (mb : Vec Ideal S128x1024 .f32)
    (r : Fin 384) (l : Fin 1024) : rows i x mb (ix2 r l) = x (ix2 r l) := by
  have hc : Scalar.cmpi .eq (BitVec.ofNat 32 (i 1).val) 0#32 = 0#1 :=
    (by decide : ∀ n : Fin 11, n.val ≠ 0 → Scalar.cmpi .eq (BitVec.ofNat 32 n.val) 0#32 = 0#1) (i 1) hi
  unfold rows
  rw [hc]
  pointwise

theorem rows_lead (i : grid0.Coords) (hi : (i 1).val = 0) (x : Vec Ideal S384x1024 .f32) (mb : Vec Ideal S128x1024 .f32)
    (r : Fin 128) (l : Fin 1024) : rows i x mb (ix2 ⟨r.val, by omega⟩ l) = mb (ix2 r l) := by
  unfold rows
  rw [hi]
  pointwise

theorem rows_rest (i : grid0.Coords) (hi : (i 1).val = 0) (x : Vec Ideal S384x1024 .f32) (mb : Vec Ideal S128x1024 .f32)
    (r : Fin 256) (l : Fin 1024) : rows i x mb (ix2 ⟨128 + r.val, by omega⟩ l) = x (ix2 ⟨r.val, by omega⟩ l) := by
  unfold rows
  rw [hi]
  pointwise

/-- The rows normalised and scaled, of any rows. -/
def scaled (y : FVec Ideal S384x1024 .f32) (g : Vec Ideal S1x1024 .f32) : FVec Ideal S384x1024 .bf16 :=
  truncf .bf16 (mulf (mulf y (broadcastTo S384x1024 (rsqrt (addf (divf (shapeCast S384x1
    (multiReduction .add [1] S384 (mulf y y) 0x00000000#32 reduces_S384x1024_S384 (.inl rfl) rfl) shapeCasts_S384_S384x1)
    (broadcast S384x1 (Scalar.ofBits .f32 0x44800000#32))) (broadcast S384x1 (Scalar.ofBits .f32 0x358637BD#32))))
    broadcasts_S384x1_S384x1024)) (broadcastTo S384x1024 (shapeCast S1x1024 g shapeCasts_S1x1024_S1x1024)
    broadcasts_S1x1024_S384x1024)) bitsLt_bf16_f32

theorem scaled_stages (i : grid0.Coords) (x : Vec Ideal S384x1024 .f32) (mb : Vec Ideal S128x1024 .f32)
    (g : Vec Ideal S1x1024 .f32) : k0_pay4 i x mb g = scaled (rows i x mb) g := rfl

theorem scaled_apply (y : FVec Ideal S384x1024 .f32) (g : Vec Ideal S1x1024 .f32) (r : Fin 384) (l : Fin 1024) :
    scaled y g (ix2 r l) = normRow (fun j => y (ix2 r j)) (fun j => g (ix2 0 j)) l := by
  pointwise [scaled]
  rfl

/-! ## The seven groups of columns, of any rows -/

theorem value_apply (n : FVec Ideal S384x1024 .bf16) (w : Vec Ideal S1024x1024 .bf16) (r : Fin 384) (l : Fin 1024) :
    (k0_pay1 n w (ix2 r l) : EReal) = ∑ k, n (ix2 r k) * w (ix2 k l) := by
  pointwise [k0_pay1]

theorem bits_apply (n : FVec Ideal S384x1024 .bf16) (w : Vec Ideal S1024x128 .bf16) (r : Fin 384) (l : Fin 128) :
    (k0_pay2 n w (ix2 r l) : EReal) = ∑ k, n (ix2 r k) * w (ix2 k l) := by
  pointwise [k0_pay2]

theorem key_apply (n : FVec Ideal S384x1024 .bf16) (w : Vec Ideal S1024x512 .bf16) (r : Fin 384) (l : Fin 512) :
    (k0_pay11 n w (ix2 r l) : EReal) = ∑ k, n (ix2 r k) * w (ix2 k l) := by
  pointwise [k0_pay11]

theorem query_apply (n : FVec Ideal S384x1024 .bf16) (w : Vec Ideal S1024x512 .bf16) (r : Fin 384) (l : Fin 512) :
    (k0_pay9 n w (ix2 r l) : EReal) = (∑ k, n (ix2 r k) * w (ix2 k l)) * Ideal.ofBits FTy.f32 0x3DB504F3#32 := by
  pointwise [k0_pay9]

theorem open_apply (n : FVec Ideal S384x1024 .bf16) (w : Vec Ideal S1024x1024 .bf16) (r : Fin 384) (l : Fin 1024) :
    (k0_pay12 n w (ix2 r l) : EReal) = sigm (∑ k, n (ix2 r k) * w (ix2 k l)) := by
  rw [← sigm_tanh]
  pointwise [k0_pay12]

theorem named_cubic : (Named.named (F := Ideal) κ "gelu_cubic" (φ := .f32) 0x3D122279#32 : EReal) =
    ((80338380498831 / 2251799813685248 : ℝ) : EReal) := by
  simp [Named.named, κ]

theorem gate_apply (n : FVec Ideal S384x1024 .bf16) (w : Vec Ideal S1024x1024 .bf16) (r : Fin 384) (l : Fin 1024) :
    (k0_pay10 n w (ix2 r l) : EReal) = gelu (∑ k, n (ix2 r k) * w (ix2 k l)) := by
  rw [← gelu_tanh, ← named_cubic]
  pointwise [k0_pay10]

theorem branch_apply (i : grid0.Coords) (x : Vec Ideal S384x1024 .f32) (mb : Vec Ideal S128x1024 .f32)
    (g : Vec Ideal S1x1024 .f32) (w : Vec Ideal S1024x1024 .bf16) (r : Fin 384) (l : Fin 1024) :
    (k0_pay5 i x mb g w (ix2 r l) : EReal) = ∑ k, k0_pay4 i x mb g (ix2 r k) * w (ix2 k l) := by
  generalize hn : k0_pay4 i x mb g = n
  pointwise [k0_pay5, hn]

/-! ## The convolution -/

theorem tail_apply (i : grid0.Coords) (x : Vec Ideal S384x1024 .f32) (mb : Vec Ideal S128x1024 .f32)
    (g : Vec Ideal S1x1024 .f32) (w : Vec Ideal S1024x1024 .bf16) (r : Fin 8) (l : Fin 1024) :
    (k0_pay7 i x mb g w (ix2 r l) : EReal) = k0_pay5 i x mb g w (ix2 ⟨376 + r.val, by omega⟩ l) := by
  generalize hz : k0_pay5 i x mb g w = z
  pointwise [k0_pay7, hz]

theorem full_past (i : grid0.Coords) (x : Vec Ideal S384x1024 .f32) (mb : Vec Ideal S128x1024 .f32)
    (g : Vec Ideal S1x1024 .f32) (w : Vec Ideal S1024x1024 .bf16) (p : Vec Ideal S8x1024 .f32) (r : Fin 8) (l : Fin 1024) :
    (k0_pay6 i x mb g w p (ix2 ⟨r.val, by omega⟩ l) : EReal) = p (ix2 r l) := by
  generalize hz : k0_pay5 i x mb g w = z
  pointwise [k0_pay6, hz]

theorem full_here (i : grid0.Coords) (x : Vec Ideal S384x1024 .f32) (mb : Vec Ideal S128x1024 .f32)
    (g : Vec Ideal S1x1024 .f32) (w : Vec Ideal S1024x1024 .bf16) (p : Vec Ideal S8x1024 .f32) (r : Fin 384) (l : Fin 1024) :
    (k0_pay6 i x mb g w p (ix2 ⟨8 + r.val, by omega⟩ l) : EReal) = k0_pay5 i x mb g w (ix2 r l) := by
  generalize hz : k0_pay5 i x mb g w = z
  pointwise [k0_pay6, hz]

theorem conv_apply (z : FVec Ideal S384x1024 .f32) (f : FVec Ideal S392x1024 .f32) (b w3 w2 w1 w0 : Vec Ideal S1x1024 .f32)
    (r : Fin 384) (l : Fin 1024) :
    (k0_pay8 z f b w3 w2 w1 w0 (ix2 r l) : EReal) =
      b (ix2 0 l) + w3 (ix2 0 l) * z (ix2 r l) + w2 (ix2 0 l) * f (ix2 ⟨7 + r.val, by omega⟩ l) +
        w1 (ix2 0 l) * f (ix2 ⟨6 + r.val, by omega⟩ l) + w0 (ix2 0 l) * f (ix2 ⟨5 + r.val, by omega⟩ l) := by
  have hr := r.isLt
  have e1 : (⟨(8 + r.val + 392 - 1) % 392, Nat.mod_lt _ (by decide)⟩ : Fin 392) = ⟨7 + r.val, by omega⟩ :=
    Fin.ext (by dsimp only; omega)
  have e2 : (⟨(8 + r.val + 392 - 2) % 392, Nat.mod_lt _ (by decide)⟩ : Fin 392) = ⟨6 + r.val, by omega⟩ :=
    Fin.ext (by dsimp only; omega)
  have e3 : (⟨(8 + r.val + 392 - 3) % 392, Nat.mod_lt _ (by decide)⟩ : Fin 392) = ⟨5 + r.val, by omega⟩ :=
    Fin.ext (by dsimp only; omega)
  rw [← e1, ← e2, ← e3]
  pointwise [k0_pay8]

/-! ## The buffers the host prepared -/

variable (m : (ℓ : Loc nD τ sig) → Buf (Elt Ideal) ℓ)

theorem input_apply (c : Dev nD) (r : Fin 32768) (l : Fin 1024) :
    V m c main_v0 (ix2 r l) =
      m (c.tc.loc main_arg0) (ix3 (⟨r.val / 4096, by omega⟩ : Fin 8) (⟨r.val % 4096, by omega⟩ : Fin 4096) l) := by
  unfold V hostOps0 hostOps0_1 hostOps0_2 hostOps0_3 hostOps0_4
  simp only [List.flatten_cons, List.flatten_nil, List.append_nil, List.cons_append, List.nil_append]
  entry_read
  pointwise

theorem zeros_apply (c : Dev nD) (r : Fin 112) (l : Fin 1024) :
    V m c main_v2 (ix2 ⟨r.val, by omega⟩ l) = (0 : EReal) := by
  unfold V hostOps0 hostOps0_1 hostOps0_2 hostOps0_3 hostOps0_4
  simp only [List.flatten_cons, List.flatten_nil, List.append_nil, List.cons_append, List.nil_append]
  entry_read
  pointwise

theorem lead_apply (c : Dev nD) (r : Fin 16) (l : Fin 1024) :
    V m c main_v2 (ix2 ⟨112 + r.val, by omega⟩ l) = m (c.tc.loc main_arg1) (ix2 r l) := by
  unfold V hostOps0 hostOps0_1 hostOps0_2 hostOps0_3 hostOps0_4
  simp only [List.flatten_cons, List.flatten_nil, List.append_nil, List.cons_append, List.nil_append]
  entry_read
  pointwise

theorem scale_apply (c : Dev nD) (l : Fin 1024) : V m c main_v18 (ix2 0 l) = m (c.tc.loc main_arg2) (ix2 0 l) := by
  unfold V hostOps0 hostOps0_1 hostOps0_2 hostOps0_3 hostOps0_4
  simp only [List.flatten_cons, List.flatten_nil, List.append_nil, List.cons_append, List.nil_append]
  entry_read
  pointwise

theorem taps_apply (c : Dev nD) (k : Fin 4) (l : Fin 1024) :
    V m c main_v19 (ix2 k l) = m (c.tc.loc main_arg5) (ix3 0 k l) := by
  unfold V hostOps0 hostOps0_1 hostOps0_2 hostOps0_3 hostOps0_4
  simp only [List.flatten_cons, List.flatten_nil, List.append_nil, List.cons_append, List.nil_append]
  entry_read
  pointwise

theorem bias_apply (c : Dev nD) (l : Fin 1024) : V m c main_v21 (ix2 0 l) = m (c.tc.loc main_arg6) (ix2 0 l) := by
  unfold V hostOps0 hostOps0_1 hostOps0_2 hostOps0_3 hostOps0_4
  simp only [List.flatten_cons, List.flatten_nil, List.append_nil, List.cons_append, List.nil_append]
  entry_read
  pointwise

/-- What the buffers hold once the seven groups of columns stand in buffers of their own. -/
noncomputable def mid (c : Dev nD) : Valuation τ sig (Elt Ideal) :=
  StableHlo.after (hostOps0 ++ hostOps0_1) (fun b => m (c, b))

theorem join_eq (c : Dev nD) : V m c main_v14 =
    (truncf .bf16 (concatenate S1024x5248 1 [⟨S1024x512, (mid m c (Proc.tc.devRef main_v5) : FVec Ideal S1024x512 .f32)⟩,
      ⟨S1024x512, (mid m c (Proc.tc.devRef main_v6) : FVec Ideal S1024x512 .f32)⟩,
      ⟨S1024x1024, (mid m c (Proc.tc.devRef main_v7) : FVec Ideal S1024x1024 .f32)⟩,
      ⟨S1024x1024, (mid m c (Proc.tc.devRef main_v8) : FVec Ideal S1024x1024 .f32)⟩,
      ⟨S1024x128, (mid m c (Proc.tc.devRef main_v12) : FVec Ideal S1024x128 .f32)⟩,
      ⟨S1024x1024, (mid m c (Proc.tc.devRef main_v10) : FVec Ideal S1024x1024 .f32)⟩,
      ⟨S1024x1024, (mid m c (Proc.tc.devRef main_v11) : FVec Ideal S1024x1024 .f32)⟩]
      concatenates_S1024x512_S1024x512_S1024x1024_S1024x1024_S1024x128_S1024x1024_S1024x1024_S1024x5248_d1) bitsLt_bf16_f32 :
      FVec Ideal S1024x5248 .bf16) := by
  show StableHlo.after (hostOps0_2 ++ hostOps0_3 ++ hostOps0_4) (mid m c) (Proc.tc.devRef main_v14) = _
  generalize mid m c = W
  unfold hostOps0_2 hostOps0_3 hostOps0_4
  simp only [List.append_nil, List.cons_append, List.nil_append]
  entry_read
  rfl

theorem mid5 (c : Dev nD) (k : Fin 1024) (l : Fin 512) :
    mid m c (Proc.tc.devRef main_v5) (ix2 k l) = m (c.tc.loc main_arg3) (ix3 0 k ⟨0 + l.val, by omega⟩) := by
  unfold mid hostOps0 hostOps0_1
  simp only [List.append_nil, List.cons_append, List.nil_append]
  entry_read
  pointwise

theorem mid6 (c : Dev nD) (k : Fin 1024) (l : Fin 512) :
    mid m c (Proc.tc.devRef main_v6) (ix2 k l) = m (c.tc.loc main_arg3) (ix3 0 k ⟨512 + l.val, by omega⟩) := by
  unfold mid hostOps0 hostOps0_1
  simp only [List.append_nil, List.cons_append, List.nil_append]
  entry_read
  pointwise

theorem mid7 (c : Dev nD) (k : Fin 1024) (l : Fin 1024) :
    mid m c (Proc.tc.devRef main_v7) (ix2 k l) = m (c.tc.loc main_arg3) (ix3 0 k ⟨1024 + l.val, by omega⟩) := by
  unfold mid hostOps0 hostOps0_1
  simp only [List.append_nil, List.cons_append, List.nil_append]
  entry_read
  pointwise

theorem mid8 (c : Dev nD) (k : Fin 1024) (l : Fin 1024) :
    mid m c (Proc.tc.devRef main_v8) (ix2 k l) = m (c.tc.loc main_arg3) (ix3 0 k ⟨2048 + l.val, by omega⟩) := by
  unfold mid hostOps0 hostOps0_1
  simp only [List.append_nil, List.cons_append, List.nil_append]
  entry_read
  pointwise

theorem mid10 (c : Dev nD) (k : Fin 1024) (l : Fin 1024) :
    mid m c (Proc.tc.devRef main_v10) (ix2 k l) = m (c.tc.loc main_arg3) (ix3 0 k ⟨3080 + l.val, by omega⟩) := by
  unfold mid hostOps0 hostOps0_1
  simp only [List.append_nil, List.cons_append, List.nil_append]
  entry_read
  pointwise

theorem mid11 (c : Dev nD) (k : Fin 1024) (l : Fin 1024) :
    mid m c (Proc.tc.devRef main_v11) (ix2 k l) = m (c.tc.loc main_arg3) (ix3 0 k ⟨4104 + l.val, by omega⟩) := by
  unfold mid hostOps0 hostOps0_1
  simp only [List.append_nil, List.cons_append, List.nil_append]
  entry_read
  pointwise

theorem widen_apply (x : FVec Ideal S1024x8 .f32) (v : FVec Ideal S_ .f32) (k : Fin 1024) (l : Fin 128) :
    pad S1024x128 ![0, 0] ![0, 120] ![0, 0] x v pads_S1024x8_S1024x128_000_01200 h_S_ (ix2 k l) =
      if h : l.val < 8 then x (ix2 k ⟨l.val, h⟩) else v (Shape.Idx.first h_S_) := by
  pointwise

/-- What the buffers hold before the two gates' columns are widened. -/
noncomputable def early (c : Dev nD) : Valuation τ sig (Elt Ideal) :=
  StableHlo.after hostOps0 (fun b => m (c, b))

theorem mid12_eq (c : Dev nD) : mid m c (Proc.tc.devRef main_v12) =
    (pad S1024x128 ![0, 0] ![0, 120] ![0, 0] (early m c (Proc.tc.devRef main_v9) : FVec Ideal S1024x8 .f32)
      (sitofp .f32 (early m c (Proc.tc.devRef main_c) : IVec S_ 32)) pads_S1024x8_S1024x128_000_01200 h_S_ :
      FVec Ideal S1024x128 .f32) := by
  show StableHlo.after hostOps0_1 (early m c) (Proc.tc.devRef main_v12) = _
  generalize early m c = W
  unfold hostOps0_1
  entry_read
  rfl

theorem early9 (c : Dev nD) (k : Fin 1024) (l : Fin 8) :
    early m c (Proc.tc.devRef main_v9) (ix2 k l) = m (c.tc.loc main_arg3) (ix3 0 k ⟨3072 + l.val, by omega⟩) := by
  unfold early hostOps0
  entry_read
  pointwise

theorem earlyc (c : Dev nD) : early m c (Proc.tc.devRef main_c) = constantI S_ 32 0#32 := by
  unfold early hostOps0
  entry_read
  rfl

theorem mid12 (c : Dev nD) (k : Fin 1024) (l : Fin 128) :
    mid m c (Proc.tc.devRef main_v12) (ix2 k l) =
      if h : l.val < 8 then m (c.tc.loc main_arg3) (ix3 0 k ⟨3072 + l.val, by omega⟩) else (0 : EReal) := by
  rw [mid12_eq, widen_apply, earlyc]
  by_cases h : l.val < 8
  · rw [dif_pos h, dif_pos h]
    exact early9 m c k ⟨l.val, h⟩
  · rw [dif_neg h, dif_neg h]
    show ((((0#32).toInt : ℝ)) : EReal) = 0
    simp

theorem query_col (c : Dev nD) (k : Fin 1024) (l : Fin 512) :
    V m c main_v14 (ix2 k ⟨0 + l.val, by omega⟩) = m (c.tc.loc main_arg3) (ix3 0 k ⟨0 + l.val, by omega⟩) := by
  refine Eq.trans ?_ (mid5 m c k l)
  rw [join_eq]
  generalize mid m c = W
  pointwise
  all_goals split_ifs <;> first | (exfalso; omega) | exact congrArg _ (congrArg (ix2 k) (Fin.ext (by dsimp only; omega)))

theorem key_col (c : Dev nD) (k : Fin 1024) (l : Fin 512) :
    V m c main_v14 (ix2 k ⟨512 + l.val, by omega⟩) = m (c.tc.loc main_arg3) (ix3 0 k ⟨512 + l.val, by omega⟩) := by
  refine Eq.trans ?_ (mid6 m c k l)
  rw [join_eq]
  generalize mid m c = W
  pointwise
  all_goals split_ifs <;> first | (exfalso; omega) | exact congrArg _ (congrArg (ix2 k) (Fin.ext (by dsimp only; omega)))

theorem value_col (c : Dev nD) (k : Fin 1024) (l : Fin 1024) :
    V m c main_v14 (ix2 k ⟨1024 + l.val, by omega⟩) = m (c.tc.loc main_arg3) (ix3 0 k ⟨1024 + l.val, by omega⟩) := by
  refine Eq.trans ?_ (mid7 m c k l)
  rw [join_eq]
  generalize mid m c = W
  pointwise
  all_goals split_ifs <;> first | (exfalso; omega) | exact congrArg _ (congrArg (ix2 k) (Fin.ext (by dsimp only; omega)))

theorem open_col (c : Dev nD) (k : Fin 1024) (l : Fin 1024) :
    V m c main_v14 (ix2 k ⟨2048 + l.val, by omega⟩) = m (c.tc.loc main_arg3) (ix3 0 k ⟨2048 + l.val, by omega⟩) := by
  refine Eq.trans ?_ (mid8 m c k l)
  rw [join_eq]
  generalize mid m c = W
  pointwise
  all_goals split_ifs <;> first | (exfalso; omega) | exact congrArg _ (congrArg (ix2 k) (Fin.ext (by dsimp only; omega)))

theorem bits_col (c : Dev nD) (k : Fin 1024) (l : Fin 128) :
    V m c main_v14 (ix2 k ⟨3072 + l.val, by omega⟩) =
      if h : l.val < 8 then m (c.tc.loc main_arg3) (ix3 0 k ⟨3072 + l.val, by omega⟩) else (0 : EReal) := by
  refine Eq.trans ?_ (mid12 m c k l)
  rw [join_eq]
  generalize mid m c = W
  pointwise
  all_goals split_ifs <;> first | (exfalso; omega) | exact congrArg _ (congrArg (ix2 k) (Fin.ext (by dsimp only; omega)))

theorem branch_col (c : Dev nD) (k : Fin 1024) (l : Fin 1024) :
    V m c main_v14 (ix2 k ⟨3200 + l.val, by omega⟩) = m (c.tc.loc main_arg3) (ix3 0 k ⟨3080 + l.val, by omega⟩) := by
  refine Eq.trans ?_ (mid10 m c k l)
  rw [join_eq]
  generalize mid m c = W
  pointwise
  all_goals split_ifs <;> first | (exfalso; omega) | exact congrArg _ (congrArg (ix2 k) (Fin.ext (by dsimp only; omega)))

theorem gate_col (c : Dev nD) (k : Fin 1024) (l : Fin 1024) :
    V m c main_v14 (ix2 k ⟨4224 + l.val, by omega⟩) = m (c.tc.loc main_arg3) (ix3 0 k ⟨4104 + l.val, by omega⟩) := by
  refine Eq.trans ?_ (mid11 m c k l)
  rw [join_eq]
  generalize mid m c = W
  pointwise
  all_goals split_ifs <;> first | (exfalso; omega) | exact congrArg _ (congrArg (ix2 k) (Fin.ext (by dsimp only; omega)))

/-! ## The blocks -/

/-- The row of the input at which point `t`'s block starts. -/
abbrev start (t : Fin cfg0.N) : ℕ := t.val / 11 * 4096 + (t.val % 11 * 384 - 128)

theorem start_lt (t : Fin cfg0.N) (r : Fin 384) : start t + r.val < 32768 := by
  have : t.val < 88 := t.isLt
  have := r.isLt
  unfold start
  omega

theorem row_lt (t : Fin cfg0.N) (r : Fin 384) : t.val * 384 + r.val < 33792 := by
  have : t.val < 88 := t.isLt
  have := r.isLt
  omega

theorem coord1 : ∀ t : Fin cfg0.N, (grid0.coords t 1).val = t.val % 11 :=
  (by decide +kernel : ∀ t : Fin grid0.N, (grid0.coords t 1).val = t.val % 11)

theorem index0 : ∀ t : Fin cfg0.N, win0_0.index t = ![start t, 0] :=
  (by decide +kernel : ∀ t : Fin grid0.N, win0_0.index t = ![t.val / 11 * 4096 + (t.val % 11 * 384 - 128), 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem blk0_apply (c : Dev nD) (t : Fin cfg0.N) (r : Fin 384) (l : Fin 1024) :
    iblk m c 0 t (ix2 r l) = V m c main_v0 (ix2 ⟨start t + r.val, start_lt t r⟩ l) := by
  unfold iblk
  rw [View.read_apply]
  show V m c main_v0 _ = _
  refine congrArg _ (funext fun a => Fin.ext ?_)
  show ((win0_0.rect t).emb (ix2 r l) a : ℕ) = _
  rw [win0_0.rect_emb_val_off, index0]
  fin_cases a <;> simp [Pipeline.WinKind.off]

theorem blk1_apply (c : Dev nD) (t : Fin cfg0.N) (r : Fin 128) (l : Fin 1024) :
    iblk m c 1 t (ix2 r l) = V m c main_v2 (ix2 r l) := by
  unfold iblk
  rw [View.read_apply]
  show V m c main_v2 _ = _
  refine congrArg _ (funext fun a => Fin.ext ?_)
  show ((win0_1.rect t).emb (ix2 r l) a : ℕ) = _
  rw [win0_1.rect_emb_val_off, index1]
  fin_cases a <;> simp [Pipeline.WinKind.off]

theorem blk2_apply (c : Dev nD) (t : Fin cfg0.N) (l : Fin 1024) :
    iblk m c 2 t (ix2 0 l) = m (c.tc.loc main_arg2) (ix2 0 l) := by
  refine Eq.trans ?_ (scale_apply m c l)
  unfold iblk
  rw [View.read_apply]
  show V m c main_v18 _ = _
  refine congrArg _ (funext fun a => Fin.ext ?_)
  show ((win0_2.rect t).emb (ix2 0 l) a : ℕ) = _
  rw [win0_2.rect_emb_val_off, index2]
  fin_cases a <;> simp [Pipeline.WinKind.off]

theorem blk3_apply (c : Dev nD) (t : Fin cfg0.N) (k : Fin 1024) (l : Fin 5248) :
    iblk m c 3 t (ix2 k l) = V m c main_v14 (ix2 k l) := by
  unfold iblk
  rw [View.read_apply]
  show V m c main_v14 _ = _
  refine congrArg _ (funext fun a => Fin.ext ?_)
  show ((win0_3.rect t).emb (ix2 k l) a : ℕ) = _
  rw [win0_3.rect_emb_val_off, index3]
  fin_cases a <;> simp [Pipeline.WinKind.off]

theorem blk4_apply (c : Dev nD) (t : Fin cfg0.N) (k : Fin 4) (l : Fin 1024) :
    iblk m c 4 t (ix2 k l) = m (c.tc.loc main_arg5) (ix3 0 k l) := by
  refine Eq.trans ?_ (taps_apply m c k l)
  unfold iblk
  rw [View.read_apply]
  show V m c main_v19 _ = _
  refine congrArg _ (funext fun a => Fin.ext ?_)
  show ((win0_4.rect t).emb (ix2 k l) a : ℕ) = _
  rw [win0_4.rect_emb_val_off, index4]
  fin_cases a <;> simp [Pipeline.WinKind.off]

theorem blk5_apply (c : Dev nD) (t : Fin cfg0.N) (l : Fin 1024) :
    iblk m c 5 t (ix2 0 l) = m (c.tc.loc main_arg6) (ix2 0 l) := by
  refine Eq.trans ?_ (bias_apply m c l)
  unfold iblk
  rw [View.read_apply]
  show V m c main_v21 _ = _
  refine congrArg _ (funext fun a => Fin.ext ?_)
  show ((win0_5.rect t).emb (ix2 0 l) a : ℕ) = _
  rw [win0_5.rect_emb_val_off, index5]
  fin_cases a <;> simp [Pipeline.WinKind.off]

/-- A group of columns of the projection, at an entry. -/
theorem cols_apply {n o : ℕ} (x : Vec Ideal S1024x5248 .bf16)
    (inb : ∀ a : Fin 2, (![0, o] : Fin 2 → ℕ) a + (![1024, n] : Fin 2 → ℕ) a ≤ S1024x5248.size a)
    (k : Fin 1024) (l : Fin n) (h : o + l.val < 5248) :
    View.ld x (Rect.unit (s := S1024x5248) ![0, o] ![1024, n] inb) (ix2 k l) = x (ix2 k ⟨o + l.val, h⟩) := by
  refine View.ld_unit_apply_of _ _ _ _ _ _ fun a => ?_
  fin_cases a <;> simp

/-- One of the four taps, at an entry. -/
theorem tap_apply {o : ℕ} (x : Vec Ideal S4x1024 .f32)
    (inb : ∀ a : Fin 2, (![o, 0] : Fin 2 → ℕ) a + (![1, 1024] : Fin 2 → ℕ) a ≤ S4x1024.size a) (l : Fin 1024) (h : o < 4) :
    View.ld x (Rect.unit (s := S4x1024) ![o, 0] ![1, 1024] inb) (ix2 0 l) = x (ix2 ⟨o, h⟩ l) := by
  refine View.ld_unit_apply_of _ _ _ _ _ _ fun a => ?_
  fin_cases a <;> simp

end Cert.Kernel3Ideal.Even
-- ==== Proof.Even.In.lean ====
module

public import proofs.«01_k».proof.Proof.Even.Blocks
public import Idealize.ShloMosaic.Lib.Pipeline.ValueKit

@[expose] public section

set_option maxRecDepth 16384

noncomputable section

/-! # The even layer's input call, run on the whole input

What each of the seven result arrays holds after all 88 points, a row of the padded input at a time. -/

namespace Cert.Kernel3Ideal.Even

open Cert.Kernel3Ideal Cert.Kernel3Ideal.Gen Cert.Mlp Cert.Even
open Idealize.ShloMosaic Idealize.ShloMosaic.TcCoe

variable (m : (ℓ : Loc nD τ sig) → Buf (Elt Ideal) ℓ)

/-! ## The rows of a point are rows of the padded input -/

theorem ix3_congr {p q s : ℕ} {a a' : Fin p} {b b' : Fin q} {d d' : Fin s} (ha : a = a') (hb : b = b') (hd : d = d') :
    ix3 a b d = ix3 a' b' d' := by
  rw [ha, hb, hd]

/-- Row `r` of the padded input. -/
def inputRow (c : Dev nD) (r : Fin 33792) (j : Fin 1024) : EReal :=
  padInput (fun k j => m (c.tc.loc main_arg1) (ix2 k j))
    (fun k j => m (c.tc.loc main_arg0) (ix3 (⟨r.val / 4224, by omega⟩ : Fin 8) k j)) (r.val % 4224) (by omega) j

theorem rows_apply (c : Dev nD) (t : Fin cfg0.N) (r : Fin 384) (l : Fin 1024) :
    rows (grid0.coords t) (iblk m c 0 t) (iblk m c 1 t) (ix2 r l) = inputRow m c ⟨t.val * 384 + r.val, row_lt t r⟩ l := by
  have ht : t.val < 88 := t.isLt
  have hr := r.isLt
  unfold inputRow padInput
  by_cases h0 : t.val % 11 = 0
  · have hi : (grid0.coords t 1).val = 0 := (coord1 t).trans h0
    by_cases h1 : r.val < 112
    · rw [dif_pos (show (t.val * 384 + r.val) % 4224 < 112 by omega)]
      exact (rows_lead _ hi _ _ ⟨r.val, by omega⟩ l).trans ((blk1_apply m c t _ l).trans (zeros_apply m c ⟨r.val, h1⟩ l))
    · by_cases h2 : r.val < 128
      · rw [dif_neg (show ¬(t.val * 384 + r.val) % 4224 < 112 by omega),
          dif_pos (show (t.val * 384 + r.val) % 4224 < 128 by omega)]
        refine (rows_lead _ hi _ _ ⟨r.val, h2⟩ l).trans ((blk1_apply m c t _ l).trans ?_)
        have := lead_apply m c ⟨r.val - 112, by omega⟩ l
        have e : (⟨112 + (r.val - 112), by omega⟩ : Fin 128) = ⟨r.val, h2⟩ := Fin.ext (by dsimp only; omega)
        rw [e] at this
        refine this.trans (congrArg (fun k => m (c.tc.loc main_arg1) (ix2 k l)) (Fin.ext ?_))
        dsimp only
        omega
      · rw [dif_neg (show ¬(t.val * 384 + r.val) % 4224 < 112 by omega),
          dif_neg (show ¬(t.val * 384 + r.val) % 4224 < 128 by omega)]
        have := rows_rest _ hi (iblk m c 0 t) (iblk m c 1 t) ⟨r.val - 128, by omega⟩ l
        have e : (⟨128 + (r.val - 128), by omega⟩ : Fin 384) = r := Fin.ext (by dsimp only; omega)
        rw [e] at this
        refine this.trans ((blk0_apply m c t _ l).trans ((input_apply m c _ l).trans ?_))
        refine congrArg (m (c.tc.loc main_arg0)) (ix3_congr (Fin.ext ?_) (Fin.ext ?_) rfl) <;> dsimp only [start] <;> omega
  · have hi : (grid0.coords t 1).val ≠ 0 := fun h => h0 ((coord1 t).symm.trans h)
    rw [dif_neg (show ¬(t.val * 384 + r.val) % 4224 < 112 by omega),
      dif_neg (show ¬(t.val * 384 + r.val) % 4224 < 128 by omega)]
    have e1 : (t.val * 384 + r.val) / 4224 = t.val / 11 := by omega
    have e2 : (t.val * 384 + r.val) % 4224 = t.val % 11 * 384 + r.val := by omega
    refine (rows_later _ hi _ _ r l).trans ((blk0_apply m c t r l).trans ((input_apply m c _ l).trans ?_))
    refine congrArg (m (c.tc.loc main_arg0)) (ix3_congr (Fin.ext ?_) (Fin.ext ?_) rfl) <;> dsimp only [start] <;>
      (first | rw [e1] | rw [e2]) <;> omega

/-! ## The products of a row -/

/-- Row `r` of the padded input, normalised, against column `j` of the projection. -/
def proj (c : Dev nD) (r : Fin 33792) (j : Fin 5128) : EReal :=
  projRow (inputRow m c r) (fun i => m (c.tc.loc main_arg2) (ix2 0 i)) fun k => m (c.tc.loc main_arg3) (ix3 0 k j)

/-- The rows of point `t`, normalised. -/
abbrev normed (c : Dev nD) (t : Fin cfg0.N) : FVec Ideal S384x1024 .bf16 :=
  k0_pay4 (grid0.coords t) (iblk m c 0 t) (iblk m c 1 t) (iblk m c 2 t)

theorem normed_apply (c : Dev nD) (t : Fin cfg0.N) (r : Fin 384) (k : Fin 1024) :
    normed m c t (ix2 r k) = normRow (inputRow m c ⟨t.val * 384 + r.val, row_lt t r⟩)
      (fun i => m (c.tc.loc main_arg2) (ix2 0 i)) k := by
  unfold normed
  rw [scaled_stages, scaled_apply]
  simp only [rows_apply, blk2_apply]

/-- The products of a point's rows with a column that is one of the projection's. -/
theorem product_eq (c : Dev nD) (t : Fin cfg0.N) (r : Fin 384) (j : Fin 5128) (w : Fin 1024 → EReal)
    (hw : ∀ k, w k = m (c.tc.loc main_arg3) (ix3 0 k j)) :
    ∑ k, normed m c t (ix2 r k) * w k = proj m c ⟨t.val * 384 + r.val, row_lt t r⟩ j := by
  unfold proj projRow
  exact Finset.sum_congr rfl fun k _ => by rw [normed_apply, hw]

/-- The columns a point loads, `n` of them from column `o` on. -/
abbrev cols (c : Dev nD) (t : Fin cfg0.N) {n : ℕ} (o : ℕ)
    (inb : ∀ a : Fin 2, (![0, o] : Fin 2 → ℕ) a + (![1024, n] : Fin 2 → ℕ) a ≤ S1024x5248.size a) :
    Vec Ideal ⟨2, ![1024, n]⟩ .bf16 :=
  View.ld (iblk m c 3 t) (Rect.unit (s := S1024x5248) ![0, o] ![1024, n] inb)

theorem cols_eq (c : Dev nD) (t : Fin cfg0.N) {n o : ℕ}
    (inb : ∀ a : Fin 2, (![0, o] : Fin 2 → ℕ) a + (![1024, n] : Fin 2 → ℕ) a ≤ S1024x5248.size a)
    (k : Fin 1024) (l : Fin n) (h : o + l.val < 5248) :
    cols m c t o inb (ix2 k l) = V m c main_v14 (ix2 k ⟨o + l.val, h⟩) :=
  (cols_apply _ inb k l h).trans (blk3_apply m c t k _)

/-! ## What a point leaves in each output -/

theorem query_out (c : Dev nD) (t : Fin cfg0.N) :
    (outsAt0 m c t.val t.isLt).1 = k0_pay9 (normed m c t) (cols m c t 0 inb_S1024x5248_S1024x512_0_0) := by
  by_cases h0 : t.val % 11 = 0
  · rw [outsAt0_A m c t h0]; dsimp only; frame_out; rfl
  · rw [outsAt0_B m c t h0]; dsimp only; frame_out; rfl

theorem key_out (c : Dev nD) (t : Fin cfg0.N) :
    (outsAt0 m c t.val t.isLt).2.1 = k0_pay11 (normed m c t) (cols m c t 512 inb_S1024x5248_S1024x512_0_512) := by
  by_cases h0 : t.val % 11 = 0
  · rw [outsAt0_A m c t h0]; dsimp only; frame_out; rfl
  · rw [outsAt0_B m c t h0]; dsimp only; frame_out; rfl

theorem value_out (c : Dev nD) (t : Fin cfg0.N) :
    (outsAt0 m c t.val t.isLt).2.2.1 = k0_pay1 (normed m c t) (cols m c t 1024 inb_S1024x5248_S1024x1024_0_1024) := by
  by_cases h0 : t.val % 11 = 0
  · rw [outsAt0_A m c t h0]; dsimp only; frame_out; rfl
  · rw [outsAt0_B m c t h0]; dsimp only; frame_out; rfl

theorem open_out (c : Dev nD) (t : Fin cfg0.N) :
    (outsAt0 m c t.val t.isLt).2.2.2.1 = k0_pay12 (normed m c t) (cols m c t 2048 inb_S1024x5248_S1024x1024_0_2048) := by
  by_cases h0 : t.val % 11 = 0
  · rw [outsAt0_A m c t h0]; dsimp only; frame_out; rfl
  · rw [outsAt0_B m c t h0]; dsimp only; frame_out; rfl

theorem bits_out (c : Dev nD) (t : Fin cfg0.N) :
    (outsAt0 m c t.val t.isLt).2.2.2.2.1 = k0_pay2 (normed m c t) (cols m c t 3072 inb_S1024x5248_S1024x128_0_3072) := by
  by_cases h0 : t.val % 11 = 0
  · rw [outsAt0_A m c t h0]; dsimp only; frame_out; rfl
  · rw [outsAt0_B m c t h0]; dsimp only; frame_out; rfl

theorem gate_out (c : Dev nD) (t : Fin cfg0.N) :
    (outsAt0 m c t.val t.isLt).2.2.2.2.2.2.1 = k0_pay10 (normed m c t) (cols m c t 4224 inb_S1024x5248_S1024x1024_0_4224) := by
  by_cases h0 : t.val % 11 = 0
  · rw [outsAt0_A m c t h0]; dsimp only; frame_out; rfl
  · rw [outsAt0_B m c t h0]; dsimp only; frame_out; rfl

/-- The products a point convolves. -/
abbrev branch (c : Dev nD) (t : Fin cfg0.N) : FVec Ideal S384x1024 .f32 :=
  k0_pay5 (grid0.coords t) (iblk m c 0 t) (iblk m c 1 t) (iblk m c 2 t) (cols m c t 3200 inb_S1024x5248_S1024x1024_0_3200)

/-- What a point keeps in scratch for the next: the last eight rows of those products. -/
theorem past_out (c : Dev nD) (t : Fin cfg0.N) :
    (outsAt0 m c t.val t.isLt).2.2.2.2.2.2.2 = k0_pay7 (grid0.coords t) (iblk m c 0 t) (iblk m c 1 t) (iblk m c 2 t)
      (cols m c t 3200 inb_S1024x5248_S1024x1024_0_3200) := by
  by_cases h0 : t.val % 11 = 0
  · rw [outsAt0_A m c t h0]; dsimp only; frame_out; rfl
  · rw [outsAt0_B m c t h0]; dsimp only; frame_out; rfl

/-- One of the four taps, as a point loads it. -/
abbrev tap (c : Dev nD) (t : Fin cfg0.N) (o : ℕ)
    (inb : ∀ a : Fin 2, (![o, 0] : Fin 2 → ℕ) a + (![1, 1024] : Fin 2 → ℕ) a ≤ S4x1024.size a) : Vec Ideal S1x1024 .f32 :=
  View.ld (iblk m c 4 t) (Rect.unit (s := S4x1024) ![o, 0] ![1, 1024] inb)

/-- The convolution of a point, given the eight rows before it. -/
abbrev convolved (c : Dev nD) (t : Fin cfg0.N) (p : Vec Ideal S8x1024 .f32) : Vec Ideal S384x1024 .bf16 :=
  k0_pay8 (branch m c t)
    (k0_pay6 (grid0.coords t) (iblk m c 0 t) (iblk m c 1 t) (iblk m c 2 t)
      (cols m c t 3200 inb_S1024x5248_S1024x1024_0_3200) p)
    (iblk m c 5 t) (tap m c t 3 inb_S4x1024_S1x1024_3_0) (tap m c t 2 inb_S4x1024_S1x1024_2_0)
    (tap m c t 1 inb_S4x1024_S1x1024_1_0) (tap m c t 0 inb_S4x1024_S1x1024_0_0)

theorem conv_first (c : Dev nD) (t : Fin cfg0.N) (h0 : t.val % 11 = 0) :
    (outsAt0 m c t.val t.isLt).2.2.2.2.2.1 = convolved m c t (k0_pay3 (F := Ideal)) := by
  rw [outsAt0_A m c t h0]; dsimp only; frame_out; rfl

theorem conv_later (c : Dev nD) (t : Fin cfg0.N) (h0 : ¬t.val % 11 = 0) :
    (outsAt0 m c t.val t.isLt).2.2.2.2.2.1 = convolved m c t
      (outsAt0 m c (t.val - 1) (Nat.lt_of_le_of_lt (Nat.sub_le _ _) t.isLt)).2.2.2.2.2.2.2 := by
  rw [outsAt0_B m c t h0]; dsimp only; frame_out
  simp only [read_unread_whole]
  rfl

/-! ## The convolved products along a sequence -/

/-- Column `l` of the convolved group along sequence `q`. -/
def seq (c : Dev nD) (q : Fin 8) (l : Fin 1024) (s : Fin 4224) : EReal :=
  proj m c ⟨q.val * 4224 + s.val, by omega⟩ ⟨3080 + l.val, by omega⟩

theorem branch_val (c : Dev nD) (t : Fin cfg0.N) (r : Fin 384) (l : Fin 1024) :
    (branch m c t (ix2 r l) : EReal) = proj m c ⟨t.val * 384 + r.val, row_lt t r⟩ ⟨3080 + l.val, by omega⟩ :=
  (branch_apply _ _ _ _ _ r l).trans (product_eq m c t r _ _ fun k => (cols_eq m c t _ k l (by omega)).trans (branch_col m c k l))

/-- What a point that is not a sequence's first finds in scratch: the eight rows before its own. -/
theorem past_val (c : Dev nD) (t : Fin cfg0.N) (h0 : ¬t.val % 11 = 0) (s : Fin 8) (l : Fin 1024) :
    ((outsAt0 m c (t.val - 1) (Nat.lt_of_le_of_lt (Nat.sub_le _ _) t.isLt)).2.2.2.2.2.2.2 (ix2 s l) : EReal) =
      proj m c ⟨t.val * 384 - 8 + s.val, by have : t.val < 88 := t.isLt; omega⟩ ⟨3080 + l.val, by omega⟩ := by
  have ht : t.val < 88 := t.isLt
  have hs := s.isLt
  refine (congrFun (past_out m c ⟨t.val - 1, Nat.lt_of_le_of_lt (Nat.sub_le _ _) t.isLt⟩) (ix2 s l)).trans ?_
  refine (tail_apply _ _ _ _ _ s l).trans ((branch_val m c _ _ l).trans ?_)
  refine congrArg (fun i => proj m c i _) (Fin.ext ?_)
  dsimp only
  omega

/-- The joined rows `d` places before row `r` are the sequence's, zero before its start. -/
theorem lag_eq (c : Dev nD) (t : Fin cfg0.N) (p : Vec Ideal S8x1024 .f32) (l : Fin 1024)
    (hz : t.val % 11 = 0 → ∀ s : Fin 8, (p (ix2 s l) : EReal) = 0)
    (hp : ¬t.val % 11 = 0 → ∀ s : Fin 8, (p (ix2 s l) : EReal) =
      proj m c ⟨t.val * 384 - 8 + s.val, by have : t.val < 88 := t.isLt; omega⟩ ⟨3080 + l.val, by omega⟩)
    (d : ℕ) (hd : d ≤ 8) (r : Fin 384) (q : Fin 8) (s : Fin 4224) (hq : q.val = t.val / 11) (hs : s.val = t.val % 11 * 384 + r.val) :
    (k0_pay6 (grid0.coords t) (iblk m c 0 t) (iblk m c 1 t) (iblk m c 2 t)
      (cols m c t 3200 inb_S1024x5248_S1024x1024_0_3200) p (ix2 ⟨8 - d + r.val, by omega⟩ l) : EReal) = lag (seq m c q l) s d := by
  have ht : t.val < 88 := t.isLt
  have hr := r.isLt
  unfold lag
  by_cases hrd : d ≤ r.val
  · have e : (⟨8 - d + r.val, by omega⟩ : Fin 392) = ⟨8 + (⟨r.val - d, by omega⟩ : Fin 384).val, by dsimp only; omega⟩ :=
      Fin.ext (by dsimp only; omega)
    rw [e, dif_pos (by omega)]
    refine (full_here _ _ _ _ _ p _ l).trans ((branch_val m c t _ l).trans ?_)
    unfold seq
    refine congrArg (fun i => proj m c i _) (Fin.ext ?_)
    dsimp only
    omega
  · have e : (⟨8 - d + r.val, by omega⟩ : Fin 392) = ⟨(⟨8 - d + r.val, by omega⟩ : Fin 8).val, by dsimp only; omega⟩ := rfl
    rw [e]
    refine (full_past _ _ _ _ _ p _ l).trans ?_
    by_cases h0 : t.val % 11 = 0
    · rw [dif_neg (by omega)]
      exact hz h0 _
    · rw [dif_pos (by omega)]
      refine (hp h0 _).trans ?_
      unfold seq
      refine congrArg (fun i => proj m c i _) (Fin.ext ?_)
      dsimp only
      omega

/-- The convolution at one entry, from the scratch's rows. -/
theorem convolved_val (c : Dev nD) (t : Fin cfg0.N) (p : Vec Ideal S8x1024 .f32) (l : Fin 1024)
    (hz : t.val % 11 = 0 → ∀ s : Fin 8, (p (ix2 s l) : EReal) = 0)
    (hp : ¬t.val % 11 = 0 → ∀ s : Fin 8, (p (ix2 s l) : EReal) =
      proj m c ⟨t.val * 384 - 8 + s.val, by have : t.val < 88 := t.isLt; omega⟩ ⟨3080 + l.val, by omega⟩)
    (r : Fin 384) (q : Fin 8) (s : Fin 4224) (hq : q.val = t.val / 11) (hs : s.val = t.val % 11 * 384 + r.val) :
    (convolved m c t p (ix2 r l) : EReal) = convRow (fun k => m (c.tc.loc main_arg5) (ix3 0 k l))
      (m (c.tc.loc main_arg6) (ix2 0 l)) (seq m c q l) s := by
  have ht : t.val < 88 := t.isLt
  have hr := r.isLt
  refine (conv_apply _ _ _ _ _ _ _ r l).trans ?_
  rw [← convRow_comm]
  rw [← lag_eq m c t p l hz hp 1 (by omega) r q s hq hs, ← lag_eq m c t p l hz hp 2 (by omega) r q s hq hs,
    ← lag_eq m c t p l hz hp 3 (by omega) r q s hq hs]
  have hb : (branch m c t (ix2 r l) : EReal) = seq m c q l s := by
    refine (branch_val m c t r l).trans ?_
    unfold seq
    refine congrArg (fun i => proj m c i _) (Fin.ext ?_)
    dsimp only
    omega
  rw [← hb]
  have h3 : tap m c t 3 inb_S4x1024_S1x1024_3_0 (ix2 0 l) = m (c.tc.loc main_arg5) (ix3 0 3 l) :=
    (tap_apply _ _ l (by omega)).trans (blk4_apply m c t _ l)
  have h2 : tap m c t 2 inb_S4x1024_S1x1024_2_0 (ix2 0 l) = m (c.tc.loc main_arg5) (ix3 0 2 l) :=
    (tap_apply _ _ l (by omega)).trans (blk4_apply m c t _ l)
  have h1 : tap m c t 1 inb_S4x1024_S1x1024_1_0 (ix2 0 l) = m (c.tc.loc main_arg5) (ix3 0 1 l) :=
    (tap_apply _ _ l (by omega)).trans (blk4_apply m c t _ l)
  have h0 : tap m c t 0 inb_S4x1024_S1x1024_0_0 (ix2 0 l) = m (c.tc.loc main_arg5) (ix3 0 0 l) :=
    (tap_apply _ _ l (by omega)).trans (blk4_apply m c t _ l)
  rw [h3, h2, h1, h0, blk5_apply]

/-- The sequence of a row of the padded input, and its place there. -/
theorem conv_out (c : Dev nD) (t : Fin cfg0.N) (r : Fin 384) (l : Fin 1024) (q : Fin 8) (s : Fin 4224)
    (hq : q.val = t.val / 11) (hs : s.val = t.val % 11 * 384 + r.val) :
    ((outsAt0 m c t.val t.isLt).2.2.2.2.2.1 (ix2 r l) : EReal) = convRow (fun k => m (c.tc.loc main_arg5) (ix3 0 k l))
      (m (c.tc.loc main_arg6) (ix2 0 l)) (seq m c q l) s := by
  by_cases h0 : t.val % 11 = 0
  · rw [conv_first m c t h0]
    refine convolved_val m c t _ l (fun _ s => ?_) (fun h => absurd h0 h) r q s hq hs
    show Ideal.ofBits FTy.f32 0#32 = 0
    simp [Ideal.ofBits, Ideal.ieee]
  · rw [conv_later m c t h0]
    exact convolved_val m c t _ l (fun h => absurd h h0) (fun _ s => past_val m c t h0 s l) r q s hq hs

/-! ## The seven result arrays -/

theorem index6 : ∀ t : Fin cfg0.N, win0_6.index t = ![t.val, 0] :=
  (by decide +kernel : ∀ t : Fin grid0.N, win0_6.index t = ![t.val, 0])

theorem index7 : ∀ t : Fin cfg0.N, win0_7.index t = ![t.val, 0] :=
  (by decide +kernel : ∀ t : Fin grid0.N, win0_7.index t = ![t.val, 0])

theorem index8 : ∀ t : Fin cfg0.N, win0_8.index t = ![t.val, 0] :=
  (by decide +kernel : ∀ t : Fin grid0.N, win0_8.index t = ![t.val, 0])

theorem index9 : ∀ t : Fin cfg0.N, win0_9.index t = ![t.val, 0] :=
  (by decide +kernel : ∀ t : Fin grid0.N, win0_9.index t = ![t.val, 0])

theorem index10 : ∀ t : Fin cfg0.N, win0_10.index t = ![t.val, 0] :=
  (by decide +kernel : ∀ t : Fin grid0.N, win0_10.index t = ![t.val, 0])

theorem index11 : ∀ t : Fin cfg0.N, win0_11.index t = ![t.val, 0] :=
  (by decide +kernel : ∀ t : Fin grid0.N, win0_11.index t = ![t.val, 0])

theorem index12 : ∀ t : Fin cfg0.N, win0_12.index t = ![t.val, 0] :=
  (by decide +kernel : ∀ t : Fin grid0.N, win0_12.index t = ![t.val, 0])

/-- Result 0: the products with the first 512 columns, scaled. -/
def queryArr (c : Dev nD) : Buf (Elt Ideal) ((c : Thread nD τ).loc main_v22_0) := fun x : S33792x512.Idx =>
  proj m c (x 0) ⟨(x 1).val, by have : (x 1).val < 512 := (x 1).isLt; omega⟩ * Ideal.ofBits FTy.f32 0x3DB504F3#32

theorem query_eq (c : Dev nD) : (dats m 0 c).arrAt 6 cfg0.N = queryArr m c := by
  refine (dats m 0 c).arrAt_eq_of_covers 6 _ (by decide +kernel) fun t hf y => ?_
  blk_simp
  rw [after0_6, query_out m c]
  have ht : t.val < 88 := t.isLt
  have e0 : ((win0_6.rect t).emb y 0 : ℕ) = t.val * 384 + (y 0).val := by
    rw [win0_6.rect_emb_val_off, index6]; simp [Pipeline.WinKind.off]
  have e1 : ((win0_6.rect t).emb y 1 : ℕ) = (y 1).val := by
    rw [win0_6.rect_emb_val_off, index6]; simp [Pipeline.WinKind.off]
  obtain ⟨r, l, rfl⟩ : ∃ (r : Fin 384) (l : Fin 512), y = ix2 r l := ⟨y 0, y 1, by funext a; fin_cases a <;> rfl⟩
  have hr : (win0_6.blk t).view.emb (ix2 r l) 0 = ⟨t.val * 384 + r.val, row_lt t r⟩ := Fin.ext e0
  have hl : (win0_6.blk t).view.emb (ix2 r l) 1 = l := Fin.ext e1
  have hp := product_eq m c t r ⟨0 + l.val, by omega⟩ (fun k => cols m c t 0 inb_S1024x5248_S1024x512_0_0 (ix2 k l)) fun k =>
    (cols_eq m c t _ k l (by omega)).trans (query_col m c k l)
  unfold queryArr
  simp only [hr, hl]
  refine (query_apply _ _ r l).trans ?_
  rw [hp]
  exact congrArg (fun j => proj m c _ j * Ideal.ofBits FTy.f32 0x3DB504F3#32) (Fin.ext (Nat.zero_add l.val))

/-- Result 1: the products with the next 512. -/
def keyArr (c : Dev nD) : Buf (Elt Ideal) ((c : Thread nD τ).loc main_v22_1) := fun x : S33792x512.Idx =>
  proj m c (x 0) ⟨512 + (x 1).val, by have : (x 1).val < 512 := (x 1).isLt; omega⟩

theorem key_eq (c : Dev nD) : (dats m 0 c).arrAt 7 cfg0.N = keyArr m c := by
  refine (dats m 0 c).arrAt_eq_of_covers 7 _ (by decide +kernel) fun t hf y => ?_
  blk_simp
  rw [after0_7, key_out m c]
  have ht : t.val < 88 := t.isLt
  have e0 : ((win0_7.rect t).emb y 0 : ℕ) = t.val * 384 + (y 0).val := by
    rw [win0_7.rect_emb_val_off, index7]; simp [Pipeline.WinKind.off]
  have e1 : ((win0_7.rect t).emb y 1 : ℕ) = (y 1).val := by
    rw [win0_7.rect_emb_val_off, index7]; simp [Pipeline.WinKind.off]
  obtain ⟨r, l, rfl⟩ : ∃ (r : Fin 384) (l : Fin 512), y = ix2 r l := ⟨y 0, y 1, by funext a; fin_cases a <;> rfl⟩
  have hr : (win0_7.blk t).view.emb (ix2 r l) 0 = ⟨t.val * 384 + r.val, row_lt t r⟩ := Fin.ext e0
  have hl : (win0_7.blk t).view.emb (ix2 r l) 1 = l := Fin.ext e1
  have hp := product_eq m c t r ⟨512 + l.val, by omega⟩ (fun k => cols m c t 512 inb_S1024x5248_S1024x512_0_512 (ix2 k l)) fun k =>
    (cols_eq m c t _ k l (by omega)).trans (key_col m c k l)
  unfold keyArr
  simp only [hr, hl]
  refine (key_apply _ _ r l).trans ?_
  rw [hp]
  rfl

/-- Result 2: the products with the next 1024. -/
def valueArr (c : Dev nD) : Buf (Elt Ideal) ((c : Thread nD τ).loc main_v22_2) := fun x : S33792x1024.Idx =>
  proj m c (x 0) ⟨1024 + (x 1).val, by have : (x 1).val < 1024 := (x 1).isLt; omega⟩

theorem value_eq (c : Dev nD) : (dats m 0 c).arrAt 8 cfg0.N = valueArr m c := by
  refine (dats m 0 c).arrAt_eq_of_covers 8 _ (by decide +kernel) fun t hf y => ?_
  blk_simp
  rw [after0_8, value_out m c]
  have ht : t.val < 88 := t.isLt
  have e0 : ((win0_8.rect t).emb y 0 : ℕ) = t.val * 384 + (y 0).val := by
    rw [win0_8.rect_emb_val_off, index8]; simp [Pipeline.WinKind.off]
  have e1 : ((win0_8.rect t).emb y 1 : ℕ) = (y 1).val := by
    rw [win0_8.rect_emb_val_off, index8]; simp [Pipeline.WinKind.off]
  obtain ⟨r, l, rfl⟩ : ∃ (r : Fin 384) (l : Fin 1024), y = ix2 r l := ⟨y 0, y 1, by funext a; fin_cases a <;> rfl⟩
  have hr : (win0_8.blk t).view.emb (ix2 r l) 0 = ⟨t.val * 384 + r.val, row_lt t r⟩ := Fin.ext e0
  have hl : (win0_8.blk t).view.emb (ix2 r l) 1 = l := Fin.ext e1
  have hp := product_eq m c t r ⟨1024 + l.val, by omega⟩ (fun k => cols m c t 1024 inb_S1024x5248_S1024x1024_0_1024 (ix2 k l)) fun k =>
    (cols_eq m c t _ k l (by omega)).trans (value_col m c k l)
  unfold valueArr
  simp only [hr, hl]
  refine (value_apply _ _ r l).trans ?_
  rw [hp]
  rfl

/-- Result 3: the logistic gate of the products with the next 1024. -/
def openArr (c : Dev nD) : Buf (Elt Ideal) ((c : Thread nD τ).loc main_v22_3) := fun x : S33792x1024.Idx =>
  sigm (proj m c (x 0) ⟨2048 + (x 1).val, by have : (x 1).val < 1024 := (x 1).isLt; omega⟩)

theorem open_eq (c : Dev nD) : (dats m 0 c).arrAt 9 cfg0.N = openArr m c := by
  refine (dats m 0 c).arrAt_eq_of_covers 9 _ (by decide +kernel) fun t hf y => ?_
  blk_simp
  rw [after0_9, open_out m c]
  have ht : t.val < 88 := t.isLt
  have e0 : ((win0_9.rect t).emb y 0 : ℕ) = t.val * 384 + (y 0).val := by
    rw [win0_9.rect_emb_val_off, index9]; simp [Pipeline.WinKind.off]
  have e1 : ((win0_9.rect t).emb y 1 : ℕ) = (y 1).val := by
    rw [win0_9.rect_emb_val_off, index9]; simp [Pipeline.WinKind.off]
  obtain ⟨r, l, rfl⟩ : ∃ (r : Fin 384) (l : Fin 1024), y = ix2 r l := ⟨y 0, y 1, by funext a; fin_cases a <;> rfl⟩
  have hr : (win0_9.blk t).view.emb (ix2 r l) 0 = ⟨t.val * 384 + r.val, row_lt t r⟩ := Fin.ext e0
  have hl : (win0_9.blk t).view.emb (ix2 r l) 1 = l := Fin.ext e1
  have hp := product_eq m c t r ⟨2048 + l.val, by omega⟩ (fun k => cols m c t 2048 inb_S1024x5248_S1024x1024_0_2048 (ix2 k l)) fun k =>
    (cols_eq m c t _ k l (by omega)).trans (open_col m c k l)
  unfold openArr
  simp only [hr, hl]
  refine (open_apply _ _ r l).trans ?_
  rw [hp]
  rfl

/-- Result 4: the products with the eight gates' columns, widened with zeros. -/
def bitsArr (c : Dev nD) : Buf (Elt Ideal) ((c : Thread nD τ).loc main_v22_4) := fun x : S33792x128.Idx =>
  if h : (x 1).val < 8 then proj m c (x 0) ⟨3072 + (x 1).val, by omega⟩ else (0 : EReal)

theorem bits_eq (c : Dev nD) : (dats m 0 c).arrAt 10 cfg0.N = bitsArr m c := by
  refine (dats m 0 c).arrAt_eq_of_covers 10 _ (by decide +kernel) fun t hf y => ?_
  blk_simp
  rw [after0_10, bits_out m c]
  have ht : t.val < 88 := t.isLt
  have e0 : ((win0_10.rect t).emb y 0 : ℕ) = t.val * 384 + (y 0).val := by
    rw [win0_10.rect_emb_val_off, index10]; simp [Pipeline.WinKind.off]
  have e1 : ((win0_10.rect t).emb y 1 : ℕ) = (y 1).val := by
    rw [win0_10.rect_emb_val_off, index10]; simp [Pipeline.WinKind.off]
  obtain ⟨r, l, rfl⟩ : ∃ (r : Fin 384) (l : Fin 128), y = ix2 r l := ⟨y 0, y 1, by funext a; fin_cases a <;> rfl⟩
  have hr : (win0_10.blk t).view.emb (ix2 r l) 0 = ⟨t.val * 384 + r.val, row_lt t r⟩ := Fin.ext e0
  have hl : (win0_10.blk t).view.emb (ix2 r l) 1 = l := Fin.ext e1
  unfold bitsArr
  simp only [hr, hl]
  refine (bits_apply _ _ r l).trans ?_
  by_cases h : l.val < 8
  · rw [dif_pos h]
    exact product_eq m c t r ⟨3072 + l.val, by omega⟩ _ fun k =>
      (cols_eq m c t _ k l (by omega)).trans ((bits_col m c k l).trans (dif_pos h))
  · rw [dif_neg h]
    refine Finset.sum_eq_zero fun k _ => ?_
    rw [(cols_eq m c t _ k l (by omega)).trans ((bits_col m c k l).trans (dif_neg h)), mul_zero]

/-- Result 5: the convolution of the products with the next 1024. -/
def convArr (c : Dev nD) : Buf (Elt Ideal) ((c : Thread nD τ).loc main_v22_5) := fun x : S33792x1024.Idx =>
  convRow (fun k => m (c.tc.loc main_arg5) (ix3 0 k (x 1)))
      (m (c.tc.loc main_arg6) (ix2 0 (x 1))) (seq m c (⟨(x 0).val / 4224, by have : (x 0).val < 33792 := (x 0).isLt; omega⟩ : Fin 8) (x 1))
      (⟨(x 0).val % 4224, by omega⟩ : Fin 4224)

theorem conv_eq (c : Dev nD) : (dats m 0 c).arrAt 11 cfg0.N = convArr m c := by
  refine (dats m 0 c).arrAt_eq_of_covers 11 _ (by decide +kernel) fun t hf y => ?_
  blk_simp
  rw [after0_11]
  have ht : t.val < 88 := t.isLt
  have e0 : ((win0_11.rect t).emb y 0 : ℕ) = t.val * 384 + (y 0).val := by
    rw [win0_11.rect_emb_val_off, index11]; simp [Pipeline.WinKind.off]
  have e1 : ((win0_11.rect t).emb y 1 : ℕ) = (y 1).val := by
    rw [win0_11.rect_emb_val_off, index11]; simp [Pipeline.WinKind.off]
  obtain ⟨r, l, rfl⟩ : ∃ (r : Fin 384) (l : Fin 1024), y = ix2 r l := ⟨y 0, y 1, by funext a; fin_cases a <;> rfl⟩
  have hr : (win0_11.blk t).view.emb (ix2 r l) 0 = ⟨t.val * 384 + r.val, row_lt t r⟩ := Fin.ext e0
  have hl : (win0_11.blk t).view.emb (ix2 r l) 1 = l := Fin.ext e1
  unfold convArr
  simp only [hr, hl]
  exact conv_out m c t r l _ _ (by dsimp only; have := r.isLt; omega) (by dsimp only; have := r.isLt; omega)

/-- Result 6: the Gaussian gate of the products with the last 1024. -/
def gateArr (c : Dev nD) : Buf (Elt Ideal) ((c : Thread nD τ).loc main_v22_6) := fun x : S33792x1024.Idx =>
  gelu (proj m c (x 0) ⟨4104 + (x 1).val, by have : (x 1).val < 1024 := (x 1).isLt; omega⟩)

theorem gate_eq (c : Dev nD) : (dats m 0 c).arrAt 12 cfg0.N = gateArr m c := by
  refine (dats m 0 c).arrAt_eq_of_covers 12 _ (by decide +kernel) fun t hf y => ?_
  blk_simp
  rw [after0_12, gate_out m c]
  have ht : t.val < 88 := t.isLt
  have e0 : ((win0_12.rect t).emb y 0 : ℕ) = t.val * 384 + (y 0).val := by
    rw [win0_12.rect_emb_val_off, index12]; simp [Pipeline.WinKind.off]
  have e1 : ((win0_12.rect t).emb y 1 : ℕ) = (y 1).val := by
    rw [win0_12.rect_emb_val_off, index12]; simp [Pipeline.WinKind.off]
  obtain ⟨r, l, rfl⟩ : ∃ (r : Fin 384) (l : Fin 1024), y = ix2 r l := ⟨y 0, y 1, by funext a; fin_cases a <;> rfl⟩
  have hr : (win0_12.blk t).view.emb (ix2 r l) 0 = ⟨t.val * 384 + r.val, row_lt t r⟩ := Fin.ext e0
  have hl : (win0_12.blk t).view.emb (ix2 r l) 1 = l := Fin.ext e1
  have hp := product_eq m c t r ⟨4104 + l.val, by omega⟩ (fun k => cols m c t 4224 inb_S1024x5248_S1024x1024_0_4224 (ix2 k l)) fun k =>
    (cols_eq m c t _ k l (by omega)).trans (gate_col m c k l)
  unfold gateArr
  simp only [hr, hl]
  refine (gate_apply _ _ r l).trans ?_
  rw [hp]
  rfl

end Cert.Kernel3Ideal.Even
-- ==== Proof.Even.Run.lean ====
module

public import proofs.«01_k».proof.Proof.Even.In

@[expose] public section

noncomputable section

/-! # The even layer's input call, run

The run ends with the seven result arrays and keeps its arguments. -/

namespace Cert.Kernel3Ideal.Even

open Cert.Kernel3Ideal Cert.Kernel3Ideal.Gen Idealize.ShloMosaic Idealize.ShloMosaic.TcCoe Idealize.SL.Sem

variable (m : (ℓ : Loc nD τ sig) → Buf (Elt Ideal) ℓ) (g : Dev nD → PrngReg)

theorem run_results : θ_run defs (onTc (τ := τ) (main (F := Ideal))) ⟨m, fun _ => 0, g⟩ fun r => ∀ c : Dev nD,
      (r.2.mem ((c.tc : Thread nD τ).loc main_v22_0) = queryArr m c
      ∧ r.2.mem ((c.tc : Thread nD τ).loc main_v22_1) = keyArr m c
      ∧ r.2.mem ((c.tc : Thread nD τ).loc main_v22_2) = valueArr m c
      ∧ r.2.mem ((c.tc : Thread nD τ).loc main_v22_3) = openArr m c
      ∧ r.2.mem ((c.tc : Thread nD τ).loc main_v22_4) = bitsArr m c
      ∧ r.2.mem ((c.tc : Thread nD τ).loc main_v22_5) = convArr m c
      ∧ r.2.mem ((c.tc : Thread nD τ).loc main_v22_6) = gateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m g)
  obtain ⟨ha, hk⟩ := h c
  exact ⟨(ha 6).trans (query_eq m c), (ha 7).trans (key_eq m c), (ha 8).trans (value_eq m c), (ha 9).trans (open_eq m c),
    (ha 10).trans (bits_eq m c), (ha 11).trans (conv_eq m c), (ha 12).trans (gate_eq m c),
    (hk main_arg0 (Pipeline.mem_restRefs_of main_arg0 (by decide) (by decide))).trans (V_main_arg0 m c),
    (hk main_arg1 (Pipeline.mem_restRefs_of main_arg1 (by decide) (by decide))).trans (V_main_arg1 m c),
    (hk main_arg2 (Pipeline.mem_restRefs_of main_arg2 (by decide) (by decide))).trans (V_main_arg2 m c),
    (hk main_arg3 (Pipeline.mem_restRefs_of main_arg3 (by decide) (by decide))).trans (V_main_arg3 m c),
    (hk main_arg4 (Pipeline.mem_restRefs_of main_arg4 (by decide) (by decide))).trans (V_main_arg4 m c),
    (hk main_arg5 (Pipeline.mem_restRefs_of main_arg5 (by decide) (by decide))).trans (V_main_arg5 m c),
    (hk main_arg6 (Pipeline.mem_restRefs_of main_arg6 (by decide) (by decide))).trans (V_main_arg6 m c)⟩

end Cert.Kernel3Ideal.Even
-- ==== Proof.Even.InRef.lean ====
module

public import proofs.«01_k».proof.Proof.Gen.Reference3Ideal.Run
public import proofs.«01_k».proof.Proof.Even.Rows
public import Idealize.ShloMosaic.Lib.Tactic.CleanTypes

@[expose] public section

set_option maxRecDepth 16384

noncomputable section

/-! # What the even layer's input reference computes, row by row -/

namespace Cert.Reference3Ideal.Even

open Cert.Reference3Ideal Cert.Reference3Ideal.Gen Cert.Reference3Ideal.Value Cert.Mlp Cert.Even Idealize.ShloMosaic

variable (m : (ℓ : Loc nD τ sig) → Buf (Elt Ideal) ℓ)

/-- The padded input: zeros, the leading rows, the sequence. -/
def input (x : FVec Ideal S8x4096x1024 .f32) (lead : FVec Ideal S16x1024 .f32) : FVec Ideal S8x4224x1024 .f32 :=
  pad S8x4224x1024 ![0, 112, 0] ![0, 0, 0] ![0, 0, 0] (concatenate S8x4112x1024 1 [⟨S8x16x1024, (broadcastInDim S8x16x1024 ![1, 2] bcast_S16x1024_S8x16x1024_1_2 lead)⟩, ⟨S8x4096x1024, x⟩] concatenates_S8x16x1024_S8x4096x1024_S8x4112x1024_d1) (sitofp .f32 (constantI S_ 32 0#32)) pads_S8x4112x1024_S8x4224x1024_000_11200_000 h_S_

/-- The rows of any stream, normalised and scaled. -/
def normed (X : FVec Ideal S8x4224x1024 .f32) (g : FVec Ideal S1x1024 .f32) : FVec Ideal S8x4224x1024 .f32 :=
  (mulf (mulf X (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf X X) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32))))))
    (broadcastInDim S8x4224x1024 ![0, 1, 2] bcast_S1x1x1024_S8x4224x1024_0_1_2 (broadcastInDim S1x1x1024 ![2] bcast_S1024_S1x1x1024_2 (shapeCast _ g shapeCasts_S1x1024_S1024))))

/-- The rows of any stream against the projection's columns. -/
def products (n : FVec Ideal S8x4224x1024 .f32) (w : FVec Ideal S1x1024x5128 .f32) : FVec Ideal S8x4224x5128 .f32 :=
  Host.dotGeneral dot_S8x4224x1024_S1024x5128_S8x4224x5128_2_0_01_1_n_n none n (shapeCast _ w shapeCasts_S1x1024x5128_S1024x5128)

/-- The products of the padded input's rows, normalised. -/
def prods (c : Dev nD) : FVec Ideal S8x4224x5128 .f32 :=
  products (normed (input (m (c.tc.loc main_arg0)) (m (c.tc.loc main_arg1))) (m (c.tc.loc main_arg2))) (m (c.tc.loc main_arg3))

/-! ## The seven results, of any products -/

def queries (P : FVec Ideal S8x4224x5128 .f32) : FVec Ideal S33792x512 .bf16 :=
  truncf .bf16 (shapeCast _ (mulf (extractStridedSlice S8x4224x512 ![0, 0, 0] P slices_S8x4224x5128_S8x4224x512_0_0_0) (broadcastInDim S8x4224x512 ![] bcast_S_S8x4224x512 (constant S_ .f32 0x3DB504F3#32))) shapeCasts_S8x4224x512_S33792x512) bitsLt_bf16_f32

def keys (P : FVec Ideal S8x4224x5128 .f32) : FVec Ideal S33792x512 .bf16 :=
  truncf .bf16 (shapeCast _ (extractStridedSlice S8x4224x512 ![0, 0, 512] P slices_S8x4224x5128_S8x4224x512_0_0_512) shapeCasts_S8x4224x512_S33792x512) bitsLt_bf16_f32

def values (P : FVec Ideal S8x4224x5128 .f32) : FVec Ideal S33792x1024 .bf16 :=
  truncf .bf16 (shapeCast _ (extractStridedSlice S8x4224x1024 ![0, 0, 1024] P slices_S8x4224x5128_S8x4224x1024_0_0_1024) shapeCasts_S8x4224x1024_S33792x1024) bitsLt_bf16_f32

def opens (P : FVec Ideal S8x4224x5128 .f32) : FVec Ideal S33792x1024 .bf16 :=
  truncf .bf16 (shapeCast _ (Host.divf (broadcastInDim S8x4224x1024 ![] bcast_S_S8x4224x1024 (constant S_ .f32 0x3F800000#32)) (addf (broadcastInDim S8x4224x1024 ![] bcast_S_S8x4224x1024 (constant S_ .f32 0x3F800000#32)) (Host.exp (Host.negf (extractStridedSlice S8x4224x1024 ![0, 0, 2048] P slices_S8x4224x5128_S8x4224x1024_0_0_2048))))) shapeCasts_S8x4224x1024_S33792x1024) bitsLt_bf16_f32

/-- The eight gates' products side by side. -/
def pair (P : FVec Ideal S8x4224x5128 .f32) : FVec Ideal S8x4224x8 .f32 :=
  concatenate S8x4224x8 2 [⟨S8x4224x4, (extractStridedSlice S8x4224x4 ![0, 0, 3072] P slices_S8x4224x5128_S8x4224x4_0_0_3072)⟩, ⟨S8x4224x4, (extractStridedSlice S8x4224x4 ![0, 0, 3076] P slices_S8x4224x5128_S8x4224x4_0_0_3076)⟩] concatenates_S8x4224x4_S8x4224x4_S8x4224x8_d2

/-- Eight columns widened with zeros, as rows. -/
def widened (X : FVec Ideal S8x4224x8 .f32) : FVec Ideal S33792x128 .f32 :=
  shapeCast _ (pad S8x4224x128 ![0, 0, 0] ![0, 0, 120] ![0, 0, 0] X (sitofp .f32 (constantI S_ 32 0#32)) pads_S8x4224x8_S8x4224x128_000_000_01200 h_S_) shapeCasts_S8x4224x128_S33792x128

/-- The convolved group with three rows of zeros before it. -/
def shifted (P : FVec Ideal S8x4224x5128 .f32) : FVec Ideal S8x4227x1024 .f32 :=
  pad S8x4227x1024 ![0, 3, 0] ![0, 0, 0] ![0, 0, 0] (extractStridedSlice S8x4224x1024 ![0, 0, 3080] P slices_S8x4224x5128_S8x4224x1024_0_0_3080) (sitofp .f32 (constantI S_ 32 0#32)) pads_S8x4224x1024_S8x4227x1024_000_300_000 h_S_

def convolved (X : FVec Ideal S8x4227x1024 .f32) (w : FVec Ideal S1x4x1024 .f32) (b : FVec Ideal S1x1024 .f32) : FVec Ideal S33792x1024 .bf16 :=
  truncf .bf16 (shapeCast _ (addf (addf (addf (addf (mulf (broadcastInDim S8x4224x1024 ![0, 1, 2] bcast_S1x1x1024_S8x4224x1024_0_1_2 (broadcastInDim S1x1x1024 ![2] bcast_S1024_S1x1x1024_2 (shapeCast _ (extractStridedSlice S1x1024 ![0, 0] (shapeCast _ w shapeCasts_S1x4x1024_S4x1024) slices_S4x1024_S1x1024_0_0) shapeCasts_S1x1024_S1024)))
      (extractStridedSlice S8x4224x1024 ![0, 0, 0] X slices_S8x4227x1024_S8x4224x1024_0_0_0))
      (mulf (broadcastInDim S8x4224x1024 ![0, 1, 2] bcast_S1x1x1024_S8x4224x1024_0_1_2 (broadcastInDim S1x1x1024 ![2] bcast_S1024_S1x1x1024_2 (shapeCast _ (extractStridedSlice S1x1024 ![1, 0] (shapeCast _ w shapeCasts_S1x4x1024_S4x1024) slices_S4x1024_S1x1024_1_0) shapeCasts_S1x1024_S1024)))
      (extractStridedSlice S8x4224x1024 ![0, 1, 0] X slices_S8x4227x1024_S8x4224x1024_0_1_0)))
      (mulf (broadcastInDim S8x4224x1024 ![0, 1, 2] bcast_S1x1x1024_S8x4224x1024_0_1_2 (broadcastInDim S1x1x1024 ![2] bcast_S1024_S1x1x1024_2 (shapeCast _ (extractStridedSlice S1x1024 ![2, 0] (shapeCast _ w shapeCasts_S1x4x1024_S4x1024) slices_S4x1024_S1x1024_2_0) shapeCasts_S1x1024_S1024)))
      (extractStridedSlice S8x4224x1024 ![0, 2, 0] X slices_S8x4227x1024_S8x4224x1024_0_2_0)))
      (mulf (broadcastInDim S8x4224x1024 ![0, 1, 2] bcast_S1x1x1024_S8x4224x1024_0_1_2 (broadcastInDim S1x1x1024 ![2] bcast_S1024_S1x1x1024_2 (shapeCast _ (extractStridedSlice S1x1024 ![3, 0] (shapeCast _ w shapeCasts_S1x4x1024_S4x1024) slices_S4x1024_S1x1024_3_0) shapeCasts_S1x1024_S1024)))
      (extractStridedSlice S8x4224x1024 ![0, 3, 0] X slices_S8x4227x1024_S8x4224x1024_0_3_0)))
      (broadcastInDim S8x4224x1024 ![0, 1, 2] bcast_S1x1x1024_S8x4224x1024_0_1_2 (broadcastInDim S1x1x1024 ![2] bcast_S1024_S1x1x1024_2 (shapeCast _ b shapeCasts_S1x1024_S1024)))) shapeCasts_S8x4224x1024_S33792x1024) bitsLt_bf16_f32

def gates (P : FVec Ideal S8x4224x5128 .f32) : FVec Ideal S33792x1024 .bf16 :=
  truncf .bf16 (shapeCast _ (mulf (extractStridedSlice S8x4224x1024 ![0, 0, 4104] P slices_S8x4224x5128_S8x4224x1024_0_0_4104) (mulf (broadcastInDim S8x4224x1024 ![] bcast_S_S8x4224x1024 (constant S_ .f32 0x3F000000#32)) (addf (broadcastInDim S8x4224x1024 ![] bcast_S_S8x4224x1024 (constant S_ .f32 0x3F800000#32)) (Host.tanh (mulf (broadcastInDim S8x4224x1024 ![] bcast_S_S8x4224x1024 (constant S_ .f32 0x3F4C422A#32)) (addf (extractStridedSlice S8x4224x1024 ![0, 0, 4104] P slices_S8x4224x5128_S8x4224x1024_0_0_4104) (mulf (broadcastInDim S8x4224x1024 ![] bcast_S_S8x4224x1024 (constant S_ .f32 0x3D372713#32)) (mulf (mulf (extractStridedSlice S8x4224x1024 ![0, 0, 4104] P slices_S8x4224x5128_S8x4224x1024_0_0_4104) (extractStridedSlice S8x4224x1024 ![0, 0, 4104] P slices_S8x4224x5128_S8x4224x1024_0_0_4104)) (extractStridedSlice S8x4224x1024 ![0, 0, 4104] P slices_S8x4224x5128_S8x4224x1024_0_0_4104))))))))) shapeCasts_S8x4224x1024_S33792x1024) bitsLt_bf16_f32

theorem bits_stages (c : Dev nD) : res_main_v78 (F := Ideal) m c = widened (pair (prods m c)) := rfl

theorem conv_stages (c : Dev nD) : res_main_v80 (F := Ideal) m c =
    convolved (shifted (prods m c)) (m (c.tc.loc main_arg5)) (m (c.tc.loc main_arg6)) := rfl

theorem gate_stages (c : Dev nD) : res_main_v95 (F := Ideal) m c = gates (prods m c) := rfl

/-! ## Row by row -/

theorem input_pad (x : FVec Ideal S8x4096x1024 .f32) (lead : FVec Ideal S16x1024 .f32) (q : Fin 8) (s : Fin 112) (j : Fin 1024) :
    input x lead (ix3 q ⟨s.val, by omega⟩ j) = (0 : EReal) := by
  pointwise [input]
  rw [dif_neg (fun h => h.1)]
  show ((((0#32).toInt : ℝ)) : EReal) = 0
  simp

theorem input_lead (x : FVec Ideal S8x4096x1024 .f32) (lead : FVec Ideal S16x1024 .f32) (q : Fin 8) (s : Fin 16) (j : Fin 1024) :
    input x lead (ix3 q ⟨112 + s.val, by omega⟩ j) = lead (ix2 s j) := by
  pointwise [input]
  rw [dif_pos (by omega)]

theorem input_rest (x : FVec Ideal S8x4096x1024 .f32) (lead : FVec Ideal S16x1024 .f32) (q : Fin 8) (s : Fin 4096) (j : Fin 1024) :
    input x lead (ix3 q ⟨128 + s.val, by omega⟩ j) = x (ix3 q s j) := by
  pointwise [input]
  rw [dif_pos (by omega), dif_neg (by omega)]
  exact congrArg (fun s => x (ix3 q s j)) (Fin.ext (by dsimp only; omega))

theorem input_apply (x : FVec Ideal S8x4096x1024 .f32) (lead : FVec Ideal S16x1024 .f32) (q : Fin 8) (s : Fin 4224) (j : Fin 1024) :
    input x lead (ix3 q s j) = padInput (fun k j => lead (ix2 k j)) (fun k j => x (ix3 q k j)) s.val s.isLt j := by
  have hs := s.isLt
  unfold padInput
  by_cases h1 : s.val < 112
  · rw [dif_pos h1]
    exact input_pad x lead q ⟨s.val, h1⟩ j
  · rw [dif_neg h1]
    by_cases h2 : s.val < 128
    · rw [dif_pos h2]
      refine Eq.trans ?_ (input_lead x lead q ⟨s.val - 112, by omega⟩ j)
      exact congrArg (fun s => input x lead (ix3 q s j)) (Fin.ext (by dsimp only; omega))
    · rw [dif_neg h2]
      refine Eq.trans ?_ (input_rest x lead q ⟨s.val - 128, by omega⟩ j)
      exact congrArg (fun s => input x lead (ix3 q s j)) (Fin.ext (by dsimp only; omega))

theorem normed_apply (X : FVec Ideal S8x4224x1024 .f32) (g : FVec Ideal S1x1024 .f32) (q : Fin 8) (s : Fin 4224) (i : Fin 1024) :
    normed X g (ix3 q s i) = normRow (fun j => X (ix3 q s j)) (fun j => g (ix2 0 j)) i := by
  pointwise [normed]
  rfl

theorem products_apply (n : FVec Ideal S8x4224x1024 .f32) (w : FVec Ideal S1x1024x5128 .f32) (q : Fin 8) (s : Fin 4224) (j : Fin 5128) :
    products n w (ix3 q s j) = ∑ i, n (ix3 q s i) * w (ix3 0 i j) := by
  pointwise [products]

theorem prods_apply (c : Dev nD) (q : Fin 8) (s : Fin 4224) (j : Fin 5128) :
    prods m c (ix3 q s j) = projRow (padInput (fun k j => m (c.tc.loc main_arg1) (ix2 k j))
      (fun k j => m (c.tc.loc main_arg0) (ix3 q k j)) s.val s.isLt) (fun i => m (c.tc.loc main_arg2) (ix2 0 i))
      fun k => m (c.tc.loc main_arg3) (ix3 0 k j) := by
  unfold prods projRow
  rw [products_apply]
  simp only [normed_apply, input_apply]

/-- The sequence of a row of the results. -/
abbrev sq (r : Fin 33792) : Fin 8 := ⟨r.val / 4224, by omega⟩
/-- The place of a row of the results in its sequence. -/
abbrev pl (r : Fin 33792) : Fin 4224 := ⟨r.val % 4224, by omega⟩

theorem queries_apply (P : FVec Ideal S8x4224x5128 .f32) (r : Fin 33792) (l : Fin 512) :
    (queries P (ix2 r l) : EReal) = P (ix3 (sq r) (pl r) ⟨l.val, by omega⟩) * Ideal.ofBits FTy.f32 0x3DB504F3#32 := by
  pointwise [queries]

theorem keys_apply (P : FVec Ideal S8x4224x5128 .f32) (r : Fin 33792) (l : Fin 512) :
    (keys P (ix2 r l) : EReal) = P (ix3 (sq r) (pl r) ⟨512 + l.val, by omega⟩) := by
  pointwise [keys]

theorem values_apply (P : FVec Ideal S8x4224x5128 .f32) (r : Fin 33792) (l : Fin 1024) :
    (values P (ix2 r l) : EReal) = P (ix3 (sq r) (pl r) ⟨1024 + l.val, by omega⟩) := by
  pointwise [values]

theorem opens_apply (P : FVec Ideal S8x4224x5128 .f32) (r : Fin 33792) (l : Fin 1024) :
    (opens P (ix2 r l) : EReal) = sigm (P (ix3 (sq r) (pl r) ⟨2048 + l.val, by omega⟩)) := by
  unfold sigm
  pointwise [opens]

theorem gates_apply (P : FVec Ideal S8x4224x5128 .f32) (r : Fin 33792) (l : Fin 1024) :
    (gates P (ix2 r l) : EReal) = gelu (P (ix3 (sq r) (pl r) ⟨4104 + l.val, by omega⟩)) := by
  unfold gelu
  pointwise [gates]

theorem zero_word : (FloatOps.sitofp (F := Ideal) FTy.f32 (0#32) : EReal) = 0 := by
  show ((((0#32).toInt : ℝ)) : EReal) = 0
  simp

theorem pair_apply (P : FVec Ideal S8x4224x5128 .f32) (q : Fin 8) (s : Fin 4224) (l : Fin 8) :
    (pair P (ix3 q s l) : EReal) = P (ix3 q s ⟨3072 + l.val, by omega⟩) := by
  pointwise [pair]
  split_ifs <;> first
    | rfl
    | (exfalso; omega)
    | exact congrArg (fun j => P (ix3 q s j)) (Fin.ext (by dsimp only; omega))

theorem widened_apply (X : FVec Ideal S8x4224x8 .f32) (r : Fin 33792) (l : Fin 128) :
    (widened X (ix2 r l) : EReal) = if h : l.val < 8 then X (ix3 (sq r) (pl r) ⟨l.val, h⟩) else (0 : EReal) := by
  have hr := r.isLt
  rw [← zero_word]
  pointwise [widened]
  have e : (r.val / 4224 < 8 ∧ r.val % 4224 < 4224 ∧ l.val < 8) = (l.val < 8) := propext ⟨fun h => h.2.2, fun h => ⟨by omega, by omega, h⟩⟩
  simp only [e]

/-- The fifth result, row by row. -/
theorem bits_result (P : FVec Ideal S8x4224x5128 .f32) (r : Fin 33792) (l : Fin 128) :
    (widened (pair P) (ix2 r l) : EReal) =
      if h : l.val < 8 then P (ix3 (sq r) (pl r) ⟨3072 + l.val, by omega⟩) else (0 : EReal) := by
  rw [widened_apply]
  by_cases h : l.val < 8
  · rw [dif_pos h, dif_pos h, pair_apply]
  · rw [dif_neg h, dif_neg h]

theorem shifted_apply (P : FVec Ideal S8x4224x5128 .f32) (q : Fin 8) (s : Fin 4224) (k : Fin 4) (l : Fin 1024) :
    (shifted P (ix3 q ⟨k.val + s.val, by omega⟩ l) : EReal) =
      lag (fun s => P (ix3 q s ⟨3080 + l.val, by omega⟩)) s (3 - k.val) := by
  have hk := k.isLt
  have hs := s.isLt
  unfold lag
  rw [← zero_word]
  pointwise [shifted]
  have e : (3 ≤ k.val + s.val ∧ s.val - (3 - k.val) < 4224) = (3 - k.val ≤ s.val) := propext ⟨fun h => by omega, fun h => by omega⟩
  simp only [show k.val + s.val - 3 = s.val - (3 - k.val) by omega, e]

theorem convolved_apply (X : FVec Ideal S8x4227x1024 .f32) (w : FVec Ideal S1x4x1024 .f32) (b : FVec Ideal S1x1024 .f32)
    (r : Fin 33792) (l : Fin 1024) :
    (convolved X w b (ix2 r l) : EReal) =
      w (ix3 0 0 l) * X (ix3 (sq r) ⟨(pl r).val, by omega⟩ l) + w (ix3 0 1 l) * X (ix3 (sq r) ⟨1 + (pl r).val, by omega⟩ l) +
        w (ix3 0 2 l) * X (ix3 (sq r) ⟨2 + (pl r).val, by omega⟩ l) + w (ix3 0 3 l) * X (ix3 (sq r) ⟨3 + (pl r).val, by omega⟩ l) +
        b (ix2 0 l) := by
  pointwise [convolved]

/-- The sixth result, row by row: the convolution of the sequence's own products. -/
theorem conv_result (P : FVec Ideal S8x4224x5128 .f32) (w : FVec Ideal S1x4x1024 .f32) (b : FVec Ideal S1x1024 .f32)
    (r : Fin 33792) (l : Fin 1024) :
    (convolved (shifted P) w b (ix2 r l) : EReal) = convRow (fun k => w (ix3 0 k l)) (b (ix2 0 l))
      (fun s => P (ix3 (sq r) s ⟨3080 + l.val, by omega⟩)) (pl r) := by
  rw [convolved_apply]
  unfold convRow
  have h0 : (shifted P (ix3 (sq r) ⟨(pl r).val, by omega⟩ l) : EReal) = lag (fun s => P (ix3 (sq r) s ⟨3080 + l.val, by omega⟩)) (pl r) 3 := by
    refine Eq.trans ?_ (shifted_apply P (sq r) (pl r) 0 l)
    exact congrArg (fun s => shifted P (ix3 (sq r) s l)) (Fin.ext (Nat.zero_add _).symm)
  have h3 : (shifted P (ix3 (sq r) ⟨3 + (pl r).val, by omega⟩ l) : EReal) = P (ix3 (sq r) (pl r) ⟨3080 + l.val, by omega⟩) := by
    refine (shifted_apply P (sq r) (pl r) 3 l).trans ?_
    unfold lag
    exact dif_pos (Nat.zero_le _)
  rw [h0, h3]
  rw [show (shifted P (ix3 (sq r) ⟨1 + (pl r).val, by omega⟩ l) : EReal) = _ from shifted_apply P (sq r) (pl r) 1 l,
    show (shifted P (ix3 (sq r) ⟨2 + (pl r).val, by omega⟩ l) : EReal) = _ from shifted_apply P (sq r) (pl r) 2 l]
  rfl

end Cert.Reference3Ideal.Even
-- ==== Proof.Odd.Rows.lean ====
module

public import proofs.«01_k».proof.Proof.Mlp.Rows
public import Idealize.ShloMosaic.Lib.IdealHost

@[expose] public section

noncomputable section

open Idealize.ShloMosaic

/-! # One token's row through the odd layer's input call

What both programs compute of one token, over the extended reals: a run of features normalised by its root mean square,
the rotary embedding of 32 features, and the log-forget gate. And the arithmetic that joins the two programs: a mean taken by a
product with a block of equal weights, a sine taken as a cosine a quarter turn behind, a sum taken in two parts. -/

namespace Cert.Odd

/-! ## A normalised run of features -/

/-- The features `x`, `w` of them, normalised by their root mean square and scaled by `g`. -/
def unit {n : ℕ} (w : EReal) (x g : Fin n → EReal) (i : Fin n) : EReal :=
  x i * Ideal.rsqrt (Ideal.div (∑ l, x l * x l) w + Ideal.ofBits FTy.f32 0x358637BD#32) * g i

/-- A row against one column of a matrix. -/
def dotCol {n : ℕ} (x col : Fin n → EReal) : EReal := ∑ k, x k * col k

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

theorem sum_mul_nonneg {ι : Type} (s : Finset ι) (f : ι → EReal) (hf : ∀ k, 0 ≤ f k) (v : EReal) :
    (∑ k ∈ s, f k) * v = ∑ k ∈ s, f k * v := by
  classical
  induction s using Finset.induction_on with
  | empty => simp
  | insert a s ha ih =>
    rw [Finset.sum_insert ha, Finset.sum_insert ha,
      EReal.right_distrib_of_nonneg (hf a) (Finset.sum_nonneg fun k _ => hf k), ih]

/-- A sum against a column that is `v` on the `w` places from `o` on and zero elsewhere. -/
theorem block_sum {n w : ℕ} (o : ℕ) (how : o + w ≤ n) (f g : Fin n → EReal) (hf : ∀ k, 0 ≤ f k) (v : EReal)
    (hg : ∀ k, g k = if o ≤ k.val ∧ k.val < o + w then v else 0) :
    ∑ k, f k * g k = (∑ j : Fin w, f ⟨o + j.val, by omega⟩) * v := by
  rw [sum_mul_nonneg Finset.univ (fun j : Fin w => f ⟨o + j.val, by omega⟩) (fun j => hf _) v]
  symm
  refine Fintype.sum_of_injective (fun j : Fin w => (⟨o + j.val, by omega⟩ : Fin n)) (fun a b h => ?_) _ _ (fun k hk => ?_)
    fun j => ?_
  · have := congrArg Fin.val h
    exact Fin.ext (by dsimp only at this; omega)
  · rw [hg, if_neg, mul_zero]
    rintro ⟨h1, h2⟩
    exact hk ⟨⟨k.val - o, by omega⟩, Fin.ext (by dsimp only; omega)⟩
  · rw [hg, if_pos]
    dsimp only
    omega

/-- A sum against a column with a single one. -/
theorem pick_sum {n : ℕ} (o : Fin n) (f g : Fin n → EReal) (hg : ∀ k, g k = if k = o then 1 else 0) :
    ∑ k, f k * g k = f o := by
  rw [Finset.sum_eq_single o (fun k _ hk => by rw [hg, if_neg hk, mul_zero]) (fun h => absurd (Finset.mem_univ o) h), hg,
    if_pos rfl, mul_one]

/-- A sum against a column of zeros. -/
theorem none_sum {n : ℕ} (f g : Fin n → EReal) (hg : ∀ k, g k = 0) : ∑ k, f k * g k = 0 :=
  Finset.sum_eq_zero fun k _ => by rw [hg, mul_zero]

theorem w64 : Ideal.ofBits FTy.f32 0x42800000#32 = ((64 : ℝ) : EReal) := by
  simp [Ideal.ofBits, Ideal.ieee, -EReal.coe_mul]; norm_num

theorem w32 : Ideal.ofBits FTy.f32 0x42000000#32 = ((32 : ℝ) : EReal) := by
  simp [Ideal.ofBits, Ideal.ieee, -EReal.coe_mul]; norm_num

theorem v64 : Ideal.ofBits FTy.f32 0x3C800000#32 = ((1 / 64 : ℝ) : EReal) := by
  simp [Ideal.ofBits, Ideal.ieee, -EReal.coe_mul]; norm_num

theorem v32 : Ideal.ofBits FTy.f32 0x3D000000#32 = ((1 / 32 : ℝ) : EReal) := by
  simp [Ideal.ofBits, Ideal.ieee, -EReal.coe_mul]; norm_num

theorem mul_part {p q : ℝ} (hp : p ≠ 0) (hq : q = 1 / p) (x : EReal) : x * (q : EReal) = Ideal.div x (p : EReal) := by
  have : ((p : ℝ) : EReal) ≠ 0 := by exact_mod_cast hp
  unfold Ideal.div
  rw [if_neg this, ← EReal.coe_inv, hq, one_div]

theorem mean64 (x : EReal) : x * Ideal.ofBits FTy.f32 0x3C800000#32 = Ideal.div x (Ideal.ofBits FTy.f32 0x42800000#32) := by
  rw [w64, v64]; exact mul_part (by norm_num) (by norm_num) x

theorem mean32 (x : EReal) : x * Ideal.ofBits FTy.f32 0x3D000000#32 = Ideal.div x (Ideal.ofBits FTy.f32 0x42000000#32) := by
  rw [w32, v32]; exact mul_part (by norm_num) (by norm_num) x

/-! ## The rotary embedding -/

/-- The frequency of feature pair `i`. -/
def freq (i : Fin 16) : EReal :=
  Ideal.pow (Ideal.ofBits FTy.f32 0x461C4000#32)
    (Ideal.div (-(((BitVec.ofNat 32 i.val).toInt : ℝ) : EReal)) (Ideal.ofBits FTy.f32 0x41800000#32))

theorem base_eq : Ideal.ofBits FTy.f32 0x461C4000#32 = ((10000 : ℝ) : EReal) := by
  simp [Ideal.ofBits, Ideal.ieee, -EReal.coe_mul]; norm_num

theorem w16 : Ideal.ofBits FTy.f32 0x41800000#32 = ((16 : ℝ) : EReal) := by
  simp [Ideal.ofBits, Ideal.ieee, -EReal.coe_mul]; norm_num

theorem freq_real (i : Fin 16) : ∃ r : ℝ, freq i = r := by
  unfold freq
  rw [base_eq, w16, ← mul_part (p := 16) (q := 1 / 16) (by norm_num) rfl, ← EReal.coe_neg, ← EReal.coe_mul, Ideal.pow_coe_coe]
  exact ⟨_, rfl⟩

/-- The 32 features `y` turned by the sixteen angles `a`. -/
def rope (a : Fin 16 → EReal) (y : Fin 32 → EReal) (j : Fin 32) : EReal :=
  if h : j.val < 16 then y j * Ideal.cos (a ⟨j.val, h⟩) - y ⟨j.val + 16, by omega⟩ * Ideal.sin (a ⟨j.val, h⟩)
  else y ⟨j.val - 16, by omega⟩ * Ideal.sin (a ⟨j.val - 16, by omega⟩) + y j * Ideal.cos (a ⟨j.val - 16, by omega⟩)

/-- The angles of position `p`. -/
def angles (p : BitVec 32) (i : Fin 16) : EReal := ((p.toInt : ℝ) : EReal) * freq i

/-- The position of place `s` of a padded sequence: the padding's is zero, the leading rows and the sequence count on from
    there. -/
def place (pos : Fin 4096 → BitVec 32) (s : Fin 4224) : BitVec 32 :=
  if _ : s.val < 112 then 0#32 else if h : s.val < 128 then BitVec.ofNat 32 (s.val - 112)
  else pos ⟨s.val - 128, by omega⟩ + 16#32

/-- A cosine a quarter turn behind an angle is the angle's sine. -/
theorem behind (q : EReal) (hq : q = ((-(1 / 2) * Real.pi : ℝ) : EReal)) (p : BitVec 32) (i : Fin 16) :
    Ideal.cos (q + ((p.toInt : ℝ) : EReal) * freq i) = Ideal.sin (angles p i) := by
  unfold angles
  obtain ⟨r, hr⟩ := freq_real i
  rw [hr, hq, ← EReal.coe_mul, ← EReal.coe_add]
  show ((Real.cos _ : ℝ) : EReal) = ((Real.sin _ : ℝ) : EReal)
  rw [show -(1 / 2) * Real.pi + (p.toInt : ℝ) * r = (p.toInt : ℝ) * r - Real.pi / 2 by ring, Real.cos_sub_pi_div_two]

/-! ## The log-forget gate -/

/-- The logarithm of the logistic gate. -/
def logGate (x : EReal) : EReal := -(max (-x) 0 + Ideal.log1p (Ideal.exp (-(max x (-x)))))

theorem log1p_exp_ne_bot (y : EReal) : Ideal.log1p (Ideal.exp y) ≠ ⊥ := by
  unfold Ideal.log1p
  induction y with
  | bot =>
    show Ideal.log (1 + 0) ≠ ⊥
    rw [add_zero]
    show (if (1 : ℝ) ≤ 0 then (⊥ : EReal) else _) ≠ ⊥
    rw [if_neg (by norm_num)]
    exact EReal.coe_ne_bot _
  | top =>
    show Ideal.log (1 + ⊤) ≠ ⊥
    rw [show (1 + ⊤ : EReal) = ⊤ from EReal.coe_add_top 1]
    exact top_ne_bot
  | coe r =>
    show Ideal.log (1 + ((Real.exp r : ℝ) : EReal)) ≠ ⊥
    rw [show (1 : EReal) = ((1 : ℝ) : EReal) from rfl, ← EReal.coe_add]
    show (if (1 + Real.exp r : ℝ) ≤ 0 then (⊥ : EReal) else _) ≠ ⊥
    rw [if_neg (by have := Real.exp_pos r; linarith)]
    exact EReal.coe_ne_bot _

theorem logGate_ne_top (x : EReal) : logGate x ≠ ⊤ := by
  unfold logGate
  rw [Ne, EReal.neg_eq_top_iff, EReal.add_eq_bot_iff]
  rintro (h | h)
  · have h0 : (0 : EReal) ≤ max (-x) 0 := le_max_right _ _
    rw [h] at h0
    exact absurd h0 (by simp)
  · exact log1p_exp_ne_bot _ h

/-- A value below infinity plus what rounding it loses is the value. -/
theorem add_lost (x : EReal) (h : x ≠ ⊤) : x + (x - x) = x := by
  induction x with
  | bot => rfl
  | top => exact absurd rfl h
  | coe r => rw [← EReal.coe_sub, sub_self, EReal.coe_zero, add_zero]

/-- The three parts a value is kept in. -/
def parts (x : EReal) (i : Fin 3) : EReal := if i.val = 0 then x else if i.val = 1 then x - x else x - x - (x - x)

/-! ## Running sums -/

/-- The sum of the places of `f` up to `s`. -/
def upTo {n : ℕ} (f : Fin n → EReal) (s : Fin n) : EReal := ∑ k, if k.val ≤ s.val then f k else 0

/-! ## The call's arguments and its six results, element by element -/

/-- The arguments the call reads: the stream's rows, the positions, the gains and the weights. -/
structure Args where
  h : Fin 33792 → Fin 1024 → EReal
  pos : Fin 8 → Fin 4096 → BitVec 32
  ln : Fin 1024 → EReal
  w : Fin 1024 → Fin 2216 → EReal
  bf : Fin 8 → EReal
  gqa : Fin 384 → EReal
  gkva : Fin 256 → EReal
  wuq : Fin 384 → Fin 768 → EReal
  wukv : Fin 256 → Fin 1024 → EReal
  gqn : Fin 64 → EReal
  gqr : Fin 32 → EReal
  gkn : Fin 64 → EReal
  gkr : Fin 32 → EReal
  gfq : Fin 64 → EReal
  gfk : Fin 64 → EReal

variable (I : Args) (b : Fin 8) (s : Fin 4224)

/-- A place's normalised row against the projection's columns. -/
def z (j : Fin 2216) : EReal :=
  dotCol (Cert.Mlp.normRow (I.h ⟨b.val * 4224 + s.val, by omega⟩) I.ln) fun k => I.w k j

/-- The latent query features. -/
def qAll (e : Fin 768) : EReal :=
  dotCol (unit (Ideal.ofBits FTy.f32 0x43C00000#32) (fun i => z I b s ⟨i.val, by omega⟩) I.gqa) fun k => I.wuq k e

/-- The latent key and value features. -/
def kvAll (e : Fin 1024) : EReal :=
  dotCol (unit (Ideal.ofBits FTy.f32 0x43800000#32) (fun i => z I b s ⟨384 + i.val, by omega⟩) I.gkva) fun k => I.wukv k e

def latentValue (e : Fin 512) : EReal := kvAll I b s ⟨128 * (e.val / 64) + 64 + e.val % 64, by omega⟩

def gatedValue (e : Fin 512) : EReal := z I b s ⟨1696 + e.val, by omega⟩

/-- 64 features normalised by their root mean square. -/
abbrev unit64 (x g : Fin 64 → EReal) : Fin 64 → EReal := unit (Ideal.ofBits FTy.f32 0x42800000#32) x g
/-- 32 features normalised by their root mean square. -/
abbrev unit32 (x g : Fin 32 → EReal) : Fin 32 → EReal := unit (Ideal.ofBits FTy.f32 0x42000000#32) x g

/-- The forgetting attention's queries: a head's features, three ones, zeros. -/
def gatedQuery (l : Fin 1024) : EReal :=
  if h : l.val % 128 < 64 then
    unit64 (fun i => z I b s ⟨672 + 64 * (l.val / 128) + i.val, by omega⟩) I.gfq ⟨l.val % 128, h⟩ *
      Ideal.ofBits FTy.f32 0x3E38AA3B#32
  else if l.val % 128 < 67 then 1 else 0

/-- The gate's logarithm at a place; the padding's is zero. -/
def gate (h : Fin 8) : EReal :=
  if 112 ≤ s.val then logGate (z I b s ⟨2208 + h.val, by omega⟩ + I.bf h) else 0

/-- A key's bias: the running sum of the gates' logarithms. -/
def bias (h : Fin 8) : EReal :=
  if 112 ≤ s.val then upTo (fun k => gate I b k h) s * Ideal.ofBits FTy.f32 0xBFB8AA3B#32
  else Ideal.ofBits FTy.f32 0xF149F2CA#32

/-- The forgetting attention's keys: a head's features, the bias in three parts, zeros. -/
def gatedKey (l : Fin 1024) : EReal :=
  if h : l.val % 128 < 64 then
    unit64 (fun i => z I b s ⟨1184 + 64 * (l.val / 128) + i.val, by omega⟩) I.gfk ⟨l.val % 128, h⟩
  else if h : l.val % 128 < 67 then parts (bias I b s ⟨l.val / 128, by omega⟩) ⟨l.val % 128 - 64, by omega⟩ else 0

/-- The latent attention's queries: a head's plain features, its turned features, a one, zeros. -/
def latentQuery (l : Fin 1024) : EReal :=
  if h : l.val % 128 < 64 then
    unit64 (fun i => qAll I b s ⟨96 * (l.val / 128) + i.val, by omega⟩) I.gqn ⟨l.val % 128, h⟩ *
      Ideal.ofBits FTy.f32 0x3E16C740#32
  else if h : l.val % 128 < 96 then
    rope (angles (place (I.pos b) s))
      (unit32 (fun i => qAll I b s ⟨96 * (l.val / 128) + 64 + i.val, by omega⟩) I.gqr) ⟨l.val % 128 - 64, by omega⟩ *
      Ideal.ofBits FTy.f32 0x3E16C740#32
  else if l.val % 128 < 97 then 1 else 0

/-- The latent attention's keys: a head's plain features, the shared turned features, the padding's mask, zeros. -/
def latentKey (l : Fin 1024) : EReal :=
  if h : l.val % 128 < 64 then
    unit64 (fun i => kvAll I b s ⟨128 * (l.val / 128) + i.val, by omega⟩) I.gkn ⟨l.val % 128, h⟩
  else if h : l.val % 128 < 96 then
    rope (angles (place (I.pos b) s)) (unit32 (fun i => z I b s ⟨640 + i.val, by omega⟩) I.gkr) ⟨l.val % 128 - 64, by omega⟩
  else if l.val % 128 < 97 then (if 112 ≤ s.val then 0 else Ideal.ofBits FTy.f32 0xF149F2CA#32) else 0

end Cert.Odd
-- ==== Proof.Odd.Tile.lean ====
module

public import proofs.«01_k».proof.Proof.Odd.Rows

@[expose] public section

noncomputable section

open Idealize.ShloMosaic

/-! # A tile's row through the odd layer's input call

The same quantities as a tile computes them: features side by side in 128-lane groups, normalised by a product of their
squares with a matrix of block means, turned by adding a partner lane sixteen away, and the gates' running sums carried
from tile to tile. -/

namespace Cert.Odd

/-! ## Normalising by a product with block means -/

/-- A feature times the reciprocal root of the mean that column `l` of `G` takes of the squares, times the gain. -/
def seg (x : Fin 256 → EReal) (G : Fin 256 → Fin 256 → EReal) (g : Fin 256 → EReal) (l : Fin 256) : EReal :=
  x l * Ideal.rsqrt ((∑ k, x k * x k * G k l) + Ideal.ofBits FTy.f32 0x358637BD#32) * g l

theorem seg_unit {w : ℕ} (W v : EReal) (hv : ∀ y : EReal, y * v = Ideal.div y W) (o : ℕ) (how : o + w ≤ 256)
    (x : Fin 256 → EReal) (G : Fin 256 → Fin 256 → EReal) (g : Fin 256 → EReal) (x' g' : Fin w → EReal)
    (hx : ∀ i : Fin w, x ⟨o + i.val, by omega⟩ = x' i) (hg : ∀ i : Fin w, g ⟨o + i.val, by omega⟩ = g' i) (j : Fin w)
    (hG : ∀ k, G k ⟨o + j.val, by omega⟩ = if o ≤ k.val ∧ k.val < o + w then v else 0) :
    seg x G g ⟨o + j.val, by omega⟩ = unit W x' g' j := by
  unfold seg unit
  rw [block_sum o how (fun k => x k * x k) (fun k => G k ⟨o + j.val, by omega⟩) (fun k => square_nonneg _) v hG, hv, hx, hg]
  simp only [hx]

theorem seg_zero (x : Fin 256 → EReal) (G : Fin 256 → Fin 256 → EReal) (g : Fin 256 → EReal) (l : Fin 256) (h : x l = 0) :
    seg x G g l = 0 := by
  unfold seg
  rw [h, zero_mul, zero_mul]

theorem seg_gain (x : Fin 256 → EReal) (G : Fin 256 → Fin 256 → EReal) (g : Fin 256 → EReal) (l : Fin 256) (h : g l = 0) :
    seg x G g l = 0 := by
  unfold seg
  rw [h, mul_zero]

/-! ## Turning by a partner lane -/

/-- The cosines on a group's 32 turned lanes, ones elsewhere. -/
def csAt (a : Fin 16 → EReal) (l : Fin 256) : EReal :=
  if h : 64 ≤ l.val % 128 ∧ l.val % 128 < 80 then Ideal.cos (a ⟨l.val % 128 - 64, by omega⟩)
  else if h : 80 ≤ l.val % 128 ∧ l.val % 128 < 96 then Ideal.cos (a ⟨l.val % 128 - 80, by omega⟩) else 1

/-- The sines on a group's 32 turned lanes, the first sixteen negated, zeros elsewhere. -/
def snAt (a : Fin 16 → EReal) (l : Fin 256) : EReal :=
  if h : 64 ≤ l.val % 128 ∧ l.val % 128 < 80 then 0 - Ideal.sin (a ⟨l.val % 128 - 64, by omega⟩)
  else if h : 80 ≤ l.val % 128 ∧ l.val % 128 < 96 then Ideal.sin (a ⟨l.val % 128 - 80, by omega⟩) else 0

/-- A lane times its cosine plus its partner times its sine. -/
def turn (y cs sn : Fin 256 → EReal) (l : Fin 256) : EReal :=
  y l * cs l + (if l.val % 128 < 80 then y ⟨(l.val + 16) % 256, by omega⟩ else y ⟨(l.val + 240) % 256, by omega⟩) * sn l

theorem turn_plain (a : Fin 16 → EReal) (y : Fin 256 → EReal) (l : Fin 256) (h : l.val % 128 < 64 ∨ 96 ≤ l.val % 128) :
    turn y (csAt a) (snAt a) l = y l := by
  unfold turn csAt snAt
  rw [dif_neg (by omega), dif_neg (by omega), dif_neg (by omega), dif_neg (by omega), mul_one, mul_zero, add_zero]

theorem turn_rope (a : Fin 16 → EReal) (y : Fin 256 → EReal) (l : Fin 256) (h : 64 ≤ l.val % 128 ∧ l.val % 128 < 96) :
    turn y (csAt a) (snAt a) l =
      rope a (fun j => y ⟨128 * (l.val / 128) + 64 + j.val, by omega⟩) ⟨l.val % 128 - 64, by omega⟩ := by
  have hl := l.isLt
  unfold turn csAt snAt rope
  by_cases h1 : l.val % 128 < 80
  · rw [dif_pos ⟨h.1, h1⟩, dif_pos ⟨h.1, h1⟩, if_pos h1, dif_pos (show l.val % 128 - 64 < 16 by omega), zero_sub,
      mul_neg, ← sub_eq_add_neg]
    have e1 : (⟨128 * (l.val / 128) + 64 + (l.val % 128 - 64), by omega⟩ : Fin 256) = l := Fin.ext (by dsimp only; omega)
    have e2 : (⟨128 * (l.val / 128) + 64 + (l.val % 128 - 64 + 16), by omega⟩ : Fin 256) = ⟨(l.val + 16) % 256, by omega⟩ :=
      Fin.ext (by dsimp only; omega)
    dsimp only
    rw [e1, e2]
  · rw [dif_neg (by omega), dif_pos ⟨by omega, h.2⟩, dif_neg (by omega), dif_pos ⟨by omega, h.2⟩, if_neg h1,
      dif_neg (show ¬l.val % 128 - 64 < 16 by omega), add_comm]
    have e1 : (⟨128 * (l.val / 128) + 64 + (l.val % 128 - 64), by omega⟩ : Fin 256) = l := Fin.ext (by dsimp only; omega)
    have e2 : (⟨128 * (l.val / 128) + 64 + (l.val % 128 - 64 - 16), by omega⟩ : Fin 256) = ⟨(l.val + 240) % 256, by omega⟩ :=
      Fin.ext (by dsimp only; omega)
    have e3 : (⟨l.val % 128 - 64 - 16, by omega⟩ : Fin 16) = ⟨l.val % 128 - 80, by omega⟩ := Fin.ext (by dsimp only; omega)
    dsimp only
    rw [e1, e2, e3]

/-! ## The phases -/

/-- The cosine of a phase that mixes four rows' angles, of which one counts: the row's cosine or its sine. -/
theorem phase_eq (q : EReal) (hq : q = ((-(1 / 2) * Real.pi : ℝ) : EReal)) (P : Fin 4 → BitVec 32) (l : Fin 128) (u : EReal)
    (hu : u = if l.val % 32 < 16 then 0 else 1) (f : Fin 4 → EReal)
    (hf : ∀ g : Fin 4, f g = if 32 * g.val ≤ l.val ∧ l.val < 32 * g.val + 32 then freq ⟨l.val % 16, by omega⟩ else 0) :
    Ideal.cos (u * q + (((P 0).toInt : ℝ) : EReal) * f 0 + (((P 1).toInt : ℝ) : EReal) * f 1 +
        (((P 2).toInt : ℝ) : EReal) * f 2 + (((P 3).toInt : ℝ) : EReal) * f 3) =
      if l.val % 32 < 16 then Ideal.cos (angles (P ⟨l.val / 32, by omega⟩) ⟨l.val % 16, by omega⟩)
      else Ideal.sin (angles (P ⟨l.val / 32, by omega⟩) ⟨l.val % 16, by omega⟩) := by
  have key : u * q + (((P 0).toInt : ℝ) : EReal) * f 0 + (((P 1).toInt : ℝ) : EReal) * f 1 +
      (((P 2).toInt : ℝ) : EReal) * f 2 + (((P 3).toInt : ℝ) : EReal) * f 3 =
      u * q + angles (P ⟨l.val / 32, by omega⟩) ⟨l.val % 16, by omega⟩ := by
    have hl := l.isLt
    have z : ∀ g : Fin 4, ¬(g.val = l.val / 32) → f g = 0 := fun g hg => by rw [hf, if_neg]; omega
    have o : f ⟨l.val / 32, by omega⟩ = freq ⟨l.val % 16, by omega⟩ := by rw [hf, if_pos]; dsimp only; omega
    have hc : l.val / 32 = 0 ∨ l.val / 32 = 1 ∨ l.val / 32 = 2 ∨ l.val / 32 = 3 := by omega
    unfold angles
    rw [← o]
    rcases hc with e | e | e | e
    · rw [z 1 (by rw [e]; decide), z 2 (by rw [e]; decide), z 3 (by rw [e]; decide),
        show (⟨l.val / 32, by omega⟩ : Fin 4) = 0 from Fin.ext e]
      simp only [mul_zero, add_zero]
    · rw [z 0 (by rw [e]; decide), z 2 (by rw [e]; decide), z 3 (by rw [e]; decide),
        show (⟨l.val / 32, by omega⟩ : Fin 4) = 1 from Fin.ext e]
      simp only [mul_zero, add_zero]
    · rw [z 0 (by rw [e]; decide), z 1 (by rw [e]; decide), z 3 (by rw [e]; decide),
        show (⟨l.val / 32, by omega⟩ : Fin 4) = 2 from Fin.ext e]
      simp only [mul_zero, add_zero]
    · rw [z 0 (by rw [e]; decide), z 1 (by rw [e]; decide), z 2 (by rw [e]; decide),
        show (⟨l.val / 32, by omega⟩ : Fin 4) = 3 from Fin.ext e]
      simp only [mul_zero, add_zero]
  rw [key, hu]
  by_cases h : l.val % 32 < 16
  · rw [if_pos h, if_pos h, zero_mul, zero_add]
  · rw [if_neg h, if_neg h, one_mul]
    exact behind q hq _ _

/-! ## The running sums -/

theorem scan_eq (f T : Fin 384 → EReal) (r : Fin 384) (hf : ∀ k, f k ≠ ⊤) (hT : ∀ k, T k = if k.val ≤ r.val then 1 else 0) :
    ∑ k, T k * f k + ∑ k, T k * (f k - f k) = ∑ k, if k.val ≤ r.val then f k else 0 := by
  rw [← Finset.sum_add_distrib]
  refine Finset.sum_congr rfl fun k _ => ?_
  rw [hT]
  by_cases h : k.val ≤ r.val
  · rw [if_pos h, if_pos h, one_mul, one_mul, add_lost _ (hf k)]
  · rw [if_neg h, if_neg h, zero_mul, zero_mul, add_zero]

/-- The sum over the places before tile `j`. -/
def before (f : Fin 4224 → EReal) (j : ℕ) : EReal := ∑ k, if k.val < 384 * j then f k else 0

theorem before_zero (f : Fin 4224 → EReal) : before f 0 = 0 := by
  unfold before
  exact Finset.sum_eq_zero fun k _ => if_neg (by omega)

theorem tile_sum (f : Fin 4224 → EReal) (j : ℕ) (hj : j < 11) (r : Fin 384) :
    (∑ i : Fin 384, if i.val ≤ r.val then f ⟨384 * j + i.val, by omega⟩ else 0) + before f j =
      upTo f ⟨384 * j + r.val, by omega⟩ := by
  have h1 : (∑ i : Fin 384, if i.val ≤ r.val then f ⟨384 * j + i.val, by omega⟩ else 0) =
      ∑ k : Fin 4224, if 384 * j ≤ k.val ∧ k.val ≤ 384 * j + r.val then f k else 0 := by
    refine Fintype.sum_of_injective (fun i : Fin 384 => (⟨384 * j + i.val, by omega⟩ : Fin 4224)) (fun a b h => ?_) _ _
      (fun k hk => ?_) fun i => ?_
    · have := congrArg Fin.val h
      exact Fin.ext (by dsimp only at this; omega)
    · rw [if_neg]
      rintro ⟨h1, h2⟩
      exact hk ⟨⟨k.val - 384 * j, by omega⟩, Fin.ext (by dsimp only; omega)⟩
    · by_cases h : i.val ≤ r.val
      · rw [if_pos h, if_pos (by dsimp only; omega)]
      · rw [if_neg h, if_neg (by dsimp only; omega)]
  unfold before upTo
  rw [h1, ← Finset.sum_add_distrib]
  refine Finset.sum_congr rfl fun k _ => ?_
  by_cases h : k.val < 384 * j
  · rw [if_neg (by omega), if_pos h, if_pos (by dsimp only; omega), zero_add]
  · by_cases h2 : k.val ≤ 384 * j + r.val
    · rw [if_pos ⟨by omega, h2⟩, if_neg h, if_pos h2, add_zero]
    · rw [if_neg (by omega), if_neg h, if_neg h2, add_zero]

theorem before_next (f : Fin 4224 → EReal) (j : ℕ) (hj : j < 11) :
    upTo f ⟨384 * j + 383, by omega⟩ = before f (j + 1) := by
  unfold before upTo
  refine Finset.sum_congr rfl fun k _ => ?_
  by_cases h : k.val ≤ 384 * j + 383
  · rw [if_pos h, if_pos (by omega)]
  · rw [if_neg h, if_neg (by omega)]

/-! ## Picking a bias part's lane -/

theorem part_sum (B S : Fin 384 → EReal) (l : Fin 1024) (h : 64 ≤ l.val % 128 ∧ l.val % 128 < 67)
    (hS : ∀ k : Fin 384, S k = if k.val % 128 < 8 ∧ l.val % 128 = 64 + k.val / 128 ∧ l.val / 128 = k.val % 128 then 1 else 0) :
    ∑ k, B k * S k = B ⟨128 * (l.val % 128 - 64) + l.val / 128, by omega⟩ := by
  have hl := l.isLt
  refine pick_sum _ B S fun k => ?_
  have hk := k.isLt
  rw [hS]
  refine if_congr ?_ rfl rfl
  rw [Fin.ext_iff]
  dsimp only
  have hd : l.val / 128 < 8 := by omega
  constructor
  · rintro ⟨h1, h2, h3⟩
    omega
  · intro e
    have e1 : k.val / 128 = l.val % 128 - 64 := by rw [e]; omega
    have e2 : k.val % 128 = l.val / 128 := by rw [e]; omega
    omega

theorem part_none (B S : Fin 384 → EReal) (l : Fin 1024) (h : 67 ≤ l.val % 128)
    (hS : ∀ k : Fin 384, S k = if k.val % 128 < 8 ∧ l.val % 128 = 64 + k.val / 128 ∧ l.val / 128 = k.val % 128 then 1 else 0) :
    ∑ k, B k * S k = 0 :=
  none_sum B S fun k => by rw [hS, if_neg]; have := k.isLt; omega

end Cert.Odd
-- ==== Proof.Odd.Pay.lean ====
module

public import proofs.«01_k».proof.Proof.Gen.Kernel4Ideal.Frame.Runs
public import proofs.«01_k».proof.Proof.Odd.Tile
public import Idealize.ShloMosaic.Lib.Tactic.CleanTypes

@[expose] public section

set_option maxRecDepth 16384

noncomputable section

/-! # A point's products, element by element -/

namespace Cert.Kernel4Ideal.Odd

open Cert.Kernel4Ideal Cert.Kernel4Ideal.Gen Cert.Mlp Cert.Odd
open Idealize.ShloMosaic Idealize.ShloMosaic.TcCoe

theorem normed_apply (x : Vec Ideal S1x384x1024 .f32) (g : Vec Ideal S1x1024 .f32) (r : Fin 384) (l : Fin 1024) :
    (k0_pay3 x g (ix2 r l) : EReal) = normRow (fun j => x (ix3 0 r j)) (fun j => g (ix2 0 j)) l := by
  pointwise [k0_pay3]
  rfl

theorem cq_apply (x : Vec Ideal S1x384x1024 .f32) (g : Vec Ideal S1x1024 .f32) (w : Vec Ideal S1024x384 .bf16) (r : Fin 384)
    (l : Fin 384) : (k0_pay4 x g w (ix2 r l) : EReal) = ∑ k, k0_pay3 x g (ix2 r k) * w (ix2 k l) := by
  pointwise [k0_pay4]

theorem ckv_apply (x : Vec Ideal S1x384x1024 .f32) (g : Vec Ideal S1x1024 .f32) (w : Vec Ideal S1024x256 .bf16) (r : Fin 384)
    (l : Fin 256) : (k0_pay5 x g w (ix2 r l) : EReal) = ∑ k, k0_pay3 x g (ix2 r k) * w (ix2 k l) := by
  pointwise [k0_pay5]

theorem kr_apply (x : Vec Ideal S1x384x1024 .f32) (g : Vec Ideal S1x1024 .f32) (w : Vec Ideal S1024x128 .bf16) (r : Fin 384)
    (l : Fin 128) : (k0_pay6 x g w (ix2 r l) : EReal) = ∑ k, k0_pay3 x g (ix2 r k) * w (ix2 k l) := by
  pointwise [k0_pay6]

theorem fq_apply (n : FVec Ideal S384x1024 .bf16) (w : Vec Ideal S1024x512 .bf16) (r : Fin 384) (l : Fin 512) :
    (k0_pay60 n w (ix2 r l) : EReal) = ∑ k, n (ix2 r k) * w (ix2 k l) := by
  pointwise [k0_pay60]

theorem fk_apply (n : FVec Ideal S384x1024 .bf16) (w : Vec Ideal S1024x512 .bf16) (r : Fin 384) (l : Fin 512) :
    (k0_pay61 n w (ix2 r l) : EReal) = ∑ k, n (ix2 r k) * w (ix2 k l) := by
  pointwise [k0_pay61]

theorem fv_apply (n : FVec Ideal S384x1024 .bf16) (w : Vec Ideal S1024x512 .bf16) (l : Fin 512) (r : Fin 384) :
    (k0_pay90 n w (ix3 0 l r) : EReal) = ∑ k, n (ix2 r k) * w (ix2 k l) := by
  pointwise [k0_pay90]

theorem vm_apply (n : FVec Ideal S384x256 .bf16) (w : Vec Ideal S256x512 .bf16) (l : Fin 512) (r : Fin 384) :
    (k0_pay1 n (k0_pay91 w) (constant S384x512 .f32 0x00000000#32) (ix3 0 l r) : EReal) =
      ∑ k, n (ix2 r k) * w (ix2 k l) := by
  pointwise [k0_pay1, k0_pay91]

theorem qc_apply (x : FVec Ideal S384x384 .f32) (g : Vec Ideal S1x384 .f32) (w : Vec Ideal S384x1024 .bf16) (r : Fin 384)
    (l : Fin 1024) :
    (k0_pay32 x (k0_pay29 g) (k0_pay30 x) (Scalar.ofBits .f32 0x43C00000#32) w (ix2 r l) : EReal) =
      ∑ k, unit (Ideal.ofBits FTy.f32 0x43C00000#32) (fun j => x (ix2 r j)) (fun j => g (ix2 0 j)) k * w (ix2 k l) := by
  pointwise [k0_pay32, k0_pay29, k0_pay30]
  rfl

theorem kc_apply (x : FVec Ideal S384x256 .f32) (g : Vec Ideal S1x256 .f32) (r : Fin 384) (l : Fin 256) :
    (k0_pay31 x g (ix2 r l) : EReal) =
      unit (Ideal.ofBits FTy.f32 0x43800000#32) (fun j => x (ix2 r j)) (fun j => g (ix2 0 j)) l := by
  pointwise [k0_pay31]
  rfl

theorem knc_apply (x : FVec Ideal S384x256 .f32) (g : Vec Ideal S1x256 .f32) (w : Vec Ideal S256x1024 .bf16) (r : Fin 384)
    (l : Fin 1024) : (k0_pay33 x g w (ix2 r l) : EReal) = ∑ k, k0_pay31 x g (ix2 r k) * w (ix2 k l) := by
  pointwise [k0_pay33]

/-! ## The masks -/

theorem lane_apply (r : Fin 384) (l : Fin 256) :
    k0_pay8 (Scalar.select (Scalar.cmpi .eq 128#32 0#32) 1#32 128#32) k0_pay7 0#32 (ix2 r l) = BitVec.ofNat 32 (l.val % 128) := by
  pointwise [k0_pay8, k0_pay7]
  revert l
  decide +kernel

theorem mask_apply (r : Fin 384) (l : Fin 256) :
    k0_pay10 (Scalar.select (Scalar.cmpi .eq 128#32 0#32) 1#32 128#32) k0_pay7 0#32 (ix2 r l) =
      if l.val % 128 = 96 then 1#1 else 0#1 := by
  have h : ∀ v : IVec S384x256 32, cmpi .eq v (broadcast S384x256 96#32) (ix2 r l) = Scalar.cmpi .eq (v (ix2 r l)) 96#32 :=
    fun v => rfl
  refine (h _).trans ?_
  rw [lane_apply]
  clear h
  revert l
  decide +kernel

theorem front_apply (r : Fin 384) (l : Fin 256) :
    k0_pay26 (k0_pay8 (Scalar.select (Scalar.cmpi .eq 128#32 0#32) 1#32 128#32) k0_pay7 0#32) (ix2 r l) =
      if l.val % 128 < 80 then 1#1 else 0#1 := by
  have h : ∀ v : IVec S384x256 32, k0_pay26 v (ix2 r l) = Scalar.cmpi .slt (v (ix2 r l)) 80#32 := fun v => rfl
  rw [h, lane_apply]
  clear h
  revert l
  decide +kernel

theorem unused_apply (n : Fin 11) (r : Fin 384) (l : Fin 256) :
    k0_pay9 (BitVec.ofNat 32 n.val) (ix2 r l) = if r.val < 112 ∧ n.val = 0 then 1#1 else 0#1 := by
  have h : k0_pay9 (BitVec.ofNat 32 n.val) (ix2 r l) =
      IntOp.andi (IntOp.cmpi .slt (BitVec.ofNat 32 r.val) 112#32) (Scalar.cmpi .eq (BitVec.ofNat 32 n.val) 0#32) := by
    pointwise [k0_pay9]
  rw [h]
  clear h
  revert n r
  decide +kernel

theorem unusedB_apply (n : Fin 11) (r : Fin 384) (l : Fin 128) :
    k0_pay50 (BitVec.ofNat 32 n.val) (ix2 r l) = if r.val < 112 ∧ n.val = 0 then 1#1 else 0#1 := by
  have h : k0_pay50 (BitVec.ofNat 32 n.val) (ix2 r l) =
      IntOp.andi (IntOp.cmpi .slt (BitVec.ofNat 32 r.val) 112#32) (Scalar.cmpi .eq (BitVec.ofNat 32 n.val) 0#32) := by
    pointwise [k0_pay50]
  rw [h]
  clear h
  revert n r
  decide +kernel

theorem valid_apply (n : Fin 11) (r : Fin 384) (l : Fin 128) :
    k0_pay51 (BitVec.ofNat 32 n.val) (ix2 r l) = if ¬(r.val < 112 ∧ n.val = 0) ∧ l.val < 8 then 1#1 else 0#1 := by
  have h : k0_pay51 (BitVec.ofNat 32 n.val) (ix2 r l) =
      IntOp.andi (IntOp.xori (k0_pay50 (BitVec.ofNat 32 n.val) (ix2 r l)) 1#1)
        (IntOp.cmpi .slt (BitVec.ofNat 32 l.val) 8#32) := by
    pointwise [k0_pay51]
  rw [h, unusedB_apply]
  have hl : IntOp.cmpi .slt (BitVec.ofNat 32 l.val) 8#32 = if l.val < 8 then 1#1 else 0#1 := by
    clear h
    revert l
    decide +kernel
  rw [hl]
  by_cases h1 : r.val < 112 ∧ n.val = 0
  · rw [if_pos h1, if_neg (show ¬(¬(r.val < 112 ∧ n.val = 0) ∧ l.val < 8) from fun h => h.1 h1)]
    by_cases h2 : l.val < 8
    · rw [if_pos h2]; rfl
    · rw [if_neg h2]; rfl
  · rw [if_neg h1]
    by_cases h2 : l.val < 8
    · rw [if_pos h2, if_pos (show ¬(r.val < 112 ∧ n.val = 0) ∧ l.val < 8 from ⟨h1, h2⟩)]; rfl
    · rw [if_neg h2, if_neg (show ¬(¬(r.val < 112 ∧ n.val = 0) ∧ l.val < 8) from fun h => h2 h.2)]; rfl

end Cert.Kernel4Ideal.Odd
-- ==== Proof.Odd.PayT.lean ====
module

public import proofs.«01_k».proof.Proof.Gen.Kernel4Ideal.Frame.Runs
public import proofs.«01_k».proof.Proof.Odd.Tile
public import Idealize.ShloMosaic.Lib.Tactic.CleanTypes

@[expose] public section

set_option maxRecDepth 16384

noncomputable section

/-! # The turned features of a point, element by element -/

namespace Cert.Kernel4Ideal.Odd

open Cert.Kernel4Ideal Cert.Kernel4Ideal.Gen Cert.Mlp Cert.Odd
open Idealize.ShloMosaic Idealize.ShloMosaic.TcCoe

/-! ## The angles -/

/-- A quarter turn back. -/
noncomputable abbrev quarter : EReal := ((-(1 / 2) * Real.pi : ℝ) : EReal)

theorem quarter_eq : Named.named (F := Ideal) κ "quarter_turn" (φ := .f32) 0xBFC90FDB#32 = quarter := by
  have h : Named.named (F := Ideal) κ "quarter_turn" (φ := .f32) 0xBFC90FDB#32 =
      ((-1 / 2 : ℝ) : EReal) * ((Real.pi : ℝ) : EReal) := by simp [Named.named, κ]
  rw [h, ← EReal.coe_mul]
  exact congrArg _ (by ring)

/-- The cosines of a point's phases: four groups of 96 rows, each on its own 32 lanes. -/
abbrev phased (p : Vec Ideal S1x384x1 .f32) (u f0 f1 f2 f3 : Vec Ideal S1x128 .f32) : FVec Ideal S96x128 .f32 :=
  k0_pay14 (k0_pay11 p) (k0_pay12 p u f0 f1) (k0_pay13 p) f2 f3

theorem phased_apply (p : Vec Ideal S1x384x1 .f32) (u f0 f1 f2 f3 : Vec Ideal S1x128 .f32) (r : Fin 96) (l : Fin 128) :
    (phased p u f0 f1 f2 f3 (ix2 r l) : EReal) =
      Ideal.cos (u (ix2 0 l) * quarter + p (ix3 0 (⟨r.val, by omega⟩ : Fin 384) 0) * f0 (ix2 0 l) +
        p (ix3 0 (⟨96 + r.val, by omega⟩ : Fin 384) 0) * f1 (ix2 0 l) +
        p (ix3 0 (⟨192 + r.val, by omega⟩ : Fin 384) 0) * f2 (ix2 0 l) +
        p (ix3 0 (⟨288 + r.val, by omega⟩ : Fin 384) 0) * f3 (ix2 0 l)) := by
  pointwise [phased, k0_pay14, k0_pay11, k0_pay12, k0_pay13]
  simp only [quarter_eq]
  try rfl

/-! ## Cosines and sines on the turned lanes -/

theorem low_apply (r : Fin 96) (l : Fin 128) : k0_pay15 (ix2 r l) = if 64 ≤ l.val ∧ l.val < 80 then 1#1 else 0#1 := by
  have h : k0_pay15 (ix2 r l) = IntOp.andi (IntOp.cmpi .sge (BitVec.ofNat 32 l.val) 64#32)
      (IntOp.cmpi .slt (BitVec.ofNat 32 l.val) 80#32) := by
    pointwise [k0_pay15]
  rw [h]
  clear h
  revert l
  decide +kernel

theorem high_apply (r : Fin 96) (l : Fin 128) : k0_pay16 (ix2 r l) = if 80 ≤ l.val ∧ l.val < 96 then 1#1 else 0#1 := by
  have h : k0_pay16 (ix2 r l) = IntOp.andi (IntOp.cmpi .sge (BitVec.ofNat 32 l.val) 80#32)
      (IntOp.cmpi .slt (BitVec.ofNat 32 l.val) 96#32) := by
    pointwise [k0_pay16]
  rw [h]
  clear h
  revert l
  decide +kernel

/-- The cosines of a group of rows: the first sixteen turned lanes twice, ones elsewhere. -/
def csOf (y : FVec Ideal S96x128 .f32) : FVec Ideal S96x128 .f32 :=
  select k0_pay16 (dynamicRotate 1 16#32 none y rotates_S96x128_d1)
    (select k0_pay15 y (broadcast S96x128 (Scalar.ofBits .f32 0x3F800000#32)))

/-- The sines of a group of rows: the next sixteen lanes twice, first negated, zeros elsewhere. -/
def snOf (y : FVec Ideal S96x128 .f32) : FVec Ideal S96x128 .f32 :=
  select k0_pay15 (subf (broadcast S96x128 (Scalar.ofBits .f32 0x00000000#32))
      (dynamicRotate 1 112#32 none y rotates_S96x128_d1))
    (select k0_pay16 y (broadcast S96x128 (Scalar.ofBits .f32 0x00000000#32)))

theorem sel_one {α : Type} (c : BitVec 1) (P : Prop) [Decidable P] (h : c = if P then 1#1 else 0#1) (a b : α) :
    Scalar.select c a b = if P then a else b := by
  by_cases p : P
  · rw [h, if_pos p, if_pos p]; rfl
  · rw [h, if_neg p, if_neg p]; rfl

theorem rot_apply (y : FVec Ideal S96x128 .f32) (n : BitVec 32) (k : ℕ) (hk : k < 128) (hn : n = BitVec.ofNat 32 k) (r : Fin 96)
    (l : Fin 128) : dynamicRotate 1 n none y rotates_S96x128_d1 (ix2 r l) = y (ix2 r ⟨(l.val + 128 - k) % 128, by omega⟩) := by
  subst hn
  pointwise
  refine congrArg (fun a => y (ix2 r a)) (Fin.ext ?_)
  dsimp only
  rw [BitVec.toNat_ofNat, Nat.mod_eq_of_lt (show k < 2 ^ 32 by omega), Nat.mod_eq_of_lt hk]

theorem one_word : (Scalar.ofBits (F := Ideal) .f32 0x3F800000#32 : EReal) = 1 := by
  show Ideal.ofBits FTy.f32 0x3F800000#32 = 1
  simp [Ideal.ofBits, Ideal.ieee, -EReal.coe_mul]
  norm_num

theorem zero_word : (Scalar.ofBits (F := Ideal) .f32 0x00000000#32 : EReal) = 0 := by
  show Ideal.ofBits FTy.f32 0x00000000#32 = 0
  simp [Ideal.ofBits, Ideal.ieee, -EReal.coe_mul]

theorem csOf_apply (y : FVec Ideal S96x128 .f32) (r : Fin 96) (l : Fin 128) :
    (csOf y (ix2 r l) : EReal) = if 80 ≤ l.val ∧ l.val < 96 then y (ix2 r ⟨(l.val + 128 - 16) % 128, by omega⟩)
      else if 64 ≤ l.val ∧ l.val < 80 then y (ix2 r l) else (1 : EReal) := by
  show Scalar.select (k0_pay16 (ix2 r l)) (dynamicRotate 1 16#32 none y rotates_S96x128_d1 (ix2 r l) : EReal)
    (Scalar.select (k0_pay15 (ix2 r l)) (y (ix2 r l)) (Scalar.ofBits (F := Ideal) .f32 0x3F800000#32 : EReal)) = _
  rw [sel_one _ _ (high_apply r l), sel_one _ _ (low_apply r l), rot_apply y 16#32 16 (by omega) rfl, one_word]

theorem snOf_apply (y : FVec Ideal S96x128 .f32) (r : Fin 96) (l : Fin 128) :
    (snOf y (ix2 r l) : EReal) = if 64 ≤ l.val ∧ l.val < 80 then 0 - (y (ix2 r ⟨(l.val + 128 - 112) % 128, by omega⟩) : EReal)
      else if 80 ≤ l.val ∧ l.val < 96 then y (ix2 r l) else (0 : EReal) := by
  show Scalar.select (k0_pay15 (ix2 r l)) ((Scalar.ofBits (F := Ideal) .f32 0x00000000#32 : EReal) -
      (dynamicRotate 1 112#32 none y rotates_S96x128_d1 (ix2 r l) : EReal))
    (Scalar.select (k0_pay16 (ix2 r l)) (y (ix2 r l)) (Scalar.ofBits (F := Ideal) .f32 0x00000000#32 : EReal)) = _
  rw [sel_one _ _ (high_apply r l), sel_one _ _ (low_apply r l), rot_apply y 112#32 112 (by omega) rfl, zero_word]

/-- The four groups of rows one after the other, in both halves of the lanes. -/
def stacked (a b c d : FVec Ideal S96x128 .f32) : FVec Ideal S384x256 .f32 :=
  concatenate S384x256 1
    [⟨S384x128, concatenate S384x128 0 [⟨S96x128, a⟩, ⟨S96x128, b⟩, ⟨S96x128, c⟩, ⟨S96x128, d⟩]
        concatenates_S96x128_S96x128_S96x128_S96x128_S384x128_d0⟩,
      ⟨S384x128, concatenate S384x128 0 [⟨S96x128, a⟩, ⟨S96x128, b⟩, ⟨S96x128, c⟩, ⟨S96x128, d⟩]
        concatenates_S96x128_S96x128_S96x128_S96x128_S384x128_d0⟩] concatenates_S384x128_S384x128_S384x256_d1

theorem at_eq (f : Fin 4 → Fin 96 → Fin 128 → EReal) (g g' : Fin 4) (r r' : Fin 96) (q : Fin 128) (hg : g = g') (hr : r = r') :
    f g r q = f g' r' q := by
  rw [hg, hr]

theorem stacked_apply (a b c d : FVec Ideal S96x128 .f32) (f : Fin 4 → Fin 96 → Fin 128 → EReal)
    (ha : ∀ r l, a (ix2 r l) = f 0 r l) (hb : ∀ r l, b (ix2 r l) = f 1 r l) (hc : ∀ r l, c (ix2 r l) = f 2 r l)
    (hd : ∀ r l, d (ix2 r l) = f 3 r l) (r : Fin 384) (l : Fin 256) :
    (stacked a b c d (ix2 r l) : EReal) = f ⟨r.val / 96, by omega⟩ ⟨r.val % 96, by omega⟩ ⟨l.val % 128, by omega⟩ := by
  have hr := r.isLt
  have hl := l.isLt
  have key : ∀ q : Fin 128, (concatenate S384x128 0 [⟨S96x128, a⟩, ⟨S96x128, b⟩, ⟨S96x128, c⟩, ⟨S96x128, d⟩]
      concatenates_S96x128_S96x128_S96x128_S96x128_S384x128_d0 : FVec Ideal S384x128 .f32) (ix2 r q) =
      f ⟨r.val / 96, by omega⟩ ⟨r.val % 96, by omega⟩ q := by
    intro q
    pointwise
    simp only [ha, hb, hc, hd]
    repeat' split
    · exact at_eq f 0 _ _ _ q (Fin.ext (show 0 = r.val / 96 by omega)) (Fin.ext (by first | omega | (dsimp only; omega)))
    · exact at_eq f 1 _ _ _ q (Fin.ext (show 1 = r.val / 96 by omega)) (Fin.ext (by first | omega | (dsimp only; omega)))
    · exact at_eq f 2 _ _ _ q (Fin.ext (show 2 = r.val / 96 by omega)) (Fin.ext (by first | omega | (dsimp only; omega)))
    · exact at_eq f 3 _ _ _ q (Fin.ext (show 3 = r.val / 96 by omega)) (Fin.ext (by first | omega | (dsimp only; omega)))
  have two : ∀ v : FVec Ideal S384x128 .f32, (concatenate S384x256 1 [⟨S384x128, v⟩, ⟨S384x128, v⟩]
      concatenates_S384x128_S384x128_S384x256_d1 : FVec Ideal S384x256 .f32) (ix2 r l) =
      v (ix2 r ⟨l.val % 128, by omega⟩) := by
    intro v
    pointwise
    split
    · exact congrArg (fun q => v (ix2 r q)) (Fin.ext (by dsimp only; omega))
    · exact congrArg (fun q => v (ix2 r q)) (Fin.ext (by dsimp only; omega))
  exact (two _).trans (key _)

/-- A point's cosines. -/
def csTile (x : FVec Ideal S96x128 .f32) : FVec Ideal S384x256 .f32 :=
  stacked (csOf (dynamicRotate 1 64#32 none x rotates_S96x128_d1)) (csOf (dynamicRotate 1 32#32 none x rotates_S96x128_d1))
    (csOf x) (csOf (dynamicRotate 1 96#32 none x rotates_S96x128_d1))

/-- A point's sines. -/
def snTile (x : FVec Ideal S96x128 .f32) : FVec Ideal S384x256 .f32 :=
  stacked (snOf (dynamicRotate 1 64#32 none x rotates_S96x128_d1)) (snOf (dynamicRotate 1 32#32 none x rotates_S96x128_d1))
    (snOf x) (snOf (dynamicRotate 1 96#32 none x rotates_S96x128_d1))

theorem cs_stages (a : FVec Ideal S384x1 .f32) (b : FVec Ideal S96x128 .f32) (d : FVec Ideal S96x1 .f32)
    (e f : Vec Ideal S1x128 .f32) :
    k0_pay24 (k0_pay14 a b d e f) k0_pay15 k0_pay16 (k0_pay18 a b d e f) (k0_pay21 a b d e f) =
      csTile (k0_pay14 a b d e f) := rfl

theorem sn_stages (a : FVec Ideal S384x1 .f32) (b : FVec Ideal S96x128 .f32) (d : FVec Ideal S96x1 .f32)
    (e f : Vec Ideal S1x128 .f32) :
    k0_pay25 (k0_pay14 a b d e f) k0_pay15 k0_pay16 (k0_pay19 a b d e f) (k0_pay20 a b d e f) (k0_pay22 a b d e f) =
      snTile (k0_pay14 a b d e f) := rfl

/-- The cosines of a point whose phases are a position's angles on each group's lanes. -/
theorem csTile_apply (x : FVec Ideal S96x128 .f32) (P : Fin 384 → Fin 16 → EReal)
    (hx : ∀ (r : Fin 96) (l : Fin 128), x (ix2 r l) =
      if l.val % 32 < 16 then Ideal.cos (P ⟨96 * (l.val / 32) + r.val, by omega⟩ ⟨l.val % 16, by omega⟩)
      else Ideal.sin (P ⟨96 * (l.val / 32) + r.val, by omega⟩ ⟨l.val % 16, by omega⟩)) (r : Fin 384) (l : Fin 256) :
    (csTile x (ix2 r l) : EReal) = csAt (P r) l := by
  have hr := r.isLt
  unfold csTile
  rw [stacked_apply _ _ _ _ (fun g r' q => if h : 64 ≤ q.val ∧ q.val < 80 then
      Ideal.cos (P ⟨96 * g.val + r'.val, by omega⟩ ⟨q.val - 64, by omega⟩)
    else if h : 80 ≤ q.val ∧ q.val < 96 then Ideal.cos (P ⟨96 * g.val + r'.val, by omega⟩ ⟨q.val - 80, by omega⟩) else 1)
    (fun r' q => ?_) (fun r' q => ?_) (fun r' q => ?_) (fun r' q => ?_)]
  · unfold csAt
    have e : (⟨96 * (r.val / 96) + r.val % 96, by omega⟩ : Fin 384) = r := Fin.ext (by first | omega | (dsimp only; omega))
    dsimp only
    rw [e]
  all_goals
    rw [csOf_apply]
    try simp only [rot_apply _ 64#32 64 (by omega) rfl, rot_apply _ 32#32 32 (by omega) rfl, rot_apply _ 96#32 96 (by omega) rfl]
    by_cases h1 : 64 ≤ q.val ∧ q.val < 80
    · rw [if_neg (by omega), if_pos h1, dif_pos h1, hx, if_pos (by first | omega | (dsimp only; omega))]
      exact congrArg₂ (fun a b => Ideal.cos (P a b)) (Fin.ext (by first | omega | (simp; omega))) (Fin.ext (by first | omega | (dsimp only; omega)))
    · by_cases h2 : 80 ≤ q.val ∧ q.val < 96
      · rw [if_pos h2, dif_neg h1, dif_pos h2, hx, if_pos (by first | omega | (dsimp only; omega))]
        exact congrArg₂ (fun a b => Ideal.cos (P a b)) (Fin.ext (by first | omega | (simp; omega))) (Fin.ext (by first | omega | (dsimp only; omega)))
      · rw [if_neg h2, if_neg h1, dif_neg h1, dif_neg h2]

theorem snTile_apply (x : FVec Ideal S96x128 .f32) (P : Fin 384 → Fin 16 → EReal)
    (hx : ∀ (r : Fin 96) (l : Fin 128), x (ix2 r l) =
      if l.val % 32 < 16 then Ideal.cos (P ⟨96 * (l.val / 32) + r.val, by omega⟩ ⟨l.val % 16, by omega⟩)
      else Ideal.sin (P ⟨96 * (l.val / 32) + r.val, by omega⟩ ⟨l.val % 16, by omega⟩)) (r : Fin 384) (l : Fin 256) :
    (snTile x (ix2 r l) : EReal) = snAt (P r) l := by
  have hr := r.isLt
  unfold snTile
  rw [stacked_apply _ _ _ _ (fun g r' q => if h : 64 ≤ q.val ∧ q.val < 80 then
      0 - Ideal.sin (P ⟨96 * g.val + r'.val, by omega⟩ ⟨q.val - 64, by omega⟩)
    else if h : 80 ≤ q.val ∧ q.val < 96 then Ideal.sin (P ⟨96 * g.val + r'.val, by omega⟩ ⟨q.val - 80, by omega⟩) else 0)
    (fun r' q => ?_) (fun r' q => ?_) (fun r' q => ?_) (fun r' q => ?_)]
  · unfold snAt
    have e : (⟨96 * (r.val / 96) + r.val % 96, by omega⟩ : Fin 384) = r := Fin.ext (by first | omega | (dsimp only; omega))
    dsimp only
    rw [e]
  all_goals
    rw [snOf_apply]
    try simp only [rot_apply _ 64#32 64 (by omega) rfl, rot_apply _ 32#32 32 (by omega) rfl, rot_apply _ 96#32 96 (by omega) rfl]
    by_cases h1 : 64 ≤ q.val ∧ q.val < 80
    · rw [if_pos h1, dif_pos h1, hx, if_neg (by first | omega | (dsimp only; omega))]
      exact congrArg₂ (fun a b => 0 - Ideal.sin (P a b)) (Fin.ext (by first | omega | (simp; omega))) (Fin.ext (by first | omega | (dsimp only; omega)))
    · by_cases h2 : 80 ≤ q.val ∧ q.val < 96
      · rw [if_neg h1, if_pos h2, dif_neg h1, dif_pos h2, hx, if_neg (by first | omega | (dsimp only; omega))]
        exact congrArg₂ (fun a b => Ideal.sin (P a b)) (Fin.ext (by first | omega | (simp; omega))) (Fin.ext (by first | omega | (dsimp only; omega)))
      · rw [if_neg h1, if_neg h2, dif_neg h1, dif_neg h2]

end Cert.Kernel4Ideal.Odd
-- ==== Proof.Odd.PayQ.lean ====
module

public import proofs.«01_k».proof.Proof.Odd.PayT

@[expose] public section

set_option maxRecDepth 16384

noncomputable section

/-! # The chunks of a point's queries and keys, element by element -/

namespace Cert.Kernel4Ideal.Odd

open Cert.Kernel4Ideal Cert.Kernel4Ideal.Gen Cert.Mlp Cert.Odd
open Idealize.ShloMosaic Idealize.ShloMosaic.TcCoe

/-- A chunk of 256 features normalised by a product of its squares with block means. -/
def chunkSeg (x : FVec Ideal S384x256 .f32) (G : FVec Ideal S256x256 .bf16) (g : FVec Ideal S1x256 .f32) :
    FVec Ideal S384x256 .f32 :=
  mulf (mulf x (rsqrt (addf (matmul dot_S384x256_S256x256_S384x256_1_0_0_1_n_n none (truncf .bf16 (mulf x x) bitsLt_bf16_f32) G
    (constant S384x256 .f32 0x00000000#32)) (broadcast S384x256 (Scalar.ofBits .f32 0x358637BD#32)))))
    (broadcastTo S384x256 g broadcasts_S1x256_S384x256)

theorem chunkSeg_apply (x : FVec Ideal S384x256 .f32) (G : FVec Ideal S256x256 .bf16) (g : FVec Ideal S1x256 .f32) (r : Fin 384)
    (l : Fin 256) : (chunkSeg x G g (ix2 r l) : EReal) =
      seg (fun k => x (ix2 r k)) (fun k q => G (ix2 k q)) (fun q => g (ix2 0 q)) l := by
  pointwise [chunkSeg]
  rfl

theorem whole_gain (g : Vec Ideal S1x256 .f32) (q : Fin 256) :
    (shapeCast S1x256 g shapeCasts_S1x256_S1x256 (ix2 0 q) : EReal) = g (ix2 0 q) := by
  pointwise

theorem whole_mean (G : Vec Ideal S256x256 .bf16) (k q : Fin 256) : (k0_pay27 G (ix2 k q) : EReal) = G (ix2 k q) := by
  pointwise [k0_pay27]

theorem whole_mean64 (G : Vec Ideal S256x256 .bf16) (k q : Fin 256) : (k0_pay28 G (ix2 k q) : EReal) = G (ix2 k q) := by
  pointwise [k0_pay28]

theorem rot256_apply (y : FVec Ideal S384x256 .f32) (n : BitVec 32) (k : ℕ) (hk : k < 256) (hn : n = BitVec.ofNat 32 k)
    (r : Fin 384) (l : Fin 256) :
    dynamicRotate 1 n none y rotates_S384x256_d1 (ix2 r l) = y (ix2 r ⟨(l.val + 256 - k) % 256, by omega⟩) := by
  subst hn
  pointwise
  refine congrArg (fun a => y (ix2 r a)) (Fin.ext ?_)
  dsimp only
  rw [BitVec.toNat_ofNat, Nat.mod_eq_of_lt (show k < 2 ^ 32 by omega), Nat.mod_eq_of_lt hk]

theorem rot128_apply (y : FVec Ideal S384x128 .f32) (r : Fin 384) (l : Fin 128) :
    dynamicRotate 1 64#32 none y rotates_S384x128_d1 (ix2 r l) = y (ix2 r ⟨(l.val + 64) % 128, by omega⟩) := by
  pointwise
  refine congrArg (fun a => y (ix2 r a)) (Fin.ext ?_)
  dsimp only
  rfl

/-! ## Turning a chunk -/

variable (M A U : IVec S384x256 1) (C S Y : FVec Ideal S384x256 .f32)

/-- Each lane times its cosine plus its partner times its sine. -/
def turned : FVec Ideal S384x256 .f32 :=
  addf (mulf Y C) (mulf (select A (dynamicRotate 1 240#32 none Y rotates_S384x256_d1)
    (dynamicRotate 1 16#32 none Y rotates_S384x256_d1)) S)

theorem turned_apply (hA : ∀ r l, A (ix2 r l) = if l.val % 128 < 80 then 1#1 else 0#1) (r : Fin 384) (l : Fin 256) :
    (turned A C S Y (ix2 r l) : EReal) = turn (fun k => Y (ix2 r k)) (fun k => C (ix2 r k)) (fun k => S (ix2 r k)) l := by
  show (Y (ix2 r l) : EReal) * C (ix2 r l) + (Scalar.select (A (ix2 r l)) (dynamicRotate 1 240#32 none Y rotates_S384x256_d1 (ix2 r l))
    (dynamicRotate 1 16#32 none Y rotates_S384x256_d1 (ix2 r l)) : EReal) * S (ix2 r l) = _
  rw [sel_one _ _ (hA r l), rot256_apply Y 240#32 240 (by omega) rfl, rot256_apply Y 16#32 16 (by omega) rfl]
  unfold turn
  have e1 : (⟨(l.val + 256 - 240) % 256, by omega⟩ : Fin 256) = ⟨(l.val + 16) % 256, by omega⟩ := Fin.ext (by dsimp only; omega)
  have e2 : (⟨(l.val + 256 - 16) % 256, by omega⟩ : Fin 256) = ⟨(l.val + 240) % 256, by omega⟩ := Fin.ext (by dsimp only; omega)
  rw [e1, e2]

theorem stored_apply (v : FVec Ideal S384x256 .f32) (r : Fin 384) (l : Fin 256) :
    (shapeCast S1x384x256 (truncf .bf16 v bitsLt_bf16_f32) shapeCasts_S384x256_S1x384x256 (ix3 0 r l) : EReal) = v (ix2 r l) := by
  pointwise

theorem query_apply (hM : ∀ r l, M (ix2 r l) = if l.val % 128 = 96 then 1#1 else 0#1)
    (hA : ∀ r l, A (ix2 r l) = if l.val % 128 < 80 then 1#1 else 0#1) (r : Fin 384) (l : Fin 256) :
    (k0_pay35 M C S A Y 240#32 (ix3 0 r l) : EReal) = if l.val % 128 = 96 then (1 : EReal) else
      turn (fun k => Y (ix2 r k)) (fun k => C (ix2 r k)) (fun k => S (ix2 r k)) l * Ideal.ofBits FTy.f32 0x3E16C740#32 := by
  refine (stored_apply (select M (broadcast S384x256 (Scalar.ofBits .f32 0x3F800000#32))
    (mulf (turned A C S Y) (broadcast S384x256 (Scalar.ofBits .f32 0x3E16C740#32)))) r l).trans ?_
  show Scalar.select (M (ix2 r l)) (Scalar.ofBits (F := Ideal) .f32 0x3F800000#32 : EReal)
    ((turned A C S Y (ix2 r l) : EReal) * Ideal.ofBits FTy.f32 0x3E16C740#32) = _
  rw [sel_one _ _ (hM r l), turned_apply A C S Y hA, one_word]

/-- The four chunks of the queries. -/
theorem query_stages0 (x : FVec Ideal S384x384 .f32) (G : FVec Ideal S256x256 .bf16) (g : FVec Ideal S1x384 .f32)
    (d : FVec Ideal S384x1 .f32) (e : Ideal .f32) (w : Vec Ideal S384x1024 .bf16) (gq : Vec Ideal S1x256 .f32) :
    k0_pay34 x G g d e w gq = chunkSeg (extractStridedSlice S384x256 ![0, 0] (k0_pay32 x g d e w) slices_S384x1024_o0_0_S384x256)
      G (shapeCast S1x256 gq shapeCasts_S1x256_S1x256) := rfl

theorem query_stages1 (G : FVec Ideal S256x256 .bf16) (q : FVec Ideal S384x1024 .f32) (gq : Vec Ideal S1x256 .f32) :
    k0_pay36 M C S A G q gq = k0_pay35 M C S A (chunkSeg
      (extractStridedSlice S384x256 ![0, 256] q slices_S384x1024_o0_256_S384x256) G
      (shapeCast S1x256 gq shapeCasts_S1x256_S1x256)) 240#32 := rfl

theorem query_stages2 (G : FVec Ideal S256x256 .bf16) (q : FVec Ideal S384x1024 .f32) (gq : Vec Ideal S1x256 .f32) :
    k0_pay38 M C S A G (k0_pay37 q) gq = k0_pay35 M C S A (chunkSeg
      (extractStridedSlice S384x256 ![0, 512] q slices_S384x1024_o0_512_S384x256) G
      (shapeCast S1x256 gq shapeCasts_S1x256_S1x256)) 240#32 := rfl

theorem query_stages3 (G : FVec Ideal S256x256 .bf16) (q : FVec Ideal S384x1024 .f32) (gq : Vec Ideal S1x256 .f32) :
    k0_pay42 M (k0_pay40 C G q gq) (k0_pay41 S A G q gq) = k0_pay35 M C S A (chunkSeg
      (extractStridedSlice S384x256 ![0, 768] q slices_S384x1024_o0_768_S384x256) G
      (shapeCast S1x256 gq shapeCasts_S1x256_S1x256)) 240#32 := rfl

/-! ## The keys -/

/-- The turned features the heads share, with the padding's mask. -/
theorem shared_apply (v : FVec Ideal S384x128 .f32) (G : FVec Ideal S256x256 .bf16) (gr : Vec Ideal S1x256 .f32) (P : Fin 384 → Prop)
    [DecidablePred P] (hM : ∀ r l, M (ix2 r l) = if l.val % 128 = 96 then 1#1 else 0#1)
    (hA : ∀ r l, A (ix2 r l) = if l.val % 128 < 80 then 1#1 else 0#1)
    (hU : ∀ r l, U (ix2 r l) = if P r then 1#1 else 0#1) (r : Fin 384) (l : Fin 256) :
    (k0_pay43 v U M C S A G gr (ix2 r l) : EReal) = if l.val % 128 = 96 ∧ P r then Ideal.ofBits FTy.f32 0xF149F2CA#32 else
      turn (seg (fun k => v (ix2 r ⟨k.val % 128, by omega⟩)) (fun k q => G (ix2 k q)) (fun q => gr (ix2 0 q)))
        (fun k => C (ix2 r k)) (fun k => S (ix2 r k)) l := by
  show Scalar.select (IntOp.andi (M (ix2 r l)) (U (ix2 r l))) (Ideal.ofBits FTy.f32 0xF149F2CA#32)
    (turned A C S (chunkSeg (concatenate S384x256 1 [⟨S384x128, v⟩, ⟨S384x128, v⟩] concatenates_S384x128_S384x128_S384x256_d1) G
      (shapeCast S1x256 gr shapeCasts_S1x256_S1x256)) (ix2 r l) : EReal) = _
  have hc : IntOp.andi (M (ix2 r l)) (U (ix2 r l)) = if l.val % 128 = 96 ∧ P r then 1#1 else 0#1 := by
    rw [hM, hU]
    by_cases h1 : l.val % 128 = 96 <;> by_cases h2 : P r <;> simp [h1, h2, IntOp.andi]
  have two : ∀ k : Fin 256, (concatenate S384x256 1 [⟨S384x128, v⟩, ⟨S384x128, v⟩]
      concatenates_S384x128_S384x128_S384x256_d1 : FVec Ideal S384x256 .f32) (ix2 r k) = v (ix2 r ⟨k.val % 128, by omega⟩) := by
    intro k
    pointwise
    split
    · exact congrArg (fun q => v (ix2 r q)) (Fin.ext (by first | omega | (dsimp only; omega)))
    · exact congrArg (fun q => v (ix2 r q)) (Fin.ext (by first | omega | (dsimp only; omega)))
  rw [sel_one _ _ hc, turned_apply A C S _ hA]
  simp only [chunkSeg_apply, two, whole_gain]

theorem key_apply (x k : FVec Ideal S384x256 .f32) (G : FVec Ideal S256x256 .bf16) (g : Vec Ideal S1x256 .f32) (r : Fin 384)
    (l : Fin 256) :
    (shapeCast S1x384x256 (truncf .bf16 (addf (chunkSeg x G (shapeCast S1x256 g shapeCasts_S1x256_S1x256)) k) bitsLt_bf16_f32)
      shapeCasts_S384x256_S1x384x256 (ix3 0 r l) : EReal) =
      seg (fun j => x (ix2 r j)) (fun j q => G (ix2 j q)) (fun q => g (ix2 0 q)) l + k (ix2 r l) := by
  refine (stored_apply _ r l).trans ?_
  show (chunkSeg x G (shapeCast S1x256 g shapeCasts_S1x256_S1x256) (ix2 r l) : EReal) + k (ix2 r l) = _
  rw [chunkSeg_apply]
  simp only [whole_gain]

theorem key_stages0 (v : FVec Ideal S384x128 .f32) (G : FVec Ideal S256x256 .bf16) (q : FVec Ideal S384x1024 .f32)
    (gr g : Vec Ideal S1x256 .f32) :
    k0_pay45 (k0_pay44 v U M C S A G q gr g) = shapeCast S1x384x256 (truncf .bf16 (addf (chunkSeg
      (extractStridedSlice S384x256 ![0, 0] q slices_S384x1024_o0_0_S384x256) G (shapeCast S1x256 g shapeCasts_S1x256_S1x256))
      (k0_pay43 v U M C S A G gr)) bitsLt_bf16_f32) shapeCasts_S384x256_S1x384x256 := rfl

theorem key_stages1 (G : FVec Ideal S256x256 .bf16) (q : FVec Ideal S384x1024 .f32) (k : FVec Ideal S384x256 .f32)
    (g : Vec Ideal S1x256 .f32) :
    k0_pay46 G q k g = shapeCast S1x384x256 (truncf .bf16 (addf (chunkSeg
      (extractStridedSlice S384x256 ![0, 256] q slices_S384x1024_o0_256_S384x256) G (shapeCast S1x256 g shapeCasts_S1x256_S1x256))
      k) bitsLt_bf16_f32) shapeCasts_S384x256_S1x384x256 := rfl

theorem key_stages2 (G : FVec Ideal S256x256 .bf16) (q : FVec Ideal S384x1024 .f32) (k : FVec Ideal S384x256 .f32)
    (g : Vec Ideal S1x256 .f32) :
    k0_pay47 G q k g = shapeCast S1x384x256 (truncf .bf16 (addf (chunkSeg
      (extractStridedSlice S384x256 ![0, 512] q slices_S384x1024_o0_512_S384x256) G (shapeCast S1x256 g shapeCasts_S1x256_S1x256))
      k) bitsLt_bf16_f32) shapeCasts_S384x256_S1x384x256 := rfl

theorem key_stages3 (G : FVec Ideal S256x256 .bf16) (q : FVec Ideal S384x1024 .f32) (k : FVec Ideal S384x256 .f32)
    (g : Vec Ideal S1x256 .f32) :
    k0_pay49 G k (k0_pay48 q) g = shapeCast S1x384x256 (truncf .bf16 (addf (chunkSeg
      (extractStridedSlice S384x256 ![0, 768] q slices_S384x1024_o0_768_S384x256) G (shapeCast S1x256 g shapeCasts_S1x256_S1x256))
      k) bitsLt_bf16_f32) shapeCasts_S384x256_S1x384x256 := rfl

theorem chunk0 (q : FVec Ideal S384x1024 .f32) (r : Fin 384) (l : Fin 256) :
    extractStridedSlice S384x256 ![0, 0] q slices_S384x1024_o0_0_S384x256 (ix2 r l) = q (ix2 r ⟨256 * (0 : Fin 4).val + l.val, by simp; omega⟩) := by
  pointwise
  try exact congrArg (fun a => q (ix2 r a)) (Fin.ext (by simp))
theorem chunk1 (q : FVec Ideal S384x1024 .f32) (r : Fin 384) (l : Fin 256) :
    extractStridedSlice S384x256 ![0, 256] q slices_S384x1024_o0_256_S384x256 (ix2 r l) = q (ix2 r ⟨256 * (1 : Fin 4).val + l.val, by simp; omega⟩) := by
  pointwise
theorem chunk2 (q : FVec Ideal S384x1024 .f32) (r : Fin 384) (l : Fin 256) :
    extractStridedSlice S384x256 ![0, 512] q slices_S384x1024_o0_512_S384x256 (ix2 r l) = q (ix2 r ⟨256 * (2 : Fin 4).val + l.val, by simp; omega⟩) := by
  pointwise
theorem chunk3 (q : FVec Ideal S384x1024 .f32) (r : Fin 384) (l : Fin 256) :
    extractStridedSlice S384x256 ![0, 768] q slices_S384x1024_o0_768_S384x256 (ix2 r l) = q (ix2 r ⟨256 * (3 : Fin 4).val + l.val, by simp; omega⟩) := by
  pointwise
theorem half0 (q : FVec Ideal S384x512 .f32) (r : Fin 384) (l : Fin 256) :
    extractStridedSlice S384x256 ![0, 0] q slices_S384x512_o0_0_S384x256 (ix2 r l) = q (ix2 r ⟨256 * (0 : Fin 2).val + l.val, by simp; omega⟩) := by
  pointwise
  try exact congrArg (fun a => q (ix2 r a)) (Fin.ext (by simp))
theorem half1 (q : FVec Ideal S384x512 .f32) (r : Fin 384) (l : Fin 256) :
    extractStridedSlice S384x256 ![0, 256] q slices_S384x512_o0_256_S384x256 (ix2 r l) = q (ix2 r ⟨256 * (1 : Fin 2).val + l.val, by simp; omega⟩) := by
  pointwise

end Cert.Kernel4Ideal.Odd
-- ==== Proof.Odd.PayF.lean ====
module

public import proofs.«01_k».proof.Proof.Odd.PayT

@[expose] public section

set_option maxRecDepth 16384

noncomputable section

/-! # A point's gates, biases and heads, element by element -/

namespace Cert.Kernel4Ideal.Odd

open Cert.Kernel4Ideal Cert.Kernel4Ideal.Gen Cert.Mlp Cert.Odd
open Idealize.ShloMosaic Idealize.ShloMosaic.TcCoe

theorem ge_word (a b : ℕ) (ha : a < 384) (hb : b < 384) :
    IntOp.cmpi .sge (BitVec.ofNat 32 a) (BitVec.ofNat 32 b) = if b ≤ a then 1#1 else 0#1 := by
  have ia : (BitVec.ofNat 32 a).toInt = a := by
    rw [BitVec.toInt_eq_toNat_of_lt] <;> simp [BitVec.toNat_ofNat] <;> omega
  have ib : (BitVec.ofNat 32 b).toInt = b := by
    rw [BitVec.toInt_eq_toNat_of_lt] <;> simp [BitVec.toNat_ofNat] <;> omega
  by_cases h : b ≤ a <;> simp [IntOp.cmpi, BitVec.sle, ia, ib, h]

/-- The gates' logarithms of a point. -/
def logs (V : IVec S384x128 1) (p e : FVec Ideal S384x128 .f32) : FVec Ideal S384x128 .f32 :=
  select V (subf (broadcast S384x128 (Scalar.ofBits .f32 0x00000000#32)) (addf p (log1p (exp e))))
    (broadcast S384x128 (Scalar.ofBits .f32 0x00000000#32))

theorem gate_in (n : FVec Ideal S384x1024 .bf16) (w : Vec Ideal S1024x128 .bf16) (b : Vec Ideal S1x128 .f32) (r : Fin 384)
    (l : Fin 128) : (k0_pay52 n w b (ix2 r l) : EReal) = (∑ k, n (ix2 r k) * w (ix2 k l)) + b (ix2 0 l) := by
  pointwise [k0_pay52]

theorem logs_apply (V : IVec S384x128 1) (n : FVec Ideal S384x1024 .bf16) (w : Vec Ideal S1024x128 .bf16)
    (b : Vec Ideal S1x128 .f32) (Q : Fin 384 → Fin 128 → Prop) [∀ r l, Decidable (Q r l)]
    (hV : ∀ r l, V (ix2 r l) = if Q r l then 1#1 else 0#1) (r : Fin 384) (l : Fin 128) :
    (logs V (k0_pay53 n w b) (k0_pay54 n w b) (ix2 r l) : EReal) =
      if Q r l then logGate ((∑ k, n (ix2 r k) * w (ix2 k l)) + b (ix2 0 l)) else 0 := by
  rw [← gate_in]
  show Scalar.select (V (ix2 r l)) ((Scalar.ofBits (F := Ideal) .f32 0x00000000#32 : EReal) -
      (max ((Scalar.ofBits (F := Ideal) .f32 0x00000000#32 : EReal) - k0_pay52 n w b (ix2 r l))
        (Scalar.ofBits (F := Ideal) .f32 0x00000000#32 : EReal) +
        Ideal.log1p (Ideal.exp ((Scalar.ofBits (F := Ideal) .f32 0x00000000#32 : EReal) -
          max (k0_pay52 n w b (ix2 r l) : EReal) (-(k0_pay52 n w b (ix2 r l) : EReal))))))
    (Scalar.ofBits (F := Ideal) .f32 0x00000000#32 : EReal) = _
  rw [sel_one _ _ (hV r l), zero_word]
  simp only [zero_sub]
  rfl

/-- The lower triangle of ones. -/
def lower : FVec Ideal S384x384 .bf16 :=
  truncf .bf16 (select (cmpi .sge (iota .tc S384x384 32 [0] iota_S384x384_d0_w32) (iota .tc S384x384 32 [1] iota_S384x384_d1_w32))
    (broadcast S384x384 (Scalar.ofBits .f32 0x3F800000#32)) (broadcast S384x384 (Scalar.ofBits .f32 0x00000000#32))) bitsLt_bf16_f32

theorem lower_apply (r k : Fin 384) : (lower (ix2 r k) : EReal) = if k.val ≤ r.val then 1 else 0 := by
  have h : IntOp.cmpi .sge (iota .tc S384x384 32 [0] iota_S384x384_d0_w32 (ix2 r k))
      (iota .tc S384x384 32 [1] iota_S384x384_d1_w32 (ix2 r k)) = if k.val ≤ r.val then 1#1 else 0#1 := by
    have e0 : iota .tc S384x384 32 [0] iota_S384x384_d0_w32 (ix2 r k) = BitVec.ofNat 32 r.val := by pointwise
    have e1 : iota .tc S384x384 32 [1] iota_S384x384_d1_w32 (ix2 r k) = BitVec.ofNat 32 k.val := by pointwise
    rw [e0, e1]
    exact ge_word _ _ r.isLt k.isLt
  show Scalar.select (IntOp.cmpi .sge (iota .tc S384x384 32 [0] iota_S384x384_d0_w32 (ix2 r k))
      (iota .tc S384x384 32 [1] iota_S384x384_d1_w32 (ix2 r k))) (Scalar.ofBits (F := Ideal) .f32 0x3F800000#32 : EReal)
    (Scalar.ofBits (F := Ideal) .f32 0x00000000#32 : EReal) = _
  rw [sel_one _ _ h, one_word, zero_word]

/-- The running sums of a point. -/
def sums (f : FVec Ideal S384x128 .f32) (p : Vec Ideal S1x128 .f32) : FVec Ideal S384x128 .f32 :=
  addf (addf (matmul dot_S384x384_S384x128_S384x128_1_0_0_1_n_n none lower (truncf .bf16 f bitsLt_bf16_f32)
      (constant S384x128 .f32 0x00000000#32))
    (matmul dot_S384x384_S384x128_S384x128_1_0_0_1_n_n none lower (truncf .bf16 (subf f (extf .f32 (truncf .bf16 f bitsLt_bf16_f32)
      bitsLt_bf16_f32)) bitsLt_bf16_f32) (constant S384x128 .f32 0x00000000#32)))
    (broadcastTo S384x128 p broadcasts_S1x128_S384x128)

theorem sums_stages (V : IVec S384x128 1) (p e : FVec Ideal S384x128 .f32) (q : Vec Ideal S1x128 .f32) :
    k0_pay55 V p e q = sums (logs V p e) q := rfl

theorem sums_apply (f : FVec Ideal S384x128 .f32) (p : Vec Ideal S1x128 .f32) (r : Fin 384) (l : Fin 128)
    (hf : ∀ k, (f (ix2 k l) : EReal) ≠ ⊤) :
    (sums f p (ix2 r l) : EReal) = (∑ k : Fin 384, if k.val ≤ r.val then (f (ix2 k l) : EReal) else 0) + p (ix2 0 l) := by
  have h : (sums f p (ix2 r l) : EReal) = ((∑ k, lower (ix2 r k) * f (ix2 k l)) +
      ∑ k, lower (ix2 r k) * (f (ix2 k l) - f (ix2 k l))) + p (ix2 0 l) := by
    pointwise [sums]
  rw [h, scan_eq (fun k => f (ix2 k l)) (fun k => lower (ix2 r k)) r hf fun k => lower_apply r k]

theorem last_apply (V : IVec S384x128 1) (p e : FVec Ideal S384x128 .f32) (q : Vec Ideal S1x128 .f32) (l : Fin 128) :
    k0_pay56 V p e q (ix2 0 l) = k0_pay55 V p e q (ix2 (⟨383, by omega⟩ : Fin 384) l) := by
  pointwise [k0_pay56]

theorem start_apply (l : Fin 128) : (k0_pay2 (F := Ideal) (ix2 0 l) : EReal) = 0 := by
  pointwise [k0_pay2]

/-! ## The biases -/

/-- A value in its three parts, side by side. -/
def kept (v : FVec Ideal S384x128 .f32) : FVec Ideal S384x384 .bf16 :=
  concatenate S384x384 1 [⟨S384x128, truncf .bf16 v bitsLt_bf16_f32⟩,
    ⟨S384x128, truncf .bf16 (subf v (extf .f32 (truncf .bf16 v bitsLt_bf16_f32) bitsLt_bf16_f32)) bitsLt_bf16_f32⟩,
    ⟨S384x128, truncf .bf16 (subf (subf v (extf .f32 (truncf .bf16 v bitsLt_bf16_f32) bitsLt_bf16_f32))
      (extf .f32 (truncf .bf16 (subf v (extf .f32 (truncf .bf16 v bitsLt_bf16_f32) bitsLt_bf16_f32)) bitsLt_bf16_f32)
        bitsLt_bf16_f32)) bitsLt_bf16_f32⟩] concatenates_S384x128_S384x128_S384x128_S384x384_d1

theorem kept_apply (v : FVec Ideal S384x128 .f32) (r k : Fin 384) :
    (kept v (ix2 r k) : EReal) = parts (v (ix2 r ⟨k.val % 128, by omega⟩)) ⟨k.val / 128, by omega⟩ := by
  have hk := k.isLt
  pointwise [kept]
  unfold parts
  by_cases h1 : k.val < 128
  · have e : (⟨k.val % 128, by omega⟩ : Fin 128) = ⟨k.val, h1⟩ := Fin.ext (by dsimp only; omega)
    rw [if_pos (show k.val / 128 = 0 by omega), e, dif_pos h1]
  · by_cases h2 : k.val < 256
    · have e : (⟨k.val % 128, by omega⟩ : Fin 128) = ⟨k.val - 128, by omega⟩ := Fin.ext (by dsimp only; omega)
      rw [if_neg (show ¬k.val / 128 = 0 by omega), if_pos (show k.val / 128 = 1 by omega), e, dif_neg h1, dif_pos (by omega)]
    · have e : (⟨k.val % 128, by omega⟩ : Fin 128) = ⟨k.val - 128 - 128, by omega⟩ := Fin.ext (by dsimp only; omega)
      rw [if_neg (show ¬k.val / 128 = 0 by omega), if_neg (show ¬k.val / 128 = 1 by omega), e, dif_neg h1, dif_neg (by omega)]

theorem bias_apply (U V : IVec S384x128 1) (p e : FVec Ideal S384x128 .f32) (q : Vec Ideal S1x128 .f32) (s : Vec Ideal S384x1024 .bf16)
    (Q : Fin 384 → Prop) [DecidablePred Q] (hU : ∀ r l, U (ix2 r l) = if Q r then 1#1 else 0#1) (r : Fin 384) (l : Fin 1024) :
    (k0_pay57 U V p e q s (ix2 r l) : EReal) = ∑ k : Fin 384, parts (if Q r then Ideal.ofBits FTy.f32 0xF149F2CA#32 else
      (k0_pay55 V p e q (ix2 r ⟨k.val % 128, by omega⟩) : EReal) * Ideal.ofBits FTy.f32 0xBFB8AA3B#32) ⟨k.val / 128, by omega⟩ *
        s (ix2 k l) := by
  have h : ∀ v : FVec Ideal S384x384 .bf16, (matmul dot_S384x384_S384x1024_S384x1024_1_0_0_1_n_n none v
      (shapeCast S384x1024 s shapeCasts_S384x1024_S384x1024 : FVec Ideal S384x1024 .bf16) (constant S384x1024 .f32 0x00000000#32) (ix2 r l) : EReal) =
      ∑ k, v (ix2 r k) * s (ix2 k l) := by
    intro v
    pointwise
  refine (h (kept (select U (broadcast S384x128 (Scalar.ofBits .f32 0xF149F2CA#32))
    (mulf (k0_pay55 V p e q) (broadcast S384x128 (Scalar.ofBits .f32 0xBFB8AA3B#32)))))).trans ?_
  refine Finset.sum_congr rfl fun k _ => ?_
  rw [kept_apply]
  refine congrArg (fun a => parts a _ * _) ?_
  show Scalar.select (U (ix2 r ⟨k.val % 128, by omega⟩)) (Ideal.ofBits FTy.f32 0xF149F2CA#32)
    ((k0_pay55 V p e q (ix2 r ⟨k.val % 128, by omega⟩) : EReal) * Ideal.ofBits FTy.f32 0xBFB8AA3B#32) = _
  rw [sel_one _ _ (hU r _)]

/-! ## A head's lanes -/

theorem first_apply (r : Fin 384) (l : Fin 128) :
    k0_pay58 (iota .tc S384x128 32 [1] iota_S384x128_d1_w32) 64#32 (ix2 r l) = if l.val < 64 then 1#1 else 0#1 := by
  have h : k0_pay58 (iota .tc S384x128 32 [1] iota_S384x128_d1_w32) 64#32 (ix2 r l) =
      IntOp.cmpi .slt (BitVec.ofNat 32 l.val) 64#32 := by
    pointwise [k0_pay58]
  rw [h]
  clear h
  revert l
  decide +kernel

theorem ones_apply (r : Fin 384) (l : Fin 128) :
    (k0_pay59 (F := Ideal) (iota .tc S384x128 32 [1] iota_S384x128_d1_w32) (ix2 r l) : EReal) =
      if 64 ≤ l.val ∧ l.val < 67 then 1 else 0 := by
  have h : IntOp.andi (IntOp.cmpi .sge (iota .tc S384x128 32 [1] iota_S384x128_d1_w32 (ix2 r l)) 64#32)
      (IntOp.cmpi .slt (iota .tc S384x128 32 [1] iota_S384x128_d1_w32 (ix2 r l)) 67#32) =
      if 64 ≤ l.val ∧ l.val < 67 then 1#1 else 0#1 := by
    have e1 : iota .tc S384x128 32 [1] iota_S384x128_d1_w32 (ix2 r l) = BitVec.ofNat 32 l.val := by pointwise
    rw [e1]
    clear e1
    revert l
    decide +kernel
  show Scalar.select (IntOp.andi (IntOp.cmpi .sge (iota .tc S384x128 32 [1] iota_S384x128_d1_w32 (ix2 r l)) 64#32)
      (IntOp.cmpi .slt (iota .tc S384x128 32 [1] iota_S384x128_d1_w32 (ix2 r l)) 67#32))
    (Scalar.ofBits (F := Ideal) .f32 0x3F800000#32 : EReal) (Scalar.ofBits (F := Ideal) .f32 0x00000000#32 : EReal) = _
  rw [sel_one _ _ h, one_word, zero_word]

/-- A head's 128 lanes: its features below, other values above. -/
def headOf (M : IVec S384x128 1) (x y : FVec Ideal S384x128 .f32) : FVec Ideal S1x384x128 .bf16 :=
  shapeCast S1x384x128 (truncf .bf16 (select M x y) bitsLt_bf16_f32) shapeCasts_S384x128_S1x384x128

theorem headOf_apply (M : IVec S384x128 1) (x y : FVec Ideal S384x128 .f32)
    (hM : ∀ r l, M (ix2 r l) = if l.val < 64 then 1#1 else 0#1) (r : Fin 384) (l : Fin 128) :
    (headOf M x y (ix3 0 r l) : EReal) = if l.val < 64 then (x (ix2 r l) : EReal) else y (ix2 r l) := by
  have h : ∀ v : FVec Ideal S384x128 .f32, (shapeCast S1x384x128 (truncf .bf16 v bitsLt_bf16_f32) shapeCasts_S384x128_S1x384x128
      (ix3 0 r l) : EReal) = v (ix2 r l) := by
    intro v
    pointwise
  refine (h _).trans ?_
  exact sel_one _ _ (hM r l) _ _

theorem even0 (x : FVec Ideal S384x256 .f32) (r : Fin 384) (l : Fin 128) (hl : l.val < 64) :
    extractStridedSlice S384x128 ![0, 0] x slices_S384x256_o0_0_S384x128 (ix2 r l) = x (ix2 r ⟨64 * (0 : Fin 4).val + l.val, by simp; omega⟩) := by
  pointwise
  try exact congrArg (fun a => x (ix2 r a)) (Fin.ext (by simp))

theorem even1 (x : FVec Ideal S384x256 .f32) (r : Fin 384) (l : Fin 128) (hl : l.val < 64) :
    extractStridedSlice S384x128 ![0, 128] x slices_S384x256_o0_128_S384x128 (ix2 r l) = x (ix2 r ⟨64 * (2 : Fin 4).val + l.val, by simp; omega⟩) := by
  pointwise

theorem odd0 (x : FVec Ideal S384x256 .f32) (r : Fin 384) (l : Fin 128) (hl : l.val < 64) :
    dynamicRotate 1 64#32 none (extractStridedSlice S384x128 ![0, 0] x slices_S384x256_o0_0_S384x128) rotates_S384x128_d1 (ix2 r l) =
      x (ix2 r ⟨64 * (1 : Fin 4).val + l.val, by simp; omega⟩) := by
  pointwise
  refine congrArg (fun a => x (ix2 r a)) (Fin.ext ?_)
  simp
  omega

theorem odd1 (x : FVec Ideal S384x256 .f32) (r : Fin 384) (l : Fin 128) (hl : l.val < 64) :
    dynamicRotate 1 64#32 none (extractStridedSlice S384x128 ![0, 128] x slices_S384x256_o0_128_S384x128) rotates_S384x128_d1 (ix2 r l) =
      x (ix2 r ⟨64 * (3 : Fin 4).val + l.val, by simp; omega⟩) := by
  pointwise
  refine congrArg (fun a => x (ix2 r a)) (Fin.ext ?_)
  simp
  omega

end Cert.Kernel4Ideal.Odd
-- ==== Proof.Odd.Lanes.lean ====
module

public import proofs.«01_k».proof.Proof.Odd.Tile

@[expose] public section

noncomputable section

open Idealize.ShloMosaic

/-! # The lanes of a chunk of 256 are lanes of the results

A chunk holds two heads' 128 lanes. Its normalised and turned features are those of the results, head by head. -/

namespace Cert.Odd

variable (I : Args) (b : Fin 8) (s : Fin 4224)

/-- The latent query's lanes of chunk `n`. -/
theorem query_lane (n : Fin 4) (x : Fin 256 → EReal) (G : Fin 256 → Fin 256 → EReal) (g : Fin 256 → EReal)
    (hx : ∀ l : Fin 256, x l = if h : l.val % 128 < 96 then
      qAll I b s ⟨96 * (2 * n.val + l.val / 128) + l.val % 128, by omega⟩ else 0)
    (hg : ∀ l : Fin 256, g l = if h : l.val % 128 < 64 then I.gqn ⟨l.val % 128, h⟩
      else if h : l.val % 128 < 96 then I.gqr ⟨l.val % 128 - 64, by omega⟩ else 0)
    (hlow : ∀ k l : Fin 256, l.val % 128 < 64 → G k l =
      if 128 * (l.val / 128) ≤ k.val ∧ k.val < 128 * (l.val / 128) + 64 then Ideal.ofBits FTy.f32 0x3C800000#32 else 0)
    (hhigh : ∀ k l : Fin 256, 64 ≤ l.val % 128 → l.val % 128 < 96 → G k l =
      if 128 * (l.val / 128) + 64 ≤ k.val ∧ k.val < 128 * (l.val / 128) + 64 + 32 then Ideal.ofBits FTy.f32 0x3D000000#32
      else 0) (l : Fin 256) :
    (if l.val % 128 = 96 then (1 : EReal) else
      turn (seg x G g) (csAt (angles (place (I.pos b) s))) (snAt (angles (place (I.pos b) s))) l *
        Ideal.ofBits FTy.f32 0x3E16C740#32) = latentQuery I b s ⟨256 * n.val + l.val, by omega⟩ := by
  have hl := l.isLt
  have hn := n.isLt
  have ed : (256 * n.val + l.val) / 128 = 2 * n.val + l.val / 128 := by omega
  have em : (256 * n.val + l.val) % 128 = l.val % 128 := by omega
  unfold latentQuery
  by_cases h1 : l.val % 128 < 64
  · rw [if_neg (by omega), turn_plain _ _ l (.inl h1), dif_pos (show (256 * n.val + l.val) % 128 < 64 by omega)]
    refine congrArg (· * Ideal.ofBits FTy.f32 0x3E16C740#32) ?_
    have := seg_unit (w := 64) (Ideal.ofBits FTy.f32 0x42800000#32) _ mean64 (128 * (l.val / 128)) (by omega) x G g
      (fun i => qAll I b s ⟨96 * ((256 * n.val + l.val) / 128) + i.val, by omega⟩) I.gqn
      (fun i => by
        have e1 : (128 * (l.val / 128) + i.val) % 128 = i.val := by omega
        have e2 : (128 * (l.val / 128) + i.val) / 128 = l.val / 128 := by omega
        rw [hx, dif_pos (by dsimp only; omega)]
        exact congrArg (qAll I b s) (Fin.ext (by dsimp only; omega)))
      (fun i => by
        rw [hg, dif_pos (show (128 * (l.val / 128) + i.val) % 128 < 64 by omega)]
        exact congrArg I.gqn (Fin.ext (by dsimp only; omega)))
      ⟨l.val % 128, h1⟩ (fun k => by
        rw [hlow k _ (by dsimp only; omega)]
        dsimp only
        rw [show (128 * (l.val / 128) + l.val % 128) / 128 = l.val / 128 by omega])
    rw [show (⟨128 * (l.val / 128) + l.val % 128, by omega⟩ : Fin 256) = l from Fin.ext (by dsimp only; omega)] at this
    refine this.trans (congrArg _ (Fin.ext ?_))
    dsimp only
    omega
  · rw [dif_neg (show ¬(256 * n.val + l.val) % 128 < 64 by omega)]
    by_cases h2 : l.val % 128 < 96
    · rw [if_neg (by omega), turn_rope _ _ l ⟨by omega, h2⟩, dif_pos (show (256 * n.val + l.val) % 128 < 96 by omega)]
      refine congrArg (· * Ideal.ofBits FTy.f32 0x3E16C740#32) ?_
      have e : (fun j : Fin 32 => seg x G g ⟨128 * (l.val / 128) + 64 + j.val, by omega⟩) =
          unit32 (fun i => qAll I b s ⟨96 * ((256 * n.val + l.val) / 128) + 64 + i.val, by omega⟩) I.gqr :=
        funext fun j => seg_unit (w := 32) (Ideal.ofBits FTy.f32 0x42000000#32) _ mean32 (128 * (l.val / 128) + 64) (by omega)
          x G g _ _
          (fun i => by
            rw [hx, dif_pos (show (128 * (l.val / 128) + 64 + i.val) % 128 < 96 by omega)]
            exact congrArg (qAll I b s) (Fin.ext (by dsimp only; omega)))
          (fun i => by
            rw [hg, dif_neg (show ¬(128 * (l.val / 128) + 64 + i.val) % 128 < 64 by omega),
              dif_pos (show (128 * (l.val / 128) + 64 + i.val) % 128 < 96 by omega)]
            exact congrArg I.gqr (Fin.ext (by dsimp only; omega)))
          j (fun k => by
            rw [hhigh k _ (by dsimp only; omega) (by dsimp only; omega)]
            dsimp only
            rw [show (128 * (l.val / 128) + 64 + j.val) / 128 = l.val / 128 by omega])
      rw [e]
      exact congrArg _ (Fin.ext (by dsimp only; omega))
    · rw [dif_neg (show ¬(256 * n.val + l.val) % 128 < 96 by omega)]
      by_cases h3 : l.val % 128 = 96
      · rw [if_pos h3, if_pos (by dsimp only; omega)]
      · rw [if_neg h3, if_neg (by dsimp only; omega), turn_plain _ _ l (.inr (by omega)),
          seg_zero _ _ _ _ (by rw [hx, dif_neg h2]), zero_mul]

/-- The latent key's lanes of chunk `n`. -/
theorem key_lane (n : Fin 4) (x y : Fin 256 → EReal) (G : Fin 256 → Fin 256 → EReal) (g gr : Fin 256 → EReal)
    (hx : ∀ l : Fin 256, x l = if h : l.val % 128 < 64 then
      kvAll I b s ⟨128 * (2 * n.val + l.val / 128) + l.val % 128, by omega⟩ else 0)
    (hy : ∀ l : Fin 256, y l = if h : 64 ≤ l.val % 128 ∧ l.val % 128 < 96 then z I b s ⟨640 + (l.val % 128 - 64), by omega⟩ else 0)
    (hg : ∀ l : Fin 256, g l = if h : l.val % 128 < 64 then I.gkn ⟨l.val % 128, h⟩ else 0)
    (hr : ∀ l : Fin 256, gr l = if h : 64 ≤ l.val % 128 ∧ l.val % 128 < 96 then I.gkr ⟨l.val % 128 - 64, by omega⟩ else 0)
    (hlow : ∀ k l : Fin 256, l.val % 128 < 64 → G k l =
      if 128 * (l.val / 128) ≤ k.val ∧ k.val < 128 * (l.val / 128) + 64 then Ideal.ofBits FTy.f32 0x3C800000#32 else 0)
    (hhigh : ∀ k l : Fin 256, 64 ≤ l.val % 128 → l.val % 128 < 96 → G k l =
      if 128 * (l.val / 128) + 64 ≤ k.val ∧ k.val < 128 * (l.val / 128) + 64 + 32 then Ideal.ofBits FTy.f32 0x3D000000#32
      else 0) (l : Fin 256) :
    seg x G g l + (if l.val % 128 = 96 ∧ s.val < 112 then Ideal.ofBits FTy.f32 0xF149F2CA#32 else
      turn (seg y G gr) (csAt (angles (place (I.pos b) s))) (snAt (angles (place (I.pos b) s))) l) =
        latentKey I b s ⟨256 * n.val + l.val, by omega⟩ := by
  have hl := l.isLt
  have hn := n.isLt
  unfold latentKey
  by_cases h1 : l.val % 128 < 64
  · rw [if_neg (by omega), turn_plain _ _ l (.inl h1), dif_pos (show (256 * n.val + l.val) % 128 < 64 by omega),
      seg_zero y G gr l (by rw [hy, dif_neg (by omega)]), add_zero]
    have := seg_unit (w := 64) (Ideal.ofBits FTy.f32 0x42800000#32) _ mean64 (128 * (l.val / 128)) (by omega) x G g
      (fun i => kvAll I b s ⟨128 * ((256 * n.val + l.val) / 128) + i.val, by omega⟩) I.gkn
      (fun i => by
        rw [hx, dif_pos (by dsimp only; omega)]
        exact congrArg (kvAll I b s) (Fin.ext (by dsimp only; omega)))
      (fun i => by
        rw [hg, dif_pos (show (128 * (l.val / 128) + i.val) % 128 < 64 by omega)]
        exact congrArg I.gkn (Fin.ext (by dsimp only; omega)))
      ⟨l.val % 128, h1⟩ (fun k => by
        rw [hlow k _ (by dsimp only; omega)]
        dsimp only
        rw [show (128 * (l.val / 128) + l.val % 128) / 128 = l.val / 128 by omega])
    rw [show (⟨128 * (l.val / 128) + l.val % 128, by omega⟩ : Fin 256) = l from Fin.ext (by dsimp only; omega)] at this
    refine this.trans (congrArg _ (Fin.ext ?_))
    dsimp only
    omega
  · rw [dif_neg (show ¬(256 * n.val + l.val) % 128 < 64 by omega), seg_zero x G g l (by rw [hx, dif_neg h1]), zero_add]
    by_cases h2 : l.val % 128 < 96
    · rw [if_neg (by omega), turn_rope _ _ l ⟨by omega, h2⟩, dif_pos (show (256 * n.val + l.val) % 128 < 96 by omega)]
      have e : (fun j : Fin 32 => seg y G gr ⟨128 * (l.val / 128) + 64 + j.val, by omega⟩) =
          unit32 (fun i => z I b s ⟨640 + i.val, by omega⟩) I.gkr :=
        funext fun j => seg_unit (w := 32) (Ideal.ofBits FTy.f32 0x42000000#32) _ mean32 (128 * (l.val / 128) + 64) (by omega)
          y G gr _ _
          (fun i => by
            rw [hy, dif_pos (show 64 ≤ (128 * (l.val / 128) + 64 + i.val) % 128 ∧ (128 * (l.val / 128) + 64 + i.val) % 128 < 96
              by omega)]
            exact congrArg (z I b s) (Fin.ext (by dsimp only; omega)))
          (fun i => by
            rw [hr, dif_pos (show 64 ≤ (128 * (l.val / 128) + 64 + i.val) % 128 ∧ (128 * (l.val / 128) + 64 + i.val) % 128 < 96
              by omega)]
            exact congrArg I.gkr (Fin.ext (by dsimp only; omega)))
          j (fun k => by
            rw [hhigh k _ (by dsimp only; omega) (by dsimp only; omega)]
            dsimp only
            rw [show (128 * (l.val / 128) + 64 + j.val) / 128 = l.val / 128 by omega])
      rw [e]
      exact congrArg _ (Fin.ext (by dsimp only; omega))
    · rw [dif_neg (show ¬(256 * n.val + l.val) % 128 < 96 by omega), turn_plain _ _ l (.inr (by omega)),
        seg_zero y G gr l (by rw [hy, dif_neg (by omega)])]
      by_cases h3 : l.val % 128 = 96
      · rw [if_pos (show (256 * n.val + l.val) % 128 < 97 by omega)]
        by_cases h4 : s.val < 112
        · rw [if_pos ⟨h3, h4⟩, if_neg (by omega)]
        · rw [if_neg (fun h => h4 h.2), if_pos (by omega)]
      · rw [if_neg (fun h => h3 h.1), if_neg (by dsimp only; omega)]

/-- A head's gated features in a chunk of four heads of 64. -/
theorem head_unit (n : Fin 2) (o : ℕ) (ho : o + 512 ≤ 2216) (x : Fin 256 → EReal) (G : Fin 256 → Fin 256 → EReal)
    (g : Fin 256 → EReal) (g' : Fin 64 → EReal) (hx : ∀ l : Fin 256, x l = z I b s ⟨o + 256 * n.val + l.val, by omega⟩)
    (hg : ∀ l : Fin 256, g l = g' ⟨l.val % 64, by omega⟩)
    (hG : ∀ k l : Fin 256, G k l =
      if 64 * (l.val / 64) ≤ k.val ∧ k.val < 64 * (l.val / 64) + 64 then Ideal.ofBits FTy.f32 0x3C800000#32 else 0)
    (p : Fin 4) (j : Fin 64) :
    seg x G g ⟨64 * p.val + j.val, by omega⟩ =
      unit64 (fun i => z I b s ⟨o + 64 * (4 * n.val + p.val) + i.val, by omega⟩) g' j :=
  seg_unit (w := 64) (Ideal.ofBits FTy.f32 0x42800000#32) _ mean64 (64 * p.val) (by omega) x G g _ _
    (fun i => by
      rw [hx]
      exact congrArg (z I b s) (Fin.ext (by dsimp only; omega)))
    (fun i => by
      rw [hg]
      exact congrArg g' (Fin.ext (by dsimp only; omega)))
    j (fun k => by
      rw [hG]
      dsimp only
      rw [show (64 * p.val + j.val) / 64 = p.val by omega])

end Cert.Odd
-- ==== Proof.Odd.Lift.lean ====
module

public import proofs.«01_k».proof.Proof.Gen.Kernel4Ideal.Frame.Runs
public import proofs.«01_k».proof.Proof.Odd.Rows
public import Idealize.ShloMosaic.Lib.Tactic.CleanTypes

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

/-! # A buffer's contents at its own type and at a widening's

The host's widenings read and write their buffers at a type of their own, which is the buffer's. -/

theorem of_c_1 (a b d) (v : (⟨S_, .i32⟩ : BufTy).Contents (Elt Ideal)) :
    (StableHlo.TRef.of (T := ⟨S_, .i32⟩) main_c_1 a b d : StableHlo.TRef sig ⟨S_, .i32⟩).ofBuf v = v := rfl

theorem of_v24 (a b d) (v : (⟨S1024x32, .f32⟩ : BufTy).Contents (Elt Ideal)) :
    (StableHlo.TRef.of (T := ⟨S1024x32, .f32⟩) main_v24 a b d : StableHlo.TRef sig ⟨S1024x32, .f32⟩).ofBuf v = v := rfl

theorem to_v29 (a b d) (v : (⟨S1024x128, .f32⟩ : BufTy).Contents (Elt Ideal)) :
    (StableHlo.TRef.of (T := ⟨S1024x128, .f32⟩) main_v29 a b d : StableHlo.TRef sig ⟨S1024x128, .f32⟩).toBuf v = v := rfl

theorem of_c_2 (a b d) (v : (⟨S_, .i32⟩ : BufTy).Contents (Elt Ideal)) :
    (StableHlo.TRef.of (T := ⟨S_, .i32⟩) main_c_2 a b d : StableHlo.TRef sig ⟨S_, .i32⟩).ofBuf v = v := rfl

theorem of_v28 (a b d) (v : (⟨S1024x8, .f32⟩ : BufTy).Contents (Elt Ideal)) :
    (StableHlo.TRef.of (T := ⟨S1024x8, .f32⟩) main_v28 a b d : StableHlo.TRef sig ⟨S1024x8, .f32⟩).ofBuf v = v := rfl

theorem to_v30 (a b d) (v : (⟨S1024x128, .f32⟩ : BufTy).Contents (Elt Ideal)) :
    (StableHlo.TRef.of (T := ⟨S1024x128, .f32⟩) main_v30 a b d : StableHlo.TRef sig ⟨S1024x128, .f32⟩).toBuf v = v := rfl

theorem of_c_4 (a b d) (v : (⟨S_, .i32⟩ : BufTy).Contents (Elt Ideal)) :
    (StableHlo.TRef.of (T := ⟨S_, .i32⟩) main_c_4 a b d : StableHlo.TRef sig ⟨S_, .i32⟩).ofBuf v = v := rfl

theorem of_v41 (a b d) (v : (⟨S1x32, .f32⟩ : BufTy).Contents (Elt Ideal)) :
    (StableHlo.TRef.of (T := ⟨S1x32, .f32⟩) main_v41 a b d : StableHlo.TRef sig ⟨S1x32, .f32⟩).ofBuf v = v := rfl

theorem to_v42 (a b d) (v : (⟨S1x128, .f32⟩ : BufTy).Contents (Elt Ideal)) :
    (StableHlo.TRef.of (T := ⟨S1x128, .f32⟩) main_v42 a b d : StableHlo.TRef sig ⟨S1x128, .f32⟩).toBuf v = v := rfl

theorem of_c_5 (a b d) (v : (⟨S_, .i32⟩ : BufTy).Contents (Elt Ideal)) :
    (StableHlo.TRef.of (T := ⟨S_, .i32⟩) main_c_5 a b d : StableHlo.TRef sig ⟨S_, .i32⟩).ofBuf v = v := rfl

theorem of_v44 (a b d) (v : (⟨S1x32, .f32⟩ : BufTy).Contents (Elt Ideal)) :
    (StableHlo.TRef.of (T := ⟨S1x32, .f32⟩) main_v44 a b d : StableHlo.TRef sig ⟨S1x32, .f32⟩).ofBuf v = v := rfl

theorem to_v45 (a b d) (v : (⟨S1x128, .f32⟩ : BufTy).Contents (Elt Ideal)) :
    (StableHlo.TRef.of (T := ⟨S1x128, .f32⟩) main_v45 a b d : StableHlo.TRef sig ⟨S1x128, .f32⟩).toBuf v = v := rfl

theorem of_c_6 (a b d) (v : (⟨S_, .i32⟩ : BufTy).Contents (Elt Ideal)) :
    (StableHlo.TRef.of (T := ⟨S_, .i32⟩) main_c_6 a b d : StableHlo.TRef sig ⟨S_, .i32⟩).ofBuf v = v := rfl

theorem of_v47 (a b d) (v : (⟨S1x32, .f32⟩ : BufTy).Contents (Elt Ideal)) :
    (StableHlo.TRef.of (T := ⟨S1x32, .f32⟩) main_v47 a b d : StableHlo.TRef sig ⟨S1x32, .f32⟩).ofBuf v = v := rfl

theorem to_v48 (a b d) (v : (⟨S1x128, .f32⟩ : BufTy).Contents (Elt Ideal)) :
    (StableHlo.TRef.of (T := ⟨S1x128, .f32⟩) main_v48 a b d : StableHlo.TRef sig ⟨S1x128, .f32⟩).toBuf v = v := rfl

theorem of_c_7 (a b d) (v : (⟨S_, .i32⟩ : BufTy).Contents (Elt Ideal)) :
    (StableHlo.TRef.of (T := ⟨S_, .i32⟩) main_c_7 a b d : StableHlo.TRef sig ⟨S_, .i32⟩).ofBuf v = v := rfl

theorem of_v50 (a b d) (v : (⟨S1x32, .f32⟩ : BufTy).Contents (Elt Ideal)) :
    (StableHlo.TRef.of (T := ⟨S1x32, .f32⟩) main_v50 a b d : StableHlo.TRef sig ⟨S1x32, .f32⟩).ofBuf v = v := rfl

theorem to_v51 (a b d) (v : (⟨S1x128, .f32⟩ : BufTy).Contents (Elt Ideal)) :
    (StableHlo.TRef.of (T := ⟨S1x128, .f32⟩) main_v51 a b d : StableHlo.TRef sig ⟨S1x128, .f32⟩).toBuf v = v := rfl

theorem of_c_10 (a b d) (v : (⟨S_, .i32⟩ : BufTy).Contents (Elt Ideal)) :
    (StableHlo.TRef.of (T := ⟨S_, .i32⟩) main_c_10 a b d : StableHlo.TRef sig ⟨S_, .i32⟩).ofBuf v = v := rfl

theorem of_v59 (a b d) (v : (⟨S384x8x96, .f32⟩ : BufTy).Contents (Elt Ideal)) :
    (StableHlo.TRef.of (T := ⟨S384x8x96, .f32⟩) main_v59 a b d : StableHlo.TRef sig ⟨S384x8x96, .f32⟩).ofBuf v = v := rfl

theorem to_v60 (a b d) (v : (⟨S384x8x128, .f32⟩ : BufTy).Contents (Elt Ideal)) :
    (StableHlo.TRef.of (T := ⟨S384x8x128, .f32⟩) main_v60 a b d : StableHlo.TRef sig ⟨S384x8x128, .f32⟩).toBuf v = v := rfl

theorem of_c_11 (a b d) (v : (⟨S_, .i32⟩ : BufTy).Contents (Elt Ideal)) :
    (StableHlo.TRef.of (T := ⟨S_, .i32⟩) main_c_11 a b d : StableHlo.TRef sig ⟨S_, .i32⟩).ofBuf v = v := rfl

theorem of_v64 (a b d) (v : (⟨S256x8x64, .f32⟩ : BufTy).Contents (Elt Ideal)) :
    (StableHlo.TRef.of (T := ⟨S256x8x64, .f32⟩) main_v64 a b d : StableHlo.TRef sig ⟨S256x8x64, .f32⟩).ofBuf v = v := rfl

theorem to_v65 (a b d) (v : (⟨S256x8x128, .f32⟩ : BufTy).Contents (Elt Ideal)) :
    (StableHlo.TRef.of (T := ⟨S256x8x128, .f32⟩) main_v65 a b d : StableHlo.TRef sig ⟨S256x8x128, .f32⟩).toBuf v = v := rfl

theorem of_c_12 (a b d) (v : (⟨S_, .i32⟩ : BufTy).Contents (Elt Ideal)) :
    (StableHlo.TRef.of (T := ⟨S_, .i32⟩) main_c_12 a b d : StableHlo.TRef sig ⟨S_, .i32⟩).ofBuf v = v := rfl

theorem of_v72 (a b d) (v : (⟨S96, .f32⟩ : BufTy).Contents (Elt Ideal)) :
    (StableHlo.TRef.of (T := ⟨S96, .f32⟩) main_v72 a b d : StableHlo.TRef sig ⟨S96, .f32⟩).ofBuf v = v := rfl

theorem to_v73 (a b d) (v : (⟨S128, .f32⟩ : BufTy).Contents (Elt Ideal)) :
    (StableHlo.TRef.of (T := ⟨S128, .f32⟩) main_v73 a b d : StableHlo.TRef sig ⟨S128, .f32⟩).toBuf v = v := rfl

theorem of_c_13 (a b d) (v : (⟨S_, .i32⟩ : BufTy).Contents (Elt Ideal)) :
    (StableHlo.TRef.of (T := ⟨S_, .i32⟩) main_c_13 a b d : StableHlo.TRef sig ⟨S_, .i32⟩).ofBuf v = v := rfl

theorem of_v18 (a b d) (v : (⟨S64, .f32⟩ : BufTy).Contents (Elt Ideal)) :
    (StableHlo.TRef.of (T := ⟨S64, .f32⟩) main_v18 a b d : StableHlo.TRef sig ⟨S64, .f32⟩).ofBuf v = v := rfl

theorem to_v76 (a b d) (v : (⟨S128, .f32⟩ : BufTy).Contents (Elt Ideal)) :
    (StableHlo.TRef.of (T := ⟨S128, .f32⟩) main_v76 a b d : StableHlo.TRef sig ⟨S128, .f32⟩).toBuf v = v := rfl

theorem of_c_14 (a b d) (v : (⟨S_, .i32⟩ : BufTy).Contents (Elt Ideal)) :
    (StableHlo.TRef.of (T := ⟨S_, .i32⟩) main_c_14 a b d : StableHlo.TRef sig ⟨S_, .i32⟩).ofBuf v = v := rfl

theorem of_v19 (a b d) (v : (⟨S32, .f32⟩ : BufTy).Contents (Elt Ideal)) :
    (StableHlo.TRef.of (T := ⟨S32, .f32⟩) main_v19 a b d : StableHlo.TRef sig ⟨S32, .f32⟩).ofBuf v = v := rfl

theorem to_v79 (a b d) (v : (⟨S128, .f32⟩ : BufTy).Contents (Elt Ideal)) :
    (StableHlo.TRef.of (T := ⟨S128, .f32⟩) main_v79 a b d : StableHlo.TRef sig ⟨S128, .f32⟩).toBuf v = v := rfl

theorem of_c_15 (a b d) (v : (⟨S_, .i32⟩ : BufTy).Contents (Elt Ideal)) :
    (StableHlo.TRef.of (T := ⟨S_, .i32⟩) main_c_15 a b d : StableHlo.TRef sig ⟨S_, .i32⟩).ofBuf v = v := rfl

theorem of_v82 (a b d) (v : (⟨S128, .f32⟩ : BufTy).Contents (Elt Ideal)) :
    (StableHlo.TRef.of (T := ⟨S128, .f32⟩) main_v82 a b d : StableHlo.TRef sig ⟨S128, .f32⟩).ofBuf v = v := rfl

theorem to_v83 (a b d) (v : (⟨S128, .f32⟩ : BufTy).Contents (Elt Ideal)) :
    (StableHlo.TRef.of (T := ⟨S128, .f32⟩) main_v83 a b d : StableHlo.TRef sig ⟨S128, .f32⟩).toBuf v = v := rfl

theorem of_c_16 (a b d) (v : (⟨S_, .i32⟩ : BufTy).Contents (Elt Ideal)) :
    (StableHlo.TRef.of (T := ⟨S_, .i32⟩) main_c_16 a b d : StableHlo.TRef sig ⟨S_, .i32⟩).ofBuf v = v := rfl

theorem of_v86 (a b d) (v : (⟨S128, .f32⟩ : BufTy).Contents (Elt Ideal)) :
    (StableHlo.TRef.of (T := ⟨S128, .f32⟩) main_v86 a b d : StableHlo.TRef sig ⟨S128, .f32⟩).ofBuf v = v := rfl

theorem to_v87 (a b d) (v : (⟨S128, .f32⟩ : BufTy).Contents (Elt Ideal)) :
    (StableHlo.TRef.of (T := ⟨S128, .f32⟩) main_v87 a b d : StableHlo.TRef sig ⟨S128, .f32⟩).toBuf v = v := rfl

theorem of_c_17 (a b d) (v : (⟨S_, .i32⟩ : BufTy).Contents (Elt Ideal)) :
    (StableHlo.TRef.of (T := ⟨S_, .i32⟩) main_c_17 a b d : StableHlo.TRef sig ⟨S_, .i32⟩).ofBuf v = v := rfl

theorem of_v11 (a b d) (v : (⟨S8, .f32⟩ : BufTy).Contents (Elt Ideal)) :
    (StableHlo.TRef.of (T := ⟨S8, .f32⟩) main_v11 a b d : StableHlo.TRef sig ⟨S8, .f32⟩).ofBuf v = v := rfl

theorem to_v90 (a b d) (v : (⟨S128, .f32⟩ : BufTy).Contents (Elt Ideal)) :
    (StableHlo.TRef.of (T := ⟨S128, .f32⟩) main_v90 a b d : StableHlo.TRef sig ⟨S128, .f32⟩).toBuf v = v := rfl

theorem of_c_19 (a b d) (v : (⟨S_, .i32⟩ : BufTy).Contents (Elt Ideal)) :
    (StableHlo.TRef.of (T := ⟨S_, .i32⟩) main_c_19 a b d : StableHlo.TRef sig ⟨S_, .i32⟩).ofBuf v = v := rfl

theorem of_v92 (a b d) (v : (⟨S64x64, .f32⟩ : BufTy).Contents (Elt Ideal)) :
    (StableHlo.TRef.of (T := ⟨S64x64, .f32⟩) main_v92 a b d : StableHlo.TRef sig ⟨S64x64, .f32⟩).ofBuf v = v := rfl

theorem to_v93 (a b d) (v : (⟨S64x256, .f32⟩ : BufTy).Contents (Elt Ideal)) :
    (StableHlo.TRef.of (T := ⟨S64x256, .f32⟩) main_v93 a b d : StableHlo.TRef sig ⟨S64x256, .f32⟩).toBuf v = v := rfl

theorem of_c_21 (a b d) (v : (⟨S_, .i32⟩ : BufTy).Contents (Elt Ideal)) :
    (StableHlo.TRef.of (T := ⟨S_, .i32⟩) main_c_21 a b d : StableHlo.TRef sig ⟨S_, .i32⟩).ofBuf v = v := rfl

theorem of_v94 (a b d) (v : (⟨S32x32, .f32⟩ : BufTy).Contents (Elt Ideal)) :
    (StableHlo.TRef.of (T := ⟨S32x32, .f32⟩) main_v94 a b d : StableHlo.TRef sig ⟨S32x32, .f32⟩).ofBuf v = v := rfl

theorem to_v95 (a b d) (v : (⟨S32x256, .f32⟩ : BufTy).Contents (Elt Ideal)) :
    (StableHlo.TRef.of (T := ⟨S32x256, .f32⟩) main_v95 a b d : StableHlo.TRef sig ⟨S32x256, .f32⟩).toBuf v = v := rfl

theorem of_c_23 (a b d) (v : (⟨S_, .i32⟩ : BufTy).Contents (Elt Ideal)) :
    (StableHlo.TRef.of (T := ⟨S_, .i32⟩) main_c_23 a b d : StableHlo.TRef sig ⟨S_, .i32⟩).ofBuf v = v := rfl

theorem of_v96 (a b d) (v : (⟨S32x32, .f32⟩ : BufTy).Contents (Elt Ideal)) :
    (StableHlo.TRef.of (T := ⟨S32x32, .f32⟩) main_v96 a b d : StableHlo.TRef sig ⟨S32x32, .f32⟩).ofBuf v = v := rfl

theorem to_v97 (a b d) (v : (⟨S32x256, .f32⟩ : BufTy).Contents (Elt Ideal)) :
    (StableHlo.TRef.of (T := ⟨S32x256, .f32⟩) main_v97 a b d : StableHlo.TRef sig ⟨S32x256, .f32⟩).toBuf v = v := rfl

theorem of_c_25 (a b d) (v : (⟨S_, .i32⟩ : BufTy).Contents (Elt Ideal)) :
    (StableHlo.TRef.of (T := ⟨S_, .i32⟩) main_c_25 a b d : StableHlo.TRef sig ⟨S_, .i32⟩).ofBuf v = v := rfl

theorem of_v98 (a b d) (v : (⟨S64x64, .f32⟩ : BufTy).Contents (Elt Ideal)) :
    (StableHlo.TRef.of (T := ⟨S64x64, .f32⟩) main_v98 a b d : StableHlo.TRef sig ⟨S64x64, .f32⟩).ofBuf v = v := rfl

theorem to_v99 (a b d) (v : (⟨S64x256, .f32⟩ : BufTy).Contents (Elt Ideal)) :
    (StableHlo.TRef.of (T := ⟨S64x256, .f32⟩) main_v99 a b d : StableHlo.TRef sig ⟨S64x256, .f32⟩).toBuf v = v := rfl

theorem of_c_27 (a b d) (v : (⟨S_, .i32⟩ : BufTy).Contents (Elt Ideal)) :
    (StableHlo.TRef.of (T := ⟨S_, .i32⟩) main_c_27 a b d : StableHlo.TRef sig ⟨S_, .i32⟩).ofBuf v = v := rfl

theorem of_v100 (a b d) (v : (⟨S32x32, .f32⟩ : BufTy).Contents (Elt Ideal)) :
    (StableHlo.TRef.of (T := ⟨S32x32, .f32⟩) main_v100 a b d : StableHlo.TRef sig ⟨S32x32, .f32⟩).ofBuf v = v := rfl

theorem to_v101 (a b d) (v : (⟨S32x256, .f32⟩ : BufTy).Contents (Elt Ideal)) :
    (StableHlo.TRef.of (T := ⟨S32x256, .f32⟩) main_v101 a b d : StableHlo.TRef sig ⟨S32x256, .f32⟩).toBuf v = v := rfl

theorem of_c_29 (a b d) (v : (⟨S_, .i32⟩ : BufTy).Contents (Elt Ideal)) :
    (StableHlo.TRef.of (T := ⟨S_, .i32⟩) main_c_29 a b d : StableHlo.TRef sig ⟨S_, .i32⟩).ofBuf v = v := rfl

theorem of_v102 (a b d) (v : (⟨S32x32, .f32⟩ : BufTy).Contents (Elt Ideal)) :
    (StableHlo.TRef.of (T := ⟨S32x32, .f32⟩) main_v102 a b d : StableHlo.TRef sig ⟨S32x32, .f32⟩).ofBuf v = v := rfl

theorem to_v103 (a b d) (v : (⟨S32x256, .f32⟩ : BufTy).Contents (Elt Ideal)) :
    (StableHlo.TRef.of (T := ⟨S32x256, .f32⟩) main_v103 a b d : StableHlo.TRef sig ⟨S32x256, .f32⟩).toBuf v = v := rfl

theorem of_c_31 (a b d) (v : (⟨S_, .i32⟩ : BufTy).Contents (Elt Ideal)) :
    (StableHlo.TRef.of (T := ⟨S_, .i32⟩) main_c_31 a b d : StableHlo.TRef sig ⟨S_, .i32⟩).ofBuf v = v := rfl

theorem of_v106 (a b d) (v : (⟨S64x64, .f32⟩ : BufTy).Contents (Elt Ideal)) :
    (StableHlo.TRef.of (T := ⟨S64x64, .f32⟩) main_v106 a b d : StableHlo.TRef sig ⟨S64x64, .f32⟩).ofBuf v = v := rfl

theorem to_v107 (a b d) (v : (⟨S64x256, .f32⟩ : BufTy).Contents (Elt Ideal)) :
    (StableHlo.TRef.of (T := ⟨S64x256, .f32⟩) main_v107 a b d : StableHlo.TRef sig ⟨S64x256, .f32⟩).toBuf v = v := rfl

theorem of_c_33 (a b d) (v : (⟨S_, .i32⟩ : BufTy).Contents (Elt Ideal)) :
    (StableHlo.TRef.of (T := ⟨S_, .i32⟩) main_c_33 a b d : StableHlo.TRef sig ⟨S_, .i32⟩).ofBuf v = v := rfl

theorem of_v108 (a b d) (v : (⟨S64x64, .f32⟩ : BufTy).Contents (Elt Ideal)) :
    (StableHlo.TRef.of (T := ⟨S64x64, .f32⟩) main_v108 a b d : StableHlo.TRef sig ⟨S64x64, .f32⟩).ofBuf v = v := rfl

theorem to_v109 (a b d) (v : (⟨S64x256, .f32⟩ : BufTy).Contents (Elt Ideal)) :
    (StableHlo.TRef.of (T := ⟨S64x256, .f32⟩) main_v109 a b d : StableHlo.TRef sig ⟨S64x256, .f32⟩).toBuf v = v := rfl

theorem of_c_35 (a b d) (v : (⟨S_, .i32⟩ : BufTy).Contents (Elt Ideal)) :
    (StableHlo.TRef.of (T := ⟨S_, .i32⟩) main_c_35 a b d : StableHlo.TRef sig ⟨S_, .i32⟩).ofBuf v = v := rfl

theorem of_v110 (a b d) (v : (⟨S64x64, .f32⟩ : BufTy).Contents (Elt Ideal)) :
    (StableHlo.TRef.of (T := ⟨S64x64, .f32⟩) main_v110 a b d : StableHlo.TRef sig ⟨S64x64, .f32⟩).ofBuf v = v := rfl

theorem to_v111 (a b d) (v : (⟨S64x256, .f32⟩ : BufTy).Contents (Elt Ideal)) :
    (StableHlo.TRef.of (T := ⟨S64x256, .f32⟩) main_v111 a b d : StableHlo.TRef sig ⟨S64x256, .f32⟩).toBuf v = v := rfl

theorem of_c_37 (a b d) (v : (⟨S_, .i32⟩ : BufTy).Contents (Elt Ideal)) :
    (StableHlo.TRef.of (T := ⟨S_, .i32⟩) main_c_37 a b d : StableHlo.TRef sig ⟨S_, .i32⟩).ofBuf v = v := rfl

theorem of_v112 (a b d) (v : (⟨S64x64, .f32⟩ : BufTy).Contents (Elt Ideal)) :
    (StableHlo.TRef.of (T := ⟨S64x64, .f32⟩) main_v112 a b d : StableHlo.TRef sig ⟨S64x64, .f32⟩).ofBuf v = v := rfl

theorem to_v113 (a b d) (v : (⟨S64x256, .f32⟩ : BufTy).Contents (Elt Ideal)) :
    (StableHlo.TRef.of (T := ⟨S64x256, .f32⟩) main_v113 a b d : StableHlo.TRef sig ⟨S64x256, .f32⟩).toBuf v = v := rfl

theorem of_c_39 (a b d) (v : (⟨S_, .i32⟩ : BufTy).Contents (Elt Ideal)) :
    (StableHlo.TRef.of (T := ⟨S_, .i32⟩) main_c_39 a b d : StableHlo.TRef sig ⟨S_, .i32⟩).ofBuf v = v := rfl

theorem of_v122 (a b d) (v : (⟨S8x8x1, .f32⟩ : BufTy).Contents (Elt Ideal)) :
    (StableHlo.TRef.of (T := ⟨S8x8x1, .f32⟩) main_v122 a b d : StableHlo.TRef sig ⟨S8x8x1, .f32⟩).ofBuf v = v := rfl

theorem to_v123 (a b d) (v : (⟨S8x8x128, .f32⟩ : BufTy).Contents (Elt Ideal)) :
    (StableHlo.TRef.of (T := ⟨S8x8x128, .f32⟩) main_v123 a b d : StableHlo.TRef sig ⟨S8x8x128, .f32⟩).toBuf v = v := rfl

theorem of_c_40 (a b d) (v : (⟨S_, .i32⟩ : BufTy).Contents (Elt Ideal)) :
    (StableHlo.TRef.of (T := ⟨S_, .i32⟩) main_c_40 a b d : StableHlo.TRef sig ⟨S_, .i32⟩).ofBuf v = v := rfl

theorem of_v124 (a b d) (v : (⟨S8x1024, .f32⟩ : BufTy).Contents (Elt Ideal)) :
    (StableHlo.TRef.of (T := ⟨S8x1024, .f32⟩) main_v124 a b d : StableHlo.TRef sig ⟨S8x1024, .f32⟩).ofBuf v = v := rfl

theorem to_v125 (a b d) (v : (⟨S128x1024, .f32⟩ : BufTy).Contents (Elt Ideal)) :
    (StableHlo.TRef.of (T := ⟨S128x1024, .f32⟩) main_v125 a b d : StableHlo.TRef sig ⟨S128x1024, .f32⟩).toBuf v = v := rfl

theorem of_c_41 (a b d) (v : (⟨S_, .i32⟩ : BufTy).Contents (Elt Ideal)) :
    (StableHlo.TRef.of (T := ⟨S_, .i32⟩) main_c_41 a b d : StableHlo.TRef sig ⟨S_, .i32⟩).ofBuf v = v := rfl

theorem to_v126 (a b d) (v : (⟨S8x8x128, .f32⟩ : BufTy).Contents (Elt Ideal)) :
    (StableHlo.TRef.of (T := ⟨S8x8x128, .f32⟩) main_v126 a b d : StableHlo.TRef sig ⟨S8x8x128, .f32⟩).toBuf v = v := rfl

theorem of_c_42 (a b d) (v : (⟨S_, .i32⟩ : BufTy).Contents (Elt Ideal)) :
    (StableHlo.TRef.of (T := ⟨S_, .i32⟩) main_c_42 a b d : StableHlo.TRef sig ⟨S_, .i32⟩).ofBuf v = v := rfl

theorem of_v127 (a b d) (v : (⟨S8x1024, .f32⟩ : BufTy).Contents (Elt Ideal)) :
    (StableHlo.TRef.of (T := ⟨S8x1024, .f32⟩) main_v127 a b d : StableHlo.TRef sig ⟨S8x1024, .f32⟩).ofBuf v = v := rfl

theorem to_v128 (a b d) (v : (⟨S128x1024, .f32⟩ : BufTy).Contents (Elt Ideal)) :
    (StableHlo.TRef.of (T := ⟨S128x1024, .f32⟩) main_v128 a b d : StableHlo.TRef sig ⟨S128x1024, .f32⟩).toBuf v = v := rfl

theorem of_c_43 (a b d) (v : (⟨S_, .i32⟩ : BufTy).Contents (Elt Ideal)) :
    (StableHlo.TRef.of (T := ⟨S_, .i32⟩) main_c_43 a b d : StableHlo.TRef sig ⟨S_, .i32⟩).ofBuf v = v := rfl

theorem to_v129 (a b d) (v : (⟨S8x8x128, .f32⟩ : BufTy).Contents (Elt Ideal)) :
    (StableHlo.TRef.of (T := ⟨S8x8x128, .f32⟩) main_v129 a b d : StableHlo.TRef sig ⟨S8x8x128, .f32⟩).toBuf v = v := rfl

theorem of_c_44 (a b d) (v : (⟨S_, .i32⟩ : BufTy).Contents (Elt Ideal)) :
    (StableHlo.TRef.of (T := ⟨S_, .i32⟩) main_c_44 a b d : StableHlo.TRef sig ⟨S_, .i32⟩).ofBuf v = v := rfl

theorem of_v130 (a b d) (v : (⟨S8x1024, .f32⟩ : BufTy).Contents (Elt Ideal)) :
    (StableHlo.TRef.of (T := ⟨S8x1024, .f32⟩) main_v130 a b d : StableHlo.TRef sig ⟨S8x1024, .f32⟩).ofBuf v = v := rfl

theorem to_v131 (a b d) (v : (⟨S128x1024, .f32⟩ : BufTy).Contents (Elt Ideal)) :
    (StableHlo.TRef.of (T := ⟨S128x1024, .f32⟩) main_v131 a b d : StableHlo.TRef sig ⟨S128x1024, .f32⟩).toBuf v = v := rfl

end Cert.Kernel4Ideal.Odd
-- ==== Proof.Odd.HostA.lean ====
module

public import proofs.«01_k».proof.Proof.Odd.Lift

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_pad : (FloatOps.sitofp FTy.f32 (0#32 : BitVec 32) : Ideal FTy.f32) = (0 : EReal) := by
  show (((0#32 : BitVec 32).toInt : ℝ) : EReal) = 0
  simp

theorem pad_const (i : S_.Idx) : (sitofp (F := Ideal) FTy.f32 (constantI S_ 32 0#32) i : EReal) = 0 := zero_pad

set_option maxHeartbeats 1000000 in
theorem h_apply (c : Dev nD) (b : Fin 8) (s : Fin 4224) (l : Fin 1024) :
    (V m c main_v134 (ix3 b s l) : EReal) = m (c.tc.loc main_arg0) (ix2 ⟨b.val * 4224 + s.val, by omega⟩ l) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  pointwise

set_option maxHeartbeats 1000000 in
theorem ln_apply (c : Dev nD) (l : Fin 1024) :
    (V m c main_v33 (ix2 0 l) : EReal) = m (c.tc.loc main_arg2) (ix2 0 l) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  pointwise

set_option maxHeartbeats 1000000 in
theorem gqa_apply (c : Dev nD) (l : Fin 384) :
    (V m c main_v57 (ix2 0 l) : EReal) = m (c.tc.loc main_arg5) (ix2 0 l) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  pointwise

set_option maxHeartbeats 1000000 in
theorem gkva_apply (c : Dev nD) (l : Fin 256) :
    (V m c main_v58 (ix2 0 l) : EReal) = m (c.tc.loc main_arg6) (ix2 0 l) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  pointwise

set_option maxHeartbeats 1000000 in
theorem wq_apply (c : Dev nD) (k : Fin 384) (l : Fin 1024) :
    (V m c main_v62 (ix2 k l) : EReal) = if h : l.val % 128 < 96 then (m (c.tc.loc main_arg7) (ix3 0 k ⟨96 * (l.val / 128) + l.val % 128, by omega⟩) : EReal) else (0 : EReal) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_10, of_v59, to_v60]
  pointwise
  simp only [StableHlo.TRef.ofBuf_toBuf, pad_const, zero_pad]
  split_ifs <;> first | rfl | (exfalso; omega) | exact congrArg _ (congrArg (ix3 0 k) (Fin.ext (by dsimp only; omega)))

set_option maxHeartbeats 1000000 in
theorem wkn_apply (c : Dev nD) (k : Fin 256) (l : Fin 1024) :
    (V m c main_v67 (ix2 k l) : EReal) = if l.val % 128 < 64 then (m (c.tc.loc main_arg8) (ix3 0 k l) : EReal) else (0 : EReal) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_11, of_v64, to_v65]
  pointwise
  simp only [StableHlo.TRef.ofBuf_toBuf, pad_const, zero_pad]
  split_ifs <;> first | rfl | (exfalso; omega) | exact congrArg _ (congrArg (ix3 0 k) (Fin.ext (by dsimp only; omega)))

set_option maxHeartbeats 1000000 in
theorem wv_apply (c : Dev nD) (k : Fin 256) (l : Fin 512) :
    (V m c main_v71 (ix2 k l) : EReal) = m (c.tc.loc main_arg8) (ix3 0 k ⟨128 * (l.val / 64) + 64 + l.val % 64, by omega⟩) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  pointwise
  exact congrArg _ (congrArg (ix3 0 k) (Fin.ext (by dsimp only; omega)))

end Cert.Kernel4Ideal.Odd
-- ==== Proof.Odd.Joins.lean ====
module

public import proofs.«01_k».proof.Proof.Odd.Lift

@[expose] public section

set_option maxRecDepth 16384

noncomputable section

/-! # The host's joins, element by element

A joined matrix is read off its parts, each of which is a range of the whole. -/

namespace Cert.Kernel4Ideal.Odd

open Cert.Kernel4Ideal Cert.Kernel4Ideal.Gen Cert.Mlp Cert.Odd
open Idealize.ShloMosaic Idealize.ShloMosaic.TcCoe

theorem frq_rows (a b c d : FVec Ideal S1x128 .f32) (f : Fin 4 → Fin 128 → EReal) (ha : ∀ l, a (ix2 0 l) = f 0 l)
    (hb : ∀ l, b (ix2 0 l) = f 1 l) (hc : ∀ l, c (ix2 0 l) = f 2 l) (hd : ∀ l, d (ix2 0 l) = f 3 l) (r : Fin 4) (l : Fin 128) :
    concatenate S4x128 0 [⟨S1x128, a⟩, ⟨S1x128, b⟩, ⟨S1x128, c⟩, ⟨S1x128, d⟩]
      concatenates_S1x128_S1x128_S1x128_S1x128_S4x128_d0 (ix2 r l) = f r l := by
  pointwise
  fin_cases r
  · exact ha l
  · exact hb l
  · exact hc l
  · exact hd l

theorem pos_rows (a : IVec S8x112 32) (b : IVec S8x16 32) (c : IVec S8x4096 32) (p : Fin 8) (pos : Fin 4096 → BitVec 32)
    (ha : ∀ l, a (ix2 p l) = 0#32) (hb : ∀ l : Fin 16, b (ix2 p l) = BitVec.ofNat 32 l.val)
    (hc : ∀ l, c (ix2 p l) = pos l + 16#32) (s : Fin 4224) :
    concatenate S8x4224 1 [⟨S8x112, a⟩, ⟨S8x16, b⟩, ⟨S8x4096, c⟩] concatenates_S8x112_S8x16_S8x4096_S8x4224_d1 (ix2 p s) =
      place pos s := by
  pointwise
  simp only [ha, hb, hc]
  unfold place
  split_ifs
  all_goals first
    | rfl
    | (exfalso; omega)
    | (rw [dif_neg (by omega)]; exact congrArg (pos · + 16#32) (Fin.ext (by dsimp only; omega)))

theorem phs_rows (a b : FVec Ideal S16 .f32) (x y : EReal) (ha : ∀ l, a (ix1 l) = x) (hb : ∀ l, b (ix1 l) = y) (l : Fin 128) :
    concatenate S128 0 [⟨S16, a⟩, ⟨S16, b⟩, ⟨S16, a⟩, ⟨S16, b⟩, ⟨S16, a⟩, ⟨S16, b⟩, ⟨S16, a⟩, ⟨S16, b⟩]
      concatenates_S16_S16_S16_S16_S16_S16_S16_S16_S128_d0 (ix1 l) = if l.val % 32 < 16 then x else y := by
  pointwise
  simp only [ha, hb]
  split_ifs <;> first | rfl | (exfalso; omega)

theorem gm_rows (a d : FVec Ideal S64x256 .f32) (b c e f : FVec Ideal S32x256 .f32) (g : Fin 256 → Fin 256 → EReal)
    (ha : ∀ (k : Fin 64) l, a (ix2 k l) = g ⟨k.val, by omega⟩ l) (hb : ∀ (k : Fin 32) l, b (ix2 k l) = g ⟨64 + k.val, by omega⟩ l)
    (hc : ∀ (k : Fin 32) l, c (ix2 k l) = g ⟨96 + k.val, by omega⟩ l)
    (hd : ∀ (k : Fin 64) l, d (ix2 k l) = g ⟨128 + k.val, by omega⟩ l)
    (he : ∀ (k : Fin 32) l, e (ix2 k l) = g ⟨192 + k.val, by omega⟩ l)
    (hf : ∀ (k : Fin 32) l, f (ix2 k l) = g ⟨224 + k.val, by omega⟩ l) (k l : Fin 256) :
    concatenate S256x256 0 [⟨S64x256, a⟩, ⟨S32x256, b⟩, ⟨S32x256, c⟩, ⟨S64x256, d⟩, ⟨S32x256, e⟩, ⟨S32x256, f⟩]
      concatenates_S64x256_S32x256_S32x256_S64x256_S32x256_S32x256_S256x256_d0 (ix2 k l) = g k l := by
  pointwise
  simp only [ha, hb, hc, hd, he, hf]
  split_ifs <;> first | rfl | exact congrArg (g · l) (Fin.ext (by dsimp only; omega))

theorem g64_rows (a b c d : FVec Ideal S64x256 .f32) (g : Fin 256 → Fin 256 → EReal)
    (ha : ∀ (k : Fin 64) l, a (ix2 k l) = g ⟨k.val, by omega⟩ l) (hb : ∀ (k : Fin 64) l, b (ix2 k l) = g ⟨64 + k.val, by omega⟩ l)
    (hc : ∀ (k : Fin 64) l, c (ix2 k l) = g ⟨128 + k.val, by omega⟩ l)
    (hd : ∀ (k : Fin 64) l, d (ix2 k l) = g ⟨192 + k.val, by omega⟩ l) (k l : Fin 256) :
    concatenate S256x256 0 [⟨S64x256, a⟩, ⟨S64x256, b⟩, ⟨S64x256, c⟩, ⟨S64x256, d⟩]
      concatenates_S64x256_S64x256_S64x256_S64x256_S256x256_d0 (ix2 k l) = g k l := by
  pointwise
  simp only [ha, hb, hc, hd]
  split_ifs <;> first | rfl | exact congrArg (g · l) (Fin.ext (by dsimp only; omega))

theorem sel_rows (a b c : FVec Ideal S128x1024 .f32) (g : Fin 384 → Fin 1024 → EReal)
    (ha : ∀ (k : Fin 128) l, a (ix2 k l) = g ⟨k.val, by omega⟩ l) (hb : ∀ (k : Fin 128) l, b (ix2 k l) = g ⟨128 + k.val, by omega⟩ l)
    (hc : ∀ (k : Fin 128) l, c (ix2 k l) = g ⟨256 + k.val, by omega⟩ l) (k : Fin 384) (l : Fin 1024) :
    concatenate S384x1024 0 [⟨S128x1024, a⟩, ⟨S128x1024, b⟩, ⟨S128x1024, c⟩]
      concatenates_S128x1024_S128x1024_S128x1024_S384x1024_d0 (ix2 k l) = g k l := by
  pointwise
  simp only [ha, hb, hc]
  split_ifs <;> first | rfl | exact congrArg (g · l) (Fin.ext (by dsimp only; omega))

/-- The projection's matrix as the kernel takes it: zeros about the shared key's columns and behind the gates'. -/
def wide (w : Fin 1024 → Fin 2216 → EReal) (k : Fin 1024) (l : Fin 2432) : EReal :=
  if h : l.val < 640 then w k ⟨l.val, by omega⟩
  else if l.val < 768 then (if h : 704 ≤ l.val ∧ l.val < 736 then w k ⟨l.val - 64, by omega⟩ else 0)
  else if h : l.val < 2312 then w k ⟨l.val - 96, by omega⟩ else 0

theorem w_rows (a : FVec Ideal S1024x384 .f32) (b : FVec Ideal S1024x256 .f32) (c g : FVec Ideal S1024x128 .f32)
    (d e f : FVec Ideal S1024x512 .f32) (w : Fin 1024 → Fin 2432 → EReal)
    (ha : ∀ k (l : Fin 384), a (ix2 k l) = w k ⟨l.val, by omega⟩) (hb : ∀ k (l : Fin 256), b (ix2 k l) = w k ⟨384 + l.val, by omega⟩)
    (hc : ∀ k (l : Fin 128), c (ix2 k l) = w k ⟨640 + l.val, by omega⟩)
    (hd : ∀ k (l : Fin 512), d (ix2 k l) = w k ⟨768 + l.val, by omega⟩)
    (he : ∀ k (l : Fin 512), e (ix2 k l) = w k ⟨1280 + l.val, by omega⟩)
    (hf : ∀ k (l : Fin 512), f (ix2 k l) = w k ⟨1792 + l.val, by omega⟩)
    (hg : ∀ k (l : Fin 128), g (ix2 k l) = w k ⟨2304 + l.val, by omega⟩) (k : Fin 1024) (l : Fin 2432) :
    concatenate S1024x2432 1 [⟨S1024x384, a⟩, ⟨S1024x256, b⟩, ⟨S1024x128, c⟩, ⟨S1024x512, d⟩, ⟨S1024x512, e⟩, ⟨S1024x512, f⟩,
      ⟨S1024x128, g⟩] concatenates_S1024x384_S1024x256_S1024x128_S1024x512_S1024x512_S1024x512_S1024x128_S1024x2432_d1 (ix2 k l) =
      w k l := by
  pointwise
  simp only [ha, hb, hc, hd, he, hf, hg]
  split_ifs <;> first | rfl | exact congrArg (w k) (Fin.ext (by dsimp only; omega))

end Cert.Kernel4Ideal.Odd
-- ==== Proof.Odd.HostB.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_fill : (FloatOps.sitofp FTy.f32 (0#32 : BitVec 32) : Ideal FTy.f32) = (0 : EReal) := by
  show (((0#32 : BitVec 32).toInt : ℝ) : EReal) = 0
  simp

theorem fill_const (i : S_.Idx) : (sitofp (F := Ideal) FTy.f32 (constantI S_ 32 0#32) i : EReal) = 0 := zero_fill

set_option maxHeartbeats 1000000 in
theorem gq_apply (c : Dev nD) (l : Fin 256) :
    (V m c main_v75 (ix2 0 l) : EReal) = if h : l.val % 128 < 64 then (m (c.tc.loc main_arg9) (ix2 0 ⟨l.val % 128, h⟩) : EReal)
      else if h : l.val % 128 < 96 then m (c.tc.loc main_arg10) (ix2 0 ⟨l.val % 128 - 64, by omega⟩) else (0 : EReal) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_12, of_v72, to_v73]
  pointwise
  simp only [StableHlo.TRef.ofBuf_toBuf, fill_const, zero_fill]
  repeat' split
  all_goals first
    | rfl
    | (exfalso; omega)
    | exact congrArg (fun j => m (c.tc.loc main_arg10) (ix2 0 j)) (Fin.ext (by first | rfl | (dsimp only; omega)))
    | exact congrArg (fun j => m (c.tc.loc main_arg9) (ix2 0 j)) (Fin.ext (by first | rfl | (dsimp only; omega)))

set_option maxHeartbeats 1000000 in
theorem gk_apply (c : Dev nD) (l : Fin 256) :
    (V m c main_v78 (ix2 0 l) : EReal) = if h : l.val % 128 < 64 then (m (c.tc.loc main_arg11) (ix2 0 ⟨l.val % 128, h⟩) : EReal) else (0 : EReal) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_13, of_v18, to_v76]
  pointwise
  simp only [StableHlo.TRef.ofBuf_toBuf, fill_const, zero_fill]
  repeat' split
  all_goals first
    | rfl
    | (exfalso; omega)
    | exact congrArg (fun j => m (c.tc.loc main_arg11) (ix2 0 j)) (Fin.ext (by first | rfl | (dsimp only; omega)))

set_option maxHeartbeats 1000000 in
theorem gkr_apply (c : Dev nD) (l : Fin 256) :
    (V m c main_v81 (ix2 0 l) : EReal) = if h : 64 ≤ l.val % 128 ∧ l.val % 128 < 96 then (m (c.tc.loc main_arg12) (ix2 0 ⟨l.val % 128 - 64, by omega⟩) : EReal) else (0 : EReal) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_14, of_v19, to_v79]
  pointwise
  simp only [StableHlo.TRef.ofBuf_toBuf, fill_const, zero_fill]
  repeat' split
  all_goals first
    | rfl
    | (exfalso; omega)
    | exact congrArg (fun j => m (c.tc.loc main_arg12) (ix2 0 j)) (Fin.ext (by first | rfl | (dsimp only; omega)))

set_option maxHeartbeats 1000000 in
theorem gfq_apply (c : Dev nD) (l : Fin 256) :
    (V m c main_v85 (ix2 0 l) : EReal) = m (c.tc.loc main_arg13) (ix2 0 ⟨l.val % 64, by omega⟩) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_15, of_v82, to_v83]
  pointwise
  repeat' split
  all_goals first
    | rfl
    | (exfalso; omega)
    | exact congrArg (fun j => m (c.tc.loc main_arg13) (ix2 0 j)) (Fin.ext (by first | rfl | (dsimp only; omega)))

set_option maxHeartbeats 1000000 in
theorem gfk_apply (c : Dev nD) (l : Fin 256) :
    (V m c main_v89 (ix2 0 l) : EReal) = m (c.tc.loc main_arg14) (ix2 0 ⟨l.val % 64, by omega⟩) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_16, of_v86, to_v87]
  pointwise
  repeat' split
  all_goals first
    | rfl
    | (exfalso; omega)
    | exact congrArg (fun j => m (c.tc.loc main_arg14) (ix2 0 j)) (Fin.ext (by first | rfl | (dsimp only; omega)))

set_option maxHeartbeats 1000000 in
theorem bf_apply (c : Dev nD) (l : Fin 128) :
    (V m c main_v91 (ix2 0 l) : EReal) = if h : l.val < 8 then (m (c.tc.loc main_arg4) (ix2 0 ⟨l.val, h⟩) : EReal) else (0 : EReal) := by
  unfold V hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.flatten_cons, List.flatten_nil, List.append_nil, List.cons_append, List.nil_append]
  entry_read
  simp only [StableHlo.TRef.ofBuf_toBuf, of_c_17, of_v11, to_v90]
  pointwise
  simp only [zero_fill]

end Cert.Kernel4Ideal.Odd
-- ==== Proof.Odd.HostF.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_f : (FloatOps.sitofp FTy.f32 (0#32 : BitVec 32) : Ideal FTy.f32) = (0 : EReal) := by
  show (((0#32 : BitVec 32).toInt : ℝ) : EReal) = 0
  simp

theorem freq_at (i : Fin 16) (n : ℕ) (h : n = i.val) :
    Ideal.pow (Ideal.ofBits FTy.f32 0x461C4000#32)
      (Ideal.div (-FloatOps.sitofp (F := Ideal) FTy.f32 (BitVec.ofNat 32 n)) (Ideal.ofBits FTy.f32 0x41800000#32)) = freq i := by
  subst h; rfl

/-- What the buffers hold before the four rows of frequencies are joined. -/
noncomputable def midF (c : Dev nD) : Valuation τ sig (Elt Ideal) :=
  StableHlo.after (List.flatten [hostOps0, hostOps0_1, hostOps0_2, hostOps0_3, hostOps0_4, hostOps0_5, hostOps0_6,
    hostOps0_7, hostOps0_8, hostOps0_9, hostOps0_10, hostOps0_11]) (fun b => m (c, b))

set_option maxHeartbeats 1000000 in
theorem frq_eq (c : Dev nD) : V m c main_v52 =
    (concatenate S4x128 0 [⟨S1x128, midF m c (Proc.tc.devRef main_v42)⟩, ⟨S1x128, midF m c (Proc.tc.devRef main_v45)⟩, ⟨S1x128, midF m c (Proc.tc.devRef main_v48)⟩, ⟨S1x128, midF m c (Proc.tc.devRef main_v51)⟩]
      concatenates_S1x128_S1x128_S1x128_S1x128_S4x128_d0 : FVec Ideal S4x128 .f32) := by
  show StableHlo.after (List.flatten [hostOps0_12, hostOps0_13, hostOps0_14, hostOps0_15, hostOps0_16, hostOps0_17,
    hostOps0_18, hostOps0_19, hostOps0_20, hostOps0_21, hostOps0_22, hostOps0_23, hostOps0_24, hostOps0_25,
    hostOps0_26, hostOps0_27, hostOps0_28, hostOps0_29, hostOps0_30, hostOps0_31, hostOps0_32, hostOps0_33,
    hostOps0_34, hostOps0_35, hostOps0_36, hostOps0_37, hostOps0_38, hostOps0_39, hostOps0_40, hostOps0_41,
    hostOps0_42, hostOps0_43, hostOps0_44, hostOps0_45, hostOps0_46, hostOps0_47, hostOps0_48, hostOps0_49,
    hostOps0_50, hostOps0_51, hostOps0_52, hostOps0_53, hostOps0_54, hostOps0_55, hostOps0_56, hostOps0_57,
    hostOps0_58, hostOps0_59, hostOps0_60]) (midF m c) (Proc.tc.devRef main_v52) = _
  generalize midF m c = W
  unfold hostOps0_12 hostOps0_13 hostOps0_14 hostOps0_15 hostOps0_16 hostOps0_17 hostOps0_18 hostOps0_19 hostOps0_20
    hostOps0_21 hostOps0_22 hostOps0_23 hostOps0_24 hostOps0_25 hostOps0_26 hostOps0_27 hostOps0_28 hostOps0_29
    hostOps0_30 hostOps0_31 hostOps0_32 hostOps0_33 hostOps0_34 hostOps0_35 hostOps0_36 hostOps0_37 hostOps0_38
    hostOps0_39 hostOps0_40 hostOps0_41 hostOps0_42 hostOps0_43 hostOps0_44 hostOps0_45 hostOps0_46 hostOps0_47
    hostOps0_48 hostOps0_49 hostOps0_50 hostOps0_51 hostOps0_52 hostOps0_53 hostOps0_54 hostOps0_55 hostOps0_56
    hostOps0_57 hostOps0_58 hostOps0_59 hostOps0_60
  simp only [List.flatten_cons, List.flatten_nil, List.append_nil, List.cons_append, List.nil_append]
  entry_read
  rfl

set_option maxHeartbeats 1000000 in
theorem f42 (c : Dev nD) (l : Fin 128) :
    (midF m c (Proc.tc.devRef main_v42) (ix2 0 l) : EReal) = if 0 ≤ l.val ∧ l.val < 32 then freq ⟨l.val % 16, by omega⟩ else (0 : EReal) := by
  unfold midF
  unfold hostOps0 hostOps0_1 hostOps0_2 hostOps0_3 hostOps0_4 hostOps0_5 hostOps0_6 hostOps0_7 hostOps0_8 hostOps0_9
    hostOps0_10 hostOps0_11
  simp only [List.flatten_cons, List.flatten_nil, List.append_nil, List.cons_append, List.nil_append]
  entry_read
  simp only [StableHlo.TRef.ofBuf_toBuf, of_c_4, of_v41, to_v42]
  pointwise
  simp only [zero_f]
  split_ifs <;> first | rfl | (exfalso; omega) | exact freq_at _ _ (by dsimp only; omega)

set_option maxHeartbeats 1000000 in
theorem f45 (c : Dev nD) (l : Fin 128) :
    (midF m c (Proc.tc.devRef main_v45) (ix2 0 l) : EReal) = if 32 ≤ l.val ∧ l.val < 64 then freq ⟨l.val % 16, by omega⟩ else (0 : EReal) := by
  unfold midF
  unfold hostOps0 hostOps0_1 hostOps0_2 hostOps0_3 hostOps0_4 hostOps0_5 hostOps0_6 hostOps0_7 hostOps0_8 hostOps0_9
    hostOps0_10 hostOps0_11
  simp only [List.flatten_cons, List.flatten_nil, List.append_nil, List.cons_append, List.nil_append]
  entry_read
  simp only [StableHlo.TRef.ofBuf_toBuf, of_c_5, of_v44, to_v45]
  pointwise
  simp only [zero_f]
  split_ifs <;> first | rfl | (exfalso; omega) | exact freq_at _ _ (by dsimp only; omega)

set_option maxHeartbeats 1000000 in
theorem f48 (c : Dev nD) (l : Fin 128) :
    (midF m c (Proc.tc.devRef main_v48) (ix2 0 l) : EReal) = if 64 ≤ l.val ∧ l.val < 96 then freq ⟨l.val % 16, by omega⟩ else (0 : EReal) := by
  unfold midF
  unfold hostOps0 hostOps0_1 hostOps0_2 hostOps0_3 hostOps0_4 hostOps0_5 hostOps0_6 hostOps0_7 hostOps0_8 hostOps0_9
    hostOps0_10 hostOps0_11
  simp only [List.flatten_cons, List.flatten_nil, List.append_nil, List.cons_append, List.nil_append]
  entry_read
  simp only [StableHlo.TRef.ofBuf_toBuf, of_c_6, of_v47, to_v48]
  pointwise
  simp only [zero_f]
  split_ifs <;> first | rfl | (exfalso; omega) | exact freq_at _ _ (by dsimp only; omega)

set_option maxHeartbeats 1000000 in
theorem f51 (c : Dev nD) (l : Fin 128) :
    (midF m c (Proc.tc.devRef main_v51) (ix2 0 l) : EReal) = if 96 ≤ l.val ∧ l.val < 128 then freq ⟨l.val % 16, by omega⟩ else (0 : EReal) := by
  unfold midF
  unfold hostOps0 hostOps0_1 hostOps0_2 hostOps0_3 hostOps0_4 hostOps0_5 hostOps0_6 hostOps0_7 hostOps0_8 hostOps0_9
    hostOps0_10 hostOps0_11
  simp only [List.flatten_cons, List.flatten_nil, List.append_nil, List.cons_append, List.nil_append]
  entry_read
  simp only [StableHlo.TRef.ofBuf_toBuf, of_c_7, of_v50, to_v51]
  pointwise
  simp only [zero_f]
  split_ifs <;> first | rfl | (exfalso; omega) | exact freq_at _ _ (by dsimp only; omega)

theorem frq_apply (c : Dev nD) (r : Fin 4) (l : Fin 128) :
    (V m c main_v52 (ix2 r l) : EReal) =
      if 32 * r.val ≤ l.val ∧ l.val < 32 * r.val + 32 then freq ⟨l.val % 16, by omega⟩ else 0 := by
  rw [frq_eq]
  exact frq_rows _ _ _ _
    (fun r l => if 32 * r.val ≤ l.val ∧ l.val < 32 * r.val + 32 then freq ⟨l.val % 16, by omega⟩ else 0)
    (fun l => f42 m c l) (fun l => f45 m c l) (fun l => f48 m c l) (fun l => f51 m c l) r l

end Cert.Kernel4Ideal.Odd
-- ==== Proof.Odd.HostG.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_g : (FloatOps.sitofp FTy.f32 (0#32 : BitVec 32) : Ideal FTy.f32) = (0 : EReal) := by
  show (((0#32 : BitVec 32).toInt : ℝ) : EReal) = 0
  simp

/-- What the buffers hold before the four runs’ rows are joined. -/
noncomputable def midG (c : Dev nD) : Valuation τ sig (Elt Ideal) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23,
    hostOps0_24, hostOps0_25, hostOps0_26, hostOps0_27, hostOps0_28, hostOps0_29, hostOps0_30, hostOps0_31,
    hostOps0_32, hostOps0_33, hostOps0_34, hostOps0_35, hostOps0_36, hostOps0_37, hostOps0_38, hostOps0_39,
    hostOps0_40, hostOps0_41, hostOps0_42, hostOps0_43, hostOps0_44, hostOps0_45, hostOps0_46,
    hostOps0_47]) (fun b => m (c, b))

set_option maxHeartbeats 1000000 in
theorem g64_eq (c : Dev nD) : V m c main_v115 =
    (truncf .bf16 (concatenate S256x256 0 [⟨S64x256, midG m c (Proc.tc.devRef main_v107)⟩, ⟨S64x256, midG m c (Proc.tc.devRef main_v109)⟩, ⟨S64x256, midG m c (Proc.tc.devRef main_v111)⟩, ⟨S64x256, midG m c (Proc.tc.devRef main_v113)⟩]
      concatenates_S64x256_S64x256_S64x256_S64x256_S256x256_d0) bitsLt_bf16_f32 : FVec Ideal S256x256 .bf16) := by
  show StableHlo.after (List.flatten [hostOps0_48, hostOps0_49, hostOps0_50, hostOps0_51, hostOps0_52, hostOps0_53,
    hostOps0_54, hostOps0_55, hostOps0_56, hostOps0_57, hostOps0_58, hostOps0_59,
    hostOps0_60]) (midG m c) (Proc.tc.devRef main_v115) = _
  generalize midG m c = W
  unfold hostOps0_48 hostOps0_49 hostOps0_50 hostOps0_51 hostOps0_52 hostOps0_53 hostOps0_54 hostOps0_55 hostOps0_56
    hostOps0_57 hostOps0_58 hostOps0_59 hostOps0_60
  simp only [List.flatten_cons, List.flatten_nil, List.append_nil, List.cons_append, List.nil_append]
  entry_read
  rfl

set_option maxHeartbeats 1000000 in
theorem r107 (c : Dev nD) (k : Fin 64) (l : Fin 256) :
    (midG m c (Proc.tc.devRef main_v107) (ix2 k l) : EReal) = if 0 ≤ l.val ∧ l.val < 64 then Ideal.ofBits FTy.f32 0x3C800000#32 else (0 : EReal) := by
  unfold midG
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47
  simp only [List.flatten_cons, List.flatten_nil, List.append_nil, List.cons_append, List.nil_append]
  entry_read
  simp only [StableHlo.TRef.ofBuf_toBuf, of_c_31, of_v106, to_v107]
  pointwise
  simp only [zero_g]
  split_ifs <;> first | rfl | (exfalso; omega)

set_option maxHeartbeats 1000000 in
theorem r109 (c : Dev nD) (k : Fin 64) (l : Fin 256) :
    (midG m c (Proc.tc.devRef main_v109) (ix2 k l) : EReal) = if 64 ≤ l.val ∧ l.val < 128 then Ideal.ofBits FTy.f32 0x3C800000#32 else (0 : EReal) := by
  unfold midG
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47
  simp only [List.flatten_cons, List.flatten_nil, List.append_nil, List.cons_append, List.nil_append]
  entry_read
  simp only [StableHlo.TRef.ofBuf_toBuf, of_c_33, of_v108, to_v109]
  pointwise
  simp only [zero_g]
  split_ifs <;> first | rfl | (exfalso; omega)

set_option maxHeartbeats 1000000 in
theorem r111 (c : Dev nD) (k : Fin 64) (l : Fin 256) :
    (midG m c (Proc.tc.devRef main_v111) (ix2 k l) : EReal) = if 128 ≤ l.val ∧ l.val < 192 then Ideal.ofBits FTy.f32 0x3C800000#32 else (0 : EReal) := by
  unfold midG
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47
  simp only [List.flatten_cons, List.flatten_nil, List.append_nil, List.cons_append, List.nil_append]
  entry_read
  simp only [StableHlo.TRef.ofBuf_toBuf, of_c_35, of_v110, to_v111]
  pointwise
  simp only [zero_g]
  split_ifs <;> first | rfl | (exfalso; omega)

set_option maxHeartbeats 1000000 in
theorem r113 (c : Dev nD) (k : Fin 64) (l : Fin 256) :
    (midG m c (Proc.tc.devRef main_v113) (ix2 k l) : EReal) = if 192 ≤ l.val ∧ l.val < 256 then Ideal.ofBits FTy.f32 0x3C800000#32 else (0 : EReal) := by
  unfold midG
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47
  simp only [List.flatten_cons, List.flatten_nil, List.append_nil, List.cons_append, List.nil_append]
  entry_read
  simp only [StableHlo.TRef.ofBuf_toBuf, of_c_37, of_v112, to_v113]
  pointwise
  simp only [zero_g]
  split_ifs <;> first | rfl | (exfalso; omega)

theorem g64_apply (c : Dev nD) (k l : Fin 256) :
    (V m c main_v115 (ix2 k l) : EReal) =
      if 64 * (l.val / 64) ≤ k.val ∧ k.val < 64 * (l.val / 64) + 64 then Ideal.ofBits FTy.f32 0x3C800000#32 else 0 := by
  rw [g64_eq]
  refine g64_rows _ _ _ _
    (fun k l => if 64 * (l.val / 64) ≤ k.val ∧ k.val < 64 * (l.val / 64) + 64 then Ideal.ofBits FTy.f32 0x3C800000#32 else 0)
    (fun k l => (r107 m c k l).trans ?_) (fun k l => (r109 m c k l).trans ?_) (fun k l => (r111 m c k l).trans ?_)
    (fun k l => (r113 m c k l).trans ?_) k l
  all_goals dsimp only; split_ifs <;> first | rfl | (exfalso; omega)

end Cert.Kernel4Ideal.Odd
-- ==== Proof.Odd.HostM.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_m : (FloatOps.sitofp FTy.f32 (0#32 : BitVec 32) : Ideal FTy.f32) = (0 : EReal) := by
  show (((0#32 : BitVec 32).toInt : ℝ) : EReal) = 0
  simp

/-- What the buffers hold before the six runs’ rows are joined. -/
noncomputable def midM (c : Dev nD) : Valuation τ sig (Elt Ideal) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23,
    hostOps0_24, hostOps0_25, hostOps0_26, hostOps0_27, hostOps0_28, hostOps0_29, hostOps0_30, hostOps0_31,
    hostOps0_32, hostOps0_33, hostOps0_34, hostOps0_35, hostOps0_36, hostOps0_37, hostOps0_38,
    hostOps0_39]) (fun b => m (c, b))

set_option maxHeartbeats 1000000 in
theorem gm_eq (c : Dev nD) : V m c main_v105 =
    (truncf .bf16 (concatenate S256x256 0 [⟨S64x256, midM m c (Proc.tc.devRef main_v93)⟩, ⟨S32x256, midM m c (Proc.tc.devRef main_v95)⟩, ⟨S32x256, midM m c (Proc.tc.devRef main_v97)⟩, ⟨S64x256, midM m c (Proc.tc.devRef main_v99)⟩, ⟨S32x256, midM m c (Proc.tc.devRef main_v101)⟩, ⟨S32x256, midM m c (Proc.tc.devRef main_v103)⟩]
      concatenates_S64x256_S32x256_S32x256_S64x256_S32x256_S32x256_S256x256_d0) bitsLt_bf16_f32 : FVec Ideal S256x256 .bf16) := by
  show StableHlo.after (List.flatten [hostOps0_40, hostOps0_41, hostOps0_42, hostOps0_43, hostOps0_44, hostOps0_45,
    hostOps0_46, hostOps0_47, hostOps0_48, hostOps0_49, hostOps0_50, hostOps0_51, hostOps0_52, hostOps0_53,
    hostOps0_54, hostOps0_55, hostOps0_56, hostOps0_57, hostOps0_58, hostOps0_59,
    hostOps0_60]) (midM m c) (Proc.tc.devRef main_v105) = _
  generalize midM m c = W
  unfold hostOps0_40 hostOps0_41 hostOps0_42 hostOps0_43 hostOps0_44 hostOps0_45 hostOps0_46 hostOps0_47 hostOps0_48
    hostOps0_49 hostOps0_50 hostOps0_51 hostOps0_52 hostOps0_53 hostOps0_54 hostOps0_55 hostOps0_56 hostOps0_57
    hostOps0_58 hostOps0_59 hostOps0_60
  simp only [List.flatten_cons, List.flatten_nil, List.append_nil, List.cons_append, List.nil_append]
  entry_read
  rfl

set_option maxHeartbeats 1000000 in
theorem g93 (c : Dev nD) (k : Fin 64) (l : Fin 256) :
    (midM m c (Proc.tc.devRef main_v93) (ix2 k l) : EReal) = if 0 ≤ l.val ∧ l.val < 64 then Ideal.ofBits FTy.f32 0x3C800000#32 else (0 : EReal) := by
  unfold midM
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39
  simp only [List.flatten_cons, List.flatten_nil, List.append_nil, List.cons_append, List.nil_append]
  entry_read
  simp only [StableHlo.TRef.ofBuf_toBuf, of_c_19, of_v92, to_v93]
  pointwise
  simp only [zero_m]
  split_ifs <;> first | rfl | (exfalso; omega)

set_option maxHeartbeats 1000000 in
theorem g95 (c : Dev nD) (k : Fin 32) (l : Fin 256) :
    (midM m c (Proc.tc.devRef main_v95) (ix2 k l) : EReal) = if 64 ≤ l.val ∧ l.val < 96 then Ideal.ofBits FTy.f32 0x3D000000#32 else (0 : EReal) := by
  unfold midM
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39
  simp only [List.flatten_cons, List.flatten_nil, List.append_nil, List.cons_append, List.nil_append]
  entry_read
  simp only [StableHlo.TRef.ofBuf_toBuf, of_c_21, of_v94, to_v95]
  pointwise
  simp only [zero_m]
  split_ifs <;> first | rfl | (exfalso; omega)

set_option maxHeartbeats 1000000 in
theorem g97 (c : Dev nD) (k : Fin 32) (l : Fin 256) :
    (midM m c (Proc.tc.devRef main_v97) (ix2 k l) : EReal) = if 96 ≤ l.val ∧ l.val < 128 then Ideal.ofBits FTy.f32 0x3D000000#32 else (0 : EReal) := by
  unfold midM
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39
  simp only [List.flatten_cons, List.flatten_nil, List.append_nil, List.cons_append, List.nil_append]
  entry_read
  simp only [StableHlo.TRef.ofBuf_toBuf, of_c_23, of_v96, to_v97]
  pointwise
  simp only [zero_m]
  split_ifs <;> first | rfl | (exfalso; omega)

set_option maxHeartbeats 1000000 in
theorem g99 (c : Dev nD) (k : Fin 64) (l : Fin 256) :
    (midM m c (Proc.tc.devRef main_v99) (ix2 k l) : EReal) = if 128 ≤ l.val ∧ l.val < 192 then Ideal.ofBits FTy.f32 0x3C800000#32 else (0 : EReal) := by
  unfold midM
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39
  simp only [List.flatten_cons, List.flatten_nil, List.append_nil, List.cons_append, List.nil_append]
  entry_read
  simp only [StableHlo.TRef.ofBuf_toBuf, of_c_25, of_v98, to_v99]
  pointwise
  simp only [zero_m]
  split_ifs <;> first | rfl | (exfalso; omega)

set_option maxHeartbeats 1000000 in
theorem g101 (c : Dev nD) (k : Fin 32) (l : Fin 256) :
    (midM m c (Proc.tc.devRef main_v101) (ix2 k l) : EReal) = if 192 ≤ l.val ∧ l.val < 224 then Ideal.ofBits FTy.f32 0x3D000000#32 else (0 : EReal) := by
  unfold midM
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39
  simp only [List.flatten_cons, List.flatten_nil, List.append_nil, List.cons_append, List.nil_append]
  entry_read
  simp only [StableHlo.TRef.ofBuf_toBuf, of_c_27, of_v100, to_v101]
  pointwise
  simp only [zero_m]
  split_ifs <;> first | rfl | (exfalso; omega)

set_option maxHeartbeats 1000000 in
theorem g103 (c : Dev nD) (k : Fin 32) (l : Fin 256) :
    (midM m c (Proc.tc.devRef main_v103) (ix2 k l) : EReal) = if 224 ≤ l.val ∧ l.val < 256 then Ideal.ofBits FTy.f32 0x3D000000#32 else (0 : EReal) := by
  unfold midM
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39
  simp only [List.flatten_cons, List.flatten_nil, List.append_nil, List.cons_append, List.nil_append]
  entry_read
  simp only [StableHlo.TRef.ofBuf_toBuf, of_c_29, of_v102, to_v103]
  pointwise
  simp only [zero_m]
  split_ifs <;> first | rfl | (exfalso; omega)

/-- The weights a run's mean takes: a row of run `k` counts in the columns of its own run. -/
noncomputable def runs (k l : Fin 256) : EReal :=
  if k.val % 128 < 64 then
    (if k.val / 128 = l.val / 128 ∧ l.val % 128 < 64 then Ideal.ofBits FTy.f32 0x3C800000#32 else 0)
  else if k.val / 32 = l.val / 32 then Ideal.ofBits FTy.f32 0x3D000000#32 else 0

theorem gm_apply (c : Dev nD) (k l : Fin 256) : (V m c main_v105 (ix2 k l) : EReal) = runs k l := by
  rw [gm_eq]
  refine gm_rows _ _ _ _ _ _ runs (fun k l => (g93 m c k l).trans ?_) (fun k l => (g95 m c k l).trans ?_)
    (fun k l => (g97 m c k l).trans ?_) (fun k l => (g99 m c k l).trans ?_) (fun k l => (g101 m c k l).trans ?_)
    (fun k l => (g103 m c k l).trans ?_) k l
  all_goals unfold runs; dsimp only; split_ifs <;> first | rfl | (exfalso; omega)

theorem gm_low (c : Dev nD) (k l : Fin 256) (hl : l.val % 128 < 64) :
    (V m c main_v105 (ix2 k l) : EReal) =
      if 128 * (l.val / 128) ≤ k.val ∧ k.val < 128 * (l.val / 128) + 64 then Ideal.ofBits FTy.f32 0x3C800000#32 else 0 := by
  rw [gm_apply]
  unfold runs
  split_ifs <;> first | rfl | (exfalso; omega)

theorem gm_high (c : Dev nD) (k l : Fin 256) (hl : 64 ≤ l.val % 128) (hh : l.val % 128 < 96) :
    (V m c main_v105 (ix2 k l) : EReal) =
      if 128 * (l.val / 128) + 64 ≤ k.val ∧ k.val < 128 * (l.val / 128) + 64 + 32 then Ideal.ofBits FTy.f32 0x3D000000#32
      else 0 := by
  rw [gm_apply]
  unfold runs
  split_ifs <;> first | rfl | (exfalso; omega)

end Cert.Kernel4Ideal.Odd
-- ==== Proof.Odd.HostP.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

/-- What the buffers hold before the positions are joined. -/
noncomputable def midA (c : Dev nD) : Valuation τ sig (Elt Ideal) :=
  StableHlo.after (List.take 8 hostOps0) (fun b => m (c, b))

set_option maxHeartbeats 1000000 in
theorem pos_eq (c : Dev nD) : V m c main_v8 =
    (broadcastInDim S8x4224x1 ![0, 1] bcast_S8x4224_S8x4224x1_0_1 (sitofp .f32 (concatenate S8x4224 1
      [⟨S8x112, midA m c (Proc.tc.devRef main_v0)⟩, ⟨S8x16, midA m c (Proc.tc.devRef main_v3)⟩,
        ⟨S8x4096, midA m c (Proc.tc.devRef main_v5)⟩] concatenates_S8x112_S8x16_S8x4096_S8x4224_d1 : IVec S8x4224 32)) :
      FVec Ideal S8x4224x1 .f32) := by
  show StableHlo.after (List.drop 8 hostOps0 ++ List.flatten [hostOps0_1, hostOps0_2, hostOps0_3, hostOps0_4,
    hostOps0_5, hostOps0_6, hostOps0_7, hostOps0_8, hostOps0_9, hostOps0_10, hostOps0_11, hostOps0_12, hostOps0_13,
    hostOps0_14, hostOps0_15, hostOps0_16, hostOps0_17, hostOps0_18, hostOps0_19, hostOps0_20, hostOps0_21,
    hostOps0_22, hostOps0_23, hostOps0_24, hostOps0_25, hostOps0_26, hostOps0_27, hostOps0_28, hostOps0_29,
    hostOps0_30, hostOps0_31, hostOps0_32, hostOps0_33, hostOps0_34, hostOps0_35, hostOps0_36, hostOps0_37,
    hostOps0_38, hostOps0_39, hostOps0_40, hostOps0_41, hostOps0_42, hostOps0_43, hostOps0_44, hostOps0_45,
    hostOps0_46, hostOps0_47, hostOps0_48, hostOps0_49, hostOps0_50, hostOps0_51, hostOps0_52, hostOps0_53,
    hostOps0_54, hostOps0_55, hostOps0_56, hostOps0_57, hostOps0_58, hostOps0_59,
    hostOps0_60]) (midA m c) (Proc.tc.devRef main_v8) = _
  generalize midA m c = W
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59 hostOps0_60
  simp only [List.take_succ_cons, List.take_zero, List.drop_succ_cons, List.drop_zero, List.flatten_cons, List.flatten_nil,
    List.append_nil, List.cons_append, List.nil_append]
  entry_read
  rfl

theorem pos_zero (c : Dev nD) (b : Fin 8) (l : Fin 112) : midA m c (Proc.tc.devRef main_v0) (ix2 b l) = 0#32 := by
  unfold midA hostOps0
  simp only [List.take_succ_cons, List.take_zero, List.drop_succ_cons, List.drop_zero, List.flatten_cons, List.flatten_nil,
    List.append_nil, List.cons_append, List.nil_append]
  entry_read
  pointwise

theorem pos_lead (c : Dev nD) (b : Fin 8) (l : Fin 16) :
    midA m c (Proc.tc.devRef main_v3) (ix2 b l) = BitVec.ofNat 32 l.val := by
  unfold midA hostOps0
  simp only [List.take_succ_cons, List.take_zero, List.drop_succ_cons, List.drop_zero, List.flatten_cons, List.flatten_nil,
    List.append_nil, List.cons_append, List.nil_append]
  entry_read
  pointwise

/-- A position the kernel is given. -/
abbrev posAt (c : Dev nD) (b : Fin 8) (i : Fin 4096) : BitVec 32 := m (c.tc.loc main_arg1) (ix2 b i)

theorem pos_rest (c : Dev nD) (b : Fin 8) (l : Fin 4096) :
    midA m c (Proc.tc.devRef main_v5) (ix2 b l) = posAt m c b l + 16#32 := by
  unfold midA hostOps0
  simp only [List.take_succ_cons, List.take_zero, List.drop_succ_cons, List.drop_zero, List.flatten_cons, List.flatten_nil,
    List.append_nil, List.cons_append, List.nil_append]
  entry_read
  pointwise
  try rfl

theorem pos_lift (x : IVec S8x4224 32) (b : Fin 8) (s : Fin 4224) :
    broadcastInDim S8x4224x1 ![0, 1] bcast_S8x4224_S8x4224x1_0_1 (sitofp (F := Ideal) .f32 x) (ix3 b s 0) =
      (((x (ix2 b s)).toInt : ℝ) : EReal) := by
  pointwise
  try rfl

theorem pos_apply (c : Dev nD) (b : Fin 8) (s : Fin 4224) :
    (V m c main_v8 (ix3 b s 0) : EReal) =
      (((place (posAt m c b) s).toInt : ℝ) : EReal) := by
  rw [pos_eq]
  refine (pos_lift _ b s).trans ?_
  exact congrArg (fun p : BitVec 32 => ((p.toInt : ℝ) : EReal))
    (pos_rows (midA m c (Proc.tc.devRef main_v0)) (midA m c (Proc.tc.devRef main_v3)) (midA m c (Proc.tc.devRef main_v5)) b
      (posAt m c b) (fun l => pos_zero m c b l) (fun l => pos_lead m c b l) (fun l => pos_rest m c b l) s)

/-- What the buffers hold before the phases are joined. -/
noncomputable def midP (c : Dev nD) : Valuation τ sig (Elt Ideal) :=
  StableHlo.after (List.flatten [hostOps0, hostOps0_1, hostOps0_2, hostOps0_3, hostOps0_4, hostOps0_5, hostOps0_6,
    hostOps0_7, hostOps0_8, hostOps0_9, hostOps0_10, hostOps0_11] ++ List.take 5 hostOps0_12) (fun b => m (c, b))

set_option maxHeartbeats 1000000 in
theorem phs_eq (c : Dev nD) : V m c main_v56 =
    (broadcastInDim S1x128 ![1] bcast_S128_S1x128_1 (concatenate S128 0 [⟨S16, midP m c (Proc.tc.devRef main_v53)⟩, ⟨S16, midP m c (Proc.tc.devRef main_v54)⟩, ⟨S16, midP m c (Proc.tc.devRef main_v53)⟩, ⟨S16, midP m c (Proc.tc.devRef main_v54)⟩, ⟨S16, midP m c (Proc.tc.devRef main_v53)⟩, ⟨S16, midP m c (Proc.tc.devRef main_v54)⟩, ⟨S16, midP m c (Proc.tc.devRef main_v53)⟩, ⟨S16, midP m c (Proc.tc.devRef main_v54)⟩]
      concatenates_S16_S16_S16_S16_S16_S16_S16_S16_S128_d0 : FVec Ideal S128 .f32) : FVec Ideal S1x128 .f32) := by
  show StableHlo.after (List.drop 5 hostOps0_12 ++ List.flatten [hostOps0_13, hostOps0_14, hostOps0_15, hostOps0_16,
    hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32,
    hostOps0_33, hostOps0_34, hostOps0_35, hostOps0_36, hostOps0_37, hostOps0_38, hostOps0_39, hostOps0_40,
    hostOps0_41, hostOps0_42, hostOps0_43, hostOps0_44, hostOps0_45, hostOps0_46, hostOps0_47, hostOps0_48,
    hostOps0_49, hostOps0_50, hostOps0_51, hostOps0_52, hostOps0_53, hostOps0_54, hostOps0_55, hostOps0_56,
    hostOps0_57, hostOps0_58, hostOps0_59, hostOps0_60]) (midP m c) (Proc.tc.devRef main_v56) = _
  generalize midP m c = W
  unfold hostOps0_12 hostOps0_13 hostOps0_14 hostOps0_15 hostOps0_16 hostOps0_17 hostOps0_18 hostOps0_19 hostOps0_20
    hostOps0_21 hostOps0_22 hostOps0_23 hostOps0_24 hostOps0_25 hostOps0_26 hostOps0_27 hostOps0_28 hostOps0_29
    hostOps0_30 hostOps0_31 hostOps0_32 hostOps0_33 hostOps0_34 hostOps0_35 hostOps0_36 hostOps0_37 hostOps0_38
    hostOps0_39 hostOps0_40 hostOps0_41 hostOps0_42 hostOps0_43 hostOps0_44 hostOps0_45 hostOps0_46 hostOps0_47
    hostOps0_48 hostOps0_49 hostOps0_50 hostOps0_51 hostOps0_52 hostOps0_53 hostOps0_54 hostOps0_55 hostOps0_56
    hostOps0_57 hostOps0_58 hostOps0_59 hostOps0_60
  simp only [List.take_succ_cons, List.take_zero, List.drop_succ_cons, List.drop_zero, List.flatten_cons, List.flatten_nil,
    List.append_nil, List.cons_append, List.nil_append]
  entry_read
  rfl

theorem phs_none (c : Dev nD) (l : Fin 16) : (midP m c (Proc.tc.devRef main_v53) (ix1 l) : EReal) = (0 : EReal) := by
  unfold midP hostOps0 hostOps0_1 hostOps0_2 hostOps0_3 hostOps0_4 hostOps0_5 hostOps0_6 hostOps0_7 hostOps0_8
    hostOps0_9 hostOps0_10 hostOps0_11 hostOps0_12
  simp only [List.take_succ_cons, List.take_zero, List.drop_succ_cons, List.drop_zero, List.flatten_cons, List.flatten_nil,
    List.append_nil, List.cons_append, List.nil_append]
  entry_read
  pointwise

theorem phs_back (c : Dev nD) (l : Fin 16) : (midP m c (Proc.tc.devRef main_v54) (ix1 l) : EReal) = (1 : EReal) := by
  unfold midP hostOps0 hostOps0_1 hostOps0_2 hostOps0_3 hostOps0_4 hostOps0_5 hostOps0_6 hostOps0_7 hostOps0_8
    hostOps0_9 hostOps0_10 hostOps0_11 hostOps0_12
  simp only [List.take_succ_cons, List.take_zero, List.drop_succ_cons, List.drop_zero, List.flatten_cons, List.flatten_nil,
    List.append_nil, List.cons_append, List.nil_append]
  entry_read
  pointwise

theorem phs_lift (x : FVec Ideal S128 .f32) (l : Fin 128) :
    broadcastInDim S1x128 ![1] bcast_S128_S1x128_1 x (ix2 0 l) = x (ix1 l) := by
  pointwise

theorem phs_apply (c : Dev nD) (l : Fin 128) :
    (V m c main_v56 (ix2 0 l) : EReal) = if l.val % 32 < 16 then (0 : EReal) else (1 : EReal) := by
  rw [phs_eq]
  refine (phs_lift _ l).trans ?_
  exact phs_rows _ _ 0 1 (fun l => phs_none m c l) (fun l => phs_back m c l) l

end Cert.Kernel4Ideal.Odd
-- ==== Proof.Odd.HostS.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_s : (FloatOps.sitofp FTy.f32 (0#32 : BitVec 32) : Ideal FTy.f32) = (0 : EReal) := by
  show (((0#32 : BitVec 32).toInt : ℝ) : EReal) = 0
  simp

theorem eye_at (a b : Fin 8) : IntOp.cmpi CmpIPredicate.eq (IntOp.addi (BitVec.ofNat 32 a.val) 0#32) (BitVec.ofNat 32 b.val) =
    if a.val = b.val then 1#1 else 0#1 := by
  revert a b; decide

theorem eye_if (k q : ℕ) (B : Prop) [Decidable B] (hB : B → q < 8) :
    ((if _ : k < 8 then if _ : B then (FloatOps.uitofp FTy.f32
      (IntOp.cmpi CmpIPredicate.eq (IntOp.addi (BitVec.ofNat 32 k) 0#32) (BitVec.ofNat 32 q)) : Ideal FTy.f32) else (0 : EReal)
      else (0 : EReal)) : EReal) = if k < 8 ∧ B ∧ q = k then 1 else (0 : EReal) := by
  by_cases hk : k < 8
  · by_cases h : B
    · rw [dif_pos hk, dif_pos h, eye_at ⟨k, hk⟩ ⟨q, hB h⟩]
      by_cases e : k = q
      · rw [if_pos e, if_pos ⟨hk, h, e.symm⟩]
        show (((1#1 : BitVec 1).toNat : ℝ) : EReal) = 1
        simp
      · rw [if_neg e, if_neg fun x => e x.2.2.symm]
        show (((0#1 : BitVec 1).toNat : ℝ) : EReal) = 0
        simp
    · rw [dif_pos hk, dif_neg h, if_neg fun x => h x.2.1]
  · rw [dif_neg hk, if_neg fun x => hk x.1]

/-- What the buffers hold before the three parts’ rows are joined. -/
noncomputable def midS (c : Dev nD) : Valuation τ sig (Elt Ideal) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23,
    hostOps0_24, hostOps0_25, hostOps0_26, hostOps0_27, hostOps0_28, hostOps0_29, hostOps0_30, hostOps0_31,
    hostOps0_32, hostOps0_33, hostOps0_34, hostOps0_35, hostOps0_36, hostOps0_37, hostOps0_38, hostOps0_39,
    hostOps0_40, hostOps0_41, hostOps0_42, hostOps0_43, hostOps0_44, hostOps0_45, hostOps0_46, hostOps0_47,
    hostOps0_48, hostOps0_49, hostOps0_50, hostOps0_51, hostOps0_52, hostOps0_53, hostOps0_54, hostOps0_55,
    hostOps0_56, hostOps0_57, hostOps0_58, hostOps0_59]) (fun b => m (c, b))

set_option maxHeartbeats 1000000 in
theorem sel_eq (c : Dev nD) : V m c main_v133 =
    (truncf .bf16 (concatenate S384x1024 0 [⟨S128x1024, midS m c (Proc.tc.devRef main_v125)⟩, ⟨S128x1024, midS m c (Proc.tc.devRef main_v128)⟩, ⟨S128x1024, midS m c (Proc.tc.devRef main_v131)⟩]
      concatenates_S128x1024_S128x1024_S128x1024_S384x1024_d0) bitsLt_bf16_f32 : FVec Ideal S384x1024 .bf16) := by
  show StableHlo.after (List.flatten [hostOps0_60]) (midS m c) (Proc.tc.devRef main_v133) = _
  generalize midS m c = W
  unfold hostOps0_60
  simp only [List.flatten_cons, List.flatten_nil, List.append_nil, List.cons_append, List.nil_append]
  entry_read
  rfl

set_option maxHeartbeats 1000000 in
theorem s125 (c : Dev nD) (k : Fin 128) (l : Fin 1024) :
    (midS m c (Proc.tc.devRef main_v125) (ix2 k l) : EReal) = if k.val < 8 ∧ l.val % 128 = 64 ∧ l.val / 128 = k.val then (1 : EReal) else (0 : EReal) := by
  unfold midS
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59
  simp only [List.flatten_cons, List.flatten_nil, List.append_nil, List.cons_append, List.nil_append]
  entry_read
  simp only [StableHlo.TRef.ofBuf_toBuf, of_c_39, of_v122, to_v123, of_c_40, of_v124, to_v125]
  pointwise
  simp only [zero_s]
  refine (eye_if k.val (l.val / 128) _ fun _ => by omega).trans ?_
  split_ifs <;> first | rfl | (exfalso; omega)

set_option maxHeartbeats 1000000 in
theorem s128 (c : Dev nD) (k : Fin 128) (l : Fin 1024) :
    (midS m c (Proc.tc.devRef main_v128) (ix2 k l) : EReal) = if k.val < 8 ∧ l.val % 128 = 65 ∧ l.val / 128 = k.val then (1 : EReal) else (0 : EReal) := by
  unfold midS
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59
  simp only [List.flatten_cons, List.flatten_nil, List.append_nil, List.cons_append, List.nil_append]
  entry_read
  simp only [StableHlo.TRef.ofBuf_toBuf, of_c_41, to_v126, of_c_42, of_v127, to_v128]
  pointwise
  simp only [zero_s]
  refine (eye_if k.val (l.val / 128) _ fun _ => by omega).trans ?_
  split_ifs <;> first | rfl | (exfalso; omega)

set_option maxHeartbeats 1000000 in
theorem s131 (c : Dev nD) (k : Fin 128) (l : Fin 1024) :
    (midS m c (Proc.tc.devRef main_v131) (ix2 k l) : EReal) = if k.val < 8 ∧ l.val % 128 = 66 ∧ l.val / 128 = k.val then (1 : EReal) else (0 : EReal) := by
  unfold midS
  unfold hostOps0 hostOps0_1 hostOps0_2 hostOps0_3 hostOps0_4 hostOps0_5 hostOps0_6 hostOps0_7 hostOps0_8 hostOps0_9
    hostOps0_10 hostOps0_11 hostOps0_12 hostOps0_13 hostOps0_14 hostOps0_15 hostOps0_16 hostOps0_17 hostOps0_18
    hostOps0_19 hostOps0_20 hostOps0_21 hostOps0_22 hostOps0_23 hostOps0_24 hostOps0_25 hostOps0_26 hostOps0_27
    hostOps0_28 hostOps0_29 hostOps0_30 hostOps0_31 hostOps0_32 hostOps0_33 hostOps0_34 hostOps0_35 hostOps0_36
    hostOps0_37 hostOps0_38 hostOps0_39 hostOps0_40 hostOps0_41 hostOps0_42 hostOps0_43 hostOps0_44 hostOps0_45
    hostOps0_46 hostOps0_47 hostOps0_48 hostOps0_49 hostOps0_50 hostOps0_51 hostOps0_52 hostOps0_53 hostOps0_54
    hostOps0_55 hostOps0_56 hostOps0_57 hostOps0_58 hostOps0_59
  simp only [List.flatten_cons, List.flatten_nil, List.append_nil, List.cons_append, List.nil_append]
  entry_read
  simp only [StableHlo.TRef.ofBuf_toBuf, of_c_43, to_v129, of_c_44, of_v130, to_v131]
  pointwise
  simp only [zero_s]
  refine (eye_if k.val (l.val / 128) _ fun _ => by omega).trans ?_
  split_ifs <;> first | rfl | (exfalso; omega)

theorem sel_apply (c : Dev nD) (k : Fin 384) (l : Fin 1024) :
    (V m c main_v133 (ix2 k l) : EReal) =
      if k.val % 128 < 8 ∧ l.val % 128 = 64 + k.val / 128 ∧ l.val / 128 = k.val % 128 then (1 : EReal) else 0 := by
  rw [sel_eq]
  refine sel_rows _ _ _
    (fun k l => if k.val % 128 < 8 ∧ l.val % 128 = 64 + k.val / 128 ∧ l.val / 128 = k.val % 128 then (1 : EReal) else 0)
    (fun k l => (s125 m c k l).trans ?_) (fun k l => (s128 m c k l).trans ?_) (fun k l => (s131 m c k l).trans ?_) k l
  · rw [show k.val % 128 = k.val by omega, show k.val / 128 = 0 by omega]
  · rw [show (128 + k.val) % 128 = k.val by omega, show (128 + k.val) / 128 = 1 by omega]
  · rw [show (256 + k.val) % 128 = k.val by omega, show (256 + k.val) / 128 = 2 by omega]

end Cert.Kernel4Ideal.Odd
-- ==== Proof.Odd.HostW.lean ====
module

public import proofs.«01_k».proof.Proof.Odd.Joins

@[expose] public section

set_option maxRecDepth 16384

noncomputable section

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

theorem zero_w : (FloatOps.sitofp FTy.f32 (0#32 : BitVec 32) : Ideal FTy.f32) = (0 : EReal) := by
  show (((0#32 : BitVec 32).toInt : ℝ) : EReal) = 0
  simp

/-- What the buffers hold before the projection’s columns are joined. -/
noncomputable def midW (c : Dev nD) : Valuation τ sig (Elt Ideal) :=
  StableHlo.after (List.flatten [hostOps0, hostOps0_1, hostOps0_2, hostOps0_3]) (fun b => m (c, b))

set_option maxHeartbeats 1000000 in
theorem w_eq (c : Dev nD) : V m c main_v32 =
    (truncf .bf16 (concatenate S1024x2432 1 [⟨S1024x384, midW m c (Proc.tc.devRef main_v22)⟩, ⟨S1024x256, midW m c (Proc.tc.devRef main_v23)⟩, ⟨S1024x128, midW m c (Proc.tc.devRef main_v29)⟩, ⟨S1024x512, midW m c (Proc.tc.devRef main_v25)⟩, ⟨S1024x512, midW m c (Proc.tc.devRef main_v26)⟩, ⟨S1024x512, midW m c (Proc.tc.devRef main_v27)⟩, ⟨S1024x128, midW m c (Proc.tc.devRef main_v30)⟩]
      concatenates_S1024x384_S1024x256_S1024x128_S1024x512_S1024x512_S1024x512_S1024x128_S1024x2432_d1) bitsLt_bf16_f32 : FVec Ideal S1024x2432 .bf16) := by
  show StableHlo.after (List.flatten [hostOps0_4, hostOps0_5, hostOps0_6, hostOps0_7, hostOps0_8, hostOps0_9,
    hostOps0_10, hostOps0_11, hostOps0_12, hostOps0_13, hostOps0_14, hostOps0_15, hostOps0_16, hostOps0_17,
    hostOps0_18, hostOps0_19, hostOps0_20, hostOps0_21, hostOps0_22, hostOps0_23, hostOps0_24, hostOps0_25,
    hostOps0_26, hostOps0_27, hostOps0_28, hostOps0_29, hostOps0_30, hostOps0_31, hostOps0_32, hostOps0_33,
    hostOps0_34, hostOps0_35, hostOps0_36, hostOps0_37, hostOps0_38, hostOps0_39, hostOps0_40, hostOps0_41,
    hostOps0_42, hostOps0_43, hostOps0_44, hostOps0_45, hostOps0_46, hostOps0_47, hostOps0_48, hostOps0_49,
    hostOps0_50, hostOps0_51, hostOps0_52, hostOps0_53, hostOps0_54, hostOps0_55, hostOps0_56, hostOps0_57,
    hostOps0_58, hostOps0_59, hostOps0_60]) (midW m c) (Proc.tc.devRef main_v32) = _
  generalize midW m c = W
  unfold hostOps0_4 hostOps0_5 hostOps0_6 hostOps0_7 hostOps0_8 hostOps0_9 hostOps0_10 hostOps0_11 hostOps0_12
    hostOps0_13 hostOps0_14 hostOps0_15 hostOps0_16 hostOps0_17 hostOps0_18 hostOps0_19 hostOps0_20 hostOps0_21
    hostOps0_22 hostOps0_23 hostOps0_24 hostOps0_25 hostOps0_26 hostOps0_27 hostOps0_28 hostOps0_29 hostOps0_30
    hostOps0_31 hostOps0_32 hostOps0_33 hostOps0_34 hostOps0_35 hostOps0_36 hostOps0_37 hostOps0_38 hostOps0_39
    hostOps0_40 hostOps0_41 hostOps0_42 hostOps0_43 hostOps0_44 hostOps0_45 hostOps0_46 hostOps0_47 hostOps0_48
    hostOps0_49 hostOps0_50 hostOps0_51 hostOps0_52 hostOps0_53 hostOps0_54 hostOps0_55 hostOps0_56 hostOps0_57
    hostOps0_58 hostOps0_59 hostOps0_60
  simp only [List.flatten_cons, List.flatten_nil, List.append_nil, List.cons_append, List.nil_append]
  entry_read
  rfl

set_option maxHeartbeats 1000000 in
theorem w22 (c : Dev nD) (k : Fin 1024) (l : Fin 384) :
    (midW m c (Proc.tc.devRef main_v22) (ix2 k l) : EReal) = m (c.tc.loc main_arg3) (ix3 0 k ⟨l.val, by omega⟩) := by
  unfold midW
  unfold hostOps0 hostOps0_1 hostOps0_2 hostOps0_3
  simp only [List.flatten_cons, List.flatten_nil, List.append_nil, List.cons_append, List.nil_append]
  entry_read
  pointwise
  try rfl

set_option maxHeartbeats 1000000 in
theorem w23 (c : Dev nD) (k : Fin 1024) (l : Fin 256) :
    (midW m c (Proc.tc.devRef main_v23) (ix2 k l) : EReal) = m (c.tc.loc main_arg3) (ix3 0 k ⟨384 + l.val, by omega⟩) := by
  unfold midW
  unfold hostOps0 hostOps0_1 hostOps0_2 hostOps0_3
  simp only [List.flatten_cons, List.flatten_nil, List.append_nil, List.cons_append, List.nil_append]
  entry_read
  pointwise
  try rfl

set_option maxHeartbeats 1000000 in
theorem w25 (c : Dev nD) (k : Fin 1024) (l : Fin 512) :
    (midW m c (Proc.tc.devRef main_v25) (ix2 k l) : EReal) = m (c.tc.loc main_arg3) (ix3 0 k ⟨672 + l.val, by omega⟩) := by
  unfold midW
  unfold hostOps0 hostOps0_1 hostOps0_2 hostOps0_3
  simp only [List.flatten_cons, List.flatten_nil, List.append_nil, List.cons_append, List.nil_append]
  entry_read
  pointwise
  try rfl

set_option maxHeartbeats 1000000 in
theorem w26 (c : Dev nD) (k : Fin 1024) (l : Fin 512) :
    (midW m c (Proc.tc.devRef main_v26) (ix2 k l) : EReal) = m (c.tc.loc main_arg3) (ix3 0 k ⟨1184 + l.val, by omega⟩) := by
  unfold midW
  unfold hostOps0 hostOps0_1 hostOps0_2 hostOps0_3
  simp only [List.flatten_cons, List.flatten_nil, List.append_nil, List.cons_append, List.nil_append]
  entry_read
  pointwise
  try rfl

set_option maxHeartbeats 1000000 in
theorem w27 (c : Dev nD) (k : Fin 1024) (l : Fin 512) :
    (midW m c (Proc.tc.devRef main_v27) (ix2 k l) : EReal) = m (c.tc.loc main_arg3) (ix3 0 k ⟨1696 + l.val, by omega⟩) := by
  unfold midW
  unfold hostOps0 hostOps0_1 hostOps0_2 hostOps0_3
  simp only [List.flatten_cons, List.flatten_nil, List.append_nil, List.cons_append, List.nil_append]
  entry_read
  pointwise
  try rfl

set_option maxHeartbeats 1000000 in
theorem w29 (c : Dev nD) (k : Fin 1024) (l : Fin 128) :
    (midW m c (Proc.tc.devRef main_v29) (ix2 k l) : EReal) = if h : 64 ≤ l.val ∧ l.val < 96 then (m (c.tc.loc main_arg3) (ix3 0 k ⟨640 + (l.val - 64), by omega⟩) : EReal) else (0 : EReal) := by
  unfold midW
  unfold hostOps0 hostOps0_1 hostOps0_2 hostOps0_3
  simp only [List.flatten_cons, List.flatten_nil, List.append_nil, List.cons_append, List.nil_append]
  entry_read
  simp only [StableHlo.TRef.ofBuf_toBuf, of_c_1, of_v24, to_v29]
  pointwise
  simp only [zero_w]
  split_ifs <;> first | rfl | (exfalso; omega)

set_option maxHeartbeats 1000000 in
theorem w30 (c : Dev nD) (k : Fin 1024) (l : Fin 128) :
    (midW m c (Proc.tc.devRef main_v30) (ix2 k l) : EReal) = if h : l.val < 8 then (m (c.tc.loc main_arg3) (ix3 0 k ⟨2208 + l.val, by omega⟩) : EReal) else (0 : EReal) := by
  unfold midW
  unfold hostOps0 hostOps0_1 hostOps0_2 hostOps0_3
  simp only [List.flatten_cons, List.flatten_nil, List.append_nil, List.cons_append, List.nil_append]
  entry_read
  simp only [StableHlo.TRef.ofBuf_toBuf, of_c_2, of_v28, to_v30]
  pointwise
  simp only [zero_w]

theorem w_apply (c : Dev nD) (k : Fin 1024) (l : Fin 2432) :
    (V m c main_v32 (ix2 k l) : EReal) = wide (fun i j => m (c.tc.loc main_arg3) (ix3 0 i j)) k l := by
  rw [w_eq]
  refine w_rows _ _ _ _ _ _ _ (wide fun i j => m (c.tc.loc main_arg3) (ix3 0 i j)) (fun k l => (w22 m c k l).trans ?_)
    (fun k l => (w23 m c k l).trans ?_) (fun k l => (w29 m c k l).trans ?_) (fun k l => (w25 m c k l).trans ?_)
    (fun k l => (w26 m c k l).trans ?_) (fun k l => (w27 m c k l).trans ?_) (fun k l => (w30 m c k l).trans ?_) k l
  all_goals unfold wide; dsimp only; split_ifs
  all_goals first
    | rfl
    | (exfalso; omega)
    | exact congrArg (fun j => m (c.tc.loc main_arg3) (ix3 0 k j)) (Fin.ext (by dsimp only; omega))

end Cert.Kernel4Ideal.Odd
-- ==== Proof.Odd.Blocks.lean ====
module

public import proofs.«01_k».proof.Proof.Odd.Pay
public import proofs.«01_k».proof.Proof.Odd.PayQ
public import proofs.«01_k».proof.Proof.Odd.PayF
public import proofs.«01_k».proof.Proof.Odd.Lanes
public import proofs.«01_k».proof.Proof.Odd.HostA
public import proofs.«01_k».proof.Proof.Odd.HostB
public import proofs.«01_k».proof.Proof.Odd.HostF
public import proofs.«01_k».proof.Proof.Odd.HostG
public import proofs.«01_k».proof.Proof.Odd.HostM
public import proofs.«01_k».proof.Proof.Odd.HostP
public import proofs.«01_k».proof.Proof.Odd.HostS
public import proofs.«01_k».proof.Proof.Odd.HostW
public import proofs.«01_k».proof.Proof.Gen.Kernel4Ideal.Frame
public import Idealize.ShloMosaic.Lib.Pipeline.ValueKit

@[expose] public section

set_option maxRecDepth 16384

noncomputable section

/-! # What a point of the odd layer's input call reads -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

/-- The call's arguments as the memory holds them. -/
def argsOf (c : Dev nD) : Args where
  h r k := m (c.tc.loc main_arg0) (ix2 r k)
  pos b i := m (c.tc.loc main_arg1) (ix2 b i)
  ln k := m (c.tc.loc main_arg2) (ix2 0 k)
  w k j := m (c.tc.loc main_arg3) (ix3 0 k j)
  bf j := m (c.tc.loc main_arg4) (ix2 0 j)
  gqa j := m (c.tc.loc main_arg5) (ix2 0 j)
  gkva j := m (c.tc.loc main_arg6) (ix2 0 j)
  wuq k j := m (c.tc.loc main_arg7) (ix3 0 k j)
  wukv k j := m (c.tc.loc main_arg8) (ix3 0 k j)
  gqn j := m (c.tc.loc main_arg9) (ix2 0 j)
  gqr j := m (c.tc.loc main_arg10) (ix2 0 j)
  gkn j := m (c.tc.loc main_arg11) (ix2 0 j)
  gkr j := m (c.tc.loc main_arg12) (ix2 0 j)
  gfq j := m (c.tc.loc main_arg13) (ix2 0 j)
  gfk j := m (c.tc.loc main_arg14) (ix2 0 j)

theorem coord1 : ∀ t : Fin cfg0.N, (grid0.coords t 1).val = t.val % 11 :=
  (by decide +kernel : ∀ t : Fin grid0.N, (grid0.coords t 1).val = t.val % 11)

/-- A point's sequence. -/
def seqOf (t : Fin cfg0.N) : Fin 8 := ⟨t.val / 11, by have : t.val < 88 := t.isLt; omega⟩
/-- A point's place number `r`. -/
def placeOf (t : Fin cfg0.N) (r : Fin 384) : Fin 4224 := ⟨384 * (t.val % 11) + r.val, by omega⟩

theorem index0 : ∀ t : Fin cfg0.N, win0_0.index t = ![t.val / 11, t.val % 11, 0] :=
  (by decide +kernel : ∀ t : Fin grid0.N, win0_0.index t = ![t.val / 11, t.val % 11, 0])

theorem index3 : ∀ t : Fin cfg0.N, win0_3.index t = ![t.val / 11, t.val % 11, 0] :=
  (by decide +kernel : ∀ t : Fin grid0.N, win0_3.index t = ![t.val / 11, t.val % 11, 0])

theorem index20 : ∀ t : Fin cfg0.N, win0_20.index t = ![t.val / 11, t.val % 11, 0] :=
  (by decide +kernel : ∀ t : Fin grid0.N, win0_20.index t = ![t.val / 11, t.val % 11, 0])

theorem index21 : ∀ t : Fin cfg0.N, win0_21.index t = ![t.val / 11, t.val % 11, 0] :=
  (by decide +kernel : ∀ t : Fin grid0.N, win0_21.index t = ![t.val / 11, t.val % 11, 0])

theorem index23 : ∀ t : Fin cfg0.N, win0_23.index t = ![t.val / 11, t.val % 11, 0] :=
  (by decide +kernel : ∀ t : Fin grid0.N, win0_23.index t = ![t.val / 11, t.val % 11, 0])

theorem index24 : ∀ t : Fin cfg0.N, win0_24.index t = ![t.val / 11, t.val % 11, 0] :=
  (by decide +kernel : ∀ t : Fin grid0.N, win0_24.index t = ![t.val / 11, t.val % 11, 0])

theorem index22 : ∀ t : Fin cfg0.N, win0_22.index t = ![t.val / 11, 0, t.val % 11] :=
  (by decide +kernel : ∀ t : Fin grid0.N, win0_22.index t = ![t.val / 11, 0, t.val % 11])

theorem index25 : ∀ t : Fin cfg0.N, win0_25.index t = ![t.val / 11, 0, t.val % 11] :=
  (by decide +kernel : ∀ t : Fin grid0.N, win0_25.index t = ![t.val / 11, 0, t.val % 11])

theorem index1 : ∀ t : Fin cfg0.N, win0_1.index t = ![0, 0] :=
  (by decide +kernel : ∀ t : Fin grid0.N, win0_1.index t = ![0, 0])

theorem blk1_apply (c : Dev nD) (t : Fin cfg0.N) (k : Fin 1) (l : Fin 1024) :
    iblk m c 1 t (ix2 k l) = V m c main_v33 (ix2 k l) := by
  unfold iblk
  rw [View.read_apply]
  show V m c main_v33 _ = _
  refine congrArg _ (funext fun a => Fin.ext ?_)
  show ((win0_1.rect t).emb (ix2 k l) a : ℕ) = _
  rw [win0_1.rect_emb_val_off, index1]
  fin_cases a <;> simp [Pipeline.WinKind.off]

theorem index2 : ∀ t : Fin cfg0.N, win0_2.index t = ![0, 0] :=
  (by decide +kernel : ∀ t : Fin grid0.N, win0_2.index t = ![0, 0])

theorem blk2_apply (c : Dev nD) (t : Fin cfg0.N) (k : Fin 1024) (l : Fin 2432) :
    iblk m c 2 t (ix2 k l) = V m c main_v32 (ix2 k l) := by
  unfold iblk
  rw [View.read_apply]
  show V m c main_v32 _ = _
  refine congrArg _ (funext fun a => Fin.ext ?_)
  show ((win0_2.rect t).emb (ix2 k l) a : ℕ) = _
  rw [win0_2.rect_emb_val_off, index2]
  fin_cases a <;> simp [Pipeline.WinKind.off]

theorem index4 : ∀ t : Fin cfg0.N, win0_4.index t = ![0, 0] :=
  (by decide +kernel : ∀ t : Fin grid0.N, win0_4.index t = ![0, 0])

theorem blk4_apply (c : Dev nD) (t : Fin cfg0.N) (k : Fin 4) (l : Fin 128) :
    iblk m c 4 t (ix2 k l) = V m c main_v52 (ix2 k l) := by
  unfold iblk
  rw [View.read_apply]
  show V m c main_v52 _ = _
  refine congrArg _ (funext fun a => Fin.ext ?_)
  show ((win0_4.rect t).emb (ix2 k l) a : ℕ) = _
  rw [win0_4.rect_emb_val_off, index4]
  fin_cases a <;> simp [Pipeline.WinKind.off]

theorem index5 : ∀ t : Fin cfg0.N, win0_5.index t = ![0, 0] :=
  (by decide +kernel : ∀ t : Fin grid0.N, win0_5.index t = ![0, 0])

theorem blk5_apply (c : Dev nD) (t : Fin cfg0.N) (k : Fin 1) (l : Fin 128) :
    iblk m c 5 t (ix2 k l) = V m c main_v56 (ix2 k l) := by
  unfold iblk
  rw [View.read_apply]
  show V m c main_v56 _ = _
  refine congrArg _ (funext fun a => Fin.ext ?_)
  show ((win0_5.rect t).emb (ix2 k l) a : ℕ) = _
  rw [win0_5.rect_emb_val_off, index5]
  fin_cases a <;> simp [Pipeline.WinKind.off]

theorem index6 : ∀ t : Fin cfg0.N, win0_6.index t = ![0, 0] :=
  (by decide +kernel : ∀ t : Fin grid0.N, win0_6.index t = ![0, 0])

theorem blk6_apply (c : Dev nD) (t : Fin cfg0.N) (k : Fin 1) (l : Fin 384) :
    iblk m c 6 t (ix2 k l) = V m c main_v57 (ix2 k l) := by
  unfold iblk
  rw [View.read_apply]
  show V m c main_v57 _ = _
  refine congrArg _ (funext fun a => Fin.ext ?_)
  show ((win0_6.rect t).emb (ix2 k l) a : ℕ) = _
  rw [win0_6.rect_emb_val_off, index6]
  fin_cases a <;> simp [Pipeline.WinKind.off]

theorem index7 : ∀ t : Fin cfg0.N, win0_7.index t = ![0, 0] :=
  (by decide +kernel : ∀ t : Fin grid0.N, win0_7.index t = ![0, 0])

theorem blk7_apply (c : Dev nD) (t : Fin cfg0.N) (k : Fin 1) (l : Fin 256) :
    iblk m c 7 t (ix2 k l) = V m c main_v58 (ix2 k l) := by
  unfold iblk
  rw [View.read_apply]
  show V m c main_v58 _ = _
  refine congrArg _ (funext fun a => Fin.ext ?_)
  show ((win0_7.rect t).emb (ix2 k l) a : ℕ) = _
  rw [win0_7.rect_emb_val_off, index7]
  fin_cases a <;> simp [Pipeline.WinKind.off]

theorem index8 : ∀ t : Fin cfg0.N, win0_8.index t = ![0, 0] :=
  (by decide +kernel : ∀ t : Fin grid0.N, win0_8.index t = ![0, 0])

theorem blk8_apply (c : Dev nD) (t : Fin cfg0.N) (k : Fin 384) (l : Fin 1024) :
    iblk m c 8 t (ix2 k l) = V m c main_v62 (ix2 k l) := by
  unfold iblk
  rw [View.read_apply]
  show V m c main_v62 _ = _
  refine congrArg _ (funext fun a => Fin.ext ?_)
  show ((win0_8.rect t).emb (ix2 k l) a : ℕ) = _
  rw [win0_8.rect_emb_val_off, index8]
  fin_cases a <;> simp [Pipeline.WinKind.off]

theorem index9 : ∀ t : Fin cfg0.N, win0_9.index t = ![0, 0] :=
  (by decide +kernel : ∀ t : Fin grid0.N, win0_9.index t = ![0, 0])

theorem blk9_apply (c : Dev nD) (t : Fin cfg0.N) (k : Fin 256) (l : Fin 1024) :
    iblk m c 9 t (ix2 k l) = V m c main_v67 (ix2 k l) := by
  unfold iblk
  rw [View.read_apply]
  show V m c main_v67 _ = _
  refine congrArg _ (funext fun a => Fin.ext ?_)
  show ((win0_9.rect t).emb (ix2 k l) a : ℕ) = _
  rw [win0_9.rect_emb_val_off, index9]
  fin_cases a <;> simp [Pipeline.WinKind.off]

theorem index10 : ∀ t : Fin cfg0.N, win0_10.index t = ![0, 0] :=
  (by decide +kernel : ∀ t : Fin grid0.N, win0_10.index t = ![0, 0])

theorem blk10_apply (c : Dev nD) (t : Fin cfg0.N) (k : Fin 256) (l : Fin 512) :
    iblk m c 10 t (ix2 k l) = V m c main_v71 (ix2 k l) := by
  unfold iblk
  rw [View.read_apply]
  show V m c main_v71 _ = _
  refine congrArg _ (funext fun a => Fin.ext ?_)
  show ((win0_10.rect t).emb (ix2 k l) a : ℕ) = _
  rw [win0_10.rect_emb_val_off, index10]
  fin_cases a <;> simp [Pipeline.WinKind.off]

theorem index11 : ∀ t : Fin cfg0.N, win0_11.index t = ![0, 0] :=
  (by decide +kernel : ∀ t : Fin grid0.N, win0_11.index t = ![0, 0])

theorem blk11_apply (c : Dev nD) (t : Fin cfg0.N) (k : Fin 1) (l : Fin 256) :
    iblk m c 11 t (ix2 k l) = V m c main_v75 (ix2 k l) := by
  unfold iblk
  rw [View.read_apply]
  show V m c main_v75 _ = _
  refine congrArg _ (funext fun a => Fin.ext ?_)
  show ((win0_11.rect t).emb (ix2 k l) a : ℕ) = _
  rw [win0_11.rect_emb_val_off, index11]
  fin_cases a <;> simp [Pipeline.WinKind.off]

theorem index12 : ∀ t : Fin cfg0.N, win0_12.index t = ![0, 0] :=
  (by decide +kernel : ∀ t : Fin grid0.N, win0_12.index t = ![0, 0])

theorem blk12_apply (c : Dev nD) (t : Fin cfg0.N) (k : Fin 1) (l : Fin 256) :
    iblk m c 12 t (ix2 k l) = V m c main_v78 (ix2 k l) := by
  unfold iblk
  rw [View.read_apply]
  show V m c main_v78 _ = _
  refine congrArg _ (funext fun a => Fin.ext ?_)
  show ((win0_12.rect t).emb (ix2 k l) a : ℕ) = _
  rw [win0_12.rect_emb_val_off, index12]
  fin_cases a <;> simp [Pipeline.WinKind.off]

theorem index13 : ∀ t : Fin cfg0.N, win0_13.index t = ![0, 0] :=
  (by decide +kernel : ∀ t : Fin grid0.N, win0_13.index t = ![0, 0])

theorem blk13_apply (c : Dev nD) (t : Fin cfg0.N) (k : Fin 1) (l : Fin 256) :
    iblk m c 13 t (ix2 k l) = V m c main_v81 (ix2 k l) := by
  unfold iblk
  rw [View.read_apply]
  show V m c main_v81 _ = _
  refine congrArg _ (funext fun a => Fin.ext ?_)
  show ((win0_13.rect t).emb (ix2 k l) a : ℕ) = _
  rw [win0_13.rect_emb_val_off, index13]
  fin_cases a <;> simp [Pipeline.WinKind.off]

theorem index14 : ∀ t : Fin cfg0.N, win0_14.index t = ![0, 0] :=
  (by decide +kernel : ∀ t : Fin grid0.N, win0_14.index t = ![0, 0])

theorem blk14_apply (c : Dev nD) (t : Fin cfg0.N) (k : Fin 1) (l : Fin 256) :
    iblk m c 14 t (ix2 k l) = V m c main_v85 (ix2 k l) := by
  unfold iblk
  rw [View.read_apply]
  show V m c main_v85 _ = _
  refine congrArg _ (funext fun a => Fin.ext ?_)
  show ((win0_14.rect t).emb (ix2 k l) a : ℕ) = _
  rw [win0_14.rect_emb_val_off, index14]
  fin_cases a <;> simp [Pipeline.WinKind.off]

theorem index15 : ∀ t : Fin cfg0.N, win0_15.index t = ![0, 0] :=
  (by decide +kernel : ∀ t : Fin grid0.N, win0_15.index t = ![0, 0])

theorem blk15_apply (c : Dev nD) (t : Fin cfg0.N) (k : Fin 1) (l : Fin 256) :
    iblk m c 15 t (ix2 k l) = V m c main_v89 (ix2 k l) := by
  unfold iblk
  rw [View.read_apply]
  show V m c main_v89 _ = _
  refine congrArg _ (funext fun a => Fin.ext ?_)
  show ((win0_15.rect t).emb (ix2 k l) a : ℕ) = _
  rw [win0_15.rect_emb_val_off, index15]
  fin_cases a <;> simp [Pipeline.WinKind.off]

theorem index16 : ∀ t : Fin cfg0.N, win0_16.index t = ![0, 0] :=
  (by decide +kernel : ∀ t : Fin grid0.N, win0_16.index t = ![0, 0])

theorem blk16_apply (c : Dev nD) (t : Fin cfg0.N) (k : Fin 1) (l : Fin 128) :
    iblk m c 16 t (ix2 k l) = V m c main_v91 (ix2 k l) := by
  unfold iblk
  rw [View.read_apply]
  show V m c main_v91 _ = _
  refine congrArg _ (funext fun a => Fin.ext ?_)
  show ((win0_16.rect t).emb (ix2 k l) a : ℕ) = _
  rw [win0_16.rect_emb_val_off, index16]
  fin_cases a <;> simp [Pipeline.WinKind.off]

theorem index17 : ∀ t : Fin cfg0.N, win0_17.index t = ![0, 0] :=
  (by decide +kernel : ∀ t : Fin grid0.N, win0_17.index t = ![0, 0])

theorem blk17_apply (c : Dev nD) (t : Fin cfg0.N) (k : Fin 256) (l : Fin 256) :
    iblk m c 17 t (ix2 k l) = V m c main_v105 (ix2 k l) := by
  unfold iblk
  rw [View.read_apply]
  show V m c main_v105 _ = _
  refine congrArg _ (funext fun a => Fin.ext ?_)
  show ((win0_17.rect t).emb (ix2 k l) a : ℕ) = _
  rw [win0_17.rect_emb_val_off, index17]
  fin_cases a <;> simp [Pipeline.WinKind.off]

theorem index18 : ∀ t : Fin cfg0.N, win0_18.index t = ![0, 0] :=
  (by decide +kernel : ∀ t : Fin grid0.N, win0_18.index t = ![0, 0])

theorem blk18_apply (c : Dev nD) (t : Fin cfg0.N) (k : Fin 256) (l : Fin 256) :
    iblk m c 18 t (ix2 k l) = V m c main_v115 (ix2 k l) := by
  unfold iblk
  rw [View.read_apply]
  show V m c main_v115 _ = _
  refine congrArg _ (funext fun a => Fin.ext ?_)
  show ((win0_18.rect t).emb (ix2 k l) a : ℕ) = _
  rw [win0_18.rect_emb_val_off, index18]
  fin_cases a <;> simp [Pipeline.WinKind.off]

theorem index19 : ∀ t : Fin cfg0.N, win0_19.index t = ![0, 0] :=
  (by decide +kernel : ∀ t : Fin grid0.N, win0_19.index t = ![0, 0])

theorem blk19_apply (c : Dev nD) (t : Fin cfg0.N) (k : Fin 384) (l : Fin 1024) :
    iblk m c 19 t (ix2 k l) = V m c main_v133 (ix2 k l) := by
  unfold iblk
  rw [View.read_apply]
  show V m c main_v133 _ = _
  refine congrArg _ (funext fun a => Fin.ext ?_)
  show ((win0_19.rect t).emb (ix2 k l) a : ℕ) = _
  rw [win0_19.rect_emb_val_off, index19]
  fin_cases a <;> simp [Pipeline.WinKind.off]

theorem blk0_apply (c : Dev nD) (t : Fin cfg0.N) (r : Fin 384) (l : Fin 1024) :
    iblk m c 0 t (ix3 0 r l) = V m c main_v134 (ix3 (seqOf t) (placeOf t r) l) := by
  unfold iblk
  rw [View.read_apply]
  show V m c main_v134 _ = _
  refine congrArg _ (funext fun a => Fin.ext ?_)
  show ((win0_0.rect t).emb (ix3 0 r l) a : ℕ) = _
  rw [win0_0.rect_emb_val_off, index0]
  fin_cases a <;> simp [Pipeline.WinKind.off, seqOf, placeOf] <;> omega

theorem blk3_apply (c : Dev nD) (t : Fin cfg0.N) (r : Fin 384) (l : Fin 1) :
    iblk m c 3 t (ix3 0 r l) = V m c main_v8 (ix3 (seqOf t) (placeOf t r) l) := by
  unfold iblk
  rw [View.read_apply]
  show V m c main_v8 _ = _
  refine congrArg _ (funext fun a => Fin.ext ?_)
  show ((win0_3.rect t).emb (ix3 0 r l) a : ℕ) = _
  rw [win0_3.rect_emb_val_off, index3]
  fin_cases a <;> simp [Pipeline.WinKind.off, seqOf, placeOf] <;> omega

/-- The columns of the projection a point loads, `n` of them from column `o` on. -/
abbrev cols (c : Dev nD) (t : Fin cfg0.N) {n : ℕ} (o : ℕ)
    (inb : ∀ a : Fin 2, (![0, o] : Fin 2 → ℕ) a + (![1024, n] : Fin 2 → ℕ) a ≤ S1024x2432.size a) :
    Vec Ideal ⟨2, ![1024, n]⟩ .bf16 :=
  View.ld (iblk m c 2 t) (Rect.unit (s := S1024x2432) ![0, o] ![1024, n] inb)

theorem cols_apply (c : Dev nD) (t : Fin cfg0.N) {n o : ℕ}
    (inb : ∀ a : Fin 2, (![0, o] : Fin 2 → ℕ) a + (![1024, n] : Fin 2 → ℕ) a ≤ S1024x2432.size a)
    (k : Fin 1024) (l : Fin n) (h : o + l.val < 2432) :
    (cols m c t o inb (ix2 k l) : EReal) = wide (argsOf m c).w k ⟨o + l.val, h⟩ := by
  refine Eq.trans ?_ ((blk2_apply m c t k ⟨o + l.val, h⟩).trans (w_apply m c k _))
  refine View.ld_unit_apply_of _ _ _ _ _ _ fun a => ?_
  fin_cases a <;> simp

/-- A row of the table of frequencies. -/
abbrev freqs (c : Dev nD) (t : Fin cfg0.N) (o : ℕ)
    (inb : ∀ a : Fin 2, (![o, 0] : Fin 2 → ℕ) a + (![1, 128] : Fin 2 → ℕ) a ≤ S4x128.size a) : Vec Ideal S1x128 .f32 :=
  View.ld (iblk m c 4 t) (Rect.unit (s := S4x128) ![o, 0] ![1, 128] inb)

theorem freqs_apply (c : Dev nD) (t : Fin cfg0.N) (o : ℕ)
    (inb : ∀ a : Fin 2, (![o, 0] : Fin 2 → ℕ) a + (![1, 128] : Fin 2 → ℕ) a ≤ S4x128.size a) (l : Fin 128) (h : o < 4) :
    (freqs m c t o inb (ix2 0 l) : EReal) =
      if 32 * o ≤ l.val ∧ l.val < 32 * o + 32 then freq ⟨l.val % 16, by omega⟩ else 0 := by
  refine Eq.trans ?_ ((blk4_apply m c t ⟨o, h⟩ l).trans (frq_apply m c ⟨o, h⟩ l))
  refine View.ld_unit_apply_of _ _ _ _ _ _ fun a => ?_
  fin_cases a <;> simp

/-! ## A point's normalised rows and their products -/

abbrev normed (c : Dev nD) (t : Fin cfg0.N) : FVec Ideal S384x1024 .bf16 := k0_pay3 (iblk m c 0 t) (iblk m c 1 t)

theorem normed_pt (c : Dev nD) (t : Fin cfg0.N) (r : Fin 384) (k : Fin 1024) :
    (normed m c t (ix2 r k) : EReal) =
      normRow ((argsOf m c).h ⟨(seqOf t).val * 4224 + (placeOf t r).val, by omega⟩) (argsOf m c).ln k := by
  have e1 : (fun j => (iblk m c 0 t (ix3 0 r j) : EReal)) = (argsOf m c).h ⟨(seqOf t).val * 4224 + (placeOf t r).val, by omega⟩ :=
    funext fun j => (blk0_apply m c t r j).trans (h_apply m c _ _ j)
  have e2 : (fun j => (iblk m c 1 t (ix2 0 j) : EReal)) = (argsOf m c).ln :=
    funext fun j => (blk1_apply m c t 0 j).trans (ln_apply m c j)
  refine (normed_apply (iblk m c 0 t) (iblk m c 1 t) r k).trans ?_
  exact congrArg₂ (fun x g => normRow x g k) e1 e2

theorem product_eq (c : Dev nD) (t : Fin cfg0.N) (r : Fin 384) (j : Fin 2216) (w : Fin 1024 → EReal)
    (hw : ∀ k, w k = (argsOf m c).w k j) :
    ∑ k, (normed m c t (ix2 r k) : EReal) * w k = z (argsOf m c) (seqOf t) (placeOf t r) j := by
  unfold z dotCol
  exact Finset.sum_congr rfl fun k _ => by rw [normed_pt, hw]

theorem product_zero (c : Dev nD) (t : Fin cfg0.N) (r : Fin 384) (w : Fin 1024 → EReal) (hw : ∀ k, w k = 0) :
    ∑ k, (normed m c t (ix2 r k) : EReal) * w k = 0 :=
  Finset.sum_eq_zero fun k _ => by rw [hw, mul_zero]

/-- Columns of the projection that lie before the padding. -/
theorem wide_low (w : Fin 1024 → Fin 2216 → EReal) (k : Fin 1024) (l : Fin 2432) (h : l.val < 640) :
    wide w k l = w k ⟨l.val, by omega⟩ := dif_pos h

theorem wide_high (w : Fin 1024 → Fin 2216 → EReal) (k : Fin 1024) (l : Fin 2432) (h : 768 ≤ l.val) (h' : l.val < 2312) :
    wide w k l = w k ⟨l.val - 96, by omega⟩ := by
  unfold wide
  rw [dif_neg (by omega), if_neg (by omega), dif_pos h']

theorem wide_mid (w : Fin 1024 → Fin 2216 → EReal) (k : Fin 1024) (l : Fin 128) :
    wide w k ⟨640 + l.val, by omega⟩ =
      if h : 64 ≤ l.val ∧ l.val < 96 then w k ⟨640 + (l.val - 64), by omega⟩ else 0 := by
  unfold wide
  dsimp only
  rw [dif_neg (by omega), if_pos (by omega)]
  by_cases h : 64 ≤ l.val ∧ l.val < 96
  · rw [dif_pos h, dif_pos (by omega)]
    exact congrArg (w k) (Fin.ext (by dsimp only; omega))
  · rw [dif_neg h, dif_neg (by omega)]

/-! ## A point's cosines and sines -/

/-- The point's phases' cosines. -/
abbrev phases (c : Dev nD) (t : Fin cfg0.N) : FVec Ideal S96x128 .f32 :=
  phased (iblk m c 3 t) (iblk m c 5 t) (freqs m c t 0 inb_S4x128_S1x128_0_0) (freqs m c t 1 inb_S4x128_S1x128_1_0)
    (freqs m c t 2 inb_S4x128_S1x128_2_0) (freqs m c t 3 inb_S4x128_S1x128_3_0)

/-- A place's angles. -/
def anglesOf (c : Dev nD) (t : Fin cfg0.N) (r : Fin 384) : Fin 16 → EReal :=
  angles (place ((argsOf m c).pos (seqOf t)) (placeOf t r))

/-- The position of row `r` of quarter `g` of a point. -/
def wordOf (c : Dev nD) (t : Fin cfg0.N) (r : Fin 96) (g : Fin 4) : BitVec 32 :=
  place ((argsOf m c).pos (seqOf t)) (placeOf t ⟨96 * g.val + r.val, by omega⟩)

/-- Row `g` of the table of frequencies. -/
def freqAt (l : Fin 128) (g : Fin 4) : EReal :=
  if 32 * g.val ≤ l.val ∧ l.val < 32 * g.val + 32 then freq ⟨l.val % 16, by omega⟩ else 0

theorem word_apply (c : Dev nD) (t : Fin cfg0.N) (r : Fin 96) (g : Fin 4) (q : Fin 384) (h : q.val = 96 * g.val + r.val) :
    (iblk m c 3 t (ix3 0 q 0) : EReal) = (((wordOf m c t r g).toInt : ℝ) : EReal) := by
  refine ((blk3_apply m c t q 0).trans (pos_apply m c _ _)).trans ?_
  exact congrArg (fun a => (((place ((argsOf m c).pos (seqOf t)) (placeOf t a)).toInt : ℝ) : EReal)) (Fin.ext h)

theorem phases_apply (c : Dev nD) (t : Fin cfg0.N) (r : Fin 96) (l : Fin 128) :
    (phases m c t (ix2 r l) : EReal) = if l.val % 32 < 16
      then Ideal.cos (anglesOf m c t ⟨96 * (l.val / 32) + r.val, by omega⟩ ⟨l.val % 16, by omega⟩)
      else Ideal.sin (anglesOf m c t ⟨96 * (l.val / 32) + r.val, by omega⟩ ⟨l.val % 16, by omega⟩) := by
  have f0 : (freqs m c t 0 inb_S4x128_S1x128_0_0 (ix2 0 l) : EReal) = freqAt l 0 := freqs_apply m c t 0 _ l (by omega)
  have f1 : (freqs m c t 1 inb_S4x128_S1x128_1_0 (ix2 0 l) : EReal) = freqAt l 1 := freqs_apply m c t 1 _ l (by omega)
  have f2 : (freqs m c t 2 inb_S4x128_S1x128_2_0 (ix2 0 l) : EReal) = freqAt l 2 := freqs_apply m c t 2 _ l (by omega)
  have f3 : (freqs m c t 3 inb_S4x128_S1x128_3_0 (ix2 0 l) : EReal) = freqAt l 3 := freqs_apply m c t 3 _ l (by omega)
  have hu : (iblk m c 5 t (ix2 0 l) : EReal) = if l.val % 32 < 16 then (0 : EReal) else (1 : EReal) := (blk5_apply m c t 0 l).trans (phs_apply m c l)
  refine (phased_apply _ _ _ _ _ _ r l).trans ?_
  rw [f0, f1, f2, f3, word_apply m c t r 0 ⟨r.val, by omega⟩ (by simp), word_apply m c t r 1 ⟨96 + r.val, by omega⟩ rfl,
    word_apply m c t r 2 ⟨192 + r.val, by omega⟩ rfl, word_apply m c t r 3 ⟨288 + r.val, by omega⟩ rfl]
  exact phase_eq quarter rfl (wordOf m c t r) l _ hu (freqAt l) fun g => rfl

end Cert.Kernel4Ideal.Odd
-- ==== Proof.Odd.Masks.lean ====
module

public import proofs.«01_k».proof.Proof.Odd.Blocks

@[expose] public section

set_option maxRecDepth 16384

noncomputable section

/-! # The masks and tables every point of the odd layer's input call shares -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

/-- The lane the queries set to one. -/
abbrev oneLane : IVec S384x256 1 := k0_pay10 (128#32) k0_pay7 0#32
/-- The lanes before the second half of the turned features. -/
abbrev front : IVec S384x256 1 := k0_pay26 (k0_pay8 (128#32) k0_pay7 0#32)

theorem oneLane_apply (r : Fin 384) (l : Fin 256) : oneLane (ix2 r l) = if l.val % 128 = 96 then 1#1 else 0#1 := mask_apply r l
theorem front_lane (r : Fin 384) (l : Fin 256) : front (ix2 r l) = if l.val % 128 < 80 then 1#1 else 0#1 := front_apply r l

/-- The places the padding takes, at a point. -/
theorem unused_pt (t : Fin cfg0.N) (r : Fin 384) (l : Fin 256) :
    k0_pay9 (BitVec.ofNat 32 (grid0.coords t 1).val) (ix2 r l) = if (placeOf t r).val < 112 then 1#1 else 0#1 := by
  have hr := r.isLt
  refine (unused_apply (grid0.coords t 1) r l).trans (if_congr ?_ rfl rfl)
  rw [coord1]
  simp only [placeOf]
  omega

theorem unusedB_pt (t : Fin cfg0.N) (r : Fin 384) (l : Fin 128) :
    k0_pay50 (BitVec.ofNat 32 (grid0.coords t 1).val) (ix2 r l) = if (placeOf t r).val < 112 then 1#1 else 0#1 := by
  have hr := r.isLt
  refine (unusedB_apply (grid0.coords t 1) r l).trans (if_congr ?_ rfl rfl)
  rw [coord1]
  simp only [placeOf]
  omega

theorem valid_pt (t : Fin cfg0.N) (r : Fin 384) (l : Fin 128) :
    k0_pay51 (BitVec.ofNat 32 (grid0.coords t 1).val) (ix2 r l) = if 112 ≤ (placeOf t r).val ∧ l.val < 8 then 1#1 else 0#1 := by
  have hr := r.isLt
  refine (valid_apply (grid0.coords t 1) r l).trans (if_congr ?_ rfl rfl)
  rw [coord1]
  simp only [placeOf]
  omega

/-- The products of squares' block means. -/
abbrev means (c : Dev nD) (t : Fin cfg0.N) : FVec Ideal S256x256 .bf16 := k0_pay27 (iblk m c 17 t)

theorem means_low (c : Dev nD) (t : Fin cfg0.N) (k l : Fin 256) (hl : l.val % 128 < 64) : (means m c t (ix2 k l) : EReal) =
    if 128 * (l.val / 128) ≤ k.val ∧ k.val < 128 * (l.val / 128) + 64 then Ideal.ofBits FTy.f32 0x3C800000#32 else 0 :=
  (whole_mean _ k l).trans ((blk17_apply m c t k l).trans (gm_low m c k l hl))

theorem means_high (c : Dev nD) (t : Fin cfg0.N) (k l : Fin 256) (hl : 64 ≤ l.val % 128) (hh : l.val % 128 < 96) :
    (means m c t (ix2 k l) : EReal) = if 128 * (l.val / 128) + 64 ≤ k.val ∧ k.val < 128 * (l.val / 128) + 64 + 32
      then Ideal.ofBits FTy.f32 0x3D000000#32 else 0 :=
  (whole_mean _ k l).trans ((blk17_apply m c t k l).trans (gm_high m c k l hl hh))

abbrev cosT (c : Dev nD) (t : Fin cfg0.N) : FVec Ideal S384x256 .f32 := csTile (phases m c t)
abbrev sinT (c : Dev nD) (t : Fin cfg0.N) : FVec Ideal S384x256 .f32 := snTile (phases m c t)

theorem cosT_row (c : Dev nD) (t : Fin cfg0.N) (r : Fin 384) :
    (fun k => (cosT m c t (ix2 r k) : EReal)) = csAt (angles (place ((argsOf m c).pos (seqOf t)) (placeOf t r))) :=
  funext (csTile_apply _ (anglesOf m c t) (phases_apply m c t) r)

theorem sinT_row (c : Dev nD) (t : Fin cfg0.N) (r : Fin 384) :
    (fun k => (sinT m c t (ix2 r k) : EReal)) = snAt (angles (place ((argsOf m c).pos (seqOf t)) (placeOf t r))) :=
  funext (snTile_apply _ (anglesOf m c t) (phases_apply m c t) r)

/-- The four chunks of 1024 features. -/
def chunkOf (q : FVec Ideal S384x1024 .f32) (n : Fin 4) : FVec Ideal S384x256 .f32 :=
  match n with
  | 0 => extractStridedSlice S384x256 ![0, 0] q slices_S384x1024_o0_0_S384x256
  | 1 => extractStridedSlice S384x256 ![0, 256] q slices_S384x1024_o0_256_S384x256
  | 2 => extractStridedSlice S384x256 ![0, 512] q slices_S384x1024_o0_512_S384x256
  | 3 => extractStridedSlice S384x256 ![0, 768] q slices_S384x1024_o0_768_S384x256

theorem chunkOf_apply (q : FVec Ideal S384x1024 .f32) (n : Fin 4) (r : Fin 384) (l : Fin 256) :
    chunkOf q n (ix2 r l) = q (ix2 r ⟨256 * n.val + l.val, by omega⟩) := by
  fin_cases n
  · exact chunk0 q r l
  · exact chunk1 q r l
  · exact chunk2 q r l
  · exact chunk3 q r l

end Cert.Kernel4Ideal.Odd
-- ==== Proof.Odd.Cov.lean ====
module

public import proofs.«01_k».proof.Proof.Odd.Lift
public import Idealize.ShloMosaic.Lib.Pipeline.ValueKit

@[expose] public section

set_option maxRecDepth 16384

noncomputable section

/-! # Blocks stored in pieces, read back -/

namespace Cert.Kernel4Ideal.Odd

open Cert.Kernel4Ideal Cert.Kernel4Ideal.Gen Cert.Mlp Cert.Odd
open Idealize.ShloMosaic Idealize.ShloMosaic.TcCoe

/-- A piece of `n` lanes from lane `o` on has a value at the lanes it covers. -/
theorem tile_step {n : ℕ} (o : ℕ) (v : (⟨3, ![1, 384, n]⟩ : Shape).Idx → EReal) (r : Fin 384) (l : Fin 1024) (z : EReal)
    (h : ∀ q : Fin n, l.val = o + q.val → v (ix3 0 r q) = z) :
    View.TileAt (Val := Elt Ideal) (S := S1x384x1024) (e := EltTy.bf16) (ix3 0 r l) ![0, 0, o] ![1, 384, n] v z := by
  intro x hx
  have h1 : r.val = 0 + (x 1).val := hx 1
  have h2 : l.val = o + (x 2).val := hx 2
  have e : x = ix3 0 r (x 2) := by
    funext a
    fin_cases a
    · exact Subsingleton.elim (α := Fin 1) _ _
    · exact Fin.ext (by simpa using h1.symm)
    · rfl
  rw [e]
  exact h (x 2) h2

theorem tile4_apply (w : Fin 4 → FVec Ideal S1x384x256 .bf16) (f : Fin 1024 → EReal) (r : Fin 384) (l : Fin 1024)
    (h : ∀ (n : Fin 4) (q : Fin 256), (w n (ix3 0 r q) : EReal) = f ⟨256 * n.val + q.val, by omega⟩) :
    (View.canon (Val := Elt Ideal) (s := S1x384x1024) (e := EltTy.bf16)
      [⟨Rect.unit ![0, 0, 768] ![1, 384, 256] inb_S1x384x1024_S1x384x256_0_0_768, w 3⟩,
        ⟨Rect.unit ![0, 0, 512] ![1, 384, 256] inb_S1x384x1024_S1x384x256_0_0_512, w 2⟩,
        ⟨Rect.unit ![0, 0, 256] ![1, 384, 256] inb_S1x384x1024_S1x384x256_0_0_256, w 1⟩,
        ⟨Rect.unit ![0, 0, 0] ![1, 384, 256] inb_S1x384x1024_S1x384x256_0_0_0, w 0⟩] (ix3 0 r l) : EReal) = f l := by
  have at_ : ∀ (n : Fin 4) (o : ℕ), o = 256 * n.val →
      View.TileAt (Val := Elt Ideal) (S := S1x384x1024) (e := EltTy.bf16) (ix3 0 r l) ![0, 0, o] ![1, 384, 256] (w n) (f l) :=
    fun n o ho => tile_step o (w n) r l (f l) fun q hq => (h n q).trans (congrArg f (Fin.ext (by dsimp only; omega)))
  refine View.canon_eq_of_allAt _ _ _ (View.cover_of_tiled_head _ _ _ rfl _) ?_
  refine View.allAt_cons_unit _ _ _ _ _ (at_ 3 768 rfl) ?_
  refine View.allAt_cons_unit _ _ _ _ _ (at_ 2 512 rfl) ?_
  refine View.allAt_cons_unit _ _ _ _ _ (at_ 1 256 rfl) ?_
  exact View.allAt_cons_unit _ _ _ _ _ (at_ 0 0 rfl) (View.allAt_nil _ _)

theorem tile8_apply (w : Fin 8 → FVec Ideal S1x384x128 .bf16) (f : Fin 1024 → EReal) (r : Fin 384) (l : Fin 1024)
    (h : ∀ (n : Fin 8) (q : Fin 128), (w n (ix3 0 r q) : EReal) = f ⟨128 * n.val + q.val, by omega⟩) :
    (View.canon (Val := Elt Ideal) (s := S1x384x1024) (e := EltTy.bf16)
      [⟨Rect.unit ![0, 0, 896] ![1, 384, 128] inb_S1x384x1024_S1x384x128_0_0_896, w 7⟩,
        ⟨Rect.unit ![0, 0, 768] ![1, 384, 128] inb_S1x384x1024_S1x384x128_0_0_768, w 6⟩,
        ⟨Rect.unit ![0, 0, 640] ![1, 384, 128] inb_S1x384x1024_S1x384x128_0_0_640, w 5⟩,
        ⟨Rect.unit ![0, 0, 512] ![1, 384, 128] inb_S1x384x1024_S1x384x128_0_0_512, w 4⟩,
        ⟨Rect.unit ![0, 0, 384] ![1, 384, 128] inb_S1x384x1024_S1x384x128_0_0_384, w 3⟩,
        ⟨Rect.unit ![0, 0, 256] ![1, 384, 128] inb_S1x384x1024_S1x384x128_0_0_256, w 2⟩,
        ⟨Rect.unit ![0, 0, 128] ![1, 384, 128] inb_S1x384x1024_S1x384x128_0_0_128, w 1⟩,
        ⟨Rect.unit ![0, 0, 0] ![1, 384, 128] inb_S1x384x1024_S1x384x128_0_0_0, w 0⟩] (ix3 0 r l) : EReal) = f l := by
  have at_ : ∀ (n : Fin 8) (o : ℕ), o = 128 * n.val →
      View.TileAt (Val := Elt Ideal) (S := S1x384x1024) (e := EltTy.bf16) (ix3 0 r l) ![0, 0, o] ![1, 384, 128] (w n) (f l) :=
    fun n o ho => tile_step o (w n) r l (f l) fun q hq => (h n q).trans (congrArg f (Fin.ext (by dsimp only; omega)))
  refine View.canon_eq_of_allAt _ _ _ (View.cover_of_tiled_head _ _ _ rfl _) ?_
  refine View.allAt_cons_unit _ _ _ _ _ (at_ 7 896 rfl) ?_
  refine View.allAt_cons_unit _ _ _ _ _ (at_ 6 768 rfl) ?_
  refine View.allAt_cons_unit _ _ _ _ _ (at_ 5 640 rfl) ?_
  refine View.allAt_cons_unit _ _ _ _ _ (at_ 4 512 rfl) ?_
  refine View.allAt_cons_unit _ _ _ _ _ (at_ 3 384 rfl) ?_
  refine View.allAt_cons_unit _ _ _ _ _ (at_ 2 256 rfl) ?_
  refine View.allAt_cons_unit _ _ _ _ _ (at_ 1 128 rfl) ?_
  exact View.allAt_cons_unit _ _ _ _ _ (at_ 0 0 rfl) (View.allAt_nil _ _)

end Cert.Kernel4Ideal.Odd
-- ==== Proof.Odd.OutQ.lean ====
module

public import proofs.«01_k».proof.Proof.Odd.Masks
public import proofs.«01_k».proof.Proof.Odd.Cov

@[expose] public section

set_option maxRecDepth 16384

noncomputable section

/-! # The latent queries and values a point leaves -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

/-- The point's compressed queries. -/
abbrev cqT (c : Dev nD) (t : Fin cfg0.N) : FVec Ideal S384x384 .f32 :=
  k0_pay4 (iblk m c 0 t) (iblk m c 1 t) (cols m c t 0 inb_S1024x2432_S1024x384_0_0)

theorem cqT_apply (c : Dev nD) (t : Fin cfg0.N) (r l : Fin 384) :
    (cqT m c t (ix2 r l) : EReal) = z (argsOf m c) (seqOf t) (placeOf t r) ⟨l.val, by omega⟩ := by
  refine (cq_apply (iblk m c 0 t) (iblk m c 1 t) _ r l).trans (product_eq m c t r _ _ fun k => ?_)
  refine (cols_apply m c t _ k l (by omega)).trans ((wide_low _ k _ (by dsimp only; omega)).trans ?_)
  exact congrArg ((argsOf m c).w k) (Fin.ext (by dsimp only; omega))

/-- The point's latent query features. -/
abbrev qallT (c : Dev nD) (t : Fin cfg0.N) : FVec Ideal S384x1024 .f32 :=
  k0_pay32 (cqT m c t) (k0_pay29 (iblk m c 6 t)) (k0_pay30 (cqT m c t)) (FloatOps.ofBits FTy.f32 0x43C00000#32) (iblk m c 8 t)

theorem qallT_apply (c : Dev nD) (t : Fin cfg0.N) (r : Fin 384) (l : Fin 1024) :
    (qallT m c t (ix2 r l) : EReal) = if h : l.val % 128 < 96 then
      qAll (argsOf m c) (seqOf t) (placeOf t r) ⟨96 * (l.val / 128) + l.val % 128, by omega⟩ else 0 := by
  have ex : (fun j => (cqT m c t (ix2 r j) : EReal)) = fun j => z (argsOf m c) (seqOf t) (placeOf t r) ⟨j.val, by omega⟩ :=
    funext (cqT_apply m c t r)
  have eg : (fun j => (iblk m c 6 t (ix2 0 j) : EReal)) = (argsOf m c).gqa :=
    funext fun j => (blk6_apply m c t 0 j).trans (gqa_apply m c j)
  refine (qc_apply (cqT m c t) (iblk m c 6 t) (iblk m c 8 t) r l).trans ?_
  have ew : ∀ k, (iblk m c 8 t (ix2 k l) : EReal) = if h : l.val % 128 < 96 then
      (argsOf m c).wuq k ⟨96 * (l.val / 128) + l.val % 128, by omega⟩ else 0 :=
    fun k => (blk8_apply m c t k l).trans (wq_apply m c k l)
  refine (Finset.sum_congr rfl fun k _ => congrArg₂ (· * ·)
    (congrArg₂ (fun x g => unit (Ideal.ofBits FTy.f32 0x43C00000#32) x g k) ex eg) (ew k)).trans ?_
  by_cases h : l.val % 128 < 96
  · simp only [dif_pos h]
    rfl
  · simp only [dif_neg h, mul_zero, Finset.sum_const_zero]

/-- A chunk of the point's latent queries. -/
def qPiece (c : Dev nD) (t : Fin cfg0.N) (n : Fin 4) : FVec Ideal S1x384x256 .bf16 :=
  k0_pay35 oneLane (cosT m c t) (sinT m c t) front
    (chunkSeg (chunkOf (qallT m c t) n) (means m c t) (shapeCast S1x256 (iblk m c 11 t) shapeCasts_S1x256_S1x256)) 240#32

theorem qPiece_apply (c : Dev nD) (t : Fin cfg0.N) (n : Fin 4) (r : Fin 384) (l : Fin 256) :
    (qPiece m c t n (ix3 0 r l) : EReal) =
      latentQuery (argsOf m c) (seqOf t) (placeOf t r) ⟨256 * n.val + l.val, by omega⟩ := by
  unfold qPiece
  refine (query_apply oneLane front (cosT m c t) (sinT m c t) _ oneLane_apply front_lane r l).trans ?_
  rw [cosT_row, sinT_row]
  have ey : (fun k => (chunkSeg (chunkOf (qallT m c t) n) (means m c t)
      (shapeCast S1x256 (iblk m c 11 t) shapeCasts_S1x256_S1x256) (ix2 r k) : EReal)) =
      seg (fun k => chunkOf (qallT m c t) n (ix2 r k)) (fun k q => means m c t (ix2 k q))
        (fun q => shapeCast S1x256 (iblk m c 11 t) shapeCasts_S1x256_S1x256 (ix2 0 q)) :=
    funext (chunkSeg_apply _ _ _ r)
  rw [ey]
  refine query_lane (argsOf m c) (seqOf t) (placeOf t r) n _ _ _ (fun k => ?_) (fun k => ?_) (fun k q => means_low m c t k q)
    (fun k q => means_high m c t k q) l
  · refine (chunkOf_apply _ n r k).trans ((qallT_apply m c t r _).trans ?_)
    have e1 : (256 * n.val + k.val) % 128 = k.val % 128 := by omega
    have e2 : (256 * n.val + k.val) / 128 = 2 * n.val + k.val / 128 := by omega
    simp only [e1, e2]
  · exact (whole_gain _ k).trans ((blk11_apply m c t 0 k).trans (gq_apply m c k))

theorem query_out (c : Dev nD) (t : Fin cfg0.N) :
    (outsAt0 m c t.val t.isLt).1 = View.canon
      [⟨Rect.unit ![0, 0, 768] ![1, 384, 256] inb_S1x384x1024_S1x384x256_0_0_768, qPiece m c t 3⟩,
        ⟨Rect.unit ![0, 0, 512] ![1, 384, 256] inb_S1x384x1024_S1x384x256_0_0_512, qPiece m c t 2⟩,
        ⟨Rect.unit ![0, 0, 256] ![1, 384, 256] inb_S1x384x1024_S1x384x256_0_0_256, qPiece m c t 1⟩,
        ⟨Rect.unit ![0, 0, 0] ![1, 384, 256] inb_S1x384x1024_S1x384x256_0_0_0, qPiece m c t 0⟩] := by
  by_cases h0 : t.val % 11 = 0
  · rw [outsAt0_A m c t h0]; dsimp only; frame_out
    rw [cs_stages, sn_stages, query_stages3, query_stages2, query_stages1, query_stages0]; rfl
  · rw [outsAt0_B m c t h0]; dsimp only; frame_out
    rw [cs_stages, sn_stages, query_stages3, query_stages2, query_stages1, query_stages0]; rfl

theorem query_pt (c : Dev nD) (t : Fin cfg0.N) (r : Fin 384) (l : Fin 1024) :
    ((outsAt0 m c t.val t.isLt).1 (ix3 0 r l) : EReal) = latentQuery (argsOf m c) (seqOf t) (placeOf t r) l := by
  rw [query_out]
  exact tile4_apply (qPiece m c t) (latentQuery (argsOf m c) (seqOf t) (placeOf t r)) r l fun n q => qPiece_apply m c t n r q

end Cert.Kernel4Ideal.Odd
-- ==== Proof.Odd.OutK.lean ====
module

public import proofs.«01_k».proof.Proof.Odd.Masks
public import proofs.«01_k».proof.Proof.Odd.Cov

@[expose] public section

set_option maxRecDepth 16384

noncomputable section

/-! # The latent keys and values a point leaves -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

/-- The point's compressed keys and values. -/
abbrev ckvT (c : Dev nD) (t : Fin cfg0.N) : FVec Ideal S384x256 .f32 :=
  k0_pay5 (iblk m c 0 t) (iblk m c 1 t) (cols m c t 384 inb_S1024x2432_S1024x256_0_384)

theorem ckvT_apply (c : Dev nD) (t : Fin cfg0.N) (r : Fin 384) (l : Fin 256) :
    (ckvT m c t (ix2 r l) : EReal) = z (argsOf m c) (seqOf t) (placeOf t r) ⟨384 + l.val, by omega⟩ := by
  refine (ckv_apply (iblk m c 0 t) (iblk m c 1 t) _ r l).trans (product_eq m c t r _ _ fun k => ?_)
  exact (cols_apply m c t _ k l (by omega)).trans (wide_low _ k _ (by dsimp only; omega))

theorem kcT_apply (c : Dev nD) (t : Fin cfg0.N) (r : Fin 384) (k : Fin 256) :
    (k0_pay31 (ckvT m c t) (iblk m c 7 t) (ix2 r k) : EReal) = unit (Ideal.ofBits FTy.f32 0x43800000#32)
      (fun i => z (argsOf m c) (seqOf t) (placeOf t r) ⟨384 + i.val, by omega⟩) (argsOf m c).gkva k := by
  have ex : (fun j => (ckvT m c t (ix2 r j) : EReal)) =
      fun j => z (argsOf m c) (seqOf t) (placeOf t r) ⟨384 + j.val, by omega⟩ := funext (ckvT_apply m c t r)
  have eg : (fun j => (iblk m c 7 t (ix2 0 j) : EReal)) = (argsOf m c).gkva :=
    funext fun j => (blk7_apply m c t 0 j).trans (gkva_apply m c j)
  refine (kc_apply (ckvT m c t) (iblk m c 7 t) r k).trans ?_
  exact congrArg₂ (fun x g => unit (Ideal.ofBits FTy.f32 0x43800000#32) x g k) ex eg

/-- The point's latent key features. -/
abbrev knT (c : Dev nD) (t : Fin cfg0.N) : FVec Ideal S384x1024 .f32 := k0_pay33 (ckvT m c t) (iblk m c 7 t) (iblk m c 9 t)

theorem knT_apply (c : Dev nD) (t : Fin cfg0.N) (r : Fin 384) (l : Fin 1024) :
    (knT m c t (ix2 r l) : EReal) = if l.val % 128 < 64 then kvAll (argsOf m c) (seqOf t) (placeOf t r) l else 0 := by
  refine (knc_apply (ckvT m c t) (iblk m c 7 t) (iblk m c 9 t) r l).trans ?_
  have ew : ∀ k, (iblk m c 9 t (ix2 k l) : EReal) = if l.val % 128 < 64 then (argsOf m c).wukv k l else 0 :=
    fun k => (blk9_apply m c t k l).trans (wkn_apply m c k l)
  refine (Finset.sum_congr rfl fun k _ => congrArg₂ (· * ·) (kcT_apply m c t r k) (ew k)).trans ?_
  by_cases h : l.val % 128 < 64
  · simp only [if_pos h]
    rfl
  · simp only [if_neg h, mul_zero, Finset.sum_const_zero]

/-- The features the heads' keys share. -/
abbrev krT (c : Dev nD) (t : Fin cfg0.N) : FVec Ideal S384x128 .f32 :=
  k0_pay6 (iblk m c 0 t) (iblk m c 1 t) (cols m c t 640 inb_S1024x2432_S1024x128_0_640)

theorem krT_apply (c : Dev nD) (t : Fin cfg0.N) (r : Fin 384) (l : Fin 128) :
    (krT m c t (ix2 r l) : EReal) = if h : 64 ≤ l.val ∧ l.val < 96 then
      z (argsOf m c) (seqOf t) (placeOf t r) ⟨640 + (l.val - 64), by omega⟩ else 0 := by
  refine (kr_apply (iblk m c 0 t) (iblk m c 1 t) _ r l).trans ?_
  by_cases h : 64 ≤ l.val ∧ l.val < 96
  · rw [dif_pos h]
    exact product_eq m c t r _ _ fun k =>
      (cols_apply m c t _ k l (by omega)).trans ((wide_mid _ k l).trans (dif_pos h))
  · rw [dif_neg h]
    exact product_zero m c t r _ fun k =>
      (cols_apply m c t _ k l (by omega)).trans ((wide_mid _ k l).trans (dif_neg h))

/-- The turned features the heads share, with the padding's mask. -/
abbrev sharedT (c : Dev nD) (t : Fin cfg0.N) : FVec Ideal S384x256 .f32 :=
  k0_pay43 (krT m c t) (k0_pay9 (BitVec.ofNat 32 (grid0.coords t 1).val)) oneLane (cosT m c t) (sinT m c t) front
    (means m c t) (iblk m c 13 t)

/-- A chunk of the point's latent keys. -/
def kPiece (c : Dev nD) (t : Fin cfg0.N) (n : Fin 4) : FVec Ideal S1x384x256 .bf16 :=
  shapeCast S1x384x256 (truncf .bf16 (addf (chunkSeg (chunkOf (knT m c t) n) (means m c t)
    (shapeCast S1x256 (iblk m c 12 t) shapeCasts_S1x256_S1x256)) (sharedT m c t)) bitsLt_bf16_f32) shapeCasts_S384x256_S1x384x256

theorem kPiece_apply (c : Dev nD) (t : Fin cfg0.N) (n : Fin 4) (r : Fin 384) (l : Fin 256) :
    (kPiece m c t n (ix3 0 r l) : EReal) = latentKey (argsOf m c) (seqOf t) (placeOf t r) ⟨256 * n.val + l.val, by omega⟩ := by
  unfold kPiece
  refine (key_apply _ _ (means m c t) (iblk m c 12 t) r l).trans ?_
  have es := shared_apply oneLane front (k0_pay9 (BitVec.ofNat 32 (grid0.coords t 1).val)) (cosT m c t) (sinT m c t)
    (krT m c t) (means m c t) (iblk m c 13 t) (fun r => (placeOf t r).val < 112) oneLane_apply front_lane (unused_pt t) r l
  rw [cosT_row, sinT_row] at es
  refine (congrArg (fun a => _ + a) es).trans ?_
  refine key_lane (argsOf m c) (seqOf t) (placeOf t r) n _ _ _ _ _ (fun k => ?_) (fun k => ?_) (fun k => ?_) (fun k => ?_)
    (fun k q => means_low m c t k q) (fun k q => means_high m c t k q) l
  · refine (chunkOf_apply _ n r k).trans ((knT_apply m c t r _).trans ?_)
    have e1 : (256 * n.val + k.val) % 128 = k.val % 128 := by omega
    simp only [e1]
    by_cases h : k.val % 128 < 64
    · rw [if_pos h, dif_pos h]
      exact congrArg (kvAll _ _ _) (Fin.ext (by dsimp only; omega))
    · rw [if_neg h, dif_neg h]
  · exact krT_apply m c t r _
  · exact (blk12_apply m c t 0 k).trans (gk_apply m c k)
  · exact (blk13_apply m c t 0 k).trans (gkr_apply m c k)

theorem key_out (c : Dev nD) (t : Fin cfg0.N) :
    (outsAt0 m c t.val t.isLt).2.1 = View.canon
      [⟨Rect.unit ![0, 0, 768] ![1, 384, 256] inb_S1x384x1024_S1x384x256_0_0_768, kPiece m c t 3⟩,
        ⟨Rect.unit ![0, 0, 512] ![1, 384, 256] inb_S1x384x1024_S1x384x256_0_0_512, kPiece m c t 2⟩,
        ⟨Rect.unit ![0, 0, 256] ![1, 384, 256] inb_S1x384x1024_S1x384x256_0_0_256, kPiece m c t 1⟩,
        ⟨Rect.unit ![0, 0, 0] ![1, 384, 256] inb_S1x384x1024_S1x384x256_0_0_0, kPiece m c t 0⟩] := by
  by_cases h0 : t.val % 11 = 0
  · rw [outsAt0_A m c t h0]; dsimp only; frame_out
    rw [cs_stages, sn_stages, key_stages3, key_stages2, key_stages1, key_stages0]; rfl
  · rw [outsAt0_B m c t h0]; dsimp only; frame_out
    rw [cs_stages, sn_stages, key_stages3, key_stages2, key_stages1, key_stages0]; rfl

theorem key_pt (c : Dev nD) (t : Fin cfg0.N) (r : Fin 384) (l : Fin 1024) :
    ((outsAt0 m c t.val t.isLt).2.1 (ix3 0 r l) : EReal) = latentKey (argsOf m c) (seqOf t) (placeOf t r) l := by
  rw [key_out]
  exact tile4_apply (kPiece m c t) (latentKey (argsOf m c) (seqOf t) (placeOf t r)) r l fun n q => kPiece_apply m c t n r q

theorem value_out (c : Dev nD) (t : Fin cfg0.N) :
    (outsAt0 m c t.val t.isLt).2.2.1 = k0_pay1 (k0_pay31 (ckvT m c t) (iblk m c 7 t)) (k0_pay91 (iblk m c 10 t))
      (constant S384x512 .f32 0x00000000#32) := by
  by_cases h0 : t.val % 11 = 0
  · rw [outsAt0_A m c t h0]; dsimp only; frame_out; rfl
  · rw [outsAt0_B m c t h0]; dsimp only; frame_out; rfl

theorem value_pt (c : Dev nD) (t : Fin cfg0.N) (l : Fin 512) (r : Fin 384) :
    ((outsAt0 m c t.val t.isLt).2.2.1 (ix3 0 l r) : EReal) = latentValue (argsOf m c) (seqOf t) (placeOf t r) l := by
  rw [value_out]
  refine (vm_apply _ (iblk m c 10 t) l r).trans ?_
  refine (Finset.sum_congr rfl fun k _ => congrArg₂ (· * ·) (kcT_apply m c t r k)
    ((blk10_apply m c t k l).trans (wv_apply m c k l))).trans ?_
  rfl

end Cert.Kernel4Ideal.Odd
-- ==== Proof.Odd.OutF.lean ====
module

public import proofs.«01_k».proof.Proof.Odd.Masks
public import proofs.«01_k».proof.Proof.Odd.Cov

@[expose] public section

set_option maxRecDepth 16384

noncomputable section

/-! # The forgetting attention's queries, keys and values a point leaves -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

abbrev mean64T (c : Dev nD) (t : Fin cfg0.N) : FVec Ideal S256x256 .bf16 := k0_pay28 (iblk m c 18 t)

theorem mean64T_apply (c : Dev nD) (t : Fin cfg0.N) (k l : Fin 256) : (mean64T m c t (ix2 k l) : EReal) =
    if 64 * (l.val / 64) ≤ k.val ∧ k.val < 64 * (l.val / 64) + 64 then Ideal.ofBits FTy.f32 0x3C800000#32 else 0 :=
  (whole_mean64 _ k l).trans ((blk18_apply m c t k l).trans (g64_apply m c k l))

/-- The two halves of 512 features. -/
def halfOf (q : FVec Ideal S384x512 .f32) (n : Fin 2) : FVec Ideal S384x256 .f32 :=
  match n with
  | 0 => extractStridedSlice S384x256 ![0, 0] q slices_S384x512_o0_0_S384x256
  | 1 => extractStridedSlice S384x256 ![0, 256] q slices_S384x512_o0_256_S384x256

theorem halfOf_apply (q : FVec Ideal S384x512 .f32) (n : Fin 2) (r : Fin 384) (l : Fin 256) :
    halfOf q n (ix2 r l) = q (ix2 r ⟨256 * n.val + l.val, by omega⟩) := by
  fin_cases n
  · exact half0 q r l
  · exact half1 q r l

/-- The features of a head of a chunk: its own 64 lanes first. -/
def headLanes (x : FVec Ideal S384x256 .f32) (p : Fin 4) : FVec Ideal S384x128 .f32 :=
  match p with
  | 0 => extractStridedSlice S384x128 ![0, 0] x slices_S384x256_o0_0_S384x128
  | 1 => dynamicRotate 1 64#32 none (extractStridedSlice S384x128 ![0, 0] x slices_S384x256_o0_0_S384x128) rotates_S384x128_d1
  | 2 => extractStridedSlice S384x128 ![0, 128] x slices_S384x256_o0_128_S384x128
  | 3 => dynamicRotate 1 64#32 none (extractStridedSlice S384x128 ![0, 128] x slices_S384x256_o0_128_S384x128) rotates_S384x128_d1

theorem headLanes_apply (x : FVec Ideal S384x256 .f32) (p : Fin 4) (r : Fin 384) (l : Fin 128) (hl : l.val < 64) :
    headLanes x p (ix2 r l) = x (ix2 r ⟨64 * p.val + l.val, by omega⟩) := by
  fin_cases p
  · exact even0 x r l hl
  · exact odd0 x r l hl
  · exact even1 x r l hl
  · exact odd1 x r l hl

abbrev firstT : IVec S384x128 1 := k0_pay58 (iota .tc S384x128 32 [1] iota_S384x128_d1_w32) 64#32
abbrev onesT : FVec Ideal S384x128 .f32 := k0_pay59 (iota .tc S384x128 32 [1] iota_S384x128_d1_w32)

/-! ## Queries -/

abbrev fqT (c : Dev nD) (t : Fin cfg0.N) : FVec Ideal S384x512 .f32 :=
  k0_pay60 (normed m c t) (cols m c t 768 inb_S1024x2432_S1024x512_0_768)

theorem fqT_apply (c : Dev nD) (t : Fin cfg0.N) (r : Fin 384) (l : Fin 512) :
    (fqT m c t (ix2 r l) : EReal) = z (argsOf m c) (seqOf t) (placeOf t r) ⟨672 + l.val, by omega⟩ := by
  refine (fq_apply _ _ r l).trans (product_eq m c t r _ _ fun k => ?_)
  refine (cols_apply m c t _ k l (by omega)).trans ((wide_high _ k _ (by dsimp only; omega) (by dsimp only; omega)).trans ?_)
  exact congrArg ((argsOf m c).w k) (Fin.ext (by dsimp only; omega))

/-- A chunk of four heads' normalised queries. -/
def fqChunk (c : Dev nD) (t : Fin cfg0.N) (n : Fin 2) : FVec Ideal S384x256 .f32 :=
  mulf (chunkSeg (halfOf (fqT m c t) n) (mean64T m c t) (shapeCast S1x256 (iblk m c 14 t) shapeCasts_S1x256_S1x256))
    (broadcast S384x256 (Scalar.ofBits .f32 0x3E38AA3B#32))

theorem fqChunk_apply (c : Dev nD) (t : Fin cfg0.N) (n : Fin 2) (r : Fin 384) (p : Fin 4) (j : Fin 64) :
    (fqChunk m c t n (ix2 r ⟨64 * p.val + j.val, by omega⟩) : EReal) =
      unit64 (fun i => z (argsOf m c) (seqOf t) (placeOf t r) ⟨672 + 64 * (4 * n.val + p.val) + i.val, by omega⟩)
        (argsOf m c).gfq j * Ideal.ofBits FTy.f32 0x3E38AA3B#32 := by
  show (chunkSeg (halfOf (fqT m c t) n) (mean64T m c t) (shapeCast S1x256 (iblk m c 14 t) shapeCasts_S1x256_S1x256)
    (ix2 r ⟨64 * p.val + j.val, by omega⟩) : EReal) * Ideal.ofBits FTy.f32 0x3E38AA3B#32 = _
  rw [chunkSeg_apply]
  refine congrArg (· * Ideal.ofBits FTy.f32 0x3E38AA3B#32) ?_
  refine head_unit (argsOf m c) (seqOf t) (placeOf t r) n 672 (by omega) _ _ _ _ (fun l => ?_) (fun l => ?_)
    (fun k l => mean64T_apply m c t k l) p j
  · refine (halfOf_apply _ n r l).trans ((fqT_apply m c t r _).trans ?_)
    exact congrArg (z _ _ _) (Fin.ext (by dsimp only; omega))
  · exact (whole_gain _ l).trans ((blk14_apply m c t 0 l).trans (gfq_apply m c l))

/-- A head's queries. -/
def fqPiece (c : Dev nD) (t : Fin cfg0.N) (n : Fin 8) : FVec Ideal S1x384x128 .bf16 :=
  headOf firstT (headLanes (fqChunk m c t ⟨n.val / 4, by omega⟩) ⟨n.val % 4, by omega⟩) onesT

theorem fqPiece_apply (c : Dev nD) (t : Fin cfg0.N) (n : Fin 8) (r : Fin 384) (l : Fin 128) :
    (fqPiece m c t n (ix3 0 r l) : EReal) =
      gatedQuery (argsOf m c) (seqOf t) (placeOf t r) ⟨128 * n.val + l.val, by omega⟩ := by
  have hn := n.isLt
  have hl := l.isLt
  have ed : (128 * n.val + l.val) / 128 = n.val := by omega
  have em : (128 * n.val + l.val) % 128 = l.val := by omega
  unfold fqPiece gatedQuery
  refine (headOf_apply _ _ _ first_apply r l).trans ?_
  by_cases h : l.val < 64
  · rw [if_pos h, headLanes_apply _ _ r l h, dif_pos (by dsimp only; omega)]
    refine (fqChunk_apply m c t ⟨n.val / 4, by omega⟩ r ⟨n.val % 4, by omega⟩ ⟨l.val, h⟩).trans ?_
    have e4 : 4 * (n.val / 4) + n.val % 4 = n.val := by omega
    simp only [e4, ed, em]
  · rw [if_neg h, dif_neg (by dsimp only; omega)]
    refine (ones_apply r l).trans ?_
    simp only [em]
    exact if_congr (by omega) rfl rfl

theorem fquery_out (c : Dev nD) (t : Fin cfg0.N) :
    (outsAt0 m c t.val t.isLt).2.2.2.1 = View.canon
      [⟨Rect.unit ![0, 0, 896] ![1, 384, 128] inb_S1x384x1024_S1x384x128_0_0_896, fqPiece m c t 7⟩,
        ⟨Rect.unit ![0, 0, 768] ![1, 384, 128] inb_S1x384x1024_S1x384x128_0_0_768, fqPiece m c t 6⟩,
        ⟨Rect.unit ![0, 0, 640] ![1, 384, 128] inb_S1x384x1024_S1x384x128_0_0_640, fqPiece m c t 5⟩,
        ⟨Rect.unit ![0, 0, 512] ![1, 384, 128] inb_S1x384x1024_S1x384x128_0_0_512, fqPiece m c t 4⟩,
        ⟨Rect.unit ![0, 0, 384] ![1, 384, 128] inb_S1x384x1024_S1x384x128_0_0_384, fqPiece m c t 3⟩,
        ⟨Rect.unit ![0, 0, 256] ![1, 384, 128] inb_S1x384x1024_S1x384x128_0_0_256, fqPiece m c t 2⟩,
        ⟨Rect.unit ![0, 0, 128] ![1, 384, 128] inb_S1x384x1024_S1x384x128_0_0_128, fqPiece m c t 1⟩,
        ⟨Rect.unit ![0, 0, 0] ![1, 384, 128] inb_S1x384x1024_S1x384x128_0_0_0, fqPiece m c t 0⟩] := by
  by_cases h0 : t.val % 11 = 0
  · rw [outsAt0_A m c t h0]; dsimp only; frame_out; rfl
  · rw [outsAt0_B m c t h0]; dsimp only; frame_out; rfl

theorem fquery_pt (c : Dev nD) (t : Fin cfg0.N) (r : Fin 384) (l : Fin 1024) :
    ((outsAt0 m c t.val t.isLt).2.2.2.1 (ix3 0 r l) : EReal) = gatedQuery (argsOf m c) (seqOf t) (placeOf t r) l := by
  rw [fquery_out]
  exact tile8_apply (fqPiece m c t) (gatedQuery (argsOf m c) (seqOf t) (placeOf t r)) r l fun n q => fqPiece_apply m c t n r q

/-! ## Values -/

theorem fvalue_out (c : Dev nD) (t : Fin cfg0.N) :
    (outsAt0 m c t.val t.isLt).2.2.2.2.2.1 = k0_pay90 (normed m c t) (cols m c t 1792 inb_S1024x2432_S1024x512_0_1792) := by
  by_cases h0 : t.val % 11 = 0
  · rw [outsAt0_A m c t h0]; dsimp only; frame_out; rfl
  · rw [outsAt0_B m c t h0]; dsimp only; frame_out; rfl

theorem fvalue_pt (c : Dev nD) (t : Fin cfg0.N) (l : Fin 512) (r : Fin 384) :
    ((outsAt0 m c t.val t.isLt).2.2.2.2.2.1 (ix3 0 l r) : EReal) = gatedValue (argsOf m c) (seqOf t) (placeOf t r) l := by
  rw [fvalue_out]
  refine (fv_apply _ _ l r).trans (product_eq m c t r _ _ fun k => ?_)
  refine (cols_apply m c t _ k l (by omega)).trans ((wide_high _ k _ (by dsimp only; omega) (by dsimp only; omega)).trans ?_)
  exact congrArg ((argsOf m c).w k) (Fin.ext (by dsimp only; omega))

end Cert.Kernel4Ideal.Odd
-- ==== Proof.Odd.OutG.lean ====
module

public import proofs.«01_k».proof.Proof.Odd.OutF

@[expose] public section

set_option maxRecDepth 16384

noncomputable section

/-! # The forgetting attention's keys a point leaves, and the running sums carried from point to point -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

/-! ## The gates' logarithms -/

abbrev gateCols (c : Dev nD) (t : Fin cfg0.N) : Vec Ideal S1024x128 .bf16 := cols m c t 2304 inb_S1024x2432_S1024x128_0_2304
abbrev validT (t : Fin cfg0.N) : IVec S384x128 1 := k0_pay51 (BitVec.ofNat 32 (grid0.coords t 1).val)
abbrev unusedT (t : Fin cfg0.N) : IVec S384x128 1 := k0_pay50 (BitVec.ofNat 32 (grid0.coords t 1).val)
abbrev overT (c : Dev nD) (t : Fin cfg0.N) : FVec Ideal S384x128 .f32 := k0_pay53 (normed m c t) (gateCols m c t) (iblk m c 16 t)
abbrev underT (c : Dev nD) (t : Fin cfg0.N) : FVec Ideal S384x128 .f32 := k0_pay54 (normed m c t) (gateCols m c t) (iblk m c 16 t)

theorem logs_ne_top (c : Dev nD) (t : Fin cfg0.N) (r : Fin 384) (l : Fin 128) :
    (logs (validT t) (overT m c t) (underT m c t) (ix2 r l) : EReal) ≠ ⊤ := by
  rw [logs_apply (validT t) (normed m c t) (gateCols m c t) (iblk m c 16 t)
    (fun r l => 112 ≤ (placeOf t r).val ∧ l.val < 8) (valid_pt t) r l]
  split
  · exact logGate_ne_top _
  · exact EReal.zero_ne_top

theorem logs_pt (c : Dev nD) (t : Fin cfg0.N) (r : Fin 384) (h : Fin 8) :
    (logs (validT t) (overT m c t) (underT m c t) (ix2 r (⟨h.val, by omega⟩ : Fin 128)) : EReal) =
      gate (argsOf m c) (seqOf t) (placeOf t r) h := by
  have hh := h.isLt
  rw [logs_apply (validT t) (normed m c t) (gateCols m c t) (iblk m c 16 t)
    (fun r l => 112 ≤ (placeOf t r).val ∧ l.val < 8) (valid_pt t) r ⟨h.val, by omega⟩]
  have eb : (iblk m c 16 t (ix2 0 (⟨h.val, by omega⟩ : Fin 128)) : EReal) = (argsOf m c).bf h :=
    (blk16_apply m c t 0 _).trans ((bf_apply m c _).trans (dif_pos hh))
  have ep := product_eq m c t r ⟨2208 + h.val, by omega⟩ (fun k => gateCols m c t (ix2 k (⟨h.val, by omega⟩ : Fin 128))) fun k =>
    (cols_apply m c t _ k _ (by dsimp only; omega)).trans
      ((wide_high _ k _ (by dsimp only; omega) (by dsimp only; omega)).trans
        (congrArg ((argsOf m c).w k) (Fin.ext (by dsimp only; omega))))
  unfold gate
  refine if_congr (by dsimp only; omega) (congrArg logGate ?_) rfl
  exact congrArg₂ (· + ·) ep eb

/-! ## The running sums -/

/-- What a point finds in scratch: the sums so far, or nothing at a sequence's first point. -/
def carry (c : Dev nD) (t : Fin cfg0.N) : Vec Ideal S1x128 .f32 :=
  if t.val % 11 = 0 then k0_pay2 (F := Ideal) else
    (outsAt0 m c (t.val - 1) (Nat.lt_of_le_of_lt (Nat.sub_le _ _) t.isLt)).2.2.2.2.2.2

theorem last_out (c : Dev nD) (t : Fin cfg0.N) :
    (outsAt0 m c t.val t.isLt).2.2.2.2.2.2 = k0_pay56 (validT t) (overT m c t) (underT m c t) (carry m c t) := by
  by_cases h0 : t.val % 11 = 0
  · rw [show carry m c t = k0_pay2 (F := Ideal) from if_pos h0, outsAt0_A m c t h0]; dsimp only; frame_out; rfl
  · rw [show carry m c t = _ from if_neg h0, outsAt0_B m c t h0]; dsimp only; frame_out
    simp only [read_unread_whole]; rfl

/-- A head's gates' logarithms along a sequence. -/
def gatesOf (c : Dev nD) (b : Fin 8) (h : Fin 8) (k : Fin 4224) : EReal := gate (argsOf m c) b k h

theorem sums_pt (c : Dev nD) (t : Fin cfg0.N) (r : Fin 384) (h : Fin 8)
    (hc : (carry m c t (ix2 0 (⟨h.val, by omega⟩ : Fin 128)) : EReal) = before (gatesOf m c (seqOf t) h) (t.val % 11)) :
    (k0_pay55 (validT t) (overT m c t) (underT m c t) (carry m c t) (ix2 r (⟨h.val, by omega⟩ : Fin 128)) : EReal) =
      upTo (gatesOf m c (seqOf t) h) (placeOf t r) := by
  rw [sums_stages, sums_apply _ _ r _ fun k => logs_ne_top m c t k _, hc]
  have e : ∀ k, (logs (validT t) (overT m c t) (underT m c t) (ix2 k (⟨h.val, by omega⟩ : Fin 128)) : EReal) =
      gatesOf m c (seqOf t) h (placeOf t k) := fun k => logs_pt m c t k h
  simp only [e]
  exact tile_sum (gatesOf m c (seqOf t) h) (t.val % 11) (Nat.mod_lt _ (by omega)) r

theorem carry_apply (c : Dev nD) (h : Fin 8) : ∀ (n : ℕ) (hn : n < cfg0.N),
    (carry m c ⟨n, hn⟩ (ix2 0 (⟨h.val, by omega⟩ : Fin 128)) : EReal) =
      before (gatesOf m c (seqOf ⟨n, hn⟩) h) (n % 11) := by
  intro n
  induction n with
  | zero =>
    intro hn
    rw [show carry m c ⟨0, hn⟩ = k0_pay2 (F := Ideal) from if_pos rfl]
    exact (start_apply _).trans (before_zero _).symm
  | succ n ih =>
    intro hn
    by_cases h0 : (n + 1) % 11 = 0
    · rw [show carry m c ⟨n + 1, hn⟩ = k0_pay2 (F := Ideal) from if_pos h0, h0]
      exact (start_apply _).trans (before_zero _).symm
    · have hn' : n < cfg0.N := Nat.lt_of_succ_lt hn
      have e : carry m c ⟨n + 1, hn⟩ = (outsAt0 m c n hn').2.2.2.2.2.2 := if_neg h0
      have es : seqOf ⟨n + 1, hn⟩ = seqOf ⟨n, hn'⟩ := Fin.ext (by simp only [seqOf]; omega)
      rw [e, last_out m c ⟨n, hn'⟩, last_apply]
      refine (sums_pt m c ⟨n, hn'⟩ ⟨383, by omega⟩ h (ih hn')).trans ?_
      rw [es, show (n + 1) % 11 = n % 11 + 1 by omega]
      exact before_next _ (n % 11) (by omega)

/-- The running sums of a point's rows. -/
theorem running (c : Dev nD) (t : Fin cfg0.N) (r : Fin 384) (h : Fin 8) :
    (k0_pay55 (validT t) (overT m c t) (underT m c t) (carry m c t) (ix2 r (⟨h.val, by omega⟩ : Fin 128)) : EReal) =
      upTo (fun k => gate (argsOf m c) (seqOf t) k h) (placeOf t r) :=
  sums_pt m c t r h (carry_apply m c h t.val t.isLt)

/-! ## The biases -/

abbrev biasT (c : Dev nD) (t : Fin cfg0.N) : FVec Ideal S384x1024 .f32 :=
  k0_pay57 (unusedT t) (validT t) (overT m c t) (underT m c t) (carry m c t) (iblk m c 19 t)

theorem biasT_apply (c : Dev nD) (t : Fin cfg0.N) (n : Fin 8) (r : Fin 384) (l : Fin 128) (hl : 64 ≤ l.val) :
    (biasT m c t (ix2 r (⟨128 * n.val + l.val, by omega⟩ : Fin 1024)) : EReal) =
      if h : l.val < 67 then parts (bias (argsOf m c) (seqOf t) (placeOf t r) n) ⟨l.val - 64, by omega⟩ else 0 := by
  have hn := n.isLt
  have hl' := l.isLt
  refine (bias_apply (unusedT t) (validT t) (overT m c t) (underT m c t) (carry m c t) (iblk m c 19 t)
    (fun r => (placeOf t r).val < 112) (unusedB_pt t) r _).trans ?_
  have hS : ∀ k : Fin 384, (iblk m c 19 t (ix2 k (⟨128 * n.val + l.val, by omega⟩ : Fin 1024)) : EReal) =
      if k.val % 128 < 8 ∧ (128 * n.val + l.val) % 128 = 64 + k.val / 128 ∧ (128 * n.val + l.val) / 128 = k.val % 128
      then (1 : EReal) else 0 := fun k => (blk19_apply m c t k _).trans (sel_apply m c k _)
  by_cases h : l.val < 67
  · rw [dif_pos h]
    refine (part_sum _ _ ⟨128 * n.val + l.val, by omega⟩ (by dsimp only; omega) hS).trans ?_
    have e1 : (128 * n.val + l.val) % 128 = l.val := by omega
    have e2 : (128 * n.val + l.val) / 128 = n.val := by omega
    have e3 : (128 * (l.val - 64) + n.val) % 128 = n.val := by omega
    have e4 : (128 * (l.val - 64) + n.val) / 128 = l.val - 64 := by omega
    simp only [e1, e2, e3, e4]
    refine congrArg (fun a => parts a _) ?_
    unfold bias
    rw [running]
    by_cases hp : (placeOf t r).val < 112
    · rw [if_pos hp, if_neg (by omega)]
    · rw [if_neg hp, if_pos (by omega)]
  · rw [dif_neg h]
    exact part_none _ _ ⟨128 * n.val + l.val, by omega⟩ (by dsimp only; omega) hS

/-! ## Keys -/

abbrev fkT (c : Dev nD) (t : Fin cfg0.N) : FVec Ideal S384x512 .f32 :=
  k0_pay61 (normed m c t) (cols m c t 1280 inb_S1024x2432_S1024x512_0_1280)

theorem fkT_apply (c : Dev nD) (t : Fin cfg0.N) (r : Fin 384) (l : Fin 512) :
    (fkT m c t (ix2 r l) : EReal) = z (argsOf m c) (seqOf t) (placeOf t r) ⟨1184 + l.val, by omega⟩ := by
  refine (fk_apply _ _ r l).trans (product_eq m c t r _ _ fun k => ?_)
  refine (cols_apply m c t _ k l (by omega)).trans ((wide_high _ k _ (by dsimp only; omega) (by dsimp only; omega)).trans ?_)
  exact congrArg ((argsOf m c).w k) (Fin.ext (by dsimp only; omega))

/-- A chunk of four heads' normalised keys. -/
def fkChunk (c : Dev nD) (t : Fin cfg0.N) (n : Fin 2) : FVec Ideal S384x256 .f32 :=
  chunkSeg (halfOf (fkT m c t) n) (mean64T m c t) (shapeCast S1x256 (iblk m c 15 t) shapeCasts_S1x256_S1x256)

theorem fkChunk_apply (c : Dev nD) (t : Fin cfg0.N) (n : Fin 2) (r : Fin 384) (p : Fin 4) (j : Fin 64) :
    (fkChunk m c t n (ix2 r ⟨64 * p.val + j.val, by omega⟩) : EReal) =
      unit64 (fun i => z (argsOf m c) (seqOf t) (placeOf t r) ⟨1184 + 64 * (4 * n.val + p.val) + i.val, by omega⟩)
        (argsOf m c).gfk j := by
  unfold fkChunk
  rw [chunkSeg_apply]
  refine head_unit (argsOf m c) (seqOf t) (placeOf t r) n 1184 (by omega) _ _ _ _ (fun l => ?_) (fun l => ?_)
    (fun k l => mean64T_apply m c t k l) p j
  · refine (halfOf_apply _ n r l).trans ((fkT_apply m c t r _).trans ?_)
    exact congrArg (z _ _ _) (Fin.ext (by dsimp only; omega))
  · exact (whole_gain _ l).trans ((blk15_apply m c t 0 l).trans (gfk_apply m c l))

/-- A head's lanes of the biases. -/
def biasLanes (x : FVec Ideal S384x1024 .f32) (n : Fin 8) : FVec Ideal S384x128 .f32 :=
  match n with
  | 0 => extractStridedSlice S384x128 ![0, 0] x slices_S384x1024_o0_0_S384x128
  | 1 => extractStridedSlice S384x128 ![0, 128] x slices_S384x1024_o0_128_S384x128
  | 2 => extractStridedSlice S384x128 ![0, 256] x slices_S384x1024_o0_256_S384x128
  | 3 => extractStridedSlice S384x128 ![0, 384] x slices_S384x1024_o0_384_S384x128
  | 4 => extractStridedSlice S384x128 ![0, 512] x slices_S384x1024_o0_512_S384x128
  | 5 => extractStridedSlice S384x128 ![0, 640] x slices_S384x1024_o0_640_S384x128
  | 6 => extractStridedSlice S384x128 ![0, 768] x slices_S384x1024_o0_768_S384x128
  | 7 => extractStridedSlice S384x128 ![0, 896] x slices_S384x1024_o0_896_S384x128

theorem biasLanes_apply (x : FVec Ideal S384x1024 .f32) (n : Fin 8) (r : Fin 384) (l : Fin 128) :
    biasLanes x n (ix2 r l) = x (ix2 r ⟨128 * n.val + l.val, by omega⟩) := by
  fin_cases n
  all_goals
    unfold biasLanes
    refine congrArg x (funext fun a => Fin.ext ?_)
    fin_cases a <;> simp

/-- A head's keys. -/
def fkPiece (c : Dev nD) (t : Fin cfg0.N) (n : Fin 8) : FVec Ideal S1x384x128 .bf16 :=
  headOf firstT (headLanes (fkChunk m c t ⟨n.val / 4, by omega⟩) ⟨n.val % 4, by omega⟩) (biasLanes (biasT m c t) n)

theorem fkPiece_apply (c : Dev nD) (t : Fin cfg0.N) (n : Fin 8) (r : Fin 384) (l : Fin 128) :
    (fkPiece m c t n (ix3 0 r l) : EReal) =
      gatedKey (argsOf m c) (seqOf t) (placeOf t r) ⟨128 * n.val + l.val, by omega⟩ := by
  have hn := n.isLt
  have hl := l.isLt
  have ed : (128 * n.val + l.val) / 128 = n.val := by omega
  have em : (128 * n.val + l.val) % 128 = l.val := by omega
  unfold fkPiece gatedKey
  refine (headOf_apply _ _ _ first_apply r l).trans ?_
  by_cases h : l.val < 64
  · rw [if_pos h, headLanes_apply _ _ r l h, dif_pos (by dsimp only; omega)]
    refine (fkChunk_apply m c t ⟨n.val / 4, by omega⟩ r ⟨n.val % 4, by omega⟩ ⟨l.val, h⟩).trans ?_
    have e4 : 4 * (n.val / 4) + n.val % 4 = n.val := by omega
    simp only [e4, ed, em]
  · rw [if_neg h, dif_neg (by dsimp only; omega)]
    refine (biasLanes_apply _ n r l).trans ((biasT_apply m c t n r l (by omega)).trans ?_)
    simp only [ed, em]

theorem fkey_out (c : Dev nD) (t : Fin cfg0.N) :
    (outsAt0 m c t.val t.isLt).2.2.2.2.1 = View.canon
      [⟨Rect.unit ![0, 0, 896] ![1, 384, 128] inb_S1x384x1024_S1x384x128_0_0_896, fkPiece m c t 7⟩,
        ⟨Rect.unit ![0, 0, 768] ![1, 384, 128] inb_S1x384x1024_S1x384x128_0_0_768, fkPiece m c t 6⟩,
        ⟨Rect.unit ![0, 0, 640] ![1, 384, 128] inb_S1x384x1024_S1x384x128_0_0_640, fkPiece m c t 5⟩,
        ⟨Rect.unit ![0, 0, 512] ![1, 384, 128] inb_S1x384x1024_S1x384x128_0_0_512, fkPiece m c t 4⟩,
        ⟨Rect.unit ![0, 0, 384] ![1, 384, 128] inb_S1x384x1024_S1x384x128_0_0_384, fkPiece m c t 3⟩,
        ⟨Rect.unit ![0, 0, 256] ![1, 384, 128] inb_S1x384x1024_S1x384x128_0_0_256, fkPiece m c t 2⟩,
        ⟨Rect.unit ![0, 0, 128] ![1, 384, 128] inb_S1x384x1024_S1x384x128_0_0_128, fkPiece m c t 1⟩,
        ⟨Rect.unit ![0, 0, 0] ![1, 384, 128] inb_S1x384x1024_S1x384x128_0_0_0, fkPiece m c t 0⟩] := by
  by_cases h0 : t.val % 11 = 0
  · unfold fkPiece biasT
    rw [show carry m c t = k0_pay2 (F := Ideal) from if_pos h0, outsAt0_A m c t h0]; dsimp only; frame_out; rfl
  · unfold fkPiece biasT
    rw [show carry m c t = _ from if_neg h0, outsAt0_B m c t h0]; dsimp only; frame_out
    simp only [read_unread_whole]; rfl

theorem fkey_pt (c : Dev nD) (t : Fin cfg0.N) (r : Fin 384) (l : Fin 1024) :
    ((outsAt0 m c t.val t.isLt).2.2.2.2.1 (ix3 0 r l) : EReal) = gatedKey (argsOf m c) (seqOf t) (placeOf t r) l := by
  rw [fkey_out]
  exact tile8_apply (fkPiece m c t) (gatedKey (argsOf m c) (seqOf t) (placeOf t r)) r l fun n q => fkPiece_apply m c t n r q

end Cert.Kernel4Ideal.Odd
-- ==== Proof.Odd.Arrs.lean ====
module

public import proofs.«01_k».proof.Proof.Odd.OutQ
public import proofs.«01_k».proof.Proof.Odd.OutK
public import proofs.«01_k».proof.Proof.Odd.OutG

@[expose] public section

set_option maxRecDepth 16384

noncomputable section

/-! # The six result arrays of the odd layer's input call -/

namespace Cert.Kernel4Ideal.Odd

open Cert.Kernel4Ideal Cert.Kernel4Ideal.Gen Cert.Mlp Cert.Odd
open Idealize.ShloMosaic Idealize.ShloMosaic.TcCoe

variable (m : (ℓ : Loc nD τ sig) → Buf (Elt Ideal) ℓ)

def queryArr (c : Dev nD) : Buf (Elt Ideal) ((c : Thread nD τ).loc main_v135_0) := fun x : S8x4224x1024.Idx =>
  latentQuery (argsOf m c) (x 0) (x 1) (x 2)

theorem query_eq (c : Dev nD) : (dats m 0 c).arrAt 20 cfg0.N = queryArr m c := by
  refine (dats m 0 c).arrAt_eq_of_covers 20 _ (by decide +kernel) fun t hf y => ?_
  blk_simp
  rw [after0_20]
  have e0 : ((win0_20.rect t).emb y 0 : ℕ) = t.val / 11 + (y 0).val := by
    rw [win0_20.rect_emb_val_off, index20]; simp [Pipeline.WinKind.off]
  have e1 : ((win0_20.rect t).emb y 1 : ℕ) = 384 * (t.val % 11) + (y 1).val := by
    rw [win0_20.rect_emb_val_off, index20]; simp [Pipeline.WinKind.off, Nat.mul_comm]
  have e2 : ((win0_20.rect t).emb y 2 : ℕ) = (y 2).val := by
    rw [win0_20.rect_emb_val_off, index20]; simp [Pipeline.WinKind.off, Nat.mul_comm]
  obtain ⟨r, l, rfl⟩ : ∃ (r : Fin 384) (l : Fin 1024), y = ix3 0 r l := ⟨y 1, y 2, by
    funext a
    fin_cases a
    · exact Subsingleton.elim (α := Fin 1) _ _
    · rfl
    · rfl⟩
  have h0 : (win0_20.blk t).view.emb (ix3 0 r l) 0 = seqOf t := Fin.ext e0
  have h1 : (win0_20.blk t).view.emb (ix3 0 r l) 1 = placeOf t r := Fin.ext e1
  have h2 : (win0_20.blk t).view.emb (ix3 0 r l) 2 = l := Fin.ext e2
  unfold queryArr
  simp only [h0, h1, h2]
  exact query_pt m c t r l

def keyArr (c : Dev nD) : Buf (Elt Ideal) ((c : Thread nD τ).loc main_v135_1) := fun x : S8x4224x1024.Idx =>
  latentKey (argsOf m c) (x 0) (x 1) (x 2)

theorem key_eq (c : Dev nD) : (dats m 0 c).arrAt 21 cfg0.N = keyArr m c := by
  refine (dats m 0 c).arrAt_eq_of_covers 21 _ (by decide +kernel) fun t hf y => ?_
  blk_simp
  rw [after0_21]
  have e0 : ((win0_21.rect t).emb y 0 : ℕ) = t.val / 11 + (y 0).val := by
    rw [win0_21.rect_emb_val_off, index21]; simp [Pipeline.WinKind.off]
  have e1 : ((win0_21.rect t).emb y 1 : ℕ) = 384 * (t.val % 11) + (y 1).val := by
    rw [win0_21.rect_emb_val_off, index21]; simp [Pipeline.WinKind.off, Nat.mul_comm]
  have e2 : ((win0_21.rect t).emb y 2 : ℕ) = (y 2).val := by
    rw [win0_21.rect_emb_val_off, index21]; simp [Pipeline.WinKind.off, Nat.mul_comm]
  obtain ⟨r, l, rfl⟩ : ∃ (r : Fin 384) (l : Fin 1024), y = ix3 0 r l := ⟨y 1, y 2, by
    funext a
    fin_cases a
    · exact Subsingleton.elim (α := Fin 1) _ _
    · rfl
    · rfl⟩
  have h0 : (win0_21.blk t).view.emb (ix3 0 r l) 0 = seqOf t := Fin.ext e0
  have h1 : (win0_21.blk t).view.emb (ix3 0 r l) 1 = placeOf t r := Fin.ext e1
  have h2 : (win0_21.blk t).view.emb (ix3 0 r l) 2 = l := Fin.ext e2
  unfold keyArr
  simp only [h0, h1, h2]
  exact key_pt m c t r l

def valueArr (c : Dev nD) : Buf (Elt Ideal) ((c : Thread nD τ).loc main_v135_2) := fun x : S8x512x4224.Idx =>
  latentValue (argsOf m c) (x 0) (x 2) (x 1)

theorem value_eq (c : Dev nD) : (dats m 0 c).arrAt 22 cfg0.N = valueArr m c := by
  refine (dats m 0 c).arrAt_eq_of_covers 22 _ (by decide +kernel) fun t hf y => ?_
  blk_simp
  rw [after0_22]
  have e0 : ((win0_22.rect t).emb y 0 : ℕ) = t.val / 11 + (y 0).val := by
    rw [win0_22.rect_emb_val_off, index22]; simp [Pipeline.WinKind.off]
  have e1 : ((win0_22.rect t).emb y 1 : ℕ) = (y 1).val := by
    rw [win0_22.rect_emb_val_off, index22]; simp [Pipeline.WinKind.off, Nat.mul_comm]
  have e2 : ((win0_22.rect t).emb y 2 : ℕ) = 384 * (t.val % 11) + (y 2).val := by
    rw [win0_22.rect_emb_val_off, index22]; simp [Pipeline.WinKind.off, Nat.mul_comm]
  obtain ⟨l, r, rfl⟩ : ∃ (l : Fin 512) (r : Fin 384), y = ix3 0 l r := ⟨y 1, y 2, by
    funext a
    fin_cases a
    · exact Subsingleton.elim (α := Fin 1) _ _
    · rfl
    · rfl⟩
  have h0 : (win0_22.blk t).view.emb (ix3 0 l r) 0 = seqOf t := Fin.ext e0
  have h1 : (win0_22.blk t).view.emb (ix3 0 l r) 1 = l := Fin.ext e1
  have h2 : (win0_22.blk t).view.emb (ix3 0 l r) 2 = placeOf t r := Fin.ext e2
  unfold valueArr
  simp only [h0, h1, h2]
  exact value_pt m c t l r

def fqueryArr (c : Dev nD) : Buf (Elt Ideal) ((c : Thread nD τ).loc main_v135_3) := fun x : S8x4224x1024.Idx =>
  gatedQuery (argsOf m c) (x 0) (x 1) (x 2)

theorem fquery_eq (c : Dev nD) : (dats m 0 c).arrAt 23 cfg0.N = fqueryArr m c := by
  refine (dats m 0 c).arrAt_eq_of_covers 23 _ (by decide +kernel) fun t hf y => ?_
  blk_simp
  rw [after0_23]
  have e0 : ((win0_23.rect t).emb y 0 : ℕ) = t.val / 11 + (y 0).val := by
    rw [win0_23.rect_emb_val_off, index23]; simp [Pipeline.WinKind.off]
  have e1 : ((win0_23.rect t).emb y 1 : ℕ) = 384 * (t.val % 11) + (y 1).val := by
    rw [win0_23.rect_emb_val_off, index23]; simp [Pipeline.WinKind.off, Nat.mul_comm]
  have e2 : ((win0_23.rect t).emb y 2 : ℕ) = (y 2).val := by
    rw [win0_23.rect_emb_val_off, index23]; simp [Pipeline.WinKind.off, Nat.mul_comm]
  obtain ⟨r, l, rfl⟩ : ∃ (r : Fin 384) (l : Fin 1024), y = ix3 0 r l := ⟨y 1, y 2, by
    funext a
    fin_cases a
    · exact Subsingleton.elim (α := Fin 1) _ _
    · rfl
    · rfl⟩
  have h0 : (win0_23.blk t).view.emb (ix3 0 r l) 0 = seqOf t := Fin.ext e0
  have h1 : (win0_23.blk t).view.emb (ix3 0 r l) 1 = placeOf t r := Fin.ext e1
  have h2 : (win0_23.blk t).view.emb (ix3 0 r l) 2 = l := Fin.ext e2
  unfold fqueryArr
  simp only [h0, h1, h2]
  exact fquery_pt m c t r l

def fkeyArr (c : Dev nD) : Buf (Elt Ideal) ((c : Thread nD τ).loc main_v135_4) := fun x : S8x4224x1024.Idx =>
  gatedKey (argsOf m c) (x 0) (x 1) (x 2)

theorem fkey_eq (c : Dev nD) : (dats m 0 c).arrAt 24 cfg0.N = fkeyArr m c := by
  refine (dats m 0 c).arrAt_eq_of_covers 24 _ (by decide +kernel) fun t hf y => ?_
  blk_simp
  rw [after0_24]
  have e0 : ((win0_24.rect t).emb y 0 : ℕ) = t.val / 11 + (y 0).val := by
    rw [win0_24.rect_emb_val_off, index24]; simp [Pipeline.WinKind.off]
  have e1 : ((win0_24.rect t).emb y 1 : ℕ) = 384 * (t.val % 11) + (y 1).val := by
    rw [win0_24.rect_emb_val_off, index24]; simp [Pipeline.WinKind.off, Nat.mul_comm]
  have e2 : ((win0_24.rect t).emb y 2 : ℕ) = (y 2).val := by
    rw [win0_24.rect_emb_val_off, index24]; simp [Pipeline.WinKind.off, Nat.mul_comm]
  obtain ⟨r, l, rfl⟩ : ∃ (r : Fin 384) (l : Fin 1024), y = ix3 0 r l := ⟨y 1, y 2, by
    funext a
    fin_cases a
    · exact Subsingleton.elim (α := Fin 1) _ _
    · rfl
    · rfl⟩
  have h0 : (win0_24.blk t).view.emb (ix3 0 r l) 0 = seqOf t := Fin.ext e0
  have h1 : (win0_24.blk t).view.emb (ix3 0 r l) 1 = placeOf t r := Fin.ext e1
  have h2 : (win0_24.blk t).view.emb (ix3 0 r l) 2 = l := Fin.ext e2
  unfold fkeyArr
  simp only [h0, h1, h2]
  exact fkey_pt m c t r l

def fvalueArr (c : Dev nD) : Buf (Elt Ideal) ((c : Thread nD τ).loc main_v135_5) := fun x : S8x512x4224.Idx =>
  gatedValue (argsOf m c) (x 0) (x 2) (x 1)

theorem fvalue_eq (c : Dev nD) : (dats m 0 c).arrAt 25 cfg0.N = fvalueArr m c := by
  refine (dats m 0 c).arrAt_eq_of_covers 25 _ (by decide +kernel) fun t hf y => ?_
  blk_simp
  rw [after0_25]
  have e0 : ((win0_25.rect t).emb y 0 : ℕ) = t.val / 11 + (y 0).val := by
    rw [win0_25.rect_emb_val_off, index25]; simp [Pipeline.WinKind.off]
  have e1 : ((win0_25.rect t).emb y 1 : ℕ) = (y 1).val := by
    rw [win0_25.rect_emb_val_off, index25]; simp [Pipeline.WinKind.off, Nat.mul_comm]
  have e2 : ((win0_25.rect t).emb y 2 : ℕ) = 384 * (t.val % 11) + (y 2).val := by
    rw [win0_25.rect_emb_val_off, index25]; simp [Pipeline.WinKind.off, Nat.mul_comm]
  obtain ⟨l, r, rfl⟩ : ∃ (l : Fin 512) (r : Fin 384), y = ix3 0 l r := ⟨y 1, y 2, by
    funext a
    fin_cases a
    · exact Subsingleton.elim (α := Fin 1) _ _
    · rfl
    · rfl⟩
  have h0 : (win0_25.blk t).view.emb (ix3 0 l r) 0 = seqOf t := Fin.ext e0
  have h1 : (win0_25.blk t).view.emb (ix3 0 l r) 1 = l := Fin.ext e1
  have h2 : (win0_25.blk t).view.emb (ix3 0 l r) 2 = placeOf t r := Fin.ext e2
  unfold fvalueArr
  simp only [h0, h1, h2]
  exact fvalue_pt m c t l r

end Cert.Kernel4Ideal.Odd
-- ==== Proof.Odd.Run.lean ====
module

public import proofs.«01_k».proof.Proof.Odd.Arrs

@[expose] public section

noncomputable section

/-! # The odd layer's input call, run

The run ends with the six result arrays and keeps its arguments. -/

namespace Cert.Kernel4Ideal.Odd

open Cert.Kernel4Ideal Cert.Kernel4Ideal.Gen Idealize.ShloMosaic Idealize.ShloMosaic.TcCoe Idealize.SL.Sem

variable (m : (ℓ : Loc nD τ sig) → Buf (Elt Ideal) ℓ) (g : Dev nD → PrngReg)

set_option maxHeartbeats 4000000 in
/-- The six result arrays, and the fifteen arguments kept. -/
theorem run_results : θ_run defs (onTc (τ := τ) (main (F := Ideal))) ⟨m, fun _ => 0, g⟩ fun r => ∀ c : Dev nD,
      (r.2.mem ((c.tc : Thread nD τ).loc main_v135_0) = queryArr m c
      ∧ r.2.mem ((c.tc : Thread nD τ).loc main_v135_1) = keyArr m c
      ∧ r.2.mem ((c.tc : Thread nD τ).loc main_v135_2) = valueArr m c
      ∧ r.2.mem ((c.tc : Thread nD τ).loc main_v135_3) = fqueryArr m c
      ∧ r.2.mem ((c.tc : Thread nD τ).loc main_v135_4) = fkeyArr m c
      ∧ r.2.mem ((c.tc : Thread nD τ).loc main_v135_5) = fvalueArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run defs _ _).mono (fun r h c => ?_) (run_main m g)
  obtain ⟨ha, hk⟩ := h c
  exact ⟨(ha 20).trans (query_eq m c), (ha 21).trans (key_eq m c), (ha 22).trans (value_eq m c), (ha 23).trans (fquery_eq m c), (ha 24).trans (fkey_eq m c), (ha 25).trans (fvalue_eq m c),
    (hk main_arg0 (Pipeline.mem_restRefs_of main_arg0 (by decide) (by decide))).trans (V_main_arg0 m c),
    (hk main_arg1 (Pipeline.mem_restRefs_of main_arg1 (by decide) (by decide))).trans (V_main_arg1 m c),
    (hk main_arg2 (Pipeline.mem_restRefs_of main_arg2 (by decide) (by decide))).trans (V_main_arg2 m c),
    (hk main_arg3 (Pipeline.mem_restRefs_of main_arg3 (by decide) (by decide))).trans (V_main_arg3 m c),
    (hk main_arg4 (Pipeline.mem_restRefs_of main_arg4 (by decide) (by decide))).trans (V_main_arg4 m c),
    (hk main_arg5 (Pipeline.mem_restRefs_of main_arg5 (by decide) (by decide))).trans (V_main_arg5 m c),
    (hk main_arg6 (Pipeline.mem_restRefs_of main_arg6 (by decide) (by decide))).trans (V_main_arg6 m c),
    (hk main_arg7 (Pipeline.mem_restRefs_of main_arg7 (by decide) (by decide))).trans (V_main_arg7 m c),
    (hk main_arg8 (Pipeline.mem_restRefs_of main_arg8 (by decide) (by decide))).trans (V_main_arg8 m c),
    (hk main_arg9 (Pipeline.mem_restRefs_of main_arg9 (by decide) (by decide))).trans (V_main_arg9 m c),
    (hk main_arg10 (Pipeline.mem_restRefs_of main_arg10 (by decide) (by decide))).trans (V_main_arg10 m c),
    (hk main_arg11 (Pipeline.mem_restRefs_of main_arg11 (by decide) (by decide))).trans (V_main_arg11 m c),
    (hk main_arg12 (Pipeline.mem_restRefs_of main_arg12 (by decide) (by decide))).trans (V_main_arg12 m c),
    (hk main_arg13 (Pipeline.mem_restRefs_of main_arg13 (by decide) (by decide))).trans (V_main_arg13 m c),
    (hk main_arg14 (Pipeline.mem_restRefs_of main_arg14 (by decide) (by decide))).trans (V_main_arg14 m c)⟩

end Cert.Kernel4Ideal.Odd
-- ==== Proof.Odd.InRef.lean ====
module

public import proofs.«01_k».proof.Proof.Gen.Reference4Ideal.Run
public import proofs.«01_k».proof.Proof.Odd.Rows
public import Idealize.ShloMosaic.Lib.Tactic.CleanTypes

@[expose] public section

set_option maxRecDepth 16384

noncomputable section

/-! # What the odd layer's input reference computes, element by element -/

namespace Cert.Reference4Ideal.Odd

open Cert.Reference4Ideal Cert.Reference4Ideal.Gen Cert.Reference4Ideal.Value Cert.Mlp Cert.Odd Idealize.ShloMosaic

variable (V0 : Valuation τ sig (Elt Ideal))

/-- The arguments, read from the launch's contents. -/
def args : Args where
  h r k := V0 (Proc.devRef .tc main_arg0) (ix2 r k)
  pos b s := V0 (Proc.devRef .tc main_arg1) (ix2 b s)
  ln k := V0 (Proc.devRef .tc main_arg2) (ix2 0 k)
  w k j := V0 (Proc.devRef .tc main_arg3) (ix3 0 k j)
  bf j := V0 (Proc.devRef .tc main_arg4) (ix2 0 j)
  gqa j := V0 (Proc.devRef .tc main_arg5) (ix2 0 j)
  gkva j := V0 (Proc.devRef .tc main_arg6) (ix2 0 j)
  wuq k j := V0 (Proc.devRef .tc main_arg7) (ix3 0 k j)
  wukv k j := V0 (Proc.devRef .tc main_arg8) (ix3 0 k j)
  gqn j := V0 (Proc.devRef .tc main_arg9) (ix2 0 j)
  gqr j := V0 (Proc.devRef .tc main_arg10) (ix2 0 j)
  gkn j := V0 (Proc.devRef .tc main_arg11) (ix2 0 j)
  gkr j := V0 (Proc.devRef .tc main_arg12) (ix2 0 j)
  gfq j := V0 (Proc.devRef .tc main_arg13) (ix2 0 j)
  gfk j := V0 (Proc.devRef .tc main_arg14) (ix2 0 j)

theorem rows_apply (b : Fin 8) (s : Fin 4224) (k : Fin 1024) :
    (res_main_v0 V0 (ix3 b s k) : EReal) = (args V0).h ⟨b.val * 4224 + s.val, by omega⟩ k := by
  pointwise [res_main_v0]
  rfl

theorem z_apply (b : Fin 8) (s : Fin 4224) (j : Fin 2216) :
    (res_main_v27 V0 (ix3 b s j) : EReal) = z (args V0) b s j := by
  pointwise [res_main_v27]
  simp only [rows_apply]
  rfl

theorem q_apply (b : Fin 8) (s : Fin 4224) (h : Fin 8) (j : Fin 96) :
    (res_main_v51 V0 (ix4 b s h j) : EReal) = qAll (args V0) b s ⟨96 * h.val + j.val, by omega⟩ := by
  pointwise [res_main_v51, res_main_v28]
  simp only [z_apply, Nat.mul_comm h.val]
  rfl

theorem kv_apply (b : Fin 8) (s : Fin 4224) (h : Fin 8) (j : Fin 128) :
    (res_main_v68 V0 (ix4 b s h j) : EReal) = kvAll (args V0) b s ⟨128 * h.val + j.val, by omega⟩ := by
  pointwise [res_main_v68, res_main_v29]
  simp only [z_apply, Nat.mul_comm h.val]
  rfl

end Cert.Reference4Ideal.Odd
-- ==== Proof.Odd.InRef2.lean ====
module

public import proofs.«01_k».proof.Proof.Odd.InRef

@[expose] public section

set_option maxRecDepth 16384

noncomputable section

/-! # The six results of the odd layer's input reference, element by element -/

namespace Cert.Reference4Ideal.Odd

open Cert.Reference4Ideal Cert.Reference4Ideal.Gen Cert.Reference4Ideal.Value Cert.Mlp Cert.Odd Idealize.ShloMosaic

variable (V0 : Valuation τ sig (Elt Ideal))

def valueRef : FVec Ideal S8x512x4224 .bf16 :=
  truncf .bf16 (transpose S8x512x4224 [0, 2, 1] (shapeCast _ (extractStridedSlice S8x4224x8x64 ![0, 0, 0, 64] (res_main_v68 V0) slices_S8x4224x8x128_S8x4224x8x64_0_0_0_64) shapeCasts_S8x4224x8x64_S8x4224x512) transposes_S8x4224x512_S8x512x4224_0_2_1) bitsLt_bf16_f32

def fvalueRef : FVec Ideal S8x512x4224 .bf16 :=
  truncf .bf16 (transpose S8x512x4224 [0, 2, 1] (extractStridedSlice S8x4224x512 ![0, 0, 1696] (res_main_v27 V0) slices_S8x4224x2216_S8x4224x512_0_0_1696) transposes_S8x4224x512_S8x512x4224_0_2_1) bitsLt_bf16_f32

theorem value_apply (b : Fin 8) (e : Fin 512) (s : Fin 4224) :
    (valueRef V0 (ix3 b e s) : EReal) = latentValue (args V0) b s e := by
  pointwise [valueRef]
  rw [kv_apply]
  unfold latentValue
  exact congrArg (kvAll (args V0) b s) (Fin.ext (by dsimp only; omega))

theorem fvalue_apply (b : Fin 8) (e : Fin 512) (s : Fin 4224) :
    (fvalueRef V0 (ix3 b e s) : EReal) = gatedValue (args V0) b s e := by
  pointwise [fvalueRef]
  rw [z_apply]
  rfl

theorem from112 : ∀ s : Fin 4224, IntOp.cmpi CmpIPredicate.sge (BitVec.ofNat 32 s.val) 112#32 = if 112 ≤ s.val then 1#1 else 0#1 := by
  decide +kernel

theorem valid_mask (s : Fin 4224) : res_main_v11 V0 (ix4 0 s 0 0) = if 112 ≤ s.val then 1#1 else 0#1 := by
  pointwise [res_main_v11]
  exact from112 s

theorem place_apply (b : Fin 8) (s : Fin 4224) : res_main_v7 V0 (ix2 b s) = place ((args V0).pos b) s := by
  pointwise [res_main_v7]
  have hs := s.isLt
  unfold place
  by_cases h1 : s.val < 112
  · rw [dif_pos h1, dif_pos h1]
  · rw [dif_neg h1, dif_neg h1]
    by_cases h2 : s.val < 128
    · rw [dif_pos (by omega), dif_pos h2]
    · rw [dif_neg (by omega), dif_neg h2]
      exact congrArg (fun i : Fin 4096 => IntOp.addi (V0 (Proc.devRef .tc main_arg1) (ix2 b i)) 16#32)
        (Fin.ext (by dsimp only; omega))

theorem angle_apply (b : Fin 8) (s : Fin 4224) (i : Fin 16) :
    (res_main_v95 V0 (ix4 b s 0 i) : EReal) = angles (place ((args V0).pos b) s) i := by
  pointwise [res_main_v95]
  rw [place_apply]
  rfl

theorem turned_apply (b : Fin 8) (s : Fin 4224) (h : Fin 8) (j : Fin 32) : (res_main_v83 V0 (ix4 b s h j) : EReal) =
    unit32 (fun i => qAll (args V0) b s ⟨96 * h.val + 64 + i.val, by omega⟩) (args V0).gqr j := by
  pointwise [res_main_v83, res_main_v69]
  simp only [q_apply, ← Nat.add_assoc]
  rfl

theorem shared_apply (b : Fin 8) (s : Fin 4224) (j : Fin 32) : (res_main_v125 V0 (ix4 b s 0 j) : EReal) =
    unit32 (fun i => z (args V0) b s ⟨640 + i.val, by omega⟩) (args V0).gkr j := by
  pointwise [res_main_v125, res_main_v30]
  simp only [z_apply]
  rfl

theorem open_apply (b : Fin 8) (s : Fin 4224) (h : Fin 8) : (res_main_v228 V0 (ix3 b s h) : EReal) =
    z (args V0) b s ⟨2208 + h.val, by omega⟩ + (args V0).bf h := by
  pointwise [res_main_v228]
  rw [z_apply]
  rfl

end Cert.Reference4Ideal.Odd
-- ==== Proof.Odd.InRef3.lean ====
module

public import proofs.«01_k».proof.Proof.Odd.InRef2

@[expose] public section

set_option maxRecDepth 16384

noncomputable section

/-! # The six results of the odd layer's input reference, element by element -/

namespace Cert.Reference4Ideal.Odd

open Cert.Reference4Ideal Cert.Reference4Ideal.Gen Cert.Reference4Ideal.Value Cert.Mlp Cert.Odd Idealize.ShloMosaic

variable (V0 : Valuation τ sig (Elt Ideal))

theorem pick {α : Type} (c : BitVec 1) (P : Prop) [Decidable P] (h : c = if P then 1#1 else 0#1) (a b : α) :
    Scalar.select c a b = if P then a else b := by
  by_cases p : P
  · rw [h, if_pos p, if_pos p]; rfl
  · rw [h, if_neg p, if_neg p]; rfl

theorem later (a b : Fin 4224) : IntOp.cmpi .sge (IntOp.addi (BitVec.ofNat 32 a.val) 0#32) (BitVec.ofNat 32 b.val) =
    if b.val ≤ a.val then 1#1 else 0#1 := by
  have ia : (BitVec.ofNat 32 a.val).toInt = a.val := by
    rw [BitVec.toInt_eq_toNat_of_lt] <;> simp [BitVec.toNat_ofNat] <;> omega
  have ib : (BitVec.ofNat 32 b.val).toInt = b.val := by
    rw [BitVec.toInt_eq_toNat_of_lt] <;> simp [BitVec.toNat_ofNat] <;> omega
  rw [show IntOp.addi (BitVec.ofNat 32 a.val) 0#32 = BitVec.ofNat 32 a.val from BitVec.add_zero _]
  by_cases h : b.val ≤ a.val <;> simp [IntOp.cmpi, BitVec.sle, ia, ib, h]

/-- The reference's bias at a place is the running sum of the gates' logarithms, scaled. -/
theorem bias_apply (b : Fin 8) (s : Fin 4224) (h : Fin 8) : (res_main_v246 V0 (ix4 b s h 0) : EReal) = bias (args V0) b s h := by
  pointwise [res_main_v246]
  refine (pick _ _ (valid_mask V0 s) _ _).trans ?_
  unfold bias upTo gate
  refine if_congr Iff.rfl (congrArg (fun a : EReal => a * Ideal.ofBits FTy.f32 0xBFB8AA3B#32) (Finset.sum_congr rfl fun x _ => ?_)) rfl
  refine (pick _ _ (later s x) _ _).trans (if_congr Iff.rfl ?_ rfl)
  refine (pick _ _ (valid_mask V0 x) _ _).trans (if_congr Iff.rfl ?_ ?_)
  · rw [open_apply]
    rfl
  · show (Ideal.ofBits FTy.f32 0#32 : EReal) = 0
    simp [Ideal.ofBits, Ideal.ieee]

end Cert.Reference4Ideal.Odd
-- ==== Proof.Odd.InRef4.lean ====
module

public import proofs.«01_k».proof.Proof.Odd.InRef

@[expose] public section

set_option maxRecDepth 16384

noncomputable section

/-! # The six results of the odd layer's input reference, element by element -/

namespace Cert.Reference4Ideal.Odd

open Cert.Reference4Ideal Cert.Reference4Ideal.Gen Cert.Reference4Ideal.Value Cert.Mlp Cert.Odd Idealize.ShloMosaic

variable (V0 : Valuation τ sig (Elt Ideal))

/-- Eight heads of 128 lanes, side by side. -/
def joined (X : FVec Ideal S8x4224x8x128 .f32) : FVec Ideal S8x4224x1024 .bf16 :=
  truncf .bf16 (shapeCast _ X shapeCasts_S8x4224x8x128_S8x4224x1024) bitsLt_bf16_f32

theorem joined_apply (X : FVec Ideal S8x4224x8x128 .f32) (b : Fin 8) (s : Fin 4224) (l : Fin 1024) :
    (joined X (ix3 b s l) : EReal) = X (ix4 b s ⟨l.val / 128, by omega⟩ ⟨l.val % 128, by omega⟩) := by
  pointwise [joined]

/-- A head's 64 features, normalised and scaled. -/
def normed64 (X : FVec Ideal S8x4224x8x64 .f32) (g : FVec Ideal S1x64 .f32) : FVec Ideal S8x4224x8x64 .f32 :=
  mulf (mulf X (broadcastInDim S8x4224x8x64 ![0, 1, 2, 3] bcast_S8x4224x8x1_S8x4224x8x64_0_1_2_3 (Host.rsqrt (addf (Host.divf (broadcastInDim S8x4224x8x1 ![0, 1, 2] bcast_S8x4224x8_S8x4224x8x1_0_1_2 (Host.reduceAdd (mulf X X) (constant S_ .f32 0x00000000#32) reducesTo_S8x4224x8x64_S8x4224x8_d3 h_S_)) (broadcastInDim S8x4224x8x1 ![] bcast_S_S8x4224x8x1 (constant S_ .f32 0x42800000#32))) (broadcastInDim S8x4224x8x1 ![] bcast_S_S8x4224x8x1 (constant S_ .f32 0x358637BD#32)))))) (broadcastInDim S8x4224x8x64 ![0, 1, 2, 3] bcast_S1x1x1x64_S8x4224x8x64_0_1_2_3 (broadcastInDim S1x1x1x64 ![3] bcast_S64_S1x1x1x64_3 (shapeCast _ g shapeCasts_S1x64_S64)))

theorem normed64_apply (X : FVec Ideal S8x4224x8x64 .f32) (g : FVec Ideal S1x64 .f32) (b : Fin 8) (s : Fin 4224) (h : Fin 8)
    (j : Fin 64) : (normed64 X g (ix4 b s h j) : EReal) = unit64 (fun i => X (ix4 b s h i)) (fun i => g (ix2 0 i)) j := by
  pointwise [normed64]
  rfl

/-- A head's lanes of the forgetting attention's queries. -/
def fqCat (A : FVec Ideal S8x4224x8x64 .f32) : FVec Ideal S8x4224x8x128 .f32 :=
  ((concatenate S8x4224x8x128 3 [⟨S8x4224x8x64, ((mulf A (broadcastInDim S8x4224x8x64 ![] bcast_S_S8x4224x8x64 (constant S_ .f32 0x3E38AA3B#32))) : FVec Ideal S8x4224x8x64 .f32)⟩, ⟨S8x4224x8x3, ((broadcastInDim S8x4224x8x3 ![] bcast_S_S8x4224x8x3 (constant S_ .f32 0x3F800000#32)) : FVec Ideal S8x4224x8x3 .f32)⟩, ⟨S8x4224x8x61, ((broadcastInDim S8x4224x8x61 ![] bcast_S_S8x4224x8x61 (constant S_ .f32 0x00000000#32)) : FVec Ideal S8x4224x8x61 .f32)⟩] concatenates_S8x4224x8x64_S8x4224x8x3_S8x4224x8x61_S8x4224x8x128_d3 : FVec Ideal S8x4224x8x128 .f32))

/-- A head's lanes of the forgetting attention's keys. -/
def fkCat (A : FVec Ideal S8x4224x8x64 .f32) (M Q P : FVec Ideal S8x4224x8x1 .f32) : FVec Ideal S8x4224x8x128 .f32 :=
  ((concatenate S8x4224x8x128 3 [⟨S8x4224x8x64, (A : FVec Ideal S8x4224x8x64 .f32)⟩, ⟨S8x4224x8x1, (M : FVec Ideal S8x4224x8x1 .f32)⟩, ⟨S8x4224x8x1, (Q : FVec Ideal S8x4224x8x1 .f32)⟩, ⟨S8x4224x8x1, (P : FVec Ideal S8x4224x8x1 .f32)⟩, ⟨S8x4224x8x61, ((broadcastInDim S8x4224x8x61 ![] bcast_S_S8x4224x8x61 (constant S_ .f32 0x00000000#32)) : FVec Ideal S8x4224x8x61 .f32)⟩] concatenates_S8x4224x8x64_S8x4224x8x1_S8x4224x8x1_S8x4224x8x1_S8x4224x8x61_S8x4224x8x128_d3 : FVec Ideal S8x4224x8x128 .f32))

/-- A head's 32 features turned. -/
def turned8 (X Y : FVec Ideal S8x4224x8x16 .f32) (C S : FVec Ideal S8x4224x1x16 .f32) : FVec Ideal S8x4224x8x32 .f32 :=
  concatenate S8x4224x8x32 3 [⟨S8x4224x8x16, (subf (mulf X (broadcastInDim S8x4224x8x16 ![0, 1, 2, 3] bcast_S8x4224x1x16_S8x4224x8x16_0_1_2_3 C)) (mulf Y (broadcastInDim S8x4224x8x16 ![0, 1, 2, 3] bcast_S8x4224x1x16_S8x4224x8x16_0_1_2_3 S)))⟩, ⟨S8x4224x8x16, (addf (mulf X (broadcastInDim S8x4224x8x16 ![0, 1, 2, 3] bcast_S8x4224x1x16_S8x4224x8x16_0_1_2_3 S)) (mulf Y (broadcastInDim S8x4224x8x16 ![0, 1, 2, 3] bcast_S8x4224x1x16_S8x4224x8x16_0_1_2_3 C)))⟩] concatenates_S8x4224x8x16_S8x4224x8x16_S8x4224x8x32_d3

/-- A head's lanes of the latent attention's queries. -/
def lqCat (A : FVec Ideal S8x4224x8x64 .f32) (B : FVec Ideal S8x4224x8x32 .f32) : FVec Ideal S8x4224x8x128 .f32 :=
  ((concatenate S8x4224x8x128 3 [⟨S8x4224x8x96, ((mulf (concatenate S8x4224x8x96 3 [⟨S8x4224x8x64, A⟩, ⟨S8x4224x8x32, B⟩] concatenates_S8x4224x8x64_S8x4224x8x32_S8x4224x8x96_d3) (broadcastInDim S8x4224x8x96 ![] bcast_S_S8x4224x8x96 (constant S_ .f32 0x3E16C740#32))) : FVec Ideal S8x4224x8x96 .f32)⟩, ⟨S8x4224x8x1, ((broadcastInDim S8x4224x8x1 ![] bcast_S_S8x4224x8x1 (constant S_ .f32 0x3F800000#32)) : FVec Ideal S8x4224x8x1 .f32)⟩, ⟨S8x4224x8x31, ((broadcastInDim S8x4224x8x31 ![] bcast_S_S8x4224x8x31 (constant S_ .f32 0x00000000#32)) : FVec Ideal S8x4224x8x31 .f32)⟩] concatenates_S8x4224x8x96_S8x4224x8x1_S8x4224x8x31_S8x4224x8x128_d3 : FVec Ideal S8x4224x8x128 .f32))

/-- The shared 32 features turned. -/
def turned1 (X Y C S : FVec Ideal S8x4224x1x16 .f32) : FVec Ideal S8x4224x1x32 .f32 :=
  concatenate S8x4224x1x32 3 [⟨S8x4224x1x16, (subf (mulf X C) (mulf Y S))⟩, ⟨S8x4224x1x16, (addf (mulf X S) (mulf Y C))⟩] concatenates_S8x4224x1x16_S8x4224x1x16_S8x4224x1x32_d3

/-- A head's lanes of the latent attention's keys. -/
def lkCat (A : FVec Ideal S8x4224x8x64 .f32) (B : FVec Ideal S8x4224x1x32 .f32) (W : IVec S1x4224x1x1 1) : FVec Ideal S8x4224x8x128 .f32 :=
  ((concatenate S8x4224x8x128 3 [⟨S8x4224x8x96, ((concatenate S8x4224x8x96 3 [⟨S8x4224x8x64, A⟩, ⟨S8x4224x8x32, (broadcastInDim S8x4224x8x32 ![0, 1, 2, 3] bcast_S8x4224x1x32_S8x4224x8x32_0_1_2_3 B)⟩] concatenates_S8x4224x8x64_S8x4224x8x32_S8x4224x8x96_d3) : FVec Ideal S8x4224x8x96 .f32)⟩, ⟨S8x4224x8x1, (((broadcastInDim S8x4224x8x1 ![0, 1, 2, 3] bcast_S1x4224x1x1_S8x4224x8x1_0_1_2_3 (select W (broadcastInDim S1x4224x1x1 ![] bcast_S_S1x4224x1x1 (constant S_ .f32 0x00000000#32)) (broadcastInDim S1x4224x1x1 ![] bcast_S_S1x4224x1x1 (constant S_ .f32 0xF149F2CA#32))))) : FVec Ideal S8x4224x8x1 .f32)⟩, ⟨S8x4224x8x31, ((broadcastInDim S8x4224x8x31 ![] bcast_S_S8x4224x8x31 (constant S_ .f32 0x00000000#32)) : FVec Ideal S8x4224x8x31 .f32)⟩] concatenates_S8x4224x8x96_S8x4224x8x1_S8x4224x8x31_S8x4224x8x128_d3 : FVec Ideal S8x4224x8x128 .f32))

theorem fqCat_apply (A : FVec Ideal S8x4224x8x64 .f32) (b : Fin 8) (s : Fin 4224) (h : Fin 8) (j : Fin 128) : (fqCat A (ix4 b s h j) : EReal) =
    if h' : j.val < 64 then A (ix4 b s h ⟨j.val, h'⟩) * Ideal.ofBits FTy.f32 0x3E38AA3B#32 else if j.val < 67 then 1 else 0 := by
  pointwise [fqCat]
  split_ifs <;> first | rfl | omega

theorem fkCat_apply (A : FVec Ideal S8x4224x8x64 .f32) (M Q P : FVec Ideal S8x4224x8x1 .f32) (b : Fin 8) (s : Fin 4224) (h : Fin 8) (j : Fin 128) :
    (fkCat A M Q P (ix4 b s h j) : EReal) = if h' : j.val < 64 then A (ix4 b s h ⟨j.val, h'⟩) else if j.val < 67 then
      (if j.val - 64 = 0 then M (ix4 b s h 0) else if j.val - 64 = 1 then Q (ix4 b s h 0) else P (ix4 b s h 0)) else 0 := by
  pointwise [fkCat]
  have hj := j.isLt
  by_cases h0 : j.val < 64
  · rw [dif_pos h0, dif_pos h0]
  rw [dif_neg h0, dif_neg h0]
  by_cases h1 : j.val = 64
  · rw [dif_pos (show j.val - 64 < 1 by omega), if_pos (show j.val < 67 by omega), if_pos (show j.val - 64 = 0 by omega)]
    exact congrArg (fun i : Fin 1 => M (ix4 b s h i)) (Subsingleton.elim _ _)
  rw [dif_neg (show ¬ j.val - 64 < 1 by omega)]
  by_cases h2 : j.val = 65
  · rw [dif_pos (show j.val - 64 - 1 < 1 by omega), if_pos (show j.val < 67 by omega), if_neg (show ¬ j.val - 64 = 0 by omega),
      if_pos (show j.val - 64 = 1 by omega)]
    exact congrArg (fun i : Fin 1 => Q (ix4 b s h i)) (Subsingleton.elim _ _)
  rw [dif_neg (show ¬ j.val - 64 - 1 < 1 by omega)]
  by_cases h3 : j.val = 66
  · rw [dif_pos (show j.val - 64 - 1 - 1 < 1 by omega), if_pos (show j.val < 67 by omega), if_neg (show ¬ j.val - 64 = 0 by omega),
      if_neg (show ¬ j.val - 64 = 1 by omega)]
    exact congrArg (fun i : Fin 1 => P (ix4 b s h i)) (Subsingleton.elim _ _)
  rw [dif_neg (show ¬ j.val - 64 - 1 - 1 < 1 by omega), if_neg (show ¬ j.val < 67 by omega)]

theorem lqCat_apply (A : FVec Ideal S8x4224x8x64 .f32) (B : FVec Ideal S8x4224x8x32 .f32) (b : Fin 8) (s : Fin 4224) (h : Fin 8) (j : Fin 128) :
    (lqCat A B (ix4 b s h j) : EReal) = if h' : j.val < 64 then A (ix4 b s h ⟨j.val, h'⟩) * Ideal.ofBits FTy.f32 0x3E16C740#32
      else if h' : j.val < 96 then B (ix4 b s h ⟨j.val - 64, by omega⟩) * Ideal.ofBits FTy.f32 0x3E16C740#32
      else if j.val < 97 then 1 else 0 := by
  pointwise [lqCat]
  split_ifs <;> first | rfl | omega

theorem lkCat_apply (A : FVec Ideal S8x4224x8x64 .f32) (B : FVec Ideal S8x4224x1x32 .f32) (W : IVec S1x4224x1x1 1) (b : Fin 8) (s : Fin 4224) (h : Fin 8) (j : Fin 128) :
    (lkCat A B W (ix4 b s h j) : EReal) = if h' : j.val < 64 then A (ix4 b s h ⟨j.val, h'⟩)
      else if h' : j.val < 96 then B (ix4 b s 0 ⟨j.val - 64, by omega⟩)
      else if j.val < 97 then (Scalar.select (W (ix4 0 s 0 0)) (0 : EReal) (Ideal.ofBits FTy.f32 0xF149F2CA#32)) else 0 := by
  pointwise [lkCat]
  split_ifs <;> first | rfl | omega

theorem turned8_apply (X Y : FVec Ideal S8x4224x8x16 .f32) (C S : FVec Ideal S8x4224x1x16 .f32) (b : Fin 8) (s : Fin 4224) (h : Fin 8) (y : Fin 32 → EReal)
    (a : Fin 16 → EReal) (hX : ∀ i : Fin 16, (X (ix4 b s h i) : EReal) = y ⟨i.val, by omega⟩)
    (hY : ∀ i : Fin 16, (Y (ix4 b s h i) : EReal) = y ⟨i.val + 16, by omega⟩)
    (hC : ∀ i : Fin 16, (C (ix4 b s 0 i) : EReal) = Ideal.cos (a i)) (hS : ∀ i : Fin 16, (S (ix4 b s 0 i) : EReal) = Ideal.sin (a i))
    (j : Fin 32) : (turned8 X Y C S (ix4 b s h j) : EReal) = rope a y j := by
  pointwise [turned8]
  unfold rope
  by_cases h1 : j.val < 16
  · rw [dif_pos h1, dif_pos h1, hX, hY, hC, hS]
  · rw [dif_neg h1, dif_neg h1, hX, hY, hC, hS]
    have e : (⟨(⟨j.val - 16, by omega⟩ : Fin 16).val + 16, by dsimp only; omega⟩ : Fin 32) = j := Fin.ext (by dsimp only; omega)
    rw [e]

theorem turned1_apply (X Y C S : FVec Ideal S8x4224x1x16 .f32) (b : Fin 8) (s : Fin 4224) (y : Fin 32 → EReal)
    (a : Fin 16 → EReal) (hX : ∀ i : Fin 16, (X (ix4 b s 0 i) : EReal) = y ⟨i.val, by omega⟩)
    (hY : ∀ i : Fin 16, (Y (ix4 b s 0 i) : EReal) = y ⟨i.val + 16, by omega⟩)
    (hC : ∀ i : Fin 16, (C (ix4 b s 0 i) : EReal) = Ideal.cos (a i)) (hS : ∀ i : Fin 16, (S (ix4 b s 0 i) : EReal) = Ideal.sin (a i))
    (j : Fin 32) : (turned1 X Y C S (ix4 b s 0 j) : EReal) = rope a y j := by
  pointwise [turned1]
  unfold rope
  by_cases h1 : j.val < 16
  · rw [dif_pos h1, dif_pos h1, hX, hY, hC, hS]
  · rw [dif_neg h1, dif_neg h1, hX, hY, hC, hS]
    have e : (⟨(⟨j.val - 16, by omega⟩ : Fin 16).val + 16, by dsimp only; omega⟩ : Fin 32) = j := Fin.ext (by dsimp only; omega)
    rw [e]

end Cert.Reference4Ideal.Odd
-- ==== Proof.Odd.InRef5.lean ====
module

public import proofs.«01_k».proof.Proof.Odd.InRef3
public import proofs.«01_k».proof.Proof.Odd.InRef4

@[expose] public section

set_option maxRecDepth 16384

noncomputable section

/-! # The four joined results of the odd layer's input reference, element by element -/

namespace Cert.Reference4Ideal.Odd

open Cert.Reference4Ideal Cert.Reference4Ideal.Gen Cert.Reference4Ideal.Value Cert.Mlp Cert.Odd Idealize.ShloMosaic

variable (V0 : Valuation τ sig (Elt Ideal))

def queryRef : FVec Ideal S8x4224x1024 .bf16 :=
  truncf .bf16 (shapeCast _ ((concatenate S8x4224x8x128 3 [⟨S8x4224x8x96, ((mulf (concatenate S8x4224x8x96 3 [⟨S8x4224x8x64, (mulf (mulf (res_main_v149 V0) (broadcastInDim S8x4224x8x64 ![0, 1, 2, 3] bcast_S8x4224x8x1_S8x4224x8x64_0_1_2_3 (Host.rsqrt (addf (Host.divf (broadcastInDim S8x4224x8x1 ![0, 1, 2] bcast_S8x4224x8_S8x4224x8x1_0_1_2 (Host.reduceAdd (mulf (res_main_v149 V0) (res_main_v149 V0)) (constant S_ .f32 0x00000000#32) reducesTo_S8x4224x8x64_S8x4224x8_d3 h_S_)) (broadcastInDim S8x4224x8x1 ![] bcast_S_S8x4224x8x1 (constant S_ .f32 0x42800000#32))) (broadcastInDim S8x4224x8x1 ![] bcast_S_S8x4224x8x1 (constant S_ .f32 0x358637BD#32)))))) (broadcastInDim S8x4224x8x64 ![0, 1, 2, 3] bcast_S1x1x1x64_S8x4224x8x64_0_1_2_3 (broadcastInDim S1x1x1x64 ![3] bcast_S64_S1x1x1x64_3 (shapeCast _ (V0 (Proc.devRef .tc main_arg9)) shapeCasts_S1x64_S64))))⟩, ⟨S8x4224x8x32, (concatenate S8x4224x8x32 3 [⟨S8x4224x8x16, (subf (mulf (res_main_v98 V0) (broadcastInDim S8x4224x8x16 ![0, 1, 2, 3] bcast_S8x4224x1x16_S8x4224x8x16_0_1_2_3 (res_main_v96 V0))) (mulf (res_main_v99 V0) (broadcastInDim S8x4224x8x16 ![0, 1, 2, 3] bcast_S8x4224x1x16_S8x4224x8x16_0_1_2_3 (res_main_v97 V0))))⟩, ⟨S8x4224x8x16, (addf (mulf (res_main_v98 V0) (broadcastInDim S8x4224x8x16 ![0, 1, 2, 3] bcast_S8x4224x1x16_S8x4224x8x16_0_1_2_3 (res_main_v97 V0))) (mulf (res_main_v99 V0) (broadcastInDim S8x4224x8x16 ![0, 1, 2, 3] bcast_S8x4224x1x16_S8x4224x8x16_0_1_2_3 (res_main_v96 V0))))⟩] concatenates_S8x4224x8x16_S8x4224x8x16_S8x4224x8x32_d3)⟩] concatenates_S8x4224x8x64_S8x4224x8x32_S8x4224x8x96_d3) (broadcastInDim S8x4224x8x96 ![] bcast_S_S8x4224x8x96 (constant S_ .f32 0x3E16C740#32))) : FVec Ideal S8x4224x8x96 .f32)⟩, ⟨S8x4224x8x1, ((broadcastInDim S8x4224x8x1 ![] bcast_S_S8x4224x8x1 (constant S_ .f32 0x3F800000#32)) : FVec Ideal S8x4224x8x1 .f32)⟩, ⟨S8x4224x8x31, ((broadcastInDim S8x4224x8x31 ![] bcast_S_S8x4224x8x31 (constant S_ .f32 0x00000000#32)) : FVec Ideal S8x4224x8x31 .f32)⟩] concatenates_S8x4224x8x96_S8x4224x8x1_S8x4224x8x31_S8x4224x8x128_d3 : FVec Ideal S8x4224x8x128 .f32)) shapeCasts_S8x4224x8x128_S8x4224x1024) bitsLt_bf16_f32

def keyRef : FVec Ideal S8x4224x1024 .bf16 :=
  truncf .bf16 (shapeCast _ ((concatenate S8x4224x8x128 3 [⟨S8x4224x8x96, ((concatenate S8x4224x8x96 3 [⟨S8x4224x8x64, (mulf (mulf (res_main_v167 V0) (broadcastInDim S8x4224x8x64 ![0, 1, 2, 3] bcast_S8x4224x8x1_S8x4224x8x64_0_1_2_3 (Host.rsqrt (addf (Host.divf (broadcastInDim S8x4224x8x1 ![0, 1, 2] bcast_S8x4224x8_S8x4224x8x1_0_1_2 (Host.reduceAdd (mulf (res_main_v167 V0) (res_main_v167 V0)) (constant S_ .f32 0x00000000#32) reducesTo_S8x4224x8x64_S8x4224x8_d3 h_S_)) (broadcastInDim S8x4224x8x1 ![] bcast_S_S8x4224x8x1 (constant S_ .f32 0x42800000#32))) (broadcastInDim S8x4224x8x1 ![] bcast_S_S8x4224x8x1 (constant S_ .f32 0x358637BD#32)))))) (broadcastInDim S8x4224x8x64 ![0, 1, 2, 3] bcast_S1x1x1x64_S8x4224x8x64_0_1_2_3 (broadcastInDim S1x1x1x64 ![3] bcast_S64_S1x1x1x64_3 (shapeCast _ (V0 (Proc.devRef .tc main_arg11)) shapeCasts_S1x64_S64))))⟩, ⟨S8x4224x8x32, (broadcastInDim S8x4224x8x32 ![0, 1, 2, 3] bcast_S8x4224x1x32_S8x4224x8x32_0_1_2_3 (concatenate S8x4224x1x32 3 [⟨S8x4224x1x16, (subf (mulf (res_main_v140 V0) (res_main_v138 V0)) (mulf (res_main_v141 V0) (res_main_v139 V0)))⟩, ⟨S8x4224x1x16, (addf (mulf (res_main_v140 V0) (res_main_v139 V0)) (mulf (res_main_v141 V0) (res_main_v138 V0)))⟩] concatenates_S8x4224x1x16_S8x4224x1x16_S8x4224x1x32_d3))⟩] concatenates_S8x4224x8x64_S8x4224x8x32_S8x4224x8x96_d3) : FVec Ideal S8x4224x8x96 .f32)⟩, ⟨S8x4224x8x1, ((id (broadcastInDim S8x4224x8x1 ![0, 1, 2, 3] bcast_S1x4224x1x1_S8x4224x8x1_0_1_2_3 (select (res_main_v11 V0) (broadcastInDim S1x4224x1x1 ![] bcast_S_S1x4224x1x1 (constant S_ .f32 0x00000000#32)) (broadcastInDim S1x4224x1x1 ![] bcast_S_S1x4224x1x1 (constant S_ .f32 0xF149F2CA#32))))) : FVec Ideal S8x4224x8x1 .f32)⟩, ⟨S8x4224x8x31, ((broadcastInDim S8x4224x8x31 ![] bcast_S_S8x4224x8x31 (constant S_ .f32 0x00000000#32)) : FVec Ideal S8x4224x8x31 .f32)⟩] concatenates_S8x4224x8x96_S8x4224x8x1_S8x4224x8x31_S8x4224x8x128_d3 : FVec Ideal S8x4224x8x128 .f32)) shapeCasts_S8x4224x8x128_S8x4224x1024) bitsLt_bf16_f32

def fqueryRef : FVec Ideal S8x4224x1024 .bf16 :=
  truncf .bf16 (shapeCast _ ((concatenate S8x4224x8x128 3 [⟨S8x4224x8x64, ((mulf (mulf (mulf (res_main_v192 V0) (broadcastInDim S8x4224x8x64 ![0, 1, 2, 3] bcast_S8x4224x8x1_S8x4224x8x64_0_1_2_3 (Host.rsqrt (addf (Host.divf (broadcastInDim S8x4224x8x1 ![0, 1, 2] bcast_S8x4224x8_S8x4224x8x1_0_1_2 (Host.reduceAdd (mulf (res_main_v192 V0) (res_main_v192 V0)) (constant S_ .f32 0x00000000#32) reducesTo_S8x4224x8x64_S8x4224x8_d3 h_S_)) (broadcastInDim S8x4224x8x1 ![] bcast_S_S8x4224x8x1 (constant S_ .f32 0x42800000#32))) (broadcastInDim S8x4224x8x1 ![] bcast_S_S8x4224x8x1 (constant S_ .f32 0x358637BD#32)))))) (broadcastInDim S8x4224x8x64 ![0, 1, 2, 3] bcast_S1x1x1x64_S8x4224x8x64_0_1_2_3 (broadcastInDim S1x1x1x64 ![3] bcast_S64_S1x1x1x64_3 (shapeCast _ (V0 (Proc.devRef .tc main_arg13)) shapeCasts_S1x64_S64)))) (broadcastInDim S8x4224x8x64 ![] bcast_S_S8x4224x8x64 (constant S_ .f32 0x3E38AA3B#32))) : FVec Ideal S8x4224x8x64 .f32)⟩, ⟨S8x4224x8x3, ((broadcastInDim S8x4224x8x3 ![] bcast_S_S8x4224x8x3 (constant S_ .f32 0x3F800000#32)) : FVec Ideal S8x4224x8x3 .f32)⟩, ⟨S8x4224x8x61, ((broadcastInDim S8x4224x8x61 ![] bcast_S_S8x4224x8x61 (constant S_ .f32 0x00000000#32)) : FVec Ideal S8x4224x8x61 .f32)⟩] concatenates_S8x4224x8x64_S8x4224x8x3_S8x4224x8x61_S8x4224x8x128_d3 : FVec Ideal S8x4224x8x128 .f32)) shapeCasts_S8x4224x8x128_S8x4224x1024) bitsLt_bf16_f32

def fkeyRef : FVec Ideal S8x4224x1024 .bf16 :=
  truncf .bf16 (shapeCast _ ((concatenate S8x4224x8x128 3 [⟨S8x4224x8x64, ((mulf (mulf (res_main_v209 V0) (broadcastInDim S8x4224x8x64 ![0, 1, 2, 3] bcast_S8x4224x8x1_S8x4224x8x64_0_1_2_3 (Host.rsqrt (addf (Host.divf (broadcastInDim S8x4224x8x1 ![0, 1, 2] bcast_S8x4224x8_S8x4224x8x1_0_1_2 (Host.reduceAdd (mulf (res_main_v209 V0) (res_main_v209 V0)) (constant S_ .f32 0x00000000#32) reducesTo_S8x4224x8x64_S8x4224x8_d3 h_S_)) (broadcastInDim S8x4224x8x1 ![] bcast_S_S8x4224x8x1 (constant S_ .f32 0x42800000#32))) (broadcastInDim S8x4224x8x1 ![] bcast_S_S8x4224x8x1 (constant S_ .f32 0x358637BD#32)))))) (broadcastInDim S8x4224x8x64 ![0, 1, 2, 3] bcast_S1x1x1x64_S8x4224x8x64_0_1_2_3 (broadcastInDim S1x1x1x64 ![3] bcast_S64_S1x1x1x64_3 (shapeCast _ (V0 (Proc.devRef .tc main_arg14)) shapeCasts_S1x64_S64)))) : FVec Ideal S8x4224x8x64 .f32)⟩, ⟨S8x4224x8x1, ((res_main_v248 V0) : FVec Ideal S8x4224x8x1 .f32)⟩, ⟨S8x4224x8x1, ((res_main_v251 V0) : FVec Ideal S8x4224x8x1 .f32)⟩, ⟨S8x4224x8x1, ((extf .f32 (truncf .bf16 (subf (subf (res_main_v246 V0) (res_main_v248 V0)) (res_main_v251 V0)) bitsLt_bf16_f32) bitsLt_bf16_f32) : FVec Ideal S8x4224x8x1 .f32)⟩, ⟨S8x4224x8x61, ((broadcastInDim S8x4224x8x61 ![] bcast_S_S8x4224x8x61 (constant S_ .f32 0x00000000#32)) : FVec Ideal S8x4224x8x61 .f32)⟩] concatenates_S8x4224x8x64_S8x4224x8x1_S8x4224x8x1_S8x4224x8x1_S8x4224x8x61_S8x4224x8x128_d3 : FVec Ideal S8x4224x8x128 .f32)) shapeCasts_S8x4224x8x128_S8x4224x1024) bitsLt_bf16_f32

/-! ## Stage by stage -/

theorem fquery_stages : fqueryRef V0 = joined (fqCat (normed64 (res_main_v192 V0) (V0 (Proc.devRef .tc main_arg13)))) := rfl

theorem fkey_stages : fkeyRef V0 = joined (fkCat (normed64 (res_main_v209 V0) (V0 (Proc.devRef .tc main_arg14)))
    (res_main_v248 V0) (res_main_v251 V0)
    (extf .f32 (truncf .bf16 (subf (subf (res_main_v246 V0) (res_main_v248 V0)) (res_main_v251 V0)) bitsLt_bf16_f32) bitsLt_bf16_f32)) := rfl

theorem query_stages : queryRef V0 = joined (lqCat (normed64 (res_main_v149 V0) (V0 (Proc.devRef .tc main_arg9)))
    (turned8 (res_main_v98 V0) (res_main_v99 V0) (res_main_v96 V0) (res_main_v97 V0))) := rfl

theorem key_stages : keyRef V0 = joined (lkCat (normed64 (res_main_v167 V0) (V0 (Proc.devRef .tc main_arg11)))
    (turned1 (res_main_v140 V0) (res_main_v141 V0) (res_main_v138 V0) (res_main_v139 V0)) (res_main_v11 V0)) := rfl

theorem cos_apply (b : Fin 8) (s : Fin 4224) (i : Fin 16) :
    (res_main_v96 V0 (ix4 b s 0 i) : EReal) = Ideal.cos (angles (place ((args V0).pos b) s) i) :=
  congrArg Ideal.cos (angle_apply V0 b s i)

theorem sin_apply (b : Fin 8) (s : Fin 4224) (i : Fin 16) :
    (res_main_v97 V0 (ix4 b s 0 i) : EReal) = Ideal.sin (angles (place ((args V0).pos b) s) i) :=
  congrArg Ideal.sin (angle_apply V0 b s i)

theorem fq_feature (b : Fin 8) (s : Fin 4224) (h : Fin 8) (j : Fin 64) : (res_main_v192 V0 (ix4 b s h j) : EReal) =
    z (args V0) b s ⟨672 + 64 * h.val + j.val, by omega⟩ := by
  pointwise [res_main_v192]
  rw [z_apply]
  exact congrArg (z (args V0) b s) (Fin.ext (by dsimp only; omega))

theorem fk_feature (b : Fin 8) (s : Fin 4224) (h : Fin 8) (j : Fin 64) : (res_main_v209 V0 (ix4 b s h j) : EReal) =
    z (args V0) b s ⟨1184 + 64 * h.val + j.val, by omega⟩ := by
  pointwise [res_main_v209]
  rw [z_apply]
  exact congrArg (z (args V0) b s) (Fin.ext (by dsimp only; omega))

theorem lq_feature (b : Fin 8) (s : Fin 4224) (h : Fin 8) (j : Fin 64) : (res_main_v149 V0 (ix4 b s h j) : EReal) =
    qAll (args V0) b s ⟨96 * h.val + j.val, by omega⟩ := by
  pointwise [res_main_v149]
  exact q_apply V0 b s h _

theorem lk_feature (b : Fin 8) (s : Fin 4224) (h : Fin 8) (j : Fin 64) : (res_main_v167 V0 (ix4 b s h j) : EReal) =
    kvAll (args V0) b s ⟨128 * h.val + j.val, by omega⟩ := by
  pointwise [res_main_v167]
  exact kv_apply V0 b s h _

/-! ## The results -/

theorem fquery_apply (b : Fin 8) (s : Fin 4224) (l : Fin 1024) :
    (fqueryRef V0 (ix3 b s l) : EReal) = gatedQuery (args V0) b s l := by
  rw [fquery_stages]
  refine (joined_apply _ b s l).trans ((fqCat_apply _ b s _ _).trans ?_)
  unfold gatedQuery
  dsimp only
  split_ifs
  · rw [normed64_apply]
    simp only [fq_feature]
    rfl
  · rfl
  · rfl

theorem fkey_apply (b : Fin 8) (s : Fin 4224) (l : Fin 1024) :
    (fkeyRef V0 (ix3 b s l) : EReal) = gatedKey (args V0) b s l := by
  rw [fkey_stages]
  refine (joined_apply _ b s l).trans ((fkCat_apply _ _ _ _ b s _ _).trans ?_)
  unfold gatedKey
  dsimp only
  by_cases h0 : l.val % 128 < 64
  · rw [dif_pos h0, dif_pos h0, normed64_apply]
    simp only [fk_feature]
    rfl
  rw [dif_neg h0, dif_neg h0]
  by_cases h1 : l.val % 128 < 67
  · rw [if_pos h1, dif_pos h1]
    unfold parts
    rw [← bias_apply]
    rfl
  · rw [if_neg h1, dif_neg h1]

theorem query_apply (b : Fin 8) (s : Fin 4224) (l : Fin 1024) :
    (queryRef V0 (ix3 b s l) : EReal) = latentQuery (args V0) b s l := by
  rw [query_stages]
  refine (joined_apply _ b s l).trans ((lqCat_apply _ _ b s _ _).trans ?_)
  unfold latentQuery
  dsimp only
  by_cases h0 : l.val % 128 < 64
  · rw [dif_pos h0, dif_pos h0, normed64_apply]
    simp only [lq_feature]
    rfl
  rw [dif_neg h0, dif_neg h0]
  by_cases h1 : l.val % 128 < 96
  · rw [dif_pos h1, dif_pos h1, turned8_apply _ _ _ _ b s _
      (unit32 (fun i => qAll (args V0) b s ⟨96 * (l.val / 128) + 64 + i.val, by omega⟩) (args V0).gqr)
      (angles (place ((args V0).pos b) s)) (fun i => ?_) (fun i => ?_) (fun i => cos_apply V0 b s i) fun i => sin_apply V0 b s i]
    · pointwise [res_main_v98]
      exact turned_apply V0 b s _ _
    · pointwise [res_main_v99]
      refine (turned_apply V0 b s _ _).trans (congrArg _ (Fin.ext (by dsimp only; omega)))
  rw [dif_neg h1, dif_neg h1]

theorem key_apply (b : Fin 8) (s : Fin 4224) (l : Fin 1024) :
    (keyRef V0 (ix3 b s l) : EReal) = latentKey (args V0) b s l := by
  rw [key_stages]
  refine (joined_apply _ b s l).trans ((lkCat_apply _ _ _ b s _ _).trans ?_)
  unfold latentKey
  dsimp only
  by_cases h0 : l.val % 128 < 64
  · rw [dif_pos h0, dif_pos h0, normed64_apply]
    simp only [lk_feature]
    rfl
  rw [dif_neg h0, dif_neg h0]
  by_cases h1 : l.val % 128 < 96
  · rw [dif_pos h1, dif_pos h1]
    refine turned1_apply (res_main_v140 V0) (res_main_v141 V0) (res_main_v138 V0) (res_main_v139 V0) b s
      (unit32 (fun i => z (args V0) b s ⟨640 + i.val, by omega⟩) (args V0).gkr)
      (angles (place ((args V0).pos b) s)) (fun i => ?_) (fun i => ?_) (fun i => cos_apply V0 b s i) (fun i => sin_apply V0 b s i) _
    · pointwise [res_main_v140]
      exact shared_apply V0 b s _
    · pointwise [res_main_v141]
      refine (shared_apply V0 b s _).trans (congrArg _ (Fin.ext (by dsimp only; omega)))
  rw [dif_neg h1, dif_neg h1, pick _ _ (valid_mask V0 s)]

end Cert.Reference4Ideal.Odd
-- ==== Proof.lean ====
module

public import proofs.«01_k».proof.Defs
public import proofs.«01_k».proof.Proof.Gen.Kernel.Frame
public import proofs.«01_k».proof.Proof.Mlp.Tokens
public import proofs.«01_k».proof.Proof.Mlp.TokensRef
public import proofs.«01_k».proof.Proof.Gen.Kernel2.Frame
public import proofs.«01_k».proof.Proof.Mlp.Input
public import proofs.«01_k».proof.Proof.Mlp.InputRef
public import proofs.«01_k».proof.Proof.Gen.Kernel3.Frame
public import proofs.«01_k».proof.Proof.Even.Run
public import proofs.«01_k».proof.Proof.Even.InRef
public import proofs.«01_k».proof.Proof.Gen.Kernel4.Frame
public import proofs.«01_k».proof.Proof.Odd.Run
public import proofs.«01_k».proof.Proof.Odd.InRef5
public import Idealize.ShloMosaic.Lib.Quiescent

@[expose] public section

noncomputable section

namespace Cert.Proof

open Idealize.ShloMosaic Idealize.SL.Sem

/-- The last call and its reference end with equal results: both are each token's feed-forward row of its residual. -/
theorem tokens_algebraic :
    algebraic_KernelIdeal_ReferenceIdeal (hKernelIdeal := Cert.KernelIdeal.Gen.facts)
      (hReferenceIdeal := Cert.ReferenceIdeal.Gen.facts) := by
  intro m g m' g' _ hm
  refine ⟨fun c => Cert.KernelIdeal.Mlp.resultArr m c, ?_, ?_⟩
  · refine (θ_run _ _ _).mono (fun r h c => ?_) (Cert.KernelIdeal.Value.run_blocks m g)
    obtain ⟨h0, hargs⟩ := h c
    exact ⟨h0.trans (Cert.KernelIdeal.Mlp.result_eq m c), hargs⟩
  · refine (θ_run _ _ _).mono (fun r h c => ?_) (Cert.ReferenceIdeal.Value.run m' g')
    obtain ⟨h0, hargs⟩ := h c
    refine ⟨h0.trans ?_, hargs⟩
    obtain ⟨e0, e1, e2, e3, e4, e5, e6⟩ := hm c
    funext x
    obtain ⟨i, l, rfl⟩ : ∃ (i : Fin 32768) (l : Fin 1024), x = ix2 i l := ⟨x 0, x 1, by funext a; fin_cases a <;> rfl⟩
    refine (Cert.ReferenceIdeal.Mlp.result_apply m' c i l).trans ?_
    rw [e0, e1, e2, e3, e4, e5, e6]
    rfl

/-- The reference runs and keeps its arguments; it declares no semaphore. -/
theorem tokens_reference_frame : quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The even layer's output call and its reference end with equal results: both are each padded input row plus its
    mixers' projection, through the feed-forward network. -/
theorem input_algebraic :
    algebraic_Kernel2Ideal_Reference2Ideal (hKernel2Ideal := Cert.Kernel2Ideal.Gen.facts)
      (hReference2Ideal := Cert.Reference2Ideal.Gen.facts) := by
  intro m g m' g' _ hm
  refine ⟨fun c => Cert.Kernel2Ideal.Mlp.resultArr m c, ?_, ?_⟩
  · refine (θ_run _ _ _).mono (fun r h c => ?_) (Cert.Kernel2Ideal.Value.run_blocks m g)
    obtain ⟨h0, hargs⟩ := h c
    exact ⟨h0.trans (Cert.Kernel2Ideal.Mlp.result_eq m c), hargs⟩
  · refine (θ_run _ _ _).mono (fun r h c => ?_) (Cert.Reference2Ideal.Value.run m' g')
    obtain ⟨h0, hargs⟩ := h c
    refine ⟨h0.trans ?_, hargs⟩
    obtain ⟨e0, e1, e2, e3, e4, e5, e6, e7⟩ := hm c
    funext x
    obtain ⟨i, l, rfl⟩ : ∃ (i : Fin 33792) (l : Fin 1024), x = ix2 i l := ⟨x 0, x 1, by funext a; fin_cases a <;> rfl⟩
    refine (Cert.Reference2Ideal.Mlp.result_apply m' c i l).trans ?_
    rw [e0, e1, e2, e3, e4, e5, e6, e7]
    rfl

/-- That reference runs and keeps its arguments; it declares no semaphore. -/
theorem input_reference_frame : quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run m g)

/-- The even layer's input call and its reference end with equal results: both are the padded input's normalised rows
    against the projection's columns, finished the same way. -/
theorem even_algebraic :
    algebraic_Kernel3Ideal_Reference3Ideal (hKernel3Ideal := Cert.Kernel3Ideal.Gen.facts)
      (hReference3Ideal := Cert.Reference3Ideal.Gen.facts) := by
  intro m g m' g' _ hm
  refine ⟨fun c => Cert.Kernel3Ideal.Even.queryArr m c, fun c => Cert.Kernel3Ideal.Even.keyArr m c,
    fun c => Cert.Kernel3Ideal.Even.valueArr m c, fun c => Cert.Kernel3Ideal.Even.openArr m c,
    fun c => Cert.Kernel3Ideal.Even.bitsArr m c, fun c => Cert.Kernel3Ideal.Even.convArr m c,
    fun c => Cert.Kernel3Ideal.Even.gateArr m c, Cert.Kernel3Ideal.Even.run_results m g, ?_⟩
  refine (θ_run _ _ _).mono (fun r h c => ?_) (Cert.Reference3Ideal.Value.run m' g')
  obtain ⟨h0, h1, h2, h3, h4, h5, h6, hargs⟩ := h c
  obtain ⟨e0, e1, e2, e3, e4, e5, e6⟩ := hm c
  have hp : ∀ (r : Fin 33792) (j : Fin 5128), Cert.Reference3Ideal.Even.prods m' c (ix3 (Cert.Reference3Ideal.Even.sq r)
      (Cert.Reference3Ideal.Even.pl r) j) = Cert.Kernel3Ideal.Even.proj m c r j := by
    intro r j
    rw [Cert.Reference3Ideal.Even.prods_apply, e0, e1, e2, e3]
    rfl
  have hs : ∀ (q : Fin 8) (s : Fin 4224) (l : Fin 1024), Cert.Reference3Ideal.Even.prods m' c
      (ix3 q s ⟨3080 + l.val, by omega⟩) = Cert.Kernel3Ideal.Even.seq m c q l s := by
    intro q s l
    refine Eq.trans ?_ (hp ⟨q.val * 4224 + s.val, by omega⟩ ⟨3080 + l.val, by omega⟩)
    have hq : Cert.Reference3Ideal.Even.sq ⟨q.val * 4224 + s.val, by omega⟩ = q := Fin.ext (by dsimp only; omega)
    have hl : Cert.Reference3Ideal.Even.pl ⟨q.val * 4224 + s.val, by omega⟩ = s := Fin.ext (by dsimp only; omega)
    rw [hq, hl]
  refine ⟨h0.trans ?_, h1.trans ?_, h2.trans ?_, h3.trans ?_, h4.trans ?_, h5.trans ?_, h6.trans ?_, hargs⟩
  · funext x
    obtain ⟨i, l, rfl⟩ : ∃ (i : Fin 33792) (l : Fin 512), x = ix2 i l := ⟨x 0, x 1, by funext a; fin_cases a <;> rfl⟩
    refine (Cert.Reference3Ideal.Even.queries_apply (Cert.Reference3Ideal.Even.prods m' c) i l).trans ?_
    rw [hp]
    rfl
  · funext x
    obtain ⟨i, l, rfl⟩ : ∃ (i : Fin 33792) (l : Fin 512), x = ix2 i l := ⟨x 0, x 1, by funext a; fin_cases a <;> rfl⟩
    exact (Cert.Reference3Ideal.Even.keys_apply (Cert.Reference3Ideal.Even.prods m' c) i l).trans (hp _ _)
  · funext x
    obtain ⟨i, l, rfl⟩ : ∃ (i : Fin 33792) (l : Fin 1024), x = ix2 i l := ⟨x 0, x 1, by funext a; fin_cases a <;> rfl⟩
    exact (Cert.Reference3Ideal.Even.values_apply (Cert.Reference3Ideal.Even.prods m' c) i l).trans (hp _ _)
  · funext x
    obtain ⟨i, l, rfl⟩ : ∃ (i : Fin 33792) (l : Fin 1024), x = ix2 i l := ⟨x 0, x 1, by funext a; fin_cases a <;> rfl⟩
    refine (Cert.Reference3Ideal.Even.opens_apply (Cert.Reference3Ideal.Even.prods m' c) i l).trans ?_
    rw [hp]
    rfl
  · refine (Cert.Reference3Ideal.Even.bits_stages m' c).trans ?_
    funext x
    obtain ⟨i, l, rfl⟩ : ∃ (i : Fin 33792) (l : Fin 128), x = ix2 i l := ⟨x 0, x 1, by funext a; fin_cases a <;> rfl⟩
    refine (Cert.Reference3Ideal.Even.bits_result (Cert.Reference3Ideal.Even.prods m' c) i l).trans ?_
    simp only [hp]
    rfl
  · refine (Cert.Reference3Ideal.Even.conv_stages m' c).trans ?_
    funext x
    obtain ⟨i, l, rfl⟩ : ∃ (i : Fin 33792) (l : Fin 1024), x = ix2 i l := ⟨x 0, x 1, by funext a; fin_cases a <;> rfl⟩
    refine (Cert.Reference3Ideal.Even.conv_result (Cert.Reference3Ideal.Even.prods m' c) _ _ i l).trans ?_
    simp only [hs]
    rw [e5, e6]
    rfl
  · refine (Cert.Reference3Ideal.Even.gate_stages m' c).trans ?_
    funext x
    obtain ⟨i, l, rfl⟩ : ∃ (i : Fin 33792) (l : Fin 1024), x = ix2 i l := ⟨x 0, x 1, by funext a; fin_cases a <;> rfl⟩
    refine (Cert.Reference3Ideal.Even.gates_apply (Cert.Reference3Ideal.Even.prods m' c) i l).trans ?_
    rw [hp]
    rfl

/-- That reference runs and keeps its arguments; it declares no semaphore. -/
theorem even_reference_frame : quiescent_Reference3Ideal (hReference3Ideal := Cert.Reference3Ideal.Gen.facts) :=
  fun m g _ => (θ_run _ _ _).mono
    (fun r h => ⟨fun c => (h c).2.2.2.2.2.2.2, sem_eq_zero_of_no_sems (by decide) r.2⟩)
    (Cert.Reference3Ideal.Value.run m g)

/-- The gate's inner constant, named with the value the kernel's rounded word stands for. -/
theorem even_preserves : preserves_Kernel3_Kernel3Ideal :=
  IdealRules.named_const.statement Cert.Kernel3Ideal.κ "gelu_cubic" .f32 0x3D122279#32
    ((80338380498831 / 2251799813685248 : ℝ) : EReal) rfl

/-- The odd layer's input call's arguments, read from either program's memory, are the same. -/
theorem odd_args (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (e0 : m' ((c.tc : Thread Cert.Reference4Ideal.nD Cert.Reference4Ideal.τ).loc Cert.Reference4Ideal.main_arg0) =
      m ((c.tc : Thread Cert.Kernel4Ideal.nD Cert.Kernel4Ideal.τ).loc Cert.Kernel4Ideal.main_arg0))
    (e1 : m' ((c.tc : Thread Cert.Reference4Ideal.nD Cert.Reference4Ideal.τ).loc Cert.Reference4Ideal.main_arg1) =
      m ((c.tc : Thread Cert.Kernel4Ideal.nD Cert.Kernel4Ideal.τ).loc Cert.Kernel4Ideal.main_arg1))
    (e2 : m' ((c.tc : Thread Cert.Reference4Ideal.nD Cert.Reference4Ideal.τ).loc Cert.Reference4Ideal.main_arg2) =
      m ((c.tc : Thread Cert.Kernel4Ideal.nD Cert.Kernel4Ideal.τ).loc Cert.Kernel4Ideal.main_arg2))
    (e3 : m' ((c.tc : Thread Cert.Reference4Ideal.nD Cert.Reference4Ideal.τ).loc Cert.Reference4Ideal.main_arg3) =
      m ((c.tc : Thread Cert.Kernel4Ideal.nD Cert.Kernel4Ideal.τ).loc Cert.Kernel4Ideal.main_arg3))
    (e4 : m' ((c.tc : Thread Cert.Reference4Ideal.nD Cert.Reference4Ideal.τ).loc Cert.Reference4Ideal.main_arg4) =
      m ((c.tc : Thread Cert.Kernel4Ideal.nD Cert.Kernel4Ideal.τ).loc Cert.Kernel4Ideal.main_arg4))
    (e5 : m' ((c.tc : Thread Cert.Reference4Ideal.nD Cert.Reference4Ideal.τ).loc Cert.Reference4Ideal.main_arg5) =
      m ((c.tc : Thread Cert.Kernel4Ideal.nD Cert.Kernel4Ideal.τ).loc Cert.Kernel4Ideal.main_arg5))
    (e6 : m' ((c.tc : Thread Cert.Reference4Ideal.nD Cert.Reference4Ideal.τ).loc Cert.Reference4Ideal.main_arg6) =
      m ((c.tc : Thread Cert.Kernel4Ideal.nD Cert.Kernel4Ideal.τ).loc Cert.Kernel4Ideal.main_arg6))
    (e7 : m' ((c.tc : Thread Cert.Reference4Ideal.nD Cert.Reference4Ideal.τ).loc Cert.Reference4Ideal.main_arg7) =
      m ((c.tc : Thread Cert.Kernel4Ideal.nD Cert.Kernel4Ideal.τ).loc Cert.Kernel4Ideal.main_arg7))
    (e8 : m' ((c.tc : Thread Cert.Reference4Ideal.nD Cert.Reference4Ideal.τ).loc Cert.Reference4Ideal.main_arg8) =
      m ((c.tc : Thread Cert.Kernel4Ideal.nD Cert.Kernel4Ideal.τ).loc Cert.Kernel4Ideal.main_arg8))
    (e9 : m' ((c.tc : Thread Cert.Reference4Ideal.nD Cert.Reference4Ideal.τ).loc Cert.Reference4Ideal.main_arg9) =
      m ((c.tc : Thread Cert.Kernel4Ideal.nD Cert.Kernel4Ideal.τ).loc Cert.Kernel4Ideal.main_arg9))
    (e10 : m' ((c.tc : Thread Cert.Reference4Ideal.nD Cert.Reference4Ideal.τ).loc Cert.Reference4Ideal.main_arg10) =
      m ((c.tc : Thread Cert.Kernel4Ideal.nD Cert.Kernel4Ideal.τ).loc Cert.Kernel4Ideal.main_arg10))
    (e11 : m' ((c.tc : Thread Cert.Reference4Ideal.nD Cert.Reference4Ideal.τ).loc Cert.Reference4Ideal.main_arg11) =
      m ((c.tc : Thread Cert.Kernel4Ideal.nD Cert.Kernel4Ideal.τ).loc Cert.Kernel4Ideal.main_arg11))
    (e12 : m' ((c.tc : Thread Cert.Reference4Ideal.nD Cert.Reference4Ideal.τ).loc Cert.Reference4Ideal.main_arg12) =
      m ((c.tc : Thread Cert.Kernel4Ideal.nD Cert.Kernel4Ideal.τ).loc Cert.Kernel4Ideal.main_arg12))
    (e13 : m' ((c.tc : Thread Cert.Reference4Ideal.nD Cert.Reference4Ideal.τ).loc Cert.Reference4Ideal.main_arg13) =
      m ((c.tc : Thread Cert.Kernel4Ideal.nD Cert.Kernel4Ideal.τ).loc Cert.Kernel4Ideal.main_arg13))
    (e14 : m' ((c.tc : Thread Cert.Reference4Ideal.nD Cert.Reference4Ideal.τ).loc Cert.Reference4Ideal.main_arg14) =
      m ((c.tc : Thread Cert.Kernel4Ideal.nD Cert.Kernel4Ideal.τ).loc Cert.Kernel4Ideal.main_arg14)) :
    Cert.Reference4Ideal.Odd.args (StableHlo.launchContents m' c) = Cert.Kernel4Ideal.Odd.argsOf m c := by
  have f : ∀ (r : Ref Cert.Reference4Ideal.sig .tc), StableHlo.launchContents m' c (Proc.devRef .tc r) =
    m' ((c.tc : Thread Cert.Reference4Ideal.nD Cert.Reference4Ideal.τ).loc r) := fun r => rfl
  unfold Cert.Reference4Ideal.Odd.args Cert.Kernel4Ideal.Odd.argsOf
  simp only [f]
  rw [e0, e1, e2, e3, e4, e5, e6, e7, e8, e9, e10, e11, e12, e13, e14]

set_option maxHeartbeats 2000000 in
/-- The odd layer's input call and its reference end with equal results: both are the stream's normalised rows against the
    projections' columns, normalised head by head, turned by the positions' angles and joined with the gates' running sums. -/
theorem odd_algebraic :
    algebraic_Kernel4Ideal_Reference4Ideal (hKernel4Ideal := Cert.Kernel4Ideal.Gen.facts)
      (hReference4Ideal := Cert.Reference4Ideal.Gen.facts) := by
  intro m g m' g' _ hm
  refine ⟨fun c => Cert.Kernel4Ideal.Odd.queryArr m c, fun c => Cert.Kernel4Ideal.Odd.keyArr m c, fun c => Cert.Kernel4Ideal.Odd.valueArr m c,
    fun c => Cert.Kernel4Ideal.Odd.fqueryArr m c, fun c => Cert.Kernel4Ideal.Odd.fkeyArr m c, fun c => Cert.Kernel4Ideal.Odd.fvalueArr m c,
    Cert.Kernel4Ideal.Odd.run_results m g, ?_⟩
  refine (θ_run _ _ _).mono (fun r h c => ?_) (Cert.Reference4Ideal.Value.run m' g')
  obtain ⟨h0, h1, h2, h3, h4, h5, hargs⟩ := h c
  have ha : Cert.Reference4Ideal.Odd.args (StableHlo.launchContents m' c) = Cert.Kernel4Ideal.Odd.argsOf m c := by
    obtain ⟨e0, e1, e2, e3, e4, e5, e6, e7, e8, e9, e10, e11, e12, e13, e14⟩ := hm c
    exact odd_args m m' c e0 e1 e2 e3 e4 e5 e6 e7 e8 e9 e10 e11 e12 e13 e14
  refine ⟨h0.trans ?_, h1.trans ?_, h2.trans ?_, h3.trans ?_, h4.trans ?_, h5.trans ?_, hargs⟩
  · funext x
    obtain ⟨b, s, l, rfl⟩ : ∃ (b : Fin 8) (s : Fin 4224) (l : Fin 1024), x = ix3 b s l := ⟨x 0, x 1, x 2, by funext a; fin_cases a <;> rfl⟩
    refine (Cert.Reference4Ideal.Odd.query_apply (StableHlo.launchContents m' c) b s l).trans ?_
    rw [ha]
    rfl
  · funext x
    obtain ⟨b, s, l, rfl⟩ : ∃ (b : Fin 8) (s : Fin 4224) (l : Fin 1024), x = ix3 b s l := ⟨x 0, x 1, x 2, by funext a; fin_cases a <;> rfl⟩
    refine (Cert.Reference4Ideal.Odd.key_apply (StableHlo.launchContents m' c) b s l).trans ?_
    rw [ha]
    rfl
  · funext x
    obtain ⟨b, e, s, rfl⟩ : ∃ (b : Fin 8) (e : Fin 512) (s : Fin 4224), x = ix3 b e s := ⟨x 0, x 1, x 2, by funext a; fin_cases a <;> rfl⟩
    refine (Cert.Reference4Ideal.Odd.value_apply (StableHlo.launchContents m' c) b e s).trans ?_
    rw [ha]
    rfl
  · funext x
    obtain ⟨b, s, l, rfl⟩ : ∃ (b : Fin 8) (s : Fin 4224) (l : Fin 1024), x = ix3 b s l := ⟨x 0, x 1, x 2, by funext a; fin_cases a <;> rfl⟩
    refine (Cert.Reference4Ideal.Odd.fquery_apply (StableHlo.launchContents m' c) b s l).trans ?_
    rw [ha]
    rfl
  · funext x
    obtain ⟨b, s, l, rfl⟩ : ∃ (b : Fin 8) (s : Fin 4224) (l : Fin 1024), x = ix3 b s l := ⟨x 0, x 1, x 2, by funext a; fin_cases a <;> rfl⟩
    refine (Cert.Reference4Ideal.Odd.fkey_apply (StableHlo.launchContents m' c) b s l).trans ?_
    rw [ha]
    rfl
  · funext x
    obtain ⟨b, e, s, rfl⟩ : ∃ (b : Fin 8) (e : Fin 512) (s : Fin 4224), x = ix3 b e s := ⟨x 0, x 1, x 2, by funext a; fin_cases a <;> rfl⟩
    refine (Cert.Reference4Ideal.Odd.fvalue_apply (StableHlo.launchContents m' c) b e s).trans ?_
    rw [ha]
    rfl

/-- That reference runs and keeps its arguments; it declares no semaphore. -/
theorem odd_reference_frame : quiescent_Reference4Ideal (hReference4Ideal := Cert.Reference4Ideal.Gen.facts) :=
  fun m g _ => (θ_run _ _ _).mono
    (fun r h => ⟨fun c => (h c).2.2.2.2.2.2, sem_eq_zero_of_no_sems (by decide) r.2⟩)
    (Cert.Reference4Ideal.Value.run m g)

/-- The sines' phase, named with the value the kernel's rounded word stands for. -/
theorem odd_preserves : preserves_Kernel4_Kernel4Ideal :=
  IdealRules.named_const.statement Cert.Kernel4Ideal.κ "quarter_turn" .f32 0xBFC90FDB#32
    (((-1 / 2) * Real.pi : ℝ) : EReal) rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m g _ => Cert.Kernel.Gen.frame m g, fun m g _ => Cert.KernelIdeal.Gen.frame m g, tokens_reference_frame,
    fun m g _ => Cert.Kernel2.Gen.frame m g, fun m g _ => Cert.Kernel2Ideal.Gen.frame m g, input_reference_frame,
    fun m g _ => Cert.Kernel3.Gen.frame m g, fun m g _ => Cert.Kernel3Ideal.Gen.frame m g, even_reference_frame,
    fun m g _ => Cert.Kernel4.Gen.frame m g, fun m g _ => Cert.Kernel4Ideal.Gen.frame m g, odd_reference_frame,
    trivial, tokens_algebraic, trivial, input_algebraic, even_preserves, even_algebraic,
    odd_preserves, odd_algebraic⟩

end Cert.Proof
